-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v63) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)) (v4 : (c : Dev Cert.Kernel12Ideal.nD) → Buf (Elt Ideal) ((c.tc : Thread Cert.Kernel12Ideal.nD Cert.Kernel12Ideal.τ).loc Cert.Kernel12Ideal.main_v3_4)) (v5 : (c : Dev Cert.Kernel12Ideal.nD) → Buf (Elt Ideal) ((c.tc : Thread Cert.Kernel12Ideal.nD Cert.Kernel12Ideal.τ).loc Cert.Kernel12Ideal.main_v3_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_v3_4) = v4 c
          ∧ r.2.mem ((c.tc : Thread Cert.Kernel12Ideal.nD Cert.Kernel12Ideal.τ).loc Cert.Kernel12Ideal.main_v3_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_v12) = v1 c
          ∧ r.2.mem ((c.tc : Thread Cert.Reference12Ideal.nD Cert.Reference12Ideal.τ).loc Cert.Reference12Ideal.main_v41) = v2 c
          ∧ r.2.mem ((c.tc : Thread Cert.Reference12Ideal.nD Cert.Reference12Ideal.τ).loc Cert.Reference12Ideal.main_v43) = v3 c
          ∧ r.2.mem ((c.tc : Thread Cert.Reference12Ideal.nD Cert.Reference12Ideal.τ).loc Cert.Reference12Ideal.main_v44) = v4 c
          ∧ r.2.mem ((c.tc : Thread Cert.Reference12Ideal.nD Cert.Reference12Ideal.τ).loc Cert.Reference12Ideal.main_v45) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S16384x18432 : Shape := ⟨2, ![16384, 18432]⟩
abbrev S2048 : Shape := ⟨1, ![2048]⟩
abbrev S4x8x128x256 : Shape := ⟨4, ![4, 8, 128, 256]⟩
abbrev S1x2048 : Shape := ⟨2, ![1, 2048]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S8 : Shape := ⟨1, ![8]⟩
abbrev S8x1 : Shape := ⟨2, ![8, 1]⟩
abbrev S64x1 : Shape := ⟨2, ![64, 1]⟩
abbrev S64x64 : Shape := ⟨2, ![64, 64]⟩
abbrev S1x64x64 : Shape := ⟨3, ![1, 64, 64]⟩
abbrev S8x1x1 : Shape := ⟨3, ![8, 1, 1]⟩
abbrev S8x64x64 : Shape := ⟨3, ![8, 64, 64]⟩
abbrev S8x64 : Shape := ⟨2, ![8, 64]⟩
abbrev S8x64x1 : Shape := ⟨3, ![8, 64, 1]⟩
abbrev S8x64x256 : Shape := ⟨3, ![8, 64, 256]⟩
abbrev S8x64x128 : Shape := ⟨3, ![8, 64, 128]⟩
abbrev S16384x2048 : Shape := ⟨2, ![16384, 2048]⟩
abbrev S256x1024 : Shape := ⟨2, ![256, 1024]⟩
abbrev S256x2048 : Shape := ⟨2, ![256, 2048]⟩
abbrev S256x128 : Shape := ⟨2, ![256, 128]⟩
abbrev S1x8x128x256 : Shape := ⟨4, ![1, 8, 128, 256]⟩
abbrev S8x128x256 : Shape := ⟨3, ![8, 128, 256]⟩
abbrev S64x128 : Shape := ⟨2, ![64, 128]⟩
abbrev S64x256 : Shape := ⟨2, ![64, 256]⟩
abbrev S1x128x256 : Shape := ⟨3, ![1, 128, 256]⟩
abbrev S128x256 : Shape := ⟨2, ![128, 256]⟩
abbrev S1x64x256 : Shape := ⟨3, ![1, 64, 256]⟩
abbrev S1 : Shape := ⟨1, ![1]⟩
abbrev S1x64x128 : Shape := ⟨3, ![1, 64, 128]⟩
abbrev S1x256 : Shape := ⟨2, ![1, 256]⟩

abbrev nBuf : Space → Nat
  | .hbm => 79
  | .vmem => 21
  | .smem => 1
  | _ => 0

abbrev bufTy : (tb : Table) → Fin (tcTables nBuf tb) → BufTy
  | .hbm, ⟨0, _⟩ => ⟨S16384x18432, .f32⟩
  | .hbm, ⟨1, _⟩ => ⟨S2048, .f32⟩
  | .hbm, ⟨2, _⟩ => ⟨S4x8x128x256, .f32⟩
  | .hbm, ⟨3, _⟩ => ⟨S1x2048, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x128, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S8192x128, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S64, .f32⟩
  | .hbm, ⟨40, _⟩ => ⟨S8x1, .f32⟩
  | .hbm, ⟨41, _⟩ => ⟨S64x1, .f32⟩
  | .hbm, ⟨42, _⟩ => ⟨S1x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S1x64x64, .f32⟩
  | .hbm, ⟨48, _⟩ => ⟨S8x1x1, .f32⟩
  | .hbm, ⟨49, _⟩ => ⟨S8x64x64, .f32⟩
  | .hbm, ⟨50, _⟩ => ⟨S8x64x64, .f32⟩
  | .hbm, ⟨51, _⟩ => ⟨S8x64x64, .f32⟩
  | .hbm, ⟨52, _⟩ => ⟨S8x64x64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S8x64, .f32⟩
  | .hbm, ⟨58, _⟩ => ⟨S8x64, .f32⟩
  | .hbm, ⟨59, _⟩ => ⟨S8x64, .f32⟩
  | .hbm, ⟨60, _⟩ => ⟨S8x64, .f32⟩
  | .hbm, ⟨61, _⟩ => ⟨S8x64x1, .f32⟩
  | .hbm, ⟨62, _⟩ => ⟨S8x64x256, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S1x64, .f32⟩
  | .hbm, ⟨67, _⟩ => ⟨S8x64, .f32⟩
  | .hbm, ⟨68, _⟩ => ⟨S8x64, .f32⟩
  | .hbm, ⟨69, _⟩ => ⟨S8x64, .f32⟩
  | .hbm, ⟨70, _⟩ => ⟨S8x64, .f32⟩
  | .hbm, ⟨71, _⟩ => ⟨S8x64x1, .f32⟩
  | .hbm, ⟨72, _⟩ => ⟨S8x64x128, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S8, .f32⟩
  | .hbm, ⟨77, _⟩ => ⟨S16384x2048, .bf16⟩
  | .hbm, ⟨78, _⟩ => ⟨S4x8x128x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8x64x64, .f32⟩
  | .local _ .vmem, ⟨13, _⟩ => ⟨S8x64x256, .f32⟩
  | .local _ .vmem, ⟨14, _⟩ => ⟨S8x64x128, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S1x8x128x256, .f32⟩
  | .local _ .vmem, ⟨19, _⟩ => ⟨S1x8x128x256, .f32⟩
  | .local _ .vmem, ⟨20, _⟩ => ⟨S8x128x256, .f32⟩
  | .local _ .smem, ⟨0, _⟩ => ⟨S8, .f32⟩
  | _, _ => ⟨S16384x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66_0 : Ref sig .tc := ⟨.hbm, 77, rfl⟩
abbrev main_v66_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v2243 : BitVec 1 := Scalar.cmpi .eq arg1 c31_i32
  let v2244 : BitVec 32 := Scalar.extui v2243
  let c0_i32_1386 : BitVec 32 := 0#32
  let v2245 : BitVec 1 := Scalar.cmpi .ne v2244 c0_i32_1386
  v2245

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S16384x18432 : Shape := ⟨2, ![16384, 18432]⟩
abbrev S2048 : Shape := ⟨1, ![2048]⟩
abbrev S4x8x128x256 : Shape := ⟨4, ![4, 8, 128, 256]⟩
abbrev S8192 : Shape := ⟨1, ![8192]⟩
abbrev S2x8192x18432 : Shape := ⟨3, ![2, 8192, 18432]⟩
abbrev S2x8192x4096 : Shape := ⟨3, ![2, 8192, 4096]⟩
abbrev S2x8192x1024 : Shape := ⟨3, ![2, 8192, 1024]⟩
abbrev S2x8192x2048 : Shape := ⟨3, ![2, 8192, 2048]⟩
abbrev S2x8192x8x128 : Shape := ⟨4, ![2, 8192, 8, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S2x8192x8x64 : Shape := ⟨4, ![2, 8192, 8, 64]⟩
abbrev S2x8192x8x256 : Shape := ⟨4, ![2, 8192, 8, 256]⟩
abbrev S8 : Shape := ⟨1, ![8]⟩
abbrev S2x8x128x256 : Shape := ⟨4, ![2, 8, 128, 256]⟩
abbrev S2x128x64x8x128 : Shape := ⟨5, ![2, 128, 64, 8, 128]⟩
abbrev S128x2x64x8x128 : Shape := ⟨5, ![128, 2, 64, 8, 128]⟩
abbrev S2x128x64x8x256 : Shape := ⟨5, ![2, 128, 64, 8, 256]⟩
abbrev S128x2x64x8x256 : Shape := ⟨5, ![128, 2, 64, 8, 256]⟩
abbrev S1x2x64x8x128 : Shape := ⟨5, ![1, 2, 64, 8, 128]⟩
abbrev S2x64x8x128 : Shape := ⟨4, ![2, 64, 8, 128]⟩
abbrev S1x2x64x8x256 : Shape := ⟨5, ![1, 2, 64, 8, 256]⟩
abbrev S2x64x8x256 : Shape := ⟨4, ![2, 64, 8, 256]⟩
abbrev S8x1 : Shape := ⟨2, ![8, 1]⟩
abbrev S64x1 : Shape := ⟨2, ![64, 1]⟩
abbrev S64x64 : Shape := ⟨2, ![64, 64]⟩
abbrev S1x64x64 : Shape := ⟨3, ![1, 64, 64]⟩
abbrev S8x1x1 : Shape := ⟨3, ![8, 1, 1]⟩
abbrev S8x64x64 : Shape := ⟨3, ![8, 64, 64]⟩
abbrev S8x64 : Shape := ⟨2, ![8, 64]⟩
abbrev S64x8 : Shape := ⟨2, ![64, 8]⟩
abbrev S2x8x64x64 : Shape := ⟨4, ![2, 8, 64, 64]⟩
abbrev S1x8x64x64 : Shape := ⟨4, ![1, 8, 64, 64]⟩
abbrev S2x8x256x64 : Shape := ⟨4, ![2, 8, 256, 64]⟩
abbrev S1x64x8x1 : Shape := ⟨4, ![1, 64, 8, 1]⟩
abbrev S1x8x1x1 : Shape := ⟨4, ![1, 8, 1, 1]⟩
abbrev S2x8192x8 : Shape := ⟨3, ![2, 8192, 8]⟩
abbrev S2x8192x8x1 : Shape := ⟨4, ![2, 8192, 8, 1]⟩
abbrev S1x1x2048 : Shape := ⟨3, ![1, 1, 2048]⟩
abbrev S16384x2048 : Shape := ⟨2, ![16384, 2048]⟩

abbrev nBuf : Space → Nat
  | .hbm => 226
  | .vmem => 0
  | .smem => 0
  | _ => 0

abbrev hbmTy0_0 (i : Nat) : BufTy := match i % 128 with
  | 0 => ⟨S16384x18432, .f32⟩
  | 1 => ⟨S2048, .f32⟩
  | 2 => ⟨S4x8x128x256, .f32⟩
  | 3 => ⟨S8192, .i32⟩
  | 4 => ⟨S2x8192x18432, .f32⟩
  | 5 => ⟨S2x8192x4096, .f32⟩
  | 6 => ⟨S2x8192x1024, .f32⟩
  | 7 => ⟨S2x8192x1024, .f32⟩
  | 8 => ⟨S2x8192x2048, .f32⟩
  | 9 => ⟨S2x8192x8x128, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S8192, .f32⟩
  | 19 => ⟨S8192x1, .f32⟩
  | 20 => ⟨S1x64, .f32⟩
  | 21 => ⟨S8192x64, .f32⟩
  | 22 => ⟨S8192x64, .f32⟩
  | 23 => ⟨S8192x64, .f32⟩
  | 24 => ⟨S8192x64, .f32⟩
  | 25 => ⟨S1x8192x1x64, .f32⟩
  | 26 => ⟨S8192x64, .f32⟩
  | 27 => ⟨S1x8192x1x64, .f32⟩
  | 28 => ⟨S2x8192x8x64, .f32⟩
  | 29 => ⟨S2x8192x8x64, .f32⟩
  | 30 => ⟨S2x8192x8x64, .f32⟩
  | 31 => ⟨S2x8192x8x64, .f32⟩
  | 32 => ⟨S2x8192x8x64, .f32⟩
  | 33 => ⟨S2x8192x8x64, .f32⟩
  | 34 => ⟨S2x8192x8x64, .f32⟩
  | 35 => ⟨S2x8192x8x64, .f32⟩
  | 36 => ⟨S2x8192x8x64, .f32⟩
  | 37 => ⟨S2x8192x8x64, .f32⟩
  | 38 => ⟨S2x8192x8x64, .f32⟩
  | 39 => ⟨S2x8192x8x64, .f32⟩
  | 40 => ⟨S2x8192x8x128, .f32⟩
  | 41 => ⟨S2x8192x8x128, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S64, .f32⟩
  | 50 => ⟨S8192, .f32⟩
  | 51 => ⟨S8192x1, .f32⟩
  | 52 => ⟨S1x64, .f32⟩
  | 53 => ⟨S8192x64, .f32⟩
  | 54 => ⟨S8192x64, .f32⟩
  | 55 => ⟨S8192x64, .f32⟩
  | 56 => ⟨S8192x64, .f32⟩
  | 57 => ⟨S1x8192x1x64, .f32⟩
  | 58 => ⟨S8192x64, .f32⟩
  | 59 => ⟨S1x8192x1x64, .f32⟩
  | 60 => ⟨S2x8192x8x64, .f32⟩
  | 61 => ⟨S2x8192x8x64, .f32⟩
  | 62 => ⟨S2x8192x8x64, .f32⟩
  | 63 => ⟨S2x8192x8x64, .f32⟩
  | 64 => ⟨S2x8192x8x64, .f32⟩
  | 65 => ⟨S2x8192x8x64, .f32⟩
  | 66 => ⟨S2x8192x8x64, .f32⟩
  | 67 => ⟨S2x8192x8x64, .f32⟩
  | 68 => ⟨S2x8192x8x64, .f32⟩
  | 69 => ⟨S2x8192x8x64, .f32⟩
  | 70 => ⟨S2x8192x8x64, .f32⟩
  | 71 => ⟨S2x8192x8x64, .f32⟩
  | 72 => ⟨S2x8192x8x128, .f32⟩
  | 73 => ⟨S_, .f32⟩
  | 74 => ⟨S2x8192x8x128, .f32⟩
  | 75 => ⟨S2x8192x8x128, .f32⟩
  | 76 => ⟨S2x8192x8x256, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S8, .f32⟩
  | 85 => ⟨S8, .f32⟩
  | 86 => ⟨S8, .f32⟩
  | 87 => ⟨S_, .f32⟩
  | 88 => ⟨S2x8x128x256, .f32⟩
  | 89 => ⟨S2x128x64x8x128, .f32⟩
  | 90 => ⟨S128x2x64x8x128, .f32⟩
  | 91 => ⟨S2x128x64x8x128, .f32⟩
  | 92 => ⟨S128x2x64x8x128, .f32⟩
  | 93 => ⟨S2x128x64x8x256, .f32⟩
  | 94 => ⟨S128x2x64x8x256, .f32⟩
  | 95 => ⟨S_, .f32⟩
  | 96 => ⟨S128x2x64x8x256, .f32⟩
  | 97 => ⟨S_, .i32⟩
  | 98 => ⟨S128x2x64x8x128, .f32⟩
  | 99 => ⟨S128x2x64x8x128, .f32⟩
  | 100 => ⟨S128x2x64x8x256, .f32⟩
  | 101 => ⟨S8, .f32⟩
  | 102 => ⟨S_, .i32⟩
  | 103 => ⟨S2x8x128x256, .f32⟩
  | 104 => ⟨S128x2x64x8x256, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S1x2x64x8x128, .f32⟩
  | 112 => ⟨S2x64x8x128, .f32⟩
  | 113 => ⟨S_, .i32⟩
  | 114 => ⟨S_, .i32⟩
  | 115 => ⟨S_, .i32⟩
  | 116 => ⟨S_, .i32⟩
  | 117 => ⟨S1x2x64x8x128, .f32⟩
  | 118 => ⟨S2x64x8x128, .f32⟩
  | 119 => ⟨S_, .i32⟩
  | 120 => ⟨S_, .i32⟩
  | 121 => ⟨S_, .i32⟩
  | 122 => ⟨S_, .i32⟩
  | 123 => ⟨S1x2x64x8x256, .f32⟩
  | 124 => ⟨S2x64x8x256, .f32⟩
  | 125 => ⟨S64, .f32⟩
  | 126 => ⟨S8x1, .f32⟩
  | 127 => ⟨S64x1, .f32⟩
  | _ => ⟨S16384x18432, .f32⟩

abbrev hbmTy0_1 (i : Nat) : BufTy := match i % 128 with
  | 0 => ⟨S1x64, .f32⟩
  | 1 => ⟨S64x64, .f32⟩
  | 2 => ⟨S64x64, .f32⟩
  | 3 => ⟨S64x64, .f32⟩
  | 4 => ⟨S64x64, .f32⟩
  | 5 => ⟨S1x64x64, .f32⟩
  | 6 => ⟨S8x1x1, .f32⟩
  | 7 => ⟨S8x64x64, .f32⟩
  | 8 => ⟨S8x64x64, .f32⟩
  | 9 => ⟨S8x64x64, .f32⟩
  | 10 => ⟨S8x64x64, .f32⟩
  | 11 => ⟨S_, .f32⟩
  | 12 => ⟨S64, .f32⟩
  | 13 => ⟨S64, .f32⟩
  | 14 => ⟨S1x64, .f32⟩
  | 15 => ⟨S8x64, .f32⟩
  | 16 => ⟨S8x64, .f32⟩
  | 17 => ⟨S8x64, .f32⟩
  | 18 => ⟨S8x64, .f32⟩
  | 19 => ⟨S64x8, .f32⟩
  | 20 => ⟨S_, .f32⟩
  | 21 => ⟨S64, .f32⟩
  | 22 => ⟨S64, .f32⟩
  | 23 => ⟨S1x64, .f32⟩
  | 24 => ⟨S8x64, .f32⟩
  | 25 => ⟨S8x64, .f32⟩
  | 26 => ⟨S8x64, .f32⟩
  | 27 => ⟨S8x64, .f32⟩
  | 28 => ⟨S64x8, .f32⟩
  | 29 => ⟨S_, .f32⟩
  | 30 => ⟨S8, .f32⟩
  | 31 => ⟨S8, .f32⟩
  | 32 => ⟨S8, .f32⟩
  | 33 => ⟨S2x8x64x64, .f32⟩
  | 34 => ⟨S1x8x64x64, .f32⟩
  | 35 => ⟨S2x8x64x64, .f32⟩
  | 36 => ⟨S2x8x64x64, .f32⟩
  | 37 => ⟨S2x8x256x64, .f32⟩
  | 38 => ⟨S2x64x8x256, .f32⟩
  | 39 => ⟨S2x8x256x64, .f32⟩
  | 40 => ⟨S2x64x8x256, .f32⟩
  | 41 => ⟨S1x64x8x1, .f32⟩
  | 42 => ⟨S2x64x8x256, .f32⟩
  | 43 => ⟨S2x64x8x256, .f32⟩
  | 44 => ⟨S2x64x8x256, .f32⟩
  | 45 => ⟨S8x1x1, .f32⟩
  | 46 => ⟨S1x8x1x1, .f32⟩
  | 47 => ⟨S2x8x128x256, .f32⟩
  | 48 => ⟨S2x8x128x256, .f32⟩
  | 49 => ⟨S1x64x8x1, .f32⟩
  | 50 => ⟨S2x64x8x128, .f32⟩
  | 51 => ⟨S2x64x8x128, .f32⟩
  | 52 => ⟨S2x8x128x256, .f32⟩
  | 53 => ⟨S2x8x128x256, .f32⟩
  | 54 => ⟨S1x2x64x8x256, .f32⟩
  | 55 => ⟨S_, .i32⟩
  | 56 => ⟨S_, .i32⟩
  | 57 => ⟨S_, .i32⟩
  | 58 => ⟨S_, .i32⟩
  | 59 => ⟨S128x2x64x8x256, .f32⟩
  | 60 => ⟨S_, .i32⟩
  | 61 => ⟨S_, .i32⟩
  | 62 => ⟨S2x128x64x8x256, .f32⟩
  | 63 => ⟨S2x8192x8x256, .f32⟩
  | 64 => ⟨S_, .f32⟩
  | 65 => ⟨S2x8192x8, .f32⟩
  | 66 => ⟨S2x8192x8x1, .f32⟩
  | 67 => ⟨S_, .f32⟩
  | 68 => ⟨S2x8192x8x1, .f32⟩
  | 69 => ⟨S2x8192x8x1, .f32⟩
  | 70 => ⟨S2x8192x8x256, .f32⟩
  | 71 => ⟨S2x8192x8x256, .f32⟩
  | 72 => ⟨S2x8192x8x256, .f32⟩
  | 73 => ⟨S_, .f32⟩
  | 74 => ⟨S2x8192x8, .f32⟩
  | 75 => ⟨S2x8192x8x1, .f32⟩
  | 76 => ⟨S_, .f32⟩
  | 77 => ⟨S2x8192x8x1, .f32⟩
  | 78 => ⟨S2x8192x8x1, .f32⟩
  | 79 => ⟨S2x8192x8x256, .f32⟩
  | 80 => ⟨S2x8192x8x256, .f32⟩
  | 81 => ⟨S_, .f32⟩
  | 82 => ⟨S2x8192x8x1, .f32⟩
  | 83 => ⟨S2x8192x8x1, .f32⟩
  | 84 => ⟨S2x8192x8x1, .f32⟩
  | 85 => ⟨S2x8192x8x256, .f32⟩
  | 86 => ⟨S2x8192x8x256, .f32⟩
  | 87 => ⟨S2x8192x2048, .f32⟩
  | 88 => ⟨S1x1x2048, .f32⟩
  | 89 => ⟨S2x8192x2048, .f32⟩
  | 90 => ⟨S2x8192x2048, .f32⟩
  | 91 => ⟨S16384x2048, .f32⟩
  | 92 => ⟨S2x8192x2048, .f32⟩
  | 93 => ⟨S2x8192x2048, .f32⟩
  | 94 => ⟨S2x8192x2048, .bf16⟩
  | 95 => ⟨S16384x2048, .bf16⟩
  | 96 => ⟨S2x8x128x256, .f32⟩
  | 97 => ⟨S4x8x128x256, .f32⟩
  | _ => ⟨S16384x18432, .f32⟩

abbrev hbmTy (i : Nat) : BufTy := match i / 128 with
  | 0 => hbmTy0_0 i
  | 1 => hbmTy0_1 i
  | _ => ⟨S16384x18432, .f32⟩

abbrev bufTy : (tb : Table) → Fin (tcTables nBuf tb) → BufTy
  | .hbm, ⟨i, _⟩ => hbmTy i
  | _, _ => ⟨S16384x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_3 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_4 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_6 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_7 : Ref sig .tc := ⟨.hbm, 95, rfl⟩
abbrev main_v84 : Ref sig .tc := ⟨.hbm, 96, rfl⟩
abbrev main_c : Ref sig .tc := ⟨.hbm, 97, rfl⟩
abbrev main_v85_0 : Ref sig .tc := ⟨.hbm, 98, rfl⟩
abbrev main_v85_1 : Ref sig .tc := ⟨.hbm, 99, rfl⟩
abbrev main_v85_2 : Ref sig .tc := ⟨.hbm, 100, rfl⟩
abbrev main_v85_3 : Ref sig .tc := ⟨.hbm, 101, rfl⟩
abbrev main_v85_4 : Ref sig .tc := ⟨.hbm, 102, rfl⟩
abbrev main_v85_5 : Ref sig .tc := ⟨.hbm, 103, rfl⟩
abbrev main_v85_6 : Ref sig .tc := ⟨.hbm, 104, rfl⟩
abbrev main_while0c_c_19 : Ref sig .tc := ⟨.hbm, 105, rfl⟩
abbrev main_while0c_v117 : Ref sig .tc := ⟨.hbm, 106, rfl⟩
abbrev main_while0b_call0_c : Ref sig .tc := ⟨.hbm, 107, rfl⟩
abbrev main_while0b_call0_c_0 : Ref sig .tc := ⟨.hbm, 108, rfl⟩
abbrev main_while0b_call0_c_1 : Ref sig .tc := ⟨.hbm, 109, rfl⟩
abbrev main_while0b_call0_c_2 : Ref sig .tc := ⟨.hbm, 110, rfl⟩
abbrev main_while0b_call0_v0 : Ref sig .tc := ⟨.hbm, 111, rfl⟩
abbrev main_while0b_v117 : Ref sig .tc := ⟨.hbm, 112, rfl⟩
abbrev main_while0b_call1_c : Ref sig .tc := ⟨.hbm, 113, rfl⟩
abbrev main_while0b_call1_c_0 : Ref sig .tc := ⟨.hbm, 114, rfl⟩
abbrev main_while0b_call1_c_1 : Ref sig .tc := ⟨.hbm, 115, rfl⟩
abbrev main_while0b_call1_c_2 : Ref sig .tc := ⟨.hbm, 116, rfl⟩
abbrev main_while0b_call1_v0 : Ref sig .tc := ⟨.hbm, 117, rfl⟩
abbrev main_while0b_v118 : Ref sig .tc := ⟨.hbm, 118, rfl⟩
abbrev main_while0b_call2_c : Ref sig .tc := ⟨.hbm, 119, rfl⟩
abbrev main_while0b_call2_c_0 : Ref sig .tc := ⟨.hbm, 120, rfl⟩
abbrev main_while0b_call2_c_1 : Ref sig .tc := ⟨.hbm, 121, rfl⟩
abbrev main_while0b_call2_c_2 : Ref sig .tc := ⟨.hbm, 122, rfl⟩
abbrev main_while0b_call2_v0 : Ref sig .tc := ⟨.hbm, 123, rfl⟩
abbrev main_while0b_v119 : Ref sig .tc := ⟨.hbm, 124, rfl⟩
abbrev main_while0b_v120 : Ref sig .tc := ⟨.hbm, 125, rfl⟩
abbrev main_while0b_v121 : Ref sig .tc := ⟨.hbm, 126, rfl⟩
abbrev main_while0b_v122 : Ref sig .tc := ⟨.hbm, 127, rfl⟩
abbrev main_while0b_v123 : Ref sig .tc := ⟨.hbm, 128, rfl⟩
abbrev main_while0b_v124 : Ref sig .tc := ⟨.hbm, 129, rfl⟩
abbrev main_while0b_v125 : Ref sig .tc := ⟨.hbm, 130, rfl⟩
abbrev main_while0b_v126 : Ref sig .tc := ⟨.hbm, 131, rfl⟩
abbrev main_while0b_v127 : Ref sig .tc := ⟨.hbm, 132, rfl⟩
abbrev main_while0b_v128 : Ref sig .tc := ⟨.hbm, 133, rfl⟩
abbrev main_while0b_v129 : Ref sig .tc := ⟨.hbm, 134, rfl⟩
abbrev main_while0b_v130 : Ref sig .tc := ⟨.hbm, 135, rfl⟩
abbrev main_while0b_v131 : Ref sig .tc := ⟨.hbm, 136, rfl⟩
abbrev main_while0b_v132 : Ref sig .tc := ⟨.hbm, 137, rfl⟩
abbrev main_while0b_v133 : Ref sig .tc := ⟨.hbm, 138, rfl⟩
abbrev main_while0b_cst_19 : Ref sig .tc := ⟨.hbm, 139, rfl⟩
abbrev main_while0b_v134 : Ref sig .tc := ⟨.hbm, 140, rfl⟩
abbrev main_while0b_v135 : Ref sig .tc := ⟨.hbm, 141, rfl⟩
abbrev main_while0b_v136 : Ref sig .tc := ⟨.hbm, 142, rfl⟩
abbrev main_while0b_v137 : Ref sig .tc := ⟨.hbm, 143, rfl⟩
abbrev main_while0b_v138 : Ref sig .tc := ⟨.hbm, 144, rfl⟩
abbrev main_while0b_v139 : Ref sig .tc := ⟨.hbm, 145, rfl⟩
abbrev main_while0b_v140 : Ref sig .tc := ⟨.hbm, 146, rfl⟩
abbrev main_while0b_v141 : Ref sig .tc := ⟨.hbm, 147, rfl⟩
abbrev main_while0b_cst_20 : Ref sig .tc := ⟨.hbm, 148, rfl⟩
abbrev main_while0b_v142 : Ref sig .tc := ⟨.hbm, 149, rfl⟩
abbrev main_while0b_v143 : Ref sig .tc := ⟨.hbm, 150, rfl⟩
abbrev main_while0b_v144 : Ref sig .tc := ⟨.hbm, 151, rfl⟩
abbrev main_while0b_v145 : Ref sig .tc := ⟨.hbm, 152, rfl⟩
abbrev main_while0b_v146 : Ref sig .tc := ⟨.hbm, 153, rfl⟩
abbrev main_while0b_v147 : Ref sig .tc := ⟨.hbm, 154, rfl⟩
abbrev main_while0b_v148 : Ref sig .tc := ⟨.hbm, 155, rfl⟩
abbrev main_while0b_v149 : Ref sig .tc := ⟨.hbm, 156, rfl⟩
abbrev main_while0b_cst_21 : Ref sig .tc := ⟨.hbm, 157, rfl⟩
abbrev main_while0b_v150 : Ref sig .tc := ⟨.hbm, 158, rfl⟩
abbrev main_while0b_v151 : Ref sig .tc := ⟨.hbm, 159, rfl⟩
abbrev main_while0b_v152 : Ref sig .tc := ⟨.hbm, 160, rfl⟩
abbrev main_while0b_v153 : Ref sig .tc := ⟨.hbm, 161, rfl⟩
abbrev main_while0b_v154 : Ref sig .tc := ⟨.hbm, 162, rfl⟩
abbrev main_while0b_v155 : Ref sig .tc := ⟨.hbm, 163, rfl⟩
abbrev main_while0b_v156 : Ref sig .tc := ⟨.hbm, 164, rfl⟩
abbrev main_while0b_v157 : Ref sig .tc := ⟨.hbm, 165, rfl⟩
abbrev main_while0b_v158 : Ref sig .tc := ⟨.hbm, 166, rfl⟩
abbrev main_while0b_v159 : Ref sig .tc := ⟨.hbm, 167, rfl⟩
abbrev main_while0b_v160 : Ref sig .tc := ⟨.hbm, 168, rfl⟩
abbrev main_while0b_v161 : Ref sig .tc := ⟨.hbm, 169, rfl⟩
abbrev main_while0b_v162 : Ref sig .tc := ⟨.hbm, 170, rfl⟩
abbrev main_while0b_v163 : Ref sig .tc := ⟨.hbm, 171, rfl⟩
abbrev main_while0b_v164 : Ref sig .tc := ⟨.hbm, 172, rfl⟩
abbrev main_while0b_v165 : Ref sig .tc := ⟨.hbm, 173, rfl⟩
abbrev main_while0b_v166 : Ref sig .tc := ⟨.hbm, 174, rfl⟩
abbrev main_while0b_v167 : Ref sig .tc := ⟨.hbm, 175, rfl⟩
abbrev main_while0b_v168 : Ref sig .tc := ⟨.hbm, 176, rfl⟩
abbrev main_while0b_v169 : Ref sig .tc := ⟨.hbm, 177, rfl⟩
abbrev main_while0b_v170 : Ref sig .tc := ⟨.hbm, 178, rfl⟩
abbrev main_while0b_v171 : Ref sig .tc := ⟨.hbm, 179, rfl⟩
abbrev main_while0b_v172 : Ref sig .tc := ⟨.hbm, 180, rfl⟩
abbrev main_while0b_v173 : Ref sig .tc := ⟨.hbm, 181, rfl⟩
abbrev main_while0b_call3_v0 : Ref sig .tc := ⟨.hbm, 182, rfl⟩
abbrev main_while0b_call3_c : Ref sig .tc := ⟨.hbm, 183, rfl⟩
abbrev main_while0b_call3_c_0 : Ref sig .tc := ⟨.hbm, 184, rfl⟩
abbrev main_while0b_call3_c_1 : Ref sig .tc := ⟨.hbm, 185, rfl⟩
abbrev main_while0b_call3_c_2 : Ref sig .tc := ⟨.hbm, 186, rfl⟩
abbrev main_while0b_v174 : Ref sig .tc := ⟨.hbm, 187, rfl⟩
abbrev main_while0b_c_22 : Ref sig .tc := ⟨.hbm, 188, rfl⟩
abbrev main_while0b_v175 : Ref sig .tc := ⟨.hbm, 189, rfl⟩
abbrev main_v86 : Ref sig .tc := ⟨.hbm, 190, rfl⟩
abbrev main_v87 : Ref sig .tc := ⟨.hbm, 191, rfl⟩
abbrev main_cst_8 : Ref sig .tc := ⟨.hbm, 192, rfl⟩
abbrev main_v88 : Ref sig .tc := ⟨.hbm, 193, rfl⟩
abbrev main_v89 : Ref sig .tc := ⟨.hbm, 194, rfl⟩
abbrev main_cst_9 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_cst_10 : Ref sig .tc := ⟨.hbm, 201, rfl⟩
abbrev main_v95 : Ref sig .tc := ⟨.hbm, 202, rfl⟩
abbrev main_v96 : Ref sig .tc := ⟨.hbm, 203, rfl⟩
abbrev main_cst_11 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_cst_12 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S1x2048, .f32⟩
  | .hbm, ⟨6, _⟩ => ⟨S1x2048, .f32⟩
  | .hbm, ⟨7, _⟩ => ⟨S2048x8192, .bf16⟩
  | .hbm, ⟨8, _⟩ => ⟨S8192x2048, .bf16⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S16384x2048 : Shape := ⟨2, ![16384, 2048]⟩
abbrev S16384x4096 : Shape := ⟨2, ![16384, 4096]⟩
abbrev S16384x6144 : Shape := ⟨2, ![16384, 6144]⟩
abbrev S2048x2048 : Shape := ⟨2, ![2048, 2048]⟩
abbrev S2048x4096 : Shape := ⟨2, ![2048, 4096]⟩
abbrev S4096x2048 : Shape := ⟨2, ![4096, 2048]⟩
abbrev S512x2048 : Shape := ⟨2, ![512, 2048]⟩
abbrev S512x4096 : Shape := ⟨2, ![512, 4096]⟩
abbrev S512x512 : Shape := ⟨2, ![512, 512]⟩
abbrev S2048x512 : Shape := ⟨2, ![2048, 512]⟩
abbrev S4096x512 : Shape := ⟨2, ![4096, 512]⟩

abbrev nBuf : Space → Nat
  | .hbm => 11
  | .vmem => 22
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x4096, .bf16⟩
  | .hbm, ⟨3, _⟩ => ⟨S16384x6144, .f32⟩
  | .hbm, ⟨4, _⟩ => ⟨S2048x2048, .f32⟩
  | .hbm, ⟨5, _⟩ => ⟨S2048x4096, .f32⟩
  | .hbm, ⟨6, _⟩ => ⟨S4096x2048, .f32⟩
  | .hbm, ⟨7, _⟩ => ⟨S2048x2048, .bf16⟩
  | .hbm, ⟨8, _⟩ => ⟨S2048x4096, .bf16⟩
  | .hbm, ⟨9, _⟩ => ⟨S4096x2048, .bf16⟩
  | .hbm, ⟨10, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x4096, .bf16⟩
  | .local _ .vmem, ⟨5, _⟩ => ⟨S512x4096, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S4096x512, .bf16⟩
  | .local _ .vmem, ⟨19, _⟩ => ⟨S4096x512, .bf16⟩
  | .local _ .vmem, ⟨20, _⟩ => ⟨S512x512, .bf16⟩
  | .local _ .vmem, ⟨21, _⟩ => ⟨S512x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4096x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16384x2048 : Shape := ⟨2, ![16384, 2048]⟩
abbrev S16384x4096 : Shape := ⟨2, ![16384, 4096]⟩
abbrev S16384x6144 : Shape := ⟨2, ![16384, 6144]⟩
abbrev S2048x2048 : Shape := ⟨2, ![2048, 2048]⟩
abbrev S2048x4096 : Shape := ⟨2, ![2048, 4096]⟩
abbrev S4096x2048 : Shape := ⟨2, ![4096, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x4096, .bf16⟩
  | .hbm, ⟨3, _⟩ => ⟨S16384x6144, .f32⟩
  | .hbm, ⟨4, _⟩ => ⟨S2048x2048, .f32⟩
  | .hbm, ⟨5, _⟩ => ⟨S2048x4096, .f32⟩
  | .hbm, ⟨6, _⟩ => ⟨S4096x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x4096, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x4096, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S2x256x2048 : Shape := ⟨3, ![2, 256, 2048]⟩
abbrev S2048 : Shape := ⟨1, ![2048]⟩
abbrev S2048x4096 : Shape := ⟨2, ![2048, 4096]⟩
abbrev S512x2048 : Shape := ⟨2, ![512, 2048]⟩
abbrev S1x2048 : Shape := ⟨2, ![1, 2048]⟩
abbrev S512x4096 : Shape := ⟨2, ![512, 4096]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x4096, .f32⟩
  | .hbm, ⟨3, _⟩ => ⟨S512x2048, .f32⟩
  | .hbm, ⟨4, _⟩ => ⟨S1x2048, .f32⟩
  | .hbm, ⟨5, _⟩ => ⟨S2048x4096, .bf16⟩
  | .hbm, ⟨6, _⟩ => ⟨S512x4096, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x256x2048 : Shape := ⟨3, ![2, 256, 2048]⟩
abbrev S2048 : Shape := ⟨1, ![2048]⟩
abbrev S2048x4096 : Shape := ⟨2, ![2048, 4096]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x4096 : Shape := ⟨3, ![2, 256, 4096]⟩
abbrev S512x4096 : Shape := ⟨2, ![512, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x4096, .f32⟩
  | .hbm, ⟨3, _⟩ => ⟨S2x256x2048, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x2048, .f32⟩
  | .hbm, ⟨15, _⟩ => ⟨S2x256x2048, .f32⟩
  | .hbm, ⟨16, _⟩ => ⟨S1x1x2048, .f32⟩
  | .hbm, ⟨17, _⟩ => ⟨S2x256x2048, .f32⟩
  | .hbm, ⟨18, _⟩ => ⟨S2x256x2048, .f32⟩
  | .hbm, ⟨19, _⟩ => ⟨S2x256x4096, .f32⟩
  | .hbm, ⟨20, _⟩ => ⟨S512x4096, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x24640 : Shape := ⟨2, ![2048, 24640]⟩
abbrev S1x2048 : Shape := ⟨2, ![1, 2048]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x24640, .f32⟩
  | .hbm, ⟨3, _⟩ => ⟨S1x2048, .f32⟩
  | .hbm, ⟨4, _⟩ => ⟨S2048x6144, .f32⟩
  | .hbm, ⟨5, _⟩ => ⟨S2048x6144, .bf16⟩
  | .hbm, ⟨6, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S2048 : Shape := ⟨1, ![2048]⟩
abbrev S2048x24640 : Shape := ⟨2, ![2048, 24640]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x6144 : Shape := ⟨2, ![2048, 6144]⟩
abbrev S16384x6144 : Shape := ⟨2, ![16384, 6144]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x24640, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x6144, .f32⟩
  | .hbm, ⟨20, _⟩ => ⟨S16384x6144, .f32⟩
  | .hbm, ⟨21, _⟩ => ⟨S16384x6144, .f32⟩
  | .hbm, ⟨22, _⟩ => ⟨S16384x6144, .f32⟩
  | .hbm, ⟨23, _⟩ => ⟨S_, .f32⟩
  | .hbm, ⟨24, _⟩ => ⟨S16384x6144, .f32⟩
  | .hbm, ⟨25, _⟩ => ⟨S16384x6144, .f32⟩
  | .hbm, ⟨26, _⟩ => ⟨S_, .f32⟩
  | .hbm, ⟨27, _⟩ => ⟨S16384x6144, .f32⟩
  | .hbm, ⟨28, _⟩ => ⟨S16384x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048x2048, .bf16⟩
  | .hbm, ⟨5, _⟩ => ⟨S1x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S512x2048 : Shape := ⟨2, ![512, 2048]⟩
abbrev S2048 : Shape := ⟨1, ![2048]⟩
abbrev S2x2048x24640 : Shape := ⟨3, ![2, 2048, 24640]⟩
abbrev S1x2048 : Shape := ⟨2, ![1, 2048]⟩
abbrev S512x18432 : Shape := ⟨2, ![512, 18432]⟩
abbrev S1x2048x1024 : Shape := ⟨3, ![1, 2048, 1024]⟩
abbrev S512x1024 : Shape := ⟨2, ![512, 1024]⟩
abbrev S512 : Shape := ⟨1, ![512]⟩
abbrev S512x1 : Shape := ⟨2, ![512, 1]⟩
abbrev S1x2048x256 : Shape := ⟨3, ![1, 2048, 256]⟩
abbrev S2048x256 : Shape := ⟨2, ![2048, 256]⟩
abbrev S512x256 : Shape := ⟨2, ![512, 256]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x24640, .f32⟩
  | .hbm, ⟨3, _⟩ => ⟨S1x2048, .f32⟩
  | .hbm, ⟨4, _⟩ => ⟨S2x2048x24640, .bf16⟩
  | .hbm, ⟨5, _⟩ => ⟨S512x18432, .f32⟩
  | .local _ .vmem, ⟨0, _⟩ => ⟨S512x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 18], ![false, false]⟩

def k0_cond2 (i : grid0.Coords) : BitVec 1 :=
  let arg1 : BitVec 32 := BitVec.ofNat 32 (i 1).val
  let c4_i32 : BitVec 32 := 4#32
  let v3 : BitVec 1 := Scalar.cmpi .sge arg1 c4_i32
  let c6_i32 : BitVec 32 := 6#32
  let v4 : BitVec 1 := Scalar.cmpi .slt arg1 c6_i32
  let v5 : BitVec 1 := Scalar.andi v3 v4
  let c8_i32 : BitVec 32 := 8#32
  let v6 : BitVec 1 := Scalar.cmpi .sge arg1 c8_i32
  let c12_i32 : BitVec 32 := 12#32
  let v7 : BitVec 1 := Scalar.cmpi .slt arg1 c12_i32
  let v8 : BitVec 1 := Scalar.andi v6 v7
  let v9 : BitVec 1 := Scalar.ori v5 v8
  let v11 : BitVec 32 := Scalar.extui v9
  let c0_i32_1 : BitVec 32 := 0#32
  let v12 : BitVec 1 := Scalar.cmpi .ne v11 c0_i32_1
  v12

def k0_cond3 (i : grid0.Coords) : BitVec 1 :=
  let arg1 : BitVec 32 := BitVec.ofNat 32 (i 1).val
  let c4_i32 : BitVec 32 := 4#32
  let v3 : BitVec 1 := Scalar.cmpi .sge arg1 c4_i32
  let c6_i32 : BitVec 32 := 6#32
  let v4 : BitVec 1 := Scalar.cmpi .slt arg1 c6_i32
  let v5 : BitVec 1 := Scalar.andi v3 v4
  let c8_i32 : BitVec 32 := 8#32
  let v6 : BitVec 1 := Scalar.cmpi .sge arg1 c8_i32
  let c12_i32 : BitVec 32 := 12#32
  let v7 : BitVec 1 := Scalar.cmpi .slt arg1 c12_i32
  let v8 : BitVec 1 := Scalar.andi v6 v7
  let v9 : BitVec 1 := Scalar.ori v5 v8
  let v_true : BitVec 1 := 1#1
  let v10 : BitVec 1 := Scalar.xori v9 v_true
  let v13 : BitVec 32 := Scalar.extui v10
  let c0_i32_2 : BitVec 32 := 0#32
  let v14 : BitVec 1 := Scalar.cmpi .ne v13 c0_i32_2
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S512x2048 : Shape := ⟨2, ![512, 2048]⟩
abbrev S2048 : Shape := ⟨1, ![2048]⟩
abbrev S2x2048x24640 : Shape := ⟨3, ![2, 2048, 24640]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x2048x24640 : Shape := ⟨3, ![1, 2048, 24640]⟩
abbrev S2048x24640 : Shape := ⟨2, ![2048, 24640]⟩
abbrev S2048x18432 : Shape := ⟨2, ![2048, 18432]⟩
abbrev S512x18432 : Shape := ⟨2, ![512, 18432]⟩
abbrev S512x4096 : Shape := ⟨2, ![512, 4096]⟩
abbrev S512x6144 : Shape := ⟨2, ![512, 6144]⟩

abbrev nBuf : Space → Nat
  | .hbm => 47
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2x2048x24640, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S1x2048x24640, .f32⟩
  | .hbm, ⟨20, _⟩ => ⟨S2048x24640, .f32⟩
  | .hbm, ⟨21, _⟩ => ⟨S2048x18432, .f32⟩
  | .hbm, ⟨22, _⟩ => ⟨S512x18432, .f32⟩
  | .hbm, ⟨23, _⟩ => ⟨S512x4096, .f32⟩
  | .hbm, ⟨24, _⟩ => ⟨S512x2048, .f32⟩
  | .hbm, ⟨25, _⟩ => ⟨S512x2048, .f32⟩
  | .hbm, ⟨26, _⟩ => ⟨S512x4096, .f32⟩
  | .hbm, ⟨27, _⟩ => ⟨S512x6144, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S512x4096, .f32⟩
  | .hbm, ⟨38, _⟩ => ⟨S512x4096, .f32⟩
  | .hbm, ⟨39, _⟩ => ⟨S_, .f32⟩
  | .hbm, ⟨40, _⟩ => ⟨S512x4096, .f32⟩
  | .hbm, ⟨41, _⟩ => ⟨S512x4096, .f32⟩
  | .hbm, ⟨42, _⟩ => ⟨S_, .f32⟩
  | .hbm, ⟨43, _⟩ => ⟨S512x4096, .f32⟩
  | .hbm, ⟨44, _⟩ => ⟨S512x4096, .f32⟩
  | .hbm, ⟨45, _⟩ => ⟨S512x4096, .f32⟩
  | .hbm, ⟨46, _⟩ => ⟨S512x18432, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v22 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== Kernel8.lean ====
abbrev S16384x2048 : Shape := ⟨2, ![16384, 2048]⟩
abbrev S2x256x4x512 : Shape := ⟨4, ![2, 256, 4, 512]⟩
abbrev S2x256x2048 : Shape := ⟨3, ![2, 256, 2048]⟩
abbrev S512x2048 : Shape := ⟨2, ![512, 2048]⟩
abbrev S1x256x2048 : Shape := ⟨3, ![1, 256, 2048]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2x256x4x512, .f32⟩
  | .hbm, ⟨2, _⟩ => ⟨S2x256x4x512, .f32⟩
  | .hbm, ⟨3, _⟩ => ⟨S2x256x2048, .f32⟩
  | .hbm, ⟨4, _⟩ => ⟨S2x256x2048, .f32⟩
  | .hbm, ⟨5, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S512x2048, .bf16⟩
  | .local _ .vmem, ⟨7, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S16384x2048 : Shape := ⟨2, ![16384, 2048]⟩
abbrev S2x256x4x512 : Shape := ⟨4, ![2, 256, 4, 512]⟩
abbrev S2x8192x4x512 : Shape := ⟨4, ![2, 8192, 4, 512]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x512x8192 : Shape := ⟨4, ![2, 4, 512, 8192]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x256x4x512, .f32⟩
  | .hbm, ⟨2, _⟩ => ⟨S2x256x4x512, .f32⟩
  | .hbm, ⟨3, _⟩ => ⟨S16384x2048, .f32⟩
  | .hbm, ⟨4, _⟩ => ⟨S2x8192x4x512, .f32⟩
  | .hbm, ⟨5, _⟩ => ⟨S2x4x8192x256, .f32⟩
  | .hbm, ⟨6, _⟩ => ⟨S_, .f32⟩
  | .hbm, ⟨7, _⟩ => ⟨S2x4x8192x256, .f32⟩
  | .hbm, ⟨8, _⟩ => ⟨S2x4x8192x256, .f32⟩
  | .hbm, ⟨9, _⟩ => ⟨S_, .f32⟩
  | .hbm, ⟨10, _⟩ => ⟨S2x4x8192, .f32⟩
  | .hbm, ⟨11, _⟩ => ⟨S_, .f32⟩
  | .hbm, ⟨12, _⟩ => ⟨S2x4x8192, .f32⟩
  | .hbm, ⟨13, _⟩ => ⟨S2x4x8192, .f32⟩
  | .hbm, ⟨14, _⟩ => ⟨S2x4x8192x1, .f32⟩
  | .hbm, ⟨15, _⟩ => ⟨S2x4x8192x256, .f32⟩
  | .hbm, ⟨16, _⟩ => ⟨S2x4x8192x256, .f32⟩
  | .hbm, ⟨17, _⟩ => ⟨S2x4x8192x256, .f32⟩
  | .hbm, ⟨18, _⟩ => ⟨S_, .f32⟩
  | .hbm, ⟨19, _⟩ => ⟨S2x4x8192, .f32⟩
  | .hbm, ⟨20, _⟩ => ⟨S2x4x8192x1, .f32⟩
  | .hbm, ⟨21, _⟩ => ⟨S2x4x8192x256, .f32⟩
  | .hbm, ⟨22, _⟩ => ⟨S2x4x8192x256, .f32⟩
  | .hbm, ⟨23, _⟩ => ⟨S2x4x512x8192, .f32⟩
  | .hbm, ⟨24, _⟩ => ⟨S2x8192x4x512, .f32⟩
  | .hbm, ⟨25, _⟩ => ⟨S16384x2048, .f32⟩
  | .hbm, ⟨26, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel9.lean ====
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S16384x2048 : Shape := ⟨2, ![16384, 2048]⟩
abbrev S2048 : Shape := ⟨1, ![2048]⟩
abbrev S2x2048x24640 : Shape := ⟨3, ![2, 2048, 24640]⟩
abbrev S4x6144 : Shape := ⟨2, ![4, 6144]⟩
abbrev S6144 : Shape := ⟨1, ![6144]⟩
abbrev S1x2048 : Shape := ⟨2, ![1, 2048]⟩
abbrev S1x6144 : Shape := ⟨2, ![1, 6144]⟩
abbrev S16384x18432 : Shape := ⟨2, ![16384, 18432]⟩
abbrev S16x8x6144 : Shape := ⟨3, ![16, 8, 6144]⟩
abbrev S1024x2048 : Shape := ⟨2, ![1024, 2048]⟩
abbrev S1x2048x1024 : Shape := ⟨3, ![1, 2048, 1024]⟩
abbrev S4x1024 : Shape := ⟨2, ![4, 1024]⟩
abbrev S1x1024 : Shape := ⟨2, ![1, 1024]⟩
abbrev S1024x1024 : Shape := ⟨2, ![1024, 1024]⟩
abbrev S1x8x1024 : Shape := ⟨3, ![1, 8, 1024]⟩
abbrev S6x8x1024 : Shape := ⟨3, ![6, 8, 1024]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩
abbrev S2048x1024 : Shape := ⟨2, ![2048, 1024]⟩
abbrev S8x1024 : Shape := ⟨2, ![8, 1024]⟩
abbrev S1x8x256 : Shape := ⟨3, ![1, 8, 256]⟩
abbrev S8x256 : Shape := ⟨2, ![8, 256]⟩
abbrev S1032x256 : Shape := ⟨2, ![1032, 256]⟩
abbrev S1x256 : Shape := ⟨2, ![1, 256]⟩

abbrev nBuf : Space → Nat
  | .hbm => 10
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x24640, .f32⟩
  | .hbm, ⟨3, _⟩ => ⟨S4x6144, .f32⟩
  | .hbm, ⟨4, _⟩ => ⟨S6144, .f32⟩
  | .hbm, ⟨5, _⟩ => ⟨S1x2048, .f32⟩
  | .hbm, ⟨6, _⟩ => ⟨S2x2048x24640, .bf16⟩
  | .hbm, ⟨7, _⟩ => ⟨S1x6144, .f32⟩
  | .hbm, ⟨8, _⟩ => ⟨S16384x18432, .f32⟩
  | .hbm, ⟨9, _⟩ => ⟨S16x8x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S4x1024, .f32⟩
  | .local _ .vmem, ⟨6, _⟩ => ⟨S4x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x8x1024, .f32⟩
  | .local _ .vmem, ⟨12, _⟩ => ⟨S1x8x1024, .f32⟩
  | .local _ .vmem, ⟨13, _⟩ => ⟨S1024x2048, .bf16⟩
  | .local _ .vmem, ⟨14, _⟩ => ⟨S6x8x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 18], ![false, false]⟩

def k0_cond4 (i : grid0.Coords) : BitVec 1 :=
  let arg1 : BitVec 32 := BitVec.ofNat 32 (i 1).val
  let c12_i32_4 : BitVec 32 := 12#32
  let v17 : BitVec 1 := Scalar.cmpi .sge arg1 c12_i32_4
  let v18 : BitVec 32 := Scalar.extui v17
  let c0_i32_5 : BitVec 32 := 0#32
  let v19 : BitVec 1 := Scalar.cmpi .ne v18 c0_i32_5
  v19

def k0_cond5 (i : grid0.Coords) : BitVec 1 :=
  let arg0 : BitVec 32 := BitVec.ofNat 32 (i 0).val
  let c8_i32_7 : BitVec 32 := 8#32
  let c0_i32_8 : BitVec 32 := 0#32
  let v21 : BitVec 1 := Scalar.cmpi .eq c8_i32_7 c0_i32_8
  let c1_i32 : BitVec 32 := 1#32
  let v22 : BitVec 32 := Scalar.select v21 c1_i32 c8_i32_7
  let v23 : BitVec 32 := Scalar.remsi arg0 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_12 : BitVec 32 := 0#32
  let v31 : BitVec 1 := Scalar.cmpi .eq v30 c0_i32_12
  let v32 : BitVec 32 := Scalar.extui v31
  let c0_i32_13 : BitVec 32 := 0#32
  let v33 : BitVec 1 := Scalar.cmpi .ne v32 c0_i32_13
  v33

def k0_off1 (i : grid0.Coords) : Fin 3 → Nat :=
  let arg1 : BitVec 32 := BitVec.ofNat 32 (i 1).val
  let c12_i32_6 : BitVec 32 := 12#32
  let v20 : BitVec 32 := Scalar.subi arg1 c12_i32_6
  let v227 : Index := Scalar.indexCast v20
  let c0_131 : Index := 0#32
  let c0_132 : Index := 0#32
  ![v227.toNat, 0, 0]
def k0_off2 (i : grid0.Coords) : Fin 3 → Nat :=
  let arg1 : BitVec 32 := BitVec.ofNat 32 (i 1).val
  let c12_i32_6 : BitVec 32 := 12#32
  let v20 : BitVec 32 := Scalar.subi arg1 c12_i32_6
  let v38 : Index := Scalar.indexCast v20
  let c0_18 : Index := 0#32
  let c0_19 : Index := 0#32
  ![v38.toNat, 0, 0]
def k0_off3 (i : grid0.Coords) : Fin 3 → Nat :=
  let arg1 : BitVec 32 := BitVec.ofNat 32 (i 1).val
  let c12_i32_6 : BitVec 32 := 12#32
  let v20 : BitVec 32 := Scalar.subi arg1 c12_i32_6
  let v86 : Index := Scalar.indexCast v20
  let c0_45 : Index := 0#32
  let c256_46 : Index := 256#32
  ![v86.toNat, 0, 256]
def k0_off4 (i : grid0.Coords) : Fin 3 → Nat :=
  let arg1 : BitVec 32 := BitVec.ofNat 32 (i 1).val
  let c12_i32_6 : BitVec 32 := 12#32
  let v20 : BitVec 32 := Scalar.subi arg1 c12_i32_6
  let v134 : Index := Scalar.indexCast v20
  let c0_75 : Index := 0#32
  let c512_76 : Index := 512#32
  ![v134.toNat, 0, 512]
def k0_off5 (i : grid0.Coords) : Fin 3 → Nat :=
  let arg1 : BitVec 32 := BitVec.ofNat 32 (i 1).val
  let c12_i32_6 : BitVec 32 := 12#32
  let v20 : BitVec 32 := Scalar.subi arg1 c12_i32_6
  let v182 : Index := Scalar.indexCast v20
  let c0_105 : Index := 0#32
  let c768_106 : Index := 768#32
  ![v182.toNat, 0, 768]
def k0_cond2 (i : grid0.Coords) : BitVec 1 :=
  let arg1 : BitVec 32 := BitVec.ofNat 32 (i 1).val
  let c4_i32 : BitVec 32 := 4#32
  let v3 : BitVec 1 := Scalar.cmpi .sge arg1 c4_i32
  let c6_i32 : BitVec 32 := 6#32
  let v4 : BitVec 1 := Scalar.cmpi .slt arg1 c6_i32
  let v5 : BitVec 1 := Scalar.andi v3 v4
  let c8_i32 : BitVec 32 := 8#32
  let v6 : BitVec 1 := Scalar.cmpi .sge arg1 c8_i32
  let c12_i32 : BitVec 32 := 12#32
  let v7 : BitVec 1 := Scalar.cmpi .slt arg1 c12_i32
  let v8 : BitVec 1 := Scalar.andi v6 v7
  let v9 : BitVec 1 := Scalar.ori v5 v8
  let v13 : BitVec 32 := Scalar.extui v9
  let c0_i32_2 : BitVec 32 := 0#32
  let v14 : BitVec 1 := Scalar.cmpi .ne v13 c0_i32_2
  v14

def k0_cond3 (i : grid0.Coords) : BitVec 1 :=
  let arg1 : BitVec 32 := BitVec.ofNat 32 (i 1).val
  let c4_i32 : BitVec 32 := 4#32
  let v3 : BitVec 1 := Scalar.cmpi .sge arg1 c4_i32
  let c6_i32 : BitVec 32 := 6#32
  let v4 : BitVec 1 := Scalar.cmpi .slt arg1 c6_i32
  let v5 : BitVec 1 := Scalar.andi v3 v4
  let c8_i32 : BitVec 32 := 8#32
  let v6 : BitVec 1 := Scalar.cmpi .sge arg1 c8_i32
  let c12_i32 : BitVec 32 := 12#32
  let v7 : BitVec 1 := Scalar.cmpi .slt arg1 c12_i32
  let v8 : BitVec 1 := Scalar.andi v6 v7
  let v9 : BitVec 1 := Scalar.ori v5 v8
  let v_true : BitVec 1 := 1#1
  let v10 : BitVec 1 := Scalar.xori v9 v_true
  let c12_i32_1 : BitVec 32 := 12#32
  let v11 : BitVec 1 := Scalar.cmpi .slt arg1 c12_i32_1
  let v12 : BitVec 1 := Scalar.andi v10 v11
  let v15 : BitVec 32 := Scalar.extui v12
  let c0_i32_3 : BitVec 32 := 0#32
  let v16 : BitVec 1 := Scalar.cmpi .ne v15 c0_i32_3
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S16384x2048 : Shape := ⟨2, ![16384, 2048]⟩
abbrev S2048 : Shape := ⟨1, ![2048]⟩
abbrev S2x2048x24640 : Shape := ⟨3, ![2, 2048, 24640]⟩
abbrev S4x6144 : Shape := ⟨2, ![4, 6144]⟩
abbrev S6144 : Shape := ⟨1, ![6144]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x24640 : Shape := ⟨3, ![1, 2048, 24640]⟩
abbrev S2048x24640 : Shape := ⟨2, ![2048, 24640]⟩
abbrev S2048x18432 : Shape := ⟨2, ![2048, 18432]⟩
abbrev S16384x18432 : Shape := ⟨2, ![16384, 18432]⟩
abbrev S16384x4096 : Shape := ⟨2, ![16384, 4096]⟩
abbrev S16384x6144 : Shape := ⟨2, ![16384, 6144]⟩
abbrev S16x1024x6144 : Shape := ⟨3, ![16, 1024, 6144]⟩
abbrev S16x8x6144 : Shape := ⟨3, ![16, 8, 6144]⟩
abbrev S2x8192x6144 : Shape := ⟨3, ![2, 8192, 6144]⟩
abbrev S2x3x6144 : Shape := ⟨3, ![2, 3, 6144]⟩
abbrev S2x8195x6144 : Shape := ⟨3, ![2, 8195, 6144]⟩
abbrev S1x6144 : Shape := ⟨2, ![1, 6144]⟩
abbrev S1x1x6144 : Shape := ⟨3, ![1, 1, 6144]⟩

abbrev nBuf : Space → Nat
  | .hbm => 98
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x24640, .f32⟩
  | .hbm, ⟨3, _⟩ => ⟨S4x6144, .f32⟩
  | .hbm, ⟨4, _⟩ => ⟨S6144, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S1x2048x24640, .f32⟩
  | .hbm, ⟨22, _⟩ => ⟨S2048x24640, .f32⟩
  | .hbm, ⟨23, _⟩ => ⟨S2048x18432, .f32⟩
  | .hbm, ⟨24, _⟩ => ⟨S16384x18432, .f32⟩
  | .hbm, ⟨25, _⟩ => ⟨S16384x4096, .f32⟩
  | .hbm, ⟨26, _⟩ => ⟨S16384x2048, .f32⟩
  | .hbm, ⟨27, _⟩ => ⟨S16384x2048, .f32⟩
  | .hbm, ⟨28, _⟩ => ⟨S16384x4096, .f32⟩
  | .hbm, ⟨29, _⟩ => ⟨S16384x6144, .f32⟩
  | .hbm, ⟨30, _⟩ => ⟨S16x1024x6144, .f32⟩
  | .hbm, ⟨31, _⟩ => ⟨S16x8x6144, .f32⟩
  | .hbm, ⟨32, _⟩ => ⟨S2x8192x6144, .f32⟩
  | .hbm, ⟨33, _⟩ => ⟨S_, .f32⟩
  | .hbm, ⟨34, _⟩ => ⟨S2x3x6144, .f32⟩
  | .hbm, ⟨35, _⟩ => ⟨S2x8195x6144, .f32⟩
  | .hbm, ⟨36, _⟩ => ⟨S2x8192x6144, .f32⟩
  | .hbm, ⟨37, _⟩ => ⟨S1x6144, .f32⟩
  | .hbm, ⟨38, _⟩ => ⟨S6144, .f32⟩
  | .hbm, ⟨39, _⟩ => ⟨S1x1x6144, .f32⟩
  | .hbm, ⟨40, _⟩ => ⟨S2x8192x6144, .f32⟩
  | .hbm, ⟨41, _⟩ => ⟨S2x8192x6144, .f32⟩
  | .hbm, ⟨42, _⟩ => ⟨S_, .f32⟩
  | .hbm, ⟨43, _⟩ => ⟨S2x8192x6144, .f32⟩
  | .hbm, ⟨44, _⟩ => ⟨S2x8192x6144, .f32⟩
  | .hbm, ⟨45, _⟩ => ⟨S2x8192x6144, .f32⟩
  | .hbm, ⟨46, _⟩ => ⟨S1x6144, .f32⟩
  | .hbm, ⟨47, _⟩ => ⟨S6144, .f32⟩
  | .hbm, ⟨48, _⟩ => ⟨S1x1x6144, .f32⟩
  | .hbm, ⟨49, _⟩ => ⟨S2x8192x6144, .f32⟩
  | .hbm, ⟨50, _⟩ => ⟨S2x8192x6144, .f32⟩
  | .hbm, ⟨51, _⟩ => ⟨S2x8192x6144, .f32⟩
  | .hbm, ⟨52, _⟩ => ⟨S2x8192x6144, .f32⟩
  | .hbm, ⟨53, _⟩ => ⟨S1x6144, .f32⟩
  | .hbm, ⟨54, _⟩ => ⟨S6144, .f32⟩
  | .hbm, ⟨55, _⟩ => ⟨S1x1x6144, .f32⟩
  | .hbm, ⟨56, _⟩ => ⟨S2x8192x6144, .f32⟩
  | .hbm, ⟨57, _⟩ => ⟨S2x8192x6144, .f32⟩
  | .hbm, ⟨58, _⟩ => ⟨S2x8192x6144, .f32⟩
  | .hbm, ⟨59, _⟩ => ⟨S2x8192x6144, .f32⟩
  | .hbm, ⟨60, _⟩ => ⟨S1x6144, .f32⟩
  | .hbm, ⟨61, _⟩ => ⟨S6144, .f32⟩
  | .hbm, ⟨62, _⟩ => ⟨S1x1x6144, .f32⟩
  | .hbm, ⟨63, _⟩ => ⟨S2x8192x6144, .f32⟩
  | .hbm, ⟨64, _⟩ => ⟨S2x8192x6144, .f32⟩
  | .hbm, ⟨65, _⟩ => ⟨S2x8192x6144, .f32⟩
  | .hbm, ⟨66, _⟩ => ⟨S1x1x6144, .f32⟩
  | .hbm, ⟨67, _⟩ => ⟨S2x8192x6144, .f32⟩
  | .hbm, ⟨68, _⟩ => ⟨S2x8192x6144, .f32⟩
  | .hbm, ⟨69, _⟩ => ⟨S2x8192x6144, .f32⟩
  | .hbm, ⟨70, _⟩ => ⟨S2x8192x6144, .f32⟩
  | .hbm, ⟨71, _⟩ => ⟨S_, .f32⟩
  | .hbm, ⟨72, _⟩ => ⟨S2x8192x6144, .f32⟩
  | .hbm, ⟨73, _⟩ => ⟨S2x8192x6144, .f32⟩
  | .hbm, ⟨74, _⟩ => ⟨S_, .f32⟩
  | .hbm, ⟨75, _⟩ => ⟨S2x8192x6144, .f32⟩
  | .hbm, ⟨76, _⟩ => ⟨S2x8192x6144, .f32⟩
  | .hbm, ⟨77, _⟩ => ⟨S2x8192x6144, .f32⟩
  | .hbm, ⟨78, _⟩ => ⟨S16384x6144, .f32⟩
  | .hbm, ⟨79, _⟩ => ⟨S16384x2048, .f32⟩
  | .hbm, ⟨80, _⟩ => ⟨S16384x2048, .f32⟩
  | .hbm, ⟨81, _⟩ => ⟨S_, .f32⟩
  | .hbm, ⟨82, _⟩ => ⟨S16384x2048, .f32⟩
  | .hbm, ⟨83, _⟩ => ⟨S16384x2048, .f32⟩
  | .hbm, ⟨84, _⟩ => ⟨S_, .f32⟩
  | .hbm, ⟨85, _⟩ => ⟨S16384x2048, .f32⟩
  | .hbm, ⟨86, _⟩ => ⟨S16384x2048, .f32⟩
  | .hbm, ⟨87, _⟩ => ⟨S16384x2048, .f32⟩
  | .hbm, ⟨88, _⟩ => ⟨S16384x4096, .f32⟩
  | .hbm, ⟨89, _⟩ => ⟨S16384x4096, .f32⟩
  | .hbm, ⟨90, _⟩ => ⟨S_, .f32⟩
  | .hbm, ⟨91, _⟩ => ⟨S16384x4096, .f32⟩
  | .hbm, ⟨92, _⟩ => ⟨S16384x4096, .f32⟩
  | .hbm, ⟨93, _⟩ => ⟨S_, .f32⟩
  | .hbm, ⟨94, _⟩ => ⟨S16384x4096, .f32⟩
  | .hbm, ⟨95, _⟩ => ⟨S16384x4096, .f32⟩
  | .hbm, ⟨96, _⟩ => ⟨S16384x4096, .f32⟩
  | .hbm, ⟨97, _⟩ => ⟨S16384x18432, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v59 : Ref sig .tc := ⟨.hbm, 77, rfl⟩
abbrev main_v60 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v61 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v62 : Ref sig .tc := ⟨.hbm, 96, rfl⟩
abbrev main_v63 : Ref sig .tc := ⟨.hbm, 97, rfl⟩

abbrev nD : Nat := 1
abbrev τ : Topo := Topo.v7x

variable {F : FTy → Type} [FloatOps F]
-- ==== Kernel11.lean ====
abbrev S16384x2048 : Shape := ⟨2, ![16384, 2048]⟩
abbrev S2048 : Shape := ⟨1, ![2048]⟩
abbrev S2048x24640 : Shape := ⟨2, ![2048, 24640]⟩
abbrev S1x2048 : Shape := ⟨2, ![1, 2048]⟩
abbrev S2048x64 : Shape := ⟨2, ![2048, 64]⟩
abbrev S16384x64 : Shape := ⟨2, ![16384, 64]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x24640, .f32⟩
  | .hbm, ⟨3, _⟩ => ⟨S1x2048, .f32⟩
  | .hbm, ⟨4, _⟩ => ⟨S2048x64, .f32⟩
  | .hbm, ⟨5, _⟩ => ⟨S2048x64, .bf16⟩
  | .hbm, ⟨6, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x64, .bf16⟩
  | .local _ .vmem, ⟨4, _⟩ => ⟨S1024x64, .f32⟩
  | .local _ .vmem, ⟨5, _⟩ => ⟨S1024x64, .f32⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S16384x2048 : Shape := ⟨2, ![16384, 2048]⟩
abbrev S2048 : Shape := ⟨1, ![2048]⟩
abbrev S2048x24640 : Shape := ⟨2, ![2048, 24640]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x64 : Shape := ⟨2, ![2048, 64]⟩
abbrev S16384x64 : Shape := ⟨2, ![16384, 64]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x24640, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x64, .f32⟩
  | .hbm, ⟨20, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel12.lean ====
abbrev S128x64 : Shape := ⟨2, ![128, 64]⟩
abbrev S128x64x16 : Shape := ⟨3, ![128, 64, 16]⟩
abbrev S128 : Shape := ⟨1, ![128]⟩
abbrev S128x16x64 : Shape := ⟨3, ![128, 16, 64]⟩
abbrev S128x1 : Shape := ⟨2, ![128, 1]⟩
abbrev S128x1x64 : Shape := ⟨3, ![128, 1, 64]⟩

abbrev nBuf : Space → Nat
  | .hbm => 14
  | .vmem => 11
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64x16, .f32⟩
  | .hbm, ⟨3, _⟩ => ⟨S128x64x16, .f32⟩
  | .hbm, ⟨4, _⟩ => ⟨S128, .f32⟩
  | .hbm, ⟨5, _⟩ => ⟨S128x16x64, .f32⟩
  | .hbm, ⟨6, _⟩ => ⟨S128x16x64, .f32⟩
  | .hbm, ⟨7, _⟩ => ⟨S128x1, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S128x64, .f32⟩
  | .hbm, ⟨12, _⟩ => ⟨S128x16x64, .f32⟩
  | .hbm, ⟨13, _⟩ => ⟨S128x16x64, .f32⟩
  | .local _ .vmem, ⟨0, _⟩ => ⟨S128x64, .f32⟩
  | .local _ .vmem, ⟨1, _⟩ => ⟨S128x64, .f32⟩
  | .local _ .vmem, ⟨2, _⟩ => ⟨S128x1, .f32⟩
  | .local _ .vmem, ⟨3, _⟩ => ⟨S128x16x64, .f32⟩
  | .local _ .vmem, ⟨4, _⟩ => ⟨S128x16x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x16x64, .f32⟩
  | .local _ .vmem, ⟨10, _⟩ => ⟨S128x16x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Reference12Ideal.lean ====
abbrev S128x64 : Shape := ⟨2, ![128, 64]⟩
abbrev S128x64x16 : Shape := ⟨3, ![128, 64, 16]⟩
abbrev S128 : Shape := ⟨1, ![128]⟩
abbrev S128x1 : Shape := ⟨2, ![128, 1]⟩
abbrev S_ : Shape := ⟨0, ![]⟩
abbrev S128x64x1 : Shape := ⟨3, ![128, 64, 1]⟩
abbrev S128x16x64 : Shape := ⟨3, ![128, 16, 64]⟩

abbrev nBuf : Space → Nat
  | .hbm => 52
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64x16, .f32⟩
  | .hbm, ⟨3, _⟩ => ⟨S128x64x16, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S128x64, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S128x64, .f32⟩
  | .hbm, ⟨16, _⟩ => ⟨S128x64, .f32⟩
  | .hbm, ⟨17, _⟩ => ⟨S128x64, .f32⟩
  | .hbm, ⟨18, _⟩ => ⟨S_, .f32⟩
  | .hbm, ⟨19, _⟩ => ⟨S128x64, .f32⟩
  | .hbm, ⟨20, _⟩ => ⟨S128x64, .f32⟩
  | .hbm, ⟨21, _⟩ => ⟨S128x64, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S128x64, .f32⟩
  | .hbm, ⟨29, _⟩ => ⟨S128x64, .f32⟩
  | .hbm, ⟨30, _⟩ => ⟨S128x64, .f32⟩
  | .hbm, ⟨31, _⟩ => ⟨S128x64, .f32⟩
  | .hbm, ⟨32, _⟩ => ⟨S128x64x1, .f32⟩
  | .hbm, ⟨33, _⟩ => ⟨S128x64x16, .f32⟩
  | .hbm, ⟨34, _⟩ => ⟨S128x64x16, .f32⟩
  | .hbm, ⟨35, _⟩ => ⟨S128x64x1, .f32⟩
  | .hbm, ⟨36, _⟩ => ⟨S128x64x16, .f32⟩
  | .hbm, ⟨37, _⟩ => ⟨S128x64x16, .f32⟩
  | .hbm, ⟨38, _⟩ => ⟨S128x64x16, .f32⟩
  | .hbm, ⟨39, _⟩ => ⟨S128x64x1, .f32⟩
  | .hbm, ⟨40, _⟩ => ⟨S128x64x16, .f32⟩
  | .hbm, ⟨41, _⟩ => ⟨S128x64x16, .f32⟩
  | .hbm, ⟨42, _⟩ => ⟨S128x64x1, .f32⟩
  | .hbm, ⟨43, _⟩ => ⟨S128x64x16, .f32⟩
  | .hbm, ⟨44, _⟩ => ⟨S128x64x16, .f32⟩
  | .hbm, ⟨45, _⟩ => ⟨S128x64x16, .f32⟩
  | .hbm, ⟨46, _⟩ => ⟨S128x64, .f32⟩
  | .hbm, ⟨47, _⟩ => ⟨S128x64, .f32⟩
  | .hbm, ⟨48, _⟩ => ⟨S128x64, .f32⟩
  | .hbm, ⟨49, _⟩ => ⟨S128x64, .f32⟩
  | .hbm, ⟨50, _⟩ => ⟨S128x16x64, .f32⟩
  | .hbm, ⟨51, _⟩ => ⟨S128x16x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩

abbrev nD : Nat := 1
abbrev τ : Topo := Topo.v7x

variable {F : FTy → Type} [FloatOps F]
-- ==== Proof.ConvICond.lean ====
/- The branch conditions of the input projection's body over the grid, and which results each case stores. -/
module

public import proofs.«01_k».proof.Proof.Gen.Kernel10Ideal.Frame
public import proofs.«01_k».proof.Proof.Gen.Kernel10Ideal.Skeleton
public import proofs.«01_k».proof.Proof.Gen.Kernel10Ideal.Launch
public import proofs.«01_k».proof.Proof.Gen.Kernel10Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row of the scratch tail a convolution block keeps. -/
def trow (i : grid0.Coords) : ℕ := k0_off1 i 0

instance (i : grid0.Coords) : ClosedOff (k0_off1 i) := ⟨![trow i, 0, 0], rfl⟩
instance (i : grid0.Coords) : ClosedOff (k0_off2 i) := ⟨![trow i, 0, 0], rfl⟩
instance (i : grid0.Coords) : ClosedOff (k0_off3 i) := ⟨![trow i, 0, 256], rfl⟩
instance (i : grid0.Coords) : ClosedOff (k0_off4 i) := ⟨![trow i, 0, 512], rfl⟩
instance (i : grid0.Coords) : ClosedOff (k0_off5 i) := ⟨![trow i, 0, 768], rfl⟩

/-! ## The body's branch conditions -/

/-- The body's condition 0, from the grid coordinates. -/
abbrev cond0_0 (i : grid0.Coords) : Prop := (Scalar.cmpi .ne (Scalar.extui (Scalar.cmpi .eq (BitVec.ofNat 32 (i 1).val) 0#32)) 0#32) = 1#1
/-- The points at which it holds. -/
theorem hcond0_0 : ∀ t : Fin cfg0.N, cond0_0 (grid0.coords t) ↔ t.val % 18 = 0 :=
  (fun t => by
    have ht : t.val < 288 := Nat.lt_of_lt_of_eq t.isLt N_0
    have e0 : (grid0.coords t 0).val = t.val / 18 % 16 := Pipeline.Grid.coords_val t 0 (by decide) rfl
    have e1 : (grid0.coords t 1).val = t.val / 1 % 18 := Pipeline.Grid.coords_val t 1 (by decide) rfl
    simp only [cond0_0, e0, e1]
    word_cmp
   : ∀ t : Fin grid0.N, cond0_0 (grid0.coords t) ↔ t.val % 18 = 0)

/-- The body's condition 1, from the grid coordinates. -/
abbrev cond0_1 (i : grid0.Coords) : Prop := k0_cond2 i = 1#1
/-- The points at which it holds. -/
theorem hcond0_1 : ∀ t : Fin cfg0.N, cond0_1 (grid0.coords t) ↔ (t.val % 18 = 4 ∨ t.val % 18 = 5 ∨ t.val % 18 = 8 ∨ t.val % 18 = 9 ∨ t.val % 18 = 10 ∨ t.val % 18 = 11) :=
  (by decide +kernel : ∀ t : Fin grid0.N, cond0_1 (grid0.coords t) ↔ (t.val % 18 = 4 ∨ t.val % 18 = 5 ∨ t.val % 18 = 8 ∨ t.val % 18 = 9 ∨ t.val % 18 = 10 ∨ t.val % 18 = 11))

/-- The body's condition 2, from the grid coordinates. -/
abbrev cond0_2 (i : grid0.Coords) : Prop := k0_cond3 i = 1#1
/-- The points at which it holds. -/
theorem hcond0_2 : ∀ t : Fin cfg0.N, cond0_2 (grid0.coords t) ↔ (t.val % 18 = 0 ∨ t.val % 18 = 1 ∨ t.val % 18 = 2 ∨ t.val % 18 = 3 ∨ t.val % 18 = 6 ∨ t.val % 18 = 7) :=
  (by decide +kernel : ∀ t : Fin grid0.N, cond0_2 (grid0.coords t) ↔ (t.val % 18 = 0 ∨ t.val % 18 = 1 ∨ t.val % 18 = 2 ∨ t.val % 18 = 3 ∨ t.val % 18 = 6 ∨ t.val % 18 = 7))

/-- The body's condition 3, from the grid coordinates. -/
abbrev cond0_3 (i : grid0.Coords) : Prop := k0_cond4 i = 1#1
/-- The points at which it holds. -/
theorem hcond0_3 : ∀ t : Fin cfg0.N, cond0_3 (grid0.coords t) ↔ 12 ≤ t.val % 18 :=
  (by decide +kernel : ∀ t : Fin grid0.N, cond0_3 (grid0.coords t) ↔ 12 ≤ t.val % 18)

/-- The body's condition 4, from the grid coordinates. -/
abbrev cond0_4 (i : grid0.Coords) : Prop := k0_cond5 i = 1#1
/-- The points at which it holds. -/
theorem hcond0_4 : ∀ t : Fin cfg0.N, cond0_4 (grid0.coords t) ↔ t.val % 144 < 18 :=
  (by decide +kernel : ∀ t : Fin grid0.N, cond0_4 (grid0.coords t) ↔ t.val % 144 < 18)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-- Case A's conditions. -/
abbrev conds0_A (i : grid0.Coords) : Prop := cond0_0 i ∧ ¬cond0_1 i ∧ cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's conditions. -/
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's conditions. -/
abbrev conds0_C (i : grid0.Coords) : Prop := ¬cond0_0 i ∧ cond0_1 i ∧ ¬cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's conditions. -/
abbrev conds0_D (i : grid0.Coords) : Prop := ¬cond0_0 i ∧ ¬cond0_1 i ∧ ¬cond0_2 i ∧ cond0_3 i ∧ cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- Case E's conditions. -/
abbrev conds0_E (i : grid0.Coords) : Prop := ¬cond0_0 i ∧ ¬cond0_1 i ∧ ¬cond0_2 i ∧ cond0_3 i ∧ ¬cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
/-- In case A this result is stored. -/
theorem liveAt0_5_A : ∀ t : Fin cfg0.N, cond0_0 (grid0.coords t) → ¬cond0_1 (grid0.coords t) → cond0_2 (grid0.coords t) → ¬cond0_3 (grid0.coords t) → cfg0.idle 5 (grid0.coords t) = false :=
  fun t h0 h1 h2 h3 => (by decide +kernel : ∀ t : Fin cfg0.N, conds0_A (grid0.coords t) → cfg0.idle 5 (grid0.coords t) = false) t ⟨h0, h1, h2, h3⟩
/-- In case B this result is stored. -/
theorem liveAt0_5_B : ∀ t : Fin cfg0.N, ¬cond0_0 (grid0.coords t) → ¬cond0_1 (grid0.coords t) → cond0_2 (grid0.coords t) → ¬cond0_3 (grid0.coords t) → cfg0.idle 5 (grid0.coords t) = false :=
  fun t h0 h1 h2 h3 => (by decide +kernel : ∀ t : Fin cfg0.N, conds0_B (grid0.coords t) → cfg0.idle 5 (grid0.coords t) = false) t ⟨h0, h1, h2, h3⟩
/-- In case C this result is stored. -/
theorem liveAt0_5_C : ∀ t : Fin cfg0.N, ¬cond0_0 (grid0.coords t) → cond0_1 (grid0.coords t) → ¬cond0_2 (grid0.coords t) → ¬cond0_3 (grid0.coords t) → cfg0.idle 5 (grid0.coords t) = false :=
  fun t h0 h1 h2 h3 => (by decide +kernel : ∀ t : Fin cfg0.N, conds0_C (grid0.coords t) → cfg0.idle 5 (grid0.coords t) = false) t ⟨h0, h1, h2, h3⟩
/-- In case D this result is stored. -/
theorem liveAt0_5_D : ∀ t : Fin cfg0.N, ¬cond0_0 (grid0.coords t) → ¬cond0_1 (grid0.coords t) → ¬cond0_2 (grid0.coords t) → cond0_3 (grid0.coords t) → cond0_4 (grid0.coords t) → cfg0.idle 5 (grid0.coords t) = false :=
  fun t h0 h1 h2 h3 h4 => (by decide +kernel : ∀ t : Fin cfg0.N, conds0_D (grid0.coords t) → cfg0.idle 5 (grid0.coords t) = false) t ⟨h0, h1, h2, h3, h4⟩
/-- In case E this result is stored. -/
theorem liveAt0_5_E : ∀ t : Fin cfg0.N, ¬cond0_0 (grid0.coords t) → ¬cond0_1 (grid0.coords t) → ¬cond0_2 (grid0.coords t) → cond0_3 (grid0.coords t) → ¬cond0_4 (grid0.coords t) → cfg0.idle 5 (grid0.coords t) = false :=
  fun t h0 h1 h2 h3 h4 => (by decide +kernel : ∀ t : Fin cfg0.N, conds0_E (grid0.coords t) → cfg0.idle 5 (grid0.coords t) = false) t ⟨h0, h1, h2, h3, h4⟩
/-- In case A this result is not stored. -/
theorem idleAt0_6_A : ∀ t : Fin cfg0.N, cond0_0 (grid0.coords t) → ¬cond0_1 (grid0.coords t) → cond0_2 (grid0.coords t) → ¬cond0_3 (grid0.coords t) → cfg0.idle 6 (grid0.coords t) = true :=
  fun t h0 h1 h2 h3 => (by decide +kernel : ∀ t : Fin cfg0.N, conds0_A (grid0.coords t) → cfg0.idle 6 (grid0.coords t) = true) t ⟨h0, h1, h2, h3⟩
/-- In case A this result's block is not written back. -/
theorem noFlush0_6_A : ∀ t : Fin cfg0.N, cond0_0 (grid0.coords t) → ¬cond0_1 (grid0.coords t) → cond0_2 (grid0.coords t) → ¬cond0_3 (grid0.coords t) → (cfg0.win 6).flush t = false :=
  fun t h0 h1 h2 h3 => (by decide +kernel : ∀ t : Fin cfg0.N, conds0_A (grid0.coords t) → (cfg0.win 6).flush t = false) t ⟨h0, h1, h2, h3⟩
/-- In case B this result is not stored. -/
theorem idleAt0_6_B : ∀ t : Fin cfg0.N, ¬cond0_0 (grid0.coords t) → ¬cond0_1 (grid0.coords t) → cond0_2 (grid0.coords t) → ¬cond0_3 (grid0.coords t) → cfg0.idle 6 (grid0.coords t) = true :=
  fun t h0 h1 h2 h3 => (by decide +kernel : ∀ t : Fin cfg0.N, conds0_B (grid0.coords t) → cfg0.idle 6 (grid0.coords t) = true) t ⟨h0, h1, h2, h3⟩
/-- In case B this result's block is not written back. -/
theorem noFlush0_6_B : ∀ t : Fin cfg0.N, ¬cond0_0 (grid0.coords t) → ¬cond0_1 (grid0.coords t) → cond0_2 (grid0.coords t) → ¬cond0_3 (grid0.coords t) → (cfg0.win 6).flush t = false :=
  fun t h0 h1 h2 h3 => (by decide +kernel : ∀ t : Fin cfg0.N, conds0_B (grid0.coords t) → (cfg0.win 6).flush t = false) t ⟨h0, h1, h2, h3⟩
/-- In case C this result is not stored. -/
theorem idleAt0_6_C : ∀ t : Fin cfg0.N, ¬cond0_0 (grid0.coords t) → cond0_1 (grid0.coords t) → ¬cond0_2 (grid0.coords t) → ¬cond0_3 (grid0.coords t) → cfg0.idle 6 (grid0.coords t) = true :=
  fun t h0 h1 h2 h3 => (by decide +kernel : ∀ t : Fin cfg0.N, conds0_C (grid0.coords t) → cfg0.idle 6 (grid0.coords t) = true) t ⟨h0, h1, h2, h3⟩
/-- In case C this result's block is not written back. -/
theorem noFlush0_6_C : ∀ t : Fin cfg0.N, ¬cond0_0 (grid0.coords t) → cond0_1 (grid0.coords t) → ¬cond0_2 (grid0.coords t) → ¬cond0_3 (grid0.coords t) → (cfg0.win 6).flush t = false :=
  fun t h0 h1 h2 h3 => (by decide +kernel : ∀ t : Fin cfg0.N, conds0_C (grid0.coords t) → (cfg0.win 6).flush t = false) t ⟨h0, h1, h2, h3⟩
/-- In case D this result is stored. -/
theorem liveAt0_6_D : ∀ t : Fin cfg0.N, ¬cond0_0 (grid0.coords t) → ¬cond0_1 (grid0.coords t) → ¬cond0_2 (grid0.coords t) → cond0_3 (grid0.coords t) → cond0_4 (grid0.coords t) → cfg0.idle 6 (grid0.coords t) = false :=
  fun t h0 h1 h2 h3 h4 => (by decide +kernel : ∀ t : Fin cfg0.N, conds0_D (grid0.coords t) → cfg0.idle 6 (grid0.coords t) = false) t ⟨h0, h1, h2, h3, h4⟩
/-- In case E this result is stored. -/
theorem liveAt0_6_E : ∀ t : Fin cfg0.N, ¬cond0_0 (grid0.coords t) → ¬cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_E (grid0.coords t) → cfg0.idle 6 (grid0.coords t) = false) t ⟨h0, h1, h2, h3, h4⟩

/-- A buffer of this result's window. -/
abbrev VO0_5 : View sig .tc .vmem S1024x1024 .f32 := (Memref.whole cc0_stg5_0 : Memref sig .tc .vmem S1024x1024 .f32).view
/-- A buffer of this result's window. -/
abbrev VO0_6 : View sig .tc .vmem S1x8x1024 .f32 := (Memref.whole cc0_stg6_0 : Memref sig .tc .vmem S1x8x1024 .f32).view
/-- Each window's buffer at point `t`. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x1024 .f32 := win0_6.stage (cfg0.slots t 6)
abbrev hs0_6 (t : Fin cfg0.N) : (ms0_6 t).IsWhole := hstage0_6 ((cfg0.slots t 6).cast nbuf0_6)
/-- The scratch buffers. -/
abbrev scM0_0 : Memref sig .tc .vmem S1024x2048 .bf16 := Memref.whole cc0_scratch0
abbrev scM0_1 : Memref sig .tc .vmem S6x8x1024 .f32 := Memref.whole cc0_scratch1
abbrev VS0_0 : View sig .tc .vmem S1024x2048 .bf16 := scM0_0.view
abbrev VS0_1 : View sig .tc .vmem S6x8x1024 .f32 := scM0_1.view

/-- What the launch hands the region: both scratch buffers, holding anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel10Ideal.Gen

end
-- ==== Proof.ConvIVal.lean ====
/- What the input projection's body stores, as functions of its blocks and the rows it kept. -/
module

public import proofs.«01_k».proof.Proof.ConvICond
public import Idealize.ShloMosaic.Lib.VecWindow

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.VecWindow

/-! ## The stored values -/

theorem inw (o : ℕ) (h : o + 256 ≤ 1024) : ∀ a, (![0, 0, o] : Fin 3 → ℕ) a + S1x2048x256.size a ≤ S1x2048x1024.size a := fun a => by
  fin_cases a
  · show 0 + 1 ≤ 1; omega
  · show 0 + 2048 ≤ 2048; omega
  · show o + 256 ≤ 1024; omega
theorem int (o : ℕ) (h : o + 256 ≤ 1024) : ∀ a, (![0, 0, o] : Fin 3 → ℕ) a + S1x8x256.size a ≤ S1x8x1024.size a := fun a => by
  fin_cases a
  · show 0 + 1 ≤ 1; omega
  · show 0 + 8 ≤ 8; omega
  · show o + 256 ≤ 1024; omega
theorem inc (r o : ℕ) (hr : r + 1 ≤ 4) (h : o + 256 ≤ 1024) : ∀ a, (![r, o] : Fin 2 → ℕ) a + S1x256.size a ≤ S4x1024.size a := fun a => by
  fin_cases a
  · show r + 1 ≤ 4; omega
  · show o + 256 ≤ 1024; omega
theorem inb1 (o : ℕ) (h : o + 256 ≤ 1024) : ∀ a, (![0, o] : Fin 2 → ℕ) a + S1x256.size a ≤ S1x1024.size a := fun a => by
  fin_cases a
  · show 0 + 1 ≤ 1; omega
  · show o + 256 ≤ 1024; omega

/-- The product of the normed rows with 256 columns of the weights. -/
def acc (hn : Vec F S1024x2048 .bf16) (w : Vec F S1x2048x1024 .bf16) (o : ℕ) (h : o + 256 ≤ 1024) : FVec F S1024x256 .f32 :=
  k0_pay13 hn (window w ![0, 0, o] S1x2048x256.size (inw o h))

/-- 256 columns of a convolution block: the kept rows `T` of the block before put above the product, and the taps added up. -/
def convP (hn : Vec F S1024x2048 .bf16) (w : Vec F S1x2048x1024 .bf16) (cw : Vec F S4x1024 .f32) (cb : Vec F S1x1024 .f32) (T : Vec F S1x8x1024 .f32)
    (o : ℕ) (h : o + 256 ≤ 1024) : FVec F S1024x256 .f32 :=
  k0_pay22 (acc hn w o h) (window T ![0, 0, o] S1x8x256.size (int o h)) (window cw ![0, o] S1x256.size (inc 0 o (by omega) h)) (window cw ![1, o] S1x256.size (inc 1 o (by omega) h))
    (window cw ![2, o] S1x256.size (inc 2 o (by omega) h)) (window cw ![3, o] S1x256.size (inc 3 o (by omega) h)) (window cb ![0, o] S1x256.size (inb1 o h))

/-- A block with its four quarters of columns put over `x`. -/
def put5 (x : Vec F S1024x1024 .f32) (p0 p1 p2 p3 : FVec F S1024x256 .f32) : Vec F S1024x1024 .f32 :=
  put (put (put (put x ![0, 0] S1024x256.size p0) ![0, 256] S1024x256.size p1) ![0, 512] S1024x256.size p2) ![0, 768] S1024x256.size p3

/-- A plain block. -/
def plainO (hn : Vec F S1024x2048 .bf16) (w : Vec F S1x2048x1024 .bf16) : Vec F S1024x1024 .f32 := k0_pay4 hn w

/-- A block through the activation. -/
def siluO (hn : Vec F S1024x2048 .bf16) (w : Vec F S1x2048x1024 .bf16) : Vec F S1024x1024 .f32 :=
  put5 (plainO hn w) (k0_pay28 (acc hn w 0 (by omega))) (k0_pay28 (acc hn w 256 (by omega))) (k0_pay28 (acc hn w 512 (by omega))) (k0_pay28 (acc hn w 768 (by omega)))

/-- A convolution block. -/
def convO (hn : Vec F S1024x2048 .bf16) (w : Vec F S1x2048x1024 .bf16) (cw : Vec F S4x1024 .f32) (cb : Vec F S1x1024 .f32) (T : Vec F S1x8x1024 .f32) : Vec F S1024x1024 .f32 :=
  put5 (plainO hn w) (convP hn w cw cb T 0 (by omega)) (convP hn w cw cb T 256 (by omega)) (convP hn w cw cb T 512 (by omega)) (convP hn w cw cb T 768 (by omega))

/-- Eight rows with their four quarters of columns put over `x`. -/
def put6 (x : Vec F S1x8x1024 .f32) (p0 p1 p2 p3 : FVec F S1x8x256 .f32) : Vec F S1x8x1024 .f32 :=
  put (put (put (put x ![0, 0, 0] S1x8x256.size p0) ![0, 0, 256] S1x8x256.size p1) ![0, 0, 512] S1x8x256.size p2) ![0, 0, 768] S1x8x256.size p3

/-- The last eight rows of a convolution block's product. -/
def tailV (hn : Vec F S1024x2048 .bf16) (w : Vec F S1x2048x1024 .bf16) : Vec F S1x8x1024 .f32 :=
  put6 k0_pay12 (k0_pay19 (acc hn w 0 (by omega))) (k0_pay19 (acc hn w 256 (by omega))) (k0_pay19 (acc hn w 512 (by omega))) (k0_pay19 (acc hn w 768 (by omega)))

/-- The kept rows with row `r` set to a block's last eight rows. -/
def setRow (d : Vec F S6x8x1024 .f32) (r : ℕ) (hn : Vec F S1024x2048 .bf16) (w : Vec F S1x2048x1024 .bf16) : Vec F S6x8x1024 .f32 :=
  put (put (put (put d ![r, 0, 0] S1x8x256.size (k0_pay19 (acc hn w 0 (by omega)))) ![r, 0, 256] S1x8x256.size (k0_pay19 (acc hn w 256 (by omega))))
    ![r, 0, 512] S1x8x256.size (k0_pay19 (acc hn w 512 (by omega)))) ![r, 0, 768] S1x8x256.size (k0_pay19 (acc hn w 768 (by omega)))

/-- Row `r` of the kept rows. -/
def rowT (d : Vec F S6x8x1024 .f32) (r : ℕ) : Vec F S1x8x1024 .f32 := fun y => if h : r < 6 then d (Fin.cons ⟨r, h⟩ (Fin.cons (y 1) (Fin.cons (y 2) finZeroElim))) else k0_pay12 y

/-! ## Puts that cover -/

theorem put_apply {α : Type} {s : Shape} (x : s.Idx → α) (off size : Fin s.rank → ℕ) (w : ((a : Fin s.rank) → Fin (size a)) → α) (y : s.Idx)
    (z : (a : Fin s.rank) → Fin (size a)) (hz : ∀ a, (y a).val = off a + (z a).val) : put x off size w y = w z := by
  have h : ∀ a, off a ≤ (y a).val ∧ (y a).val < off a + size a := fun a => by have := hz a; have := (z a).isLt; omega
  refine (dif_pos h).trans (congrArg w (funext fun a => Fin.ext ?_))
  show (y a).val - off a = (z a).val
  have := hz a; omega

theorem put_skip {α : Type} {s : Shape} (x : s.Idx → α) (off size : Fin s.rank → ℕ) (w : ((a : Fin s.rank) → Fin (size a)) → α) (y : s.Idx)
    (a : Fin s.rank) (ha : (y a).val < off a ∨ off a + size a ≤ (y a).val) : put x off size w y = x y :=
  dif_neg fun h => by have := h a; omega

/-- What lies under the four quarters does not matter. -/
theorem put5_base (x x' : Vec F S1024x1024 .f32) (p0 p1 p2 p3 : FVec F S1024x256 .f32) : put5 x p0 p1 p2 p3 = put5 x' p0 p1 p2 p3 := by
  funext y
  unfold put5
  have hy0 : (y 0).val < 1024 := (y 0).isLt
  have hy1 : (y 1).val < 1024 := (y 1).isLt
  have key : ∀ (o : ℕ) (z z' : Vec F S1024x1024 .f32) (p : FVec F S1024x256 .f32), z y = z' y ∨ (o ≤ (y 1).val ∧ (y 1).val < o + 256) →
      put z ![0, o] S1024x256.size p y = put z' ![0, o] S1024x256.size p y := by
    intro o z z' p h
    by_cases hm : o ≤ (y 1).val ∧ (y 1).val < o + 256
    · have hz : ∀ a, (y a).val = (![0, o] : Fin 2 → ℕ) a + ((Fin.cons ⟨(y 0).val, hy0⟩ (Fin.cons ⟨(y 1).val - o, show (y 1).val - o < 256 by omega⟩ finZeroElim) : (a : Fin 2) → Fin (S1024x256.size a)) a).val := fun a => by
        fin_cases a
        · show (y 0).val = 0 + (y 0).val; omega
        · show (y 1).val = o + ((y 1).val - o); omega
      exact (put_apply _ _ _ _ _ _ hz).trans (put_apply _ _ _ _ _ _ hz).symm
    · have hs : (y 1).val < (![0, o] : Fin 2 → ℕ) 1 ∨ (![0, o] : Fin 2 → ℕ) 1 + S1024x256.size 1 ≤ (y 1).val := by
        show (y 1).val < o ∨ o + 256 ≤ (y 1).val; omega
      rw [put_skip z _ _ p y 1 hs, put_skip z' _ _ p y 1 hs]
      exact h.resolve_right hm
  by_cases h0 : (y 1).val < 256
  · exact key _ _ _ _ (.inl (key _ _ _ _ (.inl (key _ _ _ _ (.inl (key _ _ _ _ (.inr (by omega))))))))
  by_cases h1 : (y 1).val < 512
  · exact key _ _ _ _ (.inl (key _ _ _ _ (.inl (key _ _ _ _ (.inr (by omega))))))
  by_cases h2 : (y 1).val < 768
  · exact key _ _ _ _ (.inl (key _ _ _ _ (.inr (by omega))))
  · exact key _ _ _ _ (.inr (by omega))

/-- A quarter of eight rows put at an index: the same whatever row it is put in. -/
theorem put3_cases {n : ℕ} (z : Vec F (⟨3, ![n, 8, 1024]⟩ : Shape) .f32) (z' : Vec F S1x8x1024 .f32) (r o : ℕ) (p : FVec F S1x8x256 .f32)
    (y : (⟨3, ![n, 8, 1024]⟩ : Shape).Idx) (y' : S1x8x1024.Idx) (h0 : (y 0).val = r) (h1 : (y 1).val = (y' 1).val) (h2 : (y 2).val = (y' 2).val)
    (h : z y = z' y' ∨ (o ≤ (y' 2).val ∧ (y' 2).val < o + 256)) :
    put z ![r, 0, o] S1x8x256.size p y = put z' ![0, 0, o] S1x8x256.size p y' := by
  have hy0 : (y' 0).val < 1 := (y' 0).isLt
  have hy1 : (y' 1).val < 8 := (y' 1).isLt
  by_cases hm : o ≤ (y' 2).val ∧ (y' 2).val < o + 256
  · have e := put_apply z ![r, 0, o] S1x8x256.size p y (Fin.cons ⟨0, Nat.one_pos⟩ (Fin.cons ⟨(y' 1).val, hy1⟩ (Fin.cons ⟨(y' 2).val - o, show (y' 2).val - o < 256 by omega⟩ finZeroElim))) (fun a => by
      fin_cases a
      · show (y 0).val = r + 0; omega
      · show (y 1).val = 0 + (y' 1).val; omega
      · show (y 2).val = o + ((y' 2).val - o); omega)
    have e' := put_apply z' ![0, 0, o] S1x8x256.size p y' (Fin.cons ⟨0, Nat.one_pos⟩ (Fin.cons ⟨(y' 1).val, hy1⟩ (Fin.cons ⟨(y' 2).val - o, show (y' 2).val - o < 256 by omega⟩ finZeroElim))) (fun a => by
      fin_cases a
      · show (y' 0).val = 0 + 0; omega
      · show (y' 1).val = 0 + (y' 1).val; omega
      · show (y' 2).val = o + ((y' 2).val - o); omega)
    exact e.trans e'.symm
  · rw [put_skip z _ _ p y 2 (by show (y 2).val < o ∨ o + 256 ≤ (y 2).val; omega), put_skip z' _ _ p y' 2 (by show (y' 2).val < o ∨ o + 256 ≤ (y' 2).val; omega)]
    exact h.resolve_right hm

/-- Four quarters put in row `r` of anything are there the four quarters put over anything. -/
theorem put4_at {n : ℕ} (z : Vec F (⟨3, ![n, 8, 1024]⟩ : Shape) .f32) (z' : Vec F S1x8x1024 .f32) (r : ℕ) (p0 p1 p2 p3 : FVec F S1x8x256 .f32)
    (y : (⟨3, ![n, 8, 1024]⟩ : Shape).Idx) (y' : S1x8x1024.Idx) (h0 : (y 0).val = r) (h1 : (y 1).val = (y' 1).val) (h2 : (y 2).val = (y' 2).val) :
    put (put (put (put z ![r, 0, 0] S1x8x256.size p0) ![r, 0, 256] S1x8x256.size p1) ![r, 0, 512] S1x8x256.size p2) ![r, 0, 768] S1x8x256.size p3 y
      = put6 z' p0 p1 p2 p3 y' := by
  have hy2 : (y' 2).val < 1024 := (y' 2).isLt
  unfold put6
  by_cases c0 : (y' 2).val < 256
  · exact put3_cases _ _ _ _ _ _ _ h0 h1 h2 (.inl (put3_cases _ _ _ _ _ _ _ h0 h1 h2 (.inl (put3_cases _ _ _ _ _ _ _ h0 h1 h2 (.inl (put3_cases _ _ _ _ _ _ _ h0 h1 h2 (.inr (by omega))))))))
  by_cases c1 : (y' 2).val < 512
  · exact put3_cases _ _ _ _ _ _ _ h0 h1 h2 (.inl (put3_cases _ _ _ _ _ _ _ h0 h1 h2 (.inl (put3_cases _ _ _ _ _ _ _ h0 h1 h2 (.inr (by omega))))))
  by_cases c2 : (y' 2).val < 768
  · exact put3_cases _ _ _ _ _ _ _ h0 h1 h2 (.inl (put3_cases _ _ _ _ _ _ _ h0 h1 h2 (.inr (by omega))))
  · exact put3_cases _ _ _ _ _ _ _ h0 h1 h2 (.inr (by omega))

theorem put6_base (x x' : Vec F S1x8x1024 .f32) (p0 p1 p2 p3 : FVec F S1x8x256 .f32) : put6 x p0 p1 p2 p3 = put6 x' p0 p1 p2 p3 := by
  funext y
  exact put4_at (n := 1) x x' 0 p0 p1 p2 p3 y y (by have : (y 0).val < 1 := (y 0).isLt; omega) rfl rfl

/-- The row set is the block's last rows. -/
theorem rowT_setRow (d : Vec F S6x8x1024 .f32) (r : ℕ) (hr : r < 6) (hn : Vec F S1024x2048 .bf16) (w : Vec F S1x2048x1024 .bf16) :
    rowT (setRow d r hn w) r = tailV hn w := by
  funext y
  refine (dif_pos hr).trans ?_
  exact put4_at (n := 6) d k0_pay12 r _ _ _ _ _ y rfl rfl rfl

/-- A put in row `r` leaves the other rows. -/
theorem rowT_put (d : Vec F S6x8x1024 .f32) (r r' o : ℕ) (size : Fin 3 → ℕ) (hs : size 0 = 1) (hne : r' ≠ r) (p : ((a : Fin 3) → Fin (size a)) → Elt F .f32) :
    rowT (put (s := S6x8x1024) d ![r, 0, o] size p) r' = rowT d r' := by
  funext y
  by_cases h : r' < 6
  · refine (dif_pos h).trans (Eq.trans ?_ (dif_pos h).symm)
    refine put_skip (s := S6x8x1024) d _ _ p _ 0 ?_
    show r' < r ∨ r + size 0 ≤ r'
    omega
  · have e : ∀ d' : Vec F S6x8x1024 .f32, rowT d' r' y = k0_pay12 y := fun d' => dif_neg h
    exact (e _).trans (e d).symm

theorem rowT_setRow_ne (d : Vec F S6x8x1024 .f32) (r r' : ℕ) (hne : r' ≠ r) (hn : Vec F S1024x2048 .bf16) (w : Vec F S1x2048x1024 .bf16) :
    rowT (setRow d r hn w) r' = rowT d r' := by
  unfold setRow
  rw [rowT_put _ _ _ _ _ rfl hne, rowT_put _ _ _ _ _ rfl hne, rowT_put _ _ _ _ _ rfl hne, rowT_put _ _ _ _ _ rfl hne]

/-! ## Loads -/

/-- A load from a whole buffer held at `x` reads a window of `x`. -/
theorem ld_unread {κ : Kind} {sp : Space} {s : Shape} {e : EltTy} (a : Memref sig κ sp s e) (h : a.IsWhole) (x : Vec F s e) (off size : Fin s.rank → ℕ)
    (inb : ∀ k, off k + size k ≤ s.size k) : a.view.readAt (Elt F) (Rect.unit off size inb).toLoadRect (h.unread x) = window x off size inb := by
  rw [View.readAt_unit _ _ inb rfl inb, h.read_unread]

theorem window_hn (x : Vec F S1024x2048 .bf16) (inb) : window x ![0, 0] S1024x2048.size inb = x :=
  funext fun y => congrArg x (Rect.emb_unit_full (s := S1024x2048) inb y)
theorem window_x (x : Vec F S1024x2048 .f32) (inb) : window x ![0, 0] S1024x2048.size inb = x :=
  funext fun y => congrArg x (Rect.emb_unit_full (s := S1024x2048) inb y)
theorem window_g (x : Vec F S1x2048 .f32) (inb) : window x ![0, 0] S1x2048.size inb = x :=
  funext fun y => congrArg x (Rect.emb_unit_full (s := S1x2048) inb y)
theorem window_wf (x : Vec F S1x2048x1024 .bf16) (inb) : window x ![0, 0, 0] S1x2048x1024.size inb = x :=
  funext fun y => congrArg x (Rect.emb_unit_full (s := S1x2048x1024) inb y)

/-- A load from a row of the kept rows is a window of that row. -/
theorem window_row (d : Vec F S6x8x1024 .f32) (r o : ℕ) (h : o + 256 ≤ 1024) (off : Fin 3 → ℕ) (he : off = ![r, 0, o])
    (inb : ∀ a, off a + S1x8x256.size a ≤ S6x8x1024.size a) : window d off S1x8x256.size inb = window (rowT d r) ![0, 0, o] S1x8x256.size (int o h) := by
  subst he
  funext y
  have hr : r + 1 ≤ 6 := inb 0
  have hy : (y 0).val < 1 := (y 0).isLt
  refine Eq.trans ?_ (dif_pos (by omega : r < 6)).symm
  refine congrArg d (funext fun a => Fin.ext ?_)
  fin_cases a
  · show r + 1 * (y 0).val = r; omega
  · show 0 + 1 * (y 1).val = 0 + 1 * (y 1).val; rfl
  · show o + 1 * (y 2).val = o + 1 * (y 2).val; rfl

/-- Any window of the zero rows is zero. -/
theorem window_zero (off off' : Fin 3 → ℕ) (size : Fin 3 → ℕ) (inb inb') :
    (window (k0_pay12 : FVec F S1x8x1024 .f32) off size inb : ((a : Fin 3) → Fin (size a)) → Elt F .f32) = window (k0_pay12 : FVec F S1x8x1024 .f32) off' size inb' := rfl

/-- A load from the row just cleared, past quarters stored since, is zero. -/
theorem ld_cleared {κ : Kind} {sp : Space} (a : Memref sig κ sp S6x8x1024 .f32) (r o : ℕ) (h : o + 256 ≤ 1024) (off off1 : Fin 3 → ℕ) (he : off = ![r, 0, o]) (he1 : off1 = ![r, 0, 0])
    (inb : ∀ a, off a + S1x8x256.size a ≤ S6x8x1024.size a) (inb1 : ∀ a, off1 a + S1x8x1024.size a ≤ S6x8x1024.size a) :
    a.view.readCov (Val := Elt F) [⟨Rect.unit (s := S6x8x1024) off1 S1x8x1024.size inb1, k0_pay12⟩] (Rect.unit (s := S6x8x1024) off S1x8x256.size inb).toLoadRect
      = window (k0_pay12 : FVec F S1x8x1024 .f32) ![0, 0, o] S1x8x256.size (int o h) := by
  subst he; subst he1
  unfold View.readCov
  rw [View.readAt_unit _ _ inb rfl inb, View.read_writes_cons_put _ _ _ _ _ rfl]
  rw [window_put_of_inside _ _ _ _ _ inb _ (fun a => by
    fin_cases a
    · exact ⟨le_refl r, le_refl _⟩
    · exact ⟨le_refl 0, le_refl _⟩
    · refine ⟨Nat.zero_le o, ?_⟩; show o + 256 ≤ 0 + 1024; omega)]
  rfl

/-- A quarter stored at other columns does not show in a load. -/
theorem ld_past {κ : Kind} {sp : Space} (a : Memref sig κ sp S6x8x1024 .f32) (r o q : ℕ) (hq : o + 256 ≤ q ∨ q + 256 ≤ o) (off offq : Fin 3 → ℕ) (he : off = ![r, 0, o]) (heq : offq = ![r, 0, q])
    (inb : ∀ a, off a + S1x8x256.size a ≤ S6x8x1024.size a) (inbq : ∀ a, offq a + S1x8x256.size a ≤ S6x8x1024.size a) (p : FVec F S1x8x256 .f32) (L : List (View.Piece (Elt F) S6x8x1024 .f32)) :
    a.view.readCov (Val := Elt F) (⟨Rect.unit (s := S6x8x1024) offq S1x8x256.size inbq, p⟩ :: L) (Rect.unit (s := S6x8x1024) off S1x8x256.size inb).toLoadRect
      = a.view.readCov (Val := Elt F) L (Rect.unit (s := S6x8x1024) off S1x8x256.size inb).toLoadRect := by
  subst he; subst heq
  unfold View.readCov
  rw [View.readAt_unit _ _ inb rfl inb, View.readAt_unit _ _ inb rfl inb, View.read_writes_cons_put _ _ _ _ _ rfl]
  exact window_put_of_disjoint _ _ _ _ _ inb _ 2 hq

end Cert.Kernel10Ideal.Gen

end
-- ==== Proof.ConvIInv.lean ====
/- What each point of the input projection leaves, and the invariant between points. -/
module

public import proofs.«01_k».proof.Proof.ConvIVal

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The first point of `t`'s row of blocks. -/
def base (t : Fin cfg0.N) : Fin cfg0.N := ⟨18 * (t.val / 18), Nat.lt_of_le_of_lt (by omega) t.isLt⟩
/-- The same block of the row of blocks before. -/
def prev (t : Fin cfg0.N) : Fin cfg0.N := ⟨t.val - 18, Nat.lt_of_le_of_lt (Nat.sub_le _ _) t.isLt⟩

/-- The normed rows at `t`. -/
def hnAt (c : Dev nD) (t : Fin cfg0.N) : Vec F S1024x2048 .bf16 := k0_pay1 (iblk m c 0 (base t)) (iblk m c 1 (base t))
/-- The last eight rows of `t`'s product. -/
def tailAt (c : Dev nD) (t : Fin cfg0.N) : Vec F S1x8x1024 .f32 := tailV (hnAt m c t) (X0_2 m c t)
/-- The rows put above a convolution block: nothing at the start of a sequence, else the last rows of the block before. -/
def above (c : Dev nD) (t : Fin cfg0.N) : Vec F S1x8x1024 .f32 := if t.val % 144 < 18 then k0_pay12 else tailAt m c (prev t)
/-- The block stored at `t`. -/
def outAt (c : Dev nD) (t : Fin cfg0.N) : Vec F S1024x1024 .f32 :=
  if 12 ≤ t.val % 18 then convO (hnAt m c t) (X0_2 m c t) (iblk m c 3 t) (iblk m c 4 t) (above m c t)
  else if (t.val % 18 = 4 ∨ t.val % 18 = 5 ∨ t.val % 18 = 8 ∨ t.val % 18 = 9 ∨ t.val % 18 = 10 ∨ t.val % 18 = 11) then siluO (hnAt m c t) (X0_2 m c t)
  else plainO (hnAt m c t) (X0_2 m c t)

/-- Within a row of blocks the normed rows stay. -/
theorem hnAt_prev (c : Dev nD) (t : Fin cfg0.N) (h : t.val % 18 ≠ 0) : hnAt m c ⟨t.val - 1, Nat.lt_of_le_of_lt (Nat.sub_le _ _) t.isLt⟩ = hnAt m c t := by
  have e : base ⟨t.val - 1, Nat.lt_of_le_of_lt (Nat.sub_le _ _) t.isLt⟩ = base t := Fin.ext (by show 18 * ((t.val - 1) / 18) = 18 * (t.val / 18); omega)
  unfold hnAt; rw [e]
/-- At the first point of a row of blocks they are that point's. -/
theorem hnAt_first (c : Dev nD) (t : Fin cfg0.N) (h : t.val % 18 = 0) : hnAt m c t = k0_pay1 (iblk m c 0 t) (iblk m c 1 t) := by
  have e : base t = t := Fin.ext (by show 18 * (t.val / 18) = t.val; omega)
  unfold hnAt; rw [e]

theorem above_first (c : Dev nD) (t : Fin cfg0.N) (h : t.val % 144 < 18) : above m c t = k0_pay12 := if_pos h
theorem above_next (c : Dev nD) (t : Fin cfg0.N) (h : ¬t.val % 144 < 18) : above m c t = tailAt m c (prev t) := if_neg h
theorem outAt_conv (c : Dev nD) (t : Fin cfg0.N) (h : 12 ≤ t.val % 18) : outAt m c t = convO (hnAt m c t) (X0_2 m c t) (iblk m c 3 t) (iblk m c 4 t) (above m c t) := if_pos h
theorem outAt_silu (c : Dev nD) (t : Fin cfg0.N) (h : ¬12 ≤ t.val % 18) (h1 : t.val % 18 = 4 ∨ t.val % 18 = 5 ∨ t.val % 18 = 8 ∨ t.val % 18 = 9 ∨ t.val % 18 = 10 ∨ t.val % 18 = 11) :
    outAt m c t = siluO (hnAt m c t) (X0_2 m c t) := (if_neg h).trans (if_pos h1)
theorem outAt_plain (c : Dev nD) (t : Fin cfg0.N) (h : ¬12 ≤ t.val % 18) (h1 : ¬(t.val % 18 = 4 ∨ t.val % 18 = 5 ∨ t.val % 18 = 8 ∨ t.val % 18 = 9 ∨ t.val % 18 = 10 ∨ t.val % 18 = 11)) :
    outAt m c t = plainO (hnAt m c t) (X0_2 m c t) := (if_neg h).trans (if_neg h1)

/-! ## The kept rows -/

/-- A convolution block keeps its own row. -/
theorem trow_eq : ∀ t : Fin cfg0.N, 12 ≤ t.val % 18 → trow (grid0.coords t) = t.val % 18 - 12 :=
  (by decide +kernel : ∀ t : Fin grid0.N, 12 ≤ t.val % 18 → trow (grid0.coords t) = t.val % 18 - 12)

/-- Before point `n` the kept rows hold, for each convolution block of the last eighteen points, its last rows. -/
def Good (c : Dev nD) (n : ℕ) (d : Vec F S6x8x1024 .f32) : Prop :=
  ∀ p : Fin cfg0.N, p.val < n → 12 ≤ p.val % 18 → n ≤ p.val + 18 → rowT d (p.val % 18 - 12) = tailAt m c p

theorem good_skip (c : Dev nD) (t : Fin cfg0.N) (d : Vec F S6x8x1024 .f32) (h : t.val % 18 < 12) (hd : Good m c t.val d) : Good m c (t.val + 1) d := fun p hp h12 hn => by
  by_cases e : p.val = t.val
  · omega
  · exact hd p (by omega) h12 (by omega)

theorem good_zero (c : Dev nD) (d : Vec F S6x8x1024 .f32) : Good m c 0 d := fun p hp => absurd hp (Nat.not_lt_zero _)

theorem good_set (c : Dev nD) (t : Fin cfg0.N) (d : Vec F S6x8x1024 .f32) (h : 12 ≤ t.val % 18) (hd : Good m c t.val d) (r : ℕ) (hr : r = t.val % 18 - 12)
    (d' : Vec F S6x8x1024 .f32) (he : ∀ r', r' ≠ r → rowT d' r' = rowT d r') : Good m c (t.val + 1) (setRow d' r (hnAt m c t) (X0_2 m c t)) := fun p hp h12 hn => by
  by_cases e : p.val = t.val
  · obtain rfl : p = t := Fin.ext e
    rw [← hr]
    exact rowT_setRow _ _ (by omega) _ _
  · rw [rowT_setRow_ne _ _ _ (by omega), he _ (by omega)]
    exact hd p (by omega) h12 (by omega)

/-- At a block that follows another of its sequence, the kept row is that block's. -/
theorem good_row (c : Dev nD) (t : Fin cfg0.N) (d : Vec F S6x8x1024 .f32) (h : 12 ≤ t.val % 18) (h4 : ¬t.val % 144 < 18) (hd : Good m c t.val d) :
    rowT d (trow (grid0.coords t)) = above m c t := by
  rw [above_next m c t h4, trow_eq t h]
  have e := hd (prev t) (by show t.val - 18 < t.val; omega) (by show 12 ≤ (t.val - 18) % 18; omega) (by show t.val ≤ t.val - 18 + 18; omega)
  rwa [show (prev t).val % 18 - 12 = t.val % 18 - 12 from by show (t.val - 18) % 18 - 12 = t.val % 18 - 12; omega] at e

/-! ## The invariant -/

/-- Before position `n`: at the start both scratch buffers at anything; afterwards the normed rows of the point before, kept rows that are `Good`, and the generator register at some state. -/
def PhiS (c : Dev nD) : (n : ℕ) → n ≤ cfg0.N → sProp 𝕄
  | 0, _ => Pipeline.ΦA spec0 c
  | n + 1, hn => iprop(iprop(owns (c : Thread nD τ) scM0_0 fullShare (hnAt m c ⟨n, hn⟩) ∗ (∃ d, ⌜Good m c (n + 1) d⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (hnAt m c ⟨n, hn⟩) ∗ (∃ d, ⌜Good m c (n + 1) d⌝ ∗ owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (hnAt m c ⟨n - 1, by omega⟩) ∗ (∃ d, ⌜Good m c n d⌝ ∗ owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them; after the body each input's buffer at its block and the outputs' at what the point stores; the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => outAt m c t
    | ⟨6, _⟩ => tailAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem after0_6 (c : Dev nD) (t : Fin cfg0.N) : (dats m 0 c).after 6 t = tailAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

end Cert.Kernel10Ideal.Gen

end
-- ==== Proof.ConvIRun.lean ====
/- The input projection's body on any whole buffers, run in each of its cases. -/
module

public import proofs.«01_k».proof.Proof.ConvICond

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S6x8x1024 .f32) (harg10 : arg10.IsWhole)
  (x0 : Vec F S1024x2048 .f32) (x1 : Vec F S1x2048 .f32) (x2 : Vec F S1x2048x1024 .bf16) (x3 : Vec F S4x1024 .f32) (x4 : Vec F S1x1024 .f32) (xs0 : Vec F S1024x2048 .bf16) (xs1 : Vec F S6x8x1024 .f32)

/-- The normalise step: the first block of a row of blocks. The pieces the body leaves in the buffers it stores to, and that it runs. -/
noncomputable def kernelRun0_A (hc0 : cond0_0 i) (hc1 : ¬cond0_1 i) (hc2 : cond0_2 i) (hc3 : ¬cond0_3 i) :
    Σ' (L5 : List (View.Piece (Elt F) S1024x1024 .f32)), { LS0 : List (View.Piece (Elt F) S1024x2048 .bf16) //
      ∀ (xi6 : Vec F S1x8x1024 .f32) (xs1 : Vec F S6x8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K } := by
  refine ⟨?_, ?_, fun xi6 xs1 E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists f5; iexact H5
    isplitl [H6]
    · iexists _; isplitr; · ipureintro; exact harg8.read_unread _
      iexact H6
    isplitl [HS0]; · iexists fs0; iexact HS0
    iexists _; isplitr; · ipureintro; exact harg10.read_unread _
    iexact HS1

/-- A plain block. The pieces the body leaves in the buffers it stores to, and that it runs. -/
noncomputable def kernelRun0_B (hc0 : ¬cond0_0 i) (hc1 : ¬cond0_1 i) (hc2 : cond0_2 i) (hc3 : ¬cond0_3 i) :
    { L5 : List (View.Piece (Elt F) S1024x1024 .f32) //
      ∀ (xi6 : Vec F S1x8x1024 .f32) (xs1 : Vec F S6x8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xs0 ∗ owns (c : Thread nD τ) arg10 fullShare xs1) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K } := by
  refine ⟨?_, fun xi6 xs1 E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0; obtain rfl := harg10.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists f5; iexact H5
    isplitl [H6]
    · iexists _; isplitr; · ipureintro; exact harg8.read_unread _
      iexact H6
    isplitl [HS0]
    · iexists _; isplitr; · ipureintro; exact harg9.read_unread _
      iexact HS0
    iexists _; isplitr; · ipureintro; exact harg10.read_unread _
    iexact HS1

/-- A block through the activation. The pieces the body leaves in the buffers it stores to, and that it runs. -/
noncomputable def kernelRun0_C (hc0 : ¬cond0_0 i) (hc1 : cond0_1 i) (hc2 : ¬cond0_2 i) (hc3 : ¬cond0_3 i) :
    { L5 : List (View.Piece (Elt F) S1024x1024 .f32) //
      ∀ (xi6 : Vec F S1x8x1024 .f32) (xs1 : Vec F S6x8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xs0 ∗ owns (c : Thread nD τ) arg10 fullShare xs1) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K } := by
  refine ⟨?_, fun xi6 xs1 E K => ?run⟩
  case run =>
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0; obtain rfl := harg10.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists f5; iexact H5
    isplitl [H6]
    · iexists _; isplitr; · ipureintro; exact harg8.read_unread _
      iexact H6
    isplitl [HS0]
    · iexists _; isplitr; · ipureintro; exact harg9.read_unread _
      iexact HS0
    iexists _; isplitr; · ipureintro; exact harg10.read_unread _
    iexact HS1

/-- A convolution block that starts a sequence. The pieces the body leaves in the buffers it stores to, and that it runs. -/
noncomputable def kernelRun0_D (hc0 : ¬cond0_0 i) (hc1 : ¬cond0_1 i) (hc2 : ¬cond0_2 i) (hc3 : cond0_3 i) (hc4 : cond0_4 i) :
    Σ' (L5 : List (View.Piece (Elt F) S1024x1024 .f32)), Σ' (L6 : List (View.Piece (Elt F) S1x8x1024 .f32)), { LS1 : List (View.Piece (Elt F) S6x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ arg10.view.loc (c : Thread nD τ) ↦[arg10.view.set]{fullShare} arg10.view.writes (Elt F) (harg10.unread xs1) LS1) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K } := by
  refine ⟨?_, ?_, ?_, fun E K => ?run⟩
  case run =>
    simp only [cc0_inproj_eq_skeleton]; unfold cc0_inproj_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists f5; iexact H5
    isplitl [H6]; · iexists f6; iexact H6
    isplitl [HS0]
    · iexists _; isplitr; · ipureintro; exact harg9.read_unread _
      iexact HS0
    iexact HS1

/-- A convolution block that follows another of its sequence. The pieces the body leaves in the buffers it stores to, and that it runs. -/
noncomputable def kernelRun0_E (hc0 : ¬cond0_0 i) (hc1 : ¬cond0_1 i) (hc2 : ¬cond0_2 i) (hc3 : cond0_3 i) (hc4 : ¬cond0_4 i) :
    Σ' (L5 : List (View.Piece (Elt F) S1024x1024 .f32)), Σ' (L6 : List (View.Piece (Elt F) S1x8x1024 .f32)), { LS1 : List (View.Piece (Elt F) S6x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ arg10.view.loc (c : Thread nD τ) ↦[arg10.view.set]{fullShare} arg10.view.writes (Elt F) (harg10.unread xs1) LS1) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10) K } := by
  refine ⟨?_, ?_, ?_, fun E K => ?run⟩
  case run =>
    simp only [cc0_inproj_eq_skeleton]; unfold cc0_inproj_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists f5; iexact H5
    isplitl [H6]; · iexists f6; iexact H6
    isplitl [HS0]
    · iexists _; isplitr; · ipureintro; exact harg9.read_unread _
      iexact HS0
    iexact HS1

end Cert.Kernel10Ideal.Gen

end
-- ==== Proof.ConvIRead.lean ====
/- The buffers after the body, case by case. -/
module

public import proofs.«01_k».proof.Proof.ConvIVal
public import proofs.«01_k».proof.Proof.ConvIRun

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.VecWindow

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S6x8x1024 .f32) (harg10 : arg10.IsWhole)
  (x0 : Vec F S1024x2048 .f32) (x1 : Vec F S1x2048 .f32) (x2 : Vec F S1x2048x1024 .bf16) (x3 : Vec F S4x1024 .f32) (x4 : Vec F S1x1024 .f32) (xs0 : Vec F S1024x2048 .bf16) (xs1 : Vec F S6x8x1024 .f32)

/-- The normed rows, kept. -/
theorem readA_hn (hc0 : cond0_0 i) (hc1 : ¬cond0_1 i) (hc2 : cond0_2 i) (hc3 : ¬cond0_3 i) (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 arg10 harg10 x0 x1 x2 x3 x4 hc0 hc1 hc2 hc3).2.1) = k0_pay1 x0 x1 := by
  unfold kernelRun0_A; dsimp only
  unfold kernelRun0_A.sl.HS0_1
  refine (View.read_writes_full arg9.view f inb_S1024x2048_S1024x2048_0_0 _ _).trans ?_
  simp only [ld_unread]
  exact congrArg₂ k0_pay1 (window_x _ _) (window_g _ _)
/-- The block stored. -/
theorem readA_o (hc0 : cond0_0 i) (hc1 : ¬cond0_1 i) (hc2 : cond0_2 i) (hc3 : ¬cond0_3 i) (f : arg7.view.ty.Contents (Elt F)) :
    arg7.view.read (Elt F) (arg7.view.writes (Elt F) f (kernelRun0_A c i arg2 harg2 arg3 harg3 arg4 harg4 arg5 harg5 arg6 harg6 arg7 harg7 arg8 harg8 arg9 harg9 arg10 harg10 x0 x1 x2 x3 x4 hc0 hc1 hc2 hc3).1) = plainO (k0_pay1 x0 x1) x2 := by
  unfold kernelRun0_A; dsimp only
  refine (View.read_writes_full arg7.view f inb_S1024x1024_S1024x1024_0_0 _ _).trans ?_
  unfold kernelRun0_A.sl.v20 kernelRun0_A.sl.HS0_1
  refine congrArg₂ k0_pay4 ((View.readCov_full arg9.view inb_S1024x2048_S1024x2048_0_0 inb_S1024x2048_S1024x2048_0_0 _ _).trans ?_) ?_
  · simp only [ld_unread]
    exact congrArg₂ k0_pay1 (window_x _ _) (window_g _ _)
  · exact (ld_unread arg4 harg4 x2 _ _ _).trans (window_wf _ _)

/-- The block stored. -/
theorem readB_o (hc0 : ¬cond0_0 i) (hc1 : ¬cond0_1 i) (hc2 : cond0_2 i) (hc3 : ¬cond0_3 i) (f : arg7.view.ty.Contents (Elt F)) :
    arg7.view.read (Elt F) (arg7.view.writes (Elt F) f (kernelRun0_B c i arg2 harg2 arg3 harg3 arg4 harg4 arg5 harg5 arg6 harg6 arg7 harg7 arg8 harg8 arg9 harg9 arg10 harg10 x0 x1 x2 x3 x4 xs0 hc0 hc1 hc2 hc3).1) = plainO xs0 x2 := by
  unfold kernelRun0_B; dsimp only
  refine (View.read_writes_full arg7.view f inb_S1024x1024_S1024x1024_0_0 _ _).trans ?_
  exact congrArg₂ k0_pay4 ((ld_unread arg9 harg9 xs0 _ _ _).trans (window_hn _ _)) ((ld_unread arg4 harg4 x2 _ _ _).trans (window_wf _ _))

/-- The block stored. -/
theorem readC_o (hc0 : ¬cond0_0 i) (hc1 : cond0_1 i) (hc2 : ¬cond0_2 i) (hc3 : ¬cond0_3 i) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 arg10 harg10 x0 x1 x2 x3 x4 xs0 hc0 hc1 hc2 hc3).1) = siluO xs0 x2 := by
  unfold kernelRun0_C; dsimp only
  rw [View.read_writes_cons_put _ _ _ _ _ rfl, View.read_writes_cons_put _ _ _ _ _ rfl, View.read_writes_cons_put _ _ _ _ _ rfl, View.read_writes_cons_put _ _ _ _ _ rfl, View.writes_nil]
  refine (put5_base _ (plainO xs0 x2) _ _ _ _).trans ?_
  have a : ∀ (o : ℕ) (h : o + 256 ≤ 1024), k0_pay13 (arg9.view.readAt (Elt F) (Rect.unit ![0, 0] ![1024, 2048] inb_S1024x2048_S1024x2048_0_0).toLoadRect (harg9.unread xs0)) (arg4.view.readAt (Elt F) (Rect.unit (s := S1x2048x1024) ![0, 0, o] S1x2048x256.size (inw o h)).toLoadRect (harg4.unread x2)) = acc xs0 x2 o h := fun o h => congrArg₂ k0_pay13 ((ld_unread arg9 harg9 xs0 _ _ _).trans (window_hn _ _)) (ld_unread arg4 harg4 x2 _ _ _)
  unfold siluO
  rw [← a 0, ← a 256, ← a 512, ← a 768]
  rfl
/-- The last rows stored. -/
theorem readD_t (hc0 : ¬cond0_0 i) (hc1 : ¬cond0_1 i) (hc2 : ¬cond0_2 i) (hc3 : cond0_3 i) (hc4 : cond0_4 i) (f : arg8.view.ty.Contents (Elt F)) :
    arg8.view.read (Elt F) (arg8.view.writes (Elt F) f (kernelRun0_D c i arg2 harg2 arg3 harg3 arg4 harg4 arg5 harg5 arg6 harg6 arg7 harg7 arg8 harg8 arg9 harg9 arg10 harg10 x0 x1 x2 x3 x4 xs0 xs1 hc0 hc1 hc2 hc3 hc4).2.1) = tailV xs0 x2 := by
  unfold kernelRun0_D; dsimp only
  rw [View.read_writes_cons_put _ _ _ _ _ rfl, View.read_writes_cons_put _ _ _ _ _ rfl, View.read_writes_cons_put _ _ _ _ _ rfl, View.read_writes_cons_put _ _ _ _ _ rfl, View.writes_nil]
  refine (put6_base _ k0_pay12 _ _ _ _).trans ?_
  have a0 : kernelRun0_D.sl.r c arg4 harg4 arg9 harg9 x2 xs0 = acc xs0 x2 0 (by omega) := congrArg₂ k0_pay13 ((ld_unread arg9 harg9 xs0 _ _ _).trans (window_hn _ _)) (ld_unread arg4 harg4 x2 _ _ _)
  have a256 : kernelRun0_D.sl.r_4 c arg4 harg4 arg9 harg9 x2 xs0 = acc xs0 x2 256 (by omega) := congrArg₂ k0_pay13 ((ld_unread arg9 harg9 xs0 _ _ _).trans (window_hn _ _)) (ld_unread arg4 harg4 x2 _ _ _)
  have a512 : kernelRun0_D.sl.r_7 c arg4 harg4 arg9 harg9 x2 xs0 = acc xs0 x2 512 (by omega) := congrArg₂ k0_pay13 ((ld_unread arg9 harg9 xs0 _ _ _).trans (window_hn _ _)) (ld_unread arg4 harg4 x2 _ _ _)
  have a768 : kernelRun0_D.sl.r_9 c arg4 harg4 arg9 harg9 x2 xs0 = acc xs0 x2 768 (by omega) := congrArg₂ k0_pay13 ((ld_unread arg9 harg9 xs0 _ _ _).trans (window_hn _ _)) (ld_unread arg4 harg4 x2 _ _ _)
  unfold kernelRun0_D.sl.r_5
  rw [a0, a256, a512, a768]
  rfl
/-- The kept rows afterwards. -/
theorem readD_s (hc0 : ¬cond0_0 i) (hc1 : ¬cond0_1 i) (hc2 : ¬cond0_2 i) (hc3 : cond0_3 i) (hc4 : cond0_4 i) :
    arg10.view.read (Elt F) (arg10.view.writes (Elt F) (harg10.unread xs1) (kernelRun0_D c i arg2 harg2 arg3 harg3 arg4 harg4 arg5 harg5 arg6 harg6 arg7 harg7 arg8 harg8 arg9 harg9 arg10 harg10 x0 x1 x2 x3 x4 xs0 xs1 hc0 hc1 hc2 hc3 hc4).2.2.1) = setRow (put (s := S6x8x1024) xs1 ![trow i, 0, 0] S1x8x1024.size k0_pay12) (trow i) xs0 x2 := by
  unfold kernelRun0_D; dsimp only
  unfold kernelRun0_D.sl.HS1_4 kernelRun0_D.sl.HS1_3 kernelRun0_D.sl.HS1_2 kernelRun0_D.sl.HS1_1
  rw [View.read_writes_cons_put _ _ _ _ _ (show k0_off5 i = ![trow i, 0, 768] from rfl), View.read_writes_cons_put _ _ _ _ _ (show k0_off4 i = ![trow i, 0, 512] from rfl), View.read_writes_cons_put _ _ _ _ _ (show k0_off3 i = ![trow i, 0, 256] from rfl), View.read_writes_cons_put _ _ _ _ _ (show k0_off2 i = ![trow i, 0, 0] from rfl), View.read_writes_cons_put _ _ _ _ _ (show k0_off1 i = ![trow i, 0, 0] from rfl), View.writes_nil]
  have a0 : kernelRun0_D.sl.r c arg4 harg4 arg9 harg9 x2 xs0 = acc xs0 x2 0 (by omega) := congrArg₂ k0_pay13 ((ld_unread arg9 harg9 xs0 _ _ _).trans (window_hn _ _)) (ld_unread arg4 harg4 x2 _ _ _)
  have a256 : kernelRun0_D.sl.r_4 c arg4 harg4 arg9 harg9 x2 xs0 = acc xs0 x2 256 (by omega) := congrArg₂ k0_pay13 ((ld_unread arg9 harg9 xs0 _ _ _).trans (window_hn _ _)) (ld_unread arg4 harg4 x2 _ _ _)
  have a512 : kernelRun0_D.sl.r_7 c arg4 harg4 arg9 harg9 x2 xs0 = acc xs0 x2 512 (by omega) := congrArg₂ k0_pay13 ((ld_unread arg9 harg9 xs0 _ _ _).trans (window_hn _ _)) (ld_unread arg4 harg4 x2 _ _ _)
  have a768 : kernelRun0_D.sl.r_9 c arg4 harg4 arg9 harg9 x2 xs0 = acc xs0 x2 768 (by omega) := congrArg₂ k0_pay13 ((ld_unread arg9 harg9 xs0 _ _ _).trans (window_hn _ _)) (ld_unread arg4 harg4 x2 _ _ _)
  unfold kernelRun0_D.sl.r_6
  rw [a0, a256, a512, a768, harg10.read_unread]
  rfl
/-- The block stored. -/
theorem readD_o (hc0 : ¬cond0_0 i) (hc1 : ¬cond0_1 i) (hc2 : ¬cond0_2 i) (hc3 : cond0_3 i) (hc4 : cond0_4 i) (f : arg7.view.ty.Contents (Elt F)) :
    arg7.view.read (Elt F) (arg7.view.writes (Elt F) f (kernelRun0_D c i arg2 harg2 arg3 harg3 arg4 harg4 arg5 harg5 arg6 harg6 arg7 harg7 arg8 harg8 arg9 harg9 arg10 harg10 x0 x1 x2 x3 x4 xs0 xs1 hc0 hc1 hc2 hc3 hc4).1) = convO xs0 x2 x3 x4 k0_pay12 := by
  unfold kernelRun0_D; dsimp only
  rw [View.read_writes_cons_put _ _ _ _ _ rfl, View.read_writes_cons_put _ _ _ _ _ rfl, View.read_writes_cons_put _ _ _ _ _ rfl, View.read_writes_cons_put _ _ _ _ _ rfl, View.writes_nil]
  refine (put5_base _ (plainO xs0 x2) _ _ _ _).trans ?_
  have a0 : kernelRun0_D.sl.r c arg4 harg4 arg9 harg9 x2 xs0 = acc xs0 x2 0 (by omega) := congrArg₂ k0_pay13 ((ld_unread arg9 harg9 xs0 _ _ _).trans (window_hn _ _)) (ld_unread arg4 harg4 x2 _ _ _)
  have a256 : kernelRun0_D.sl.r_4 c arg4 harg4 arg9 harg9 x2 xs0 = acc xs0 x2 256 (by omega) := congrArg₂ k0_pay13 ((ld_unread arg9 harg9 xs0 _ _ _).trans (window_hn _ _)) (ld_unread arg4 harg4 x2 _ _ _)
  have a512 : kernelRun0_D.sl.r_7 c arg4 harg4 arg9 harg9 x2 xs0 = acc xs0 x2 512 (by omega) := congrArg₂ k0_pay13 ((ld_unread arg9 harg9 xs0 _ _ _).trans (window_hn _ _)) (ld_unread arg4 harg4 x2 _ _ _)
  have a768 : kernelRun0_D.sl.r_9 c arg4 harg4 arg9 harg9 x2 xs0 = acc xs0 x2 768 (by omega) := congrArg₂ k0_pay13 ((ld_unread arg9 harg9 xs0 _ _ _).trans (window_hn _ _)) (ld_unread arg4 harg4 x2 _ _ _)
  have t0 : kernelRun0_D.sl.v39 c i arg10 hc3 hc4 = window (k0_pay12 : FVec F S1x8x1024 .f32) ![0, 0, 0] S1x8x256.size (int 0 (by omega)) := ld_cleared arg10 (trow i) 0 (by omega) _ _ rfl rfl _ _
  have t256 : kernelRun0_D.sl.v87 c i arg4 harg4 arg9 harg9 arg10 x2 xs0 hc3 hc4 = window (k0_pay12 : FVec F S1x8x1024 .f32) ![0, 0, 256] S1x8x256.size (int 256 (by omega)) := (ld_past arg10 (trow i) 256 0 (by omega) _ _ rfl rfl _ _ _ _).trans (ld_cleared arg10 (trow i) 256 (by omega) _ _ rfl rfl _ _)
  have t512 : kernelRun0_D.sl.v135 c i arg4 harg4 arg9 harg9 arg10 x2 xs0 hc3 hc4 = window (k0_pay12 : FVec F S1x8x1024 .f32) ![0, 0, 512] S1x8x256.size (int 512 (by omega)) := (ld_past arg10 (trow i) 512 256 (by omega) _ _ rfl rfl _ _ _ _).trans ((ld_past arg10 (trow i) 512 0 (by omega) _ _ rfl rfl _ _ _ _).trans (ld_cleared arg10 (trow i) 512 (by omega) _ _ rfl rfl _ _))
  have t768 : kernelRun0_D.sl.v183 c i arg4 harg4 arg9 harg9 arg10 x2 xs0 hc3 hc4 = window (k0_pay12 : FVec F S1x8x1024 .f32) ![0, 0, 768] S1x8x256.size (int 768 (by omega)) := (ld_past arg10 (trow i) 768 512 (by omega) _ _ rfl rfl _ _ _ _).trans ((ld_past arg10 (trow i) 768 256 (by omega) _ _ rfl rfl _ _ _ _).trans ((ld_past arg10 (trow i) 768 0 (by omega) _ _ rfl rfl _ _ _ _).trans (ld_cleared arg10 (trow i) 768 (by omega) _ _ rfl rfl _ _)))
  have cw : ∀ (r o : ℕ) (hr : r + 1 ≤ 4) (h : o + 256 ≤ 1024), arg5.view.readAt (Elt F) (Rect.unit (s := S4x1024) ![r, o] S1x256.size (inc r o hr h)).toLoadRect (harg5.unread x3) = window x3 ![r, o] S1x256.size (inc r o hr h) := fun r o hr h => ld_unread arg5 harg5 x3 _ _ _
  have cb : ∀ (o : ℕ) (h : o + 256 ≤ 1024), arg6.view.readAt (Elt F) (Rect.unit (s := S1x1024) ![0, o] S1x256.size (inb1 o h)).toLoadRect (harg6.unread x4) = window x4 ![0, o] S1x256.size (inb1 o h) := fun o h => ld_unread arg6 harg6 x4 _ _ _
  unfold convO convP
  rw [← a0, ← t0, ← cw 0 0 (by omega) (by omega), ← cw 1 0 (by omega) (by omega), ← cw 2 0 (by omega) (by omega), ← cw 3 0 (by omega) (by omega), ← cb 0 (by omega)]
  rw [← a256, ← t256, ← cw 0 256 (by omega) (by omega), ← cw 1 256 (by omega) (by omega), ← cw 2 256 (by omega) (by omega), ← cw 3 256 (by omega) (by omega), ← cb 256 (by omega)]
  rw [← a512, ← t512, ← cw 0 512 (by omega) (by omega), ← cw 1 512 (by omega) (by omega), ← cw 2 512 (by omega) (by omega), ← cw 3 512 (by omega) (by omega), ← cb 512 (by omega)]
  rw [← a768, ← t768, ← cw 0 768 (by omega) (by omega), ← cw 1 768 (by omega) (by omega), ← cw 2 768 (by omega) (by omega), ← cw 3 768 (by omega) (by omega), ← cb 768 (by omega)]
  rfl
/-- The last rows stored. -/
theorem readE_t (hc0 : ¬cond0_0 i) (hc1 : ¬cond0_1 i) (hc2 : ¬cond0_2 i) (hc3 : cond0_3 i) (hc4 : ¬cond0_4 i) (f : arg8.view.ty.Contents (Elt F)) :
    arg8.view.read (Elt F) (arg8.view.writes (Elt F) f (kernelRun0_E c i arg2 harg2 arg3 harg3 arg4 harg4 arg5 harg5 arg6 harg6 arg7 harg7 arg8 harg8 arg9 harg9 arg10 harg10 x0 x1 x2 x3 x4 xs0 xs1 hc0 hc1 hc2 hc3 hc4).2.1) = tailV xs0 x2 := by
  unfold kernelRun0_E; dsimp only
  rw [View.read_writes_cons_put _ _ _ _ _ rfl, View.read_writes_cons_put _ _ _ _ _ rfl, View.read_writes_cons_put _ _ _ _ _ rfl, View.read_writes_cons_put _ _ _ _ _ rfl, View.writes_nil]
  refine (put6_base _ k0_pay12 _ _ _ _).trans ?_
  have a0 : kernelRun0_E.sl.r c arg4 harg4 arg9 harg9 x2 xs0 = acc xs0 x2 0 (by omega) := congrArg₂ k0_pay13 ((ld_unread arg9 harg9 xs0 _ _ _).trans (window_hn _ _)) (ld_unread arg4 harg4 x2 _ _ _)
  have a256 : kernelRun0_E.sl.r_4 c arg4 harg4 arg9 harg9 x2 xs0 = acc xs0 x2 256 (by omega) := congrArg₂ k0_pay13 ((ld_unread arg9 harg9 xs0 _ _ _).trans (window_hn _ _)) (ld_unread arg4 harg4 x2 _ _ _)
  have a512 : kernelRun0_E.sl.r_7 c arg4 harg4 arg9 harg9 x2 xs0 = acc xs0 x2 512 (by omega) := congrArg₂ k0_pay13 ((ld_unread arg9 harg9 xs0 _ _ _).trans (window_hn _ _)) (ld_unread arg4 harg4 x2 _ _ _)
  have a768 : kernelRun0_E.sl.r_9 c arg4 harg4 arg9 harg9 x2 xs0 = acc xs0 x2 768 (by omega) := congrArg₂ k0_pay13 ((ld_unread arg9 harg9 xs0 _ _ _).trans (window_hn _ _)) (ld_unread arg4 harg4 x2 _ _ _)
  unfold kernelRun0_E.sl.r_5
  rw [a0, a256, a512, a768]
  rfl
/-- The kept rows afterwards. -/
theorem readE_s (hc0 : ¬cond0_0 i) (hc1 : ¬cond0_1 i) (hc2 : ¬cond0_2 i) (hc3 : cond0_3 i) (hc4 : ¬cond0_4 i) :
    arg10.view.read (Elt F) (arg10.view.writes (Elt F) (harg10.unread xs1) (kernelRun0_E c i arg2 harg2 arg3 harg3 arg4 harg4 arg5 harg5 arg6 harg6 arg7 harg7 arg8 harg8 arg9 harg9 arg10 harg10 x0 x1 x2 x3 x4 xs0 xs1 hc0 hc1 hc2 hc3 hc4).2.2.1) = setRow xs1 (trow i) xs0 x2 := by
  unfold kernelRun0_E; dsimp only
  rw [View.read_writes_cons_put _ _ _ _ _ (show k0_off5 i = ![trow i, 0, 768] from rfl), View.read_writes_cons_put _ _ _ _ _ (show k0_off4 i = ![trow i, 0, 512] from rfl), View.read_writes_cons_put _ _ _ _ _ (show k0_off3 i = ![trow i, 0, 256] from rfl), View.read_writes_cons_put _ _ _ _ _ (show k0_off2 i = ![trow i, 0, 0] from rfl), View.writes_nil]
  have a0 : kernelRun0_E.sl.r c arg4 harg4 arg9 harg9 x2 xs0 = acc xs0 x2 0 (by omega) := congrArg₂ k0_pay13 ((ld_unread arg9 harg9 xs0 _ _ _).trans (window_hn _ _)) (ld_unread arg4 harg4 x2 _ _ _)
  have a256 : kernelRun0_E.sl.r_4 c arg4 harg4 arg9 harg9 x2 xs0 = acc xs0 x2 256 (by omega) := congrArg₂ k0_pay13 ((ld_unread arg9 harg9 xs0 _ _ _).trans (window_hn _ _)) (ld_unread arg4 harg4 x2 _ _ _)
  have a512 : kernelRun0_E.sl.r_7 c arg4 harg4 arg9 harg9 x2 xs0 = acc xs0 x2 512 (by omega) := congrArg₂ k0_pay13 ((ld_unread arg9 harg9 xs0 _ _ _).trans (window_hn _ _)) (ld_unread arg4 harg4 x2 _ _ _)
  have a768 : kernelRun0_E.sl.r_9 c arg4 harg4 arg9 harg9 x2 xs0 = acc xs0 x2 768 (by omega) := congrArg₂ k0_pay13 ((ld_unread arg9 harg9 xs0 _ _ _).trans (window_hn _ _)) (ld_unread arg4 harg4 x2 _ _ _)
  unfold kernelRun0_E.sl.r_6
  rw [a0, a256, a512, a768, harg10.read_unread]
  rfl
/-- The block stored. -/
theorem readE_o (hc0 : ¬cond0_0 i) (hc1 : ¬cond0_1 i) (hc2 : ¬cond0_2 i) (hc3 : cond0_3 i) (hc4 : ¬cond0_4 i) (f : arg7.view.ty.Contents (Elt F)) :
    arg7.view.read (Elt F) (arg7.view.writes (Elt F) f (kernelRun0_E c i arg2 harg2 arg3 harg3 arg4 harg4 arg5 harg5 arg6 harg6 arg7 harg7 arg8 harg8 arg9 harg9 arg10 harg10 x0 x1 x2 x3 x4 xs0 xs1 hc0 hc1 hc2 hc3 hc4).1) = convO xs0 x2 x3 x4 (rowT xs1 (trow i)) := by
  unfold kernelRun0_E; dsimp only
  rw [View.read_writes_cons_put _ _ _ _ _ rfl, View.read_writes_cons_put _ _ _ _ _ rfl, View.read_writes_cons_put _ _ _ _ _ rfl, View.read_writes_cons_put _ _ _ _ _ rfl, View.writes_nil]
  refine (put5_base _ (plainO xs0 x2) _ _ _ _).trans ?_
  have a0 : kernelRun0_E.sl.r c arg4 harg4 arg9 harg9 x2 xs0 = acc xs0 x2 0 (by omega) := congrArg₂ k0_pay13 ((ld_unread arg9 harg9 xs0 _ _ _).trans (window_hn _ _)) (ld_unread arg4 harg4 x2 _ _ _)
  have a256 : kernelRun0_E.sl.r_4 c arg4 harg4 arg9 harg9 x2 xs0 = acc xs0 x2 256 (by omega) := congrArg₂ k0_pay13 ((ld_unread arg9 harg9 xs0 _ _ _).trans (window_hn _ _)) (ld_unread arg4 harg4 x2 _ _ _)
  have a512 : kernelRun0_E.sl.r_7 c arg4 harg4 arg9 harg9 x2 xs0 = acc xs0 x2 512 (by omega) := congrArg₂ k0_pay13 ((ld_unread arg9 harg9 xs0 _ _ _).trans (window_hn _ _)) (ld_unread arg4 harg4 x2 _ _ _)
  have a768 : kernelRun0_E.sl.r_9 c arg4 harg4 arg9 harg9 x2 xs0 = acc xs0 x2 768 (by omega) := congrArg₂ k0_pay13 ((ld_unread arg9 harg9 xs0 _ _ _).trans (window_hn _ _)) (ld_unread arg4 harg4 x2 _ _ _)
  have t0 : arg10.view.readAt (Elt F) (Rect.unit (s := S6x8x1024) (k0_off2 i) S1x8x256.size (k0_off2_inb i hc3)).toLoadRect (harg10.unread xs1) = window (rowT xs1 (trow i)) ![0, 0, 0] S1x8x256.size (int 0 (by omega)) := (ld_unread arg10 harg10 xs1 _ _ _).trans (window_row xs1 (trow i) 0 (by omega) _ rfl _)
  have t256 : kernelRun0_E.sl.v87 c i arg10 harg10 xs1 hc3 = window (rowT xs1 (trow i)) ![0, 0, 256] S1x8x256.size (int 256 (by omega)) := (ld_unread arg10 harg10 xs1 _ _ _).trans (window_row xs1 (trow i) 256 (by omega) _ rfl _)
  have t512 : kernelRun0_E.sl.v135 c i arg10 harg10 xs1 hc3 = window (rowT xs1 (trow i)) ![0, 0, 512] S1x8x256.size (int 512 (by omega)) := (ld_unread arg10 harg10 xs1 _ _ _).trans (window_row xs1 (trow i) 512 (by omega) _ rfl _)
  have t768 : kernelRun0_E.sl.v183 c i arg10 harg10 xs1 hc3 = window (rowT xs1 (trow i)) ![0, 0, 768] S1x8x256.size (int 768 (by omega)) := (ld_unread arg10 harg10 xs1 _ _ _).trans (window_row xs1 (trow i) 768 (by omega) _ rfl _)
  have cw : ∀ (r o : ℕ) (hr : r + 1 ≤ 4) (h : o + 256 ≤ 1024), arg5.view.readAt (Elt F) (Rect.unit (s := S4x1024) ![r, o] S1x256.size (inc r o hr h)).toLoadRect (harg5.unread x3) = window x3 ![r, o] S1x256.size (inc r o hr h) := fun r o hr h => ld_unread arg5 harg5 x3 _ _ _
  have cb : ∀ (o : ℕ) (h : o + 256 ≤ 1024), arg6.view.readAt (Elt F) (Rect.unit (s := S1x1024) ![0, o] S1x256.size (inb1 o h)).toLoadRect (harg6.unread x4) = window x4 ![0, o] S1x256.size (inb1 o h) := fun o h => ld_unread arg6 harg6 x4 _ _ _
  unfold convO convP
  rw [← a0, ← t0, ← cw 0 0 (by omega) (by omega), ← cw 1 0 (by omega) (by omega), ← cw 2 0 (by omega) (by omega), ← cw 3 0 (by omega) (by omega), ← cb 0 (by omega)]
  rw [← a256, ← t256, ← cw 0 256 (by omega) (by omega), ← cw 1 256 (by omega) (by omega), ← cw 2 256 (by omega) (by omega), ← cw 3 256 (by omega) (by omega), ← cb 256 (by omega)]
  rw [← a512, ← t512, ← cw 0 512 (by omega) (by omega), ← cw 1 512 (by omega) (by omega), ← cw 2 512 (by omega) (by omega), ← cw 3 512 (by omega) (by omega), ← cb 512 (by omega)]
  rw [← a768, ← t768, ← cw 0 768 (by omega) (by omega), ← cw 1 768 (by omega) (by omega), ← cw 2 768 (by omega) (by omega), ← cw 3 768 (by omega) (by omega), ← cb 768 (by omega)]
  rfl

end Cert.Kernel10Ideal.Gen

end
-- ==== Proof.ConvIFrame.lean ====
/- The frame of the input projection with its convolution. -/
module

public import proofs.«01_k».proof.Proof.ConvIInv
public import proofs.«01_k».proof.Proof.ConvIRead

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at a point of case A. -/
theorem sound_A (c : Dev nD) (t : Fin cfg0.N) (h0 : t.val % 18 = 0) (h1 : ¬(t.val % 18 = 4 ∨ t.val % 18 = 5 ∨ t.val % 18 = 8 ∨ t.val % 18 = 9 ∨ t.val % 18 = 10 ∨ t.val % 18 = 11)) (h2 : (t.val % 18 = 0 ∨ t.val % 18 = 1 ∨ t.val % 18 = 2 ∨ t.val % 18 = 3 ∨ t.val % 18 = 6 ∨ t.val % 18 = 7)) (h3 : ¬12 ≤ t.val % 18) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 288 := lt_of_lt_of_eq t.isLt (show cfg0.N = 288 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5_A t ((hcond0_0 t).mpr h0) (fun h => h1 ((hcond0_1 t).mp h)) ((hcond0_2 t).mpr h2) (fun h => h3 ((hcond0_3 t).mp h))], after0_5]
  rw [Dat.leavesExact_idle (dats m 0 c) 6 t (idleAt0_6_A t ((hcond0_0 t).mpr h0) (fun h => h1 ((hcond0_1 t).mp h)) ((hcond0_2 t).mpr h2) (fun h => h3 ((hcond0_3 t).mp h))) (noFlush0_6_A t ((hcond0_0 t).mpr h0) (fun h => h1 ((hcond0_1 t).mp h)) ((hcond0_2 t).mpr h2) (fun h => h3 ((hcond0_3 t).mp h)))]
  by_cases hz : t.val = 0
  · rw [PhiS_castSucc m c t, PhiS_zero m c _ _ hz, PhiA0_eq]
    iintro ⟨⟨⟨HS0, ⟨%ds, HS1⟩⟩, Hg⟩, Ho, ⟨%d0, H0⟩, ⟨%d1, H1⟩, ⟨%d2, H2⟩, ⟨%d3, H3⟩, ⟨%d4, H4⟩, ⟨%d5, H5⟩, ⟨%d6, H6⟩⟩
    have hd : Good m c t.val ds := by rw [hz]; exact good_zero m c ds
    iapply ((kernelRun0_A c (grid0.coords t) _ _ _ _ _ _ _ _ _ _ _ _ _ _ _ _ _ _ (iblk m c 0 t) (iblk m c 1 t) (X0_2 m c t) (iblk m c 3 t) (iblk m c 4 t) ((hcond0_0 t).mpr h0) (fun h => h1 ((hcond0_1 t).mp h)) ((hcond0_2 t).mpr h2) (fun h => h3 ((hcond0_3 t).mp h))).2.2 _ ds Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, HS1⟩
    isplitl [HS0 HS1 Hg]
    · isplitl [HS0 HS1]
      · isplitl [HS0]
        · unfold owns; iexists _; isplitr
          swap; · iexact HS0
          ipureintro; exact (readA_hn c (grid0.coords t) _ _ _ _ _ _ _ _ _ _ _ _ _ _ _ _ _ _ (iblk m c 0 t) (iblk m c 1 t) (X0_2 m c t) (iblk m c 3 t) (iblk m c 4 t) ((hcond0_0 t).mpr h0) (fun h => h1 ((hcond0_1 t).mp h)) ((hcond0_2 t).mpr h2) (fun h => h3 ((hcond0_3 t).mp h)) es0).trans (hnAt_first m c t h0).symm
        iexists ds; isplitr
        · ipureintro; exact good_skip m c t ds (by omega) hd
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact ((readA_o c (grid0.coords t) _ _ _ _ _ _ _ _ _ _ _ _ _ _ _ _ _ _ (iblk m c 0 t) (iblk m c 1 t) (X0_2 m c t) (iblk m c 3 t) (iblk m c 4 t) ((hcond0_0 t).mpr h0) (fun h => h1 ((hcond0_1 t).mp h)) ((hcond0_2 t).mpr h2) (fun h => h3 ((hcond0_3 t).mp h)) e5).trans (congrArg (fun h => plainO h (X0_2 m c t)) (hnAt_first m c t h0).symm)).trans (outAt_plain m c t h3 h1).symm
    iexists _; iexact H6
  · rw [PhiS_castSucc m c t, PhiS_pos m c _ _ hz]
    iintro ⟨⟨⟨HS0, ⟨%ds, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ (iblk m c 0 t) (iblk m c 1 t) (X0_2 m c t) (iblk m c 3 t) (iblk m c 4 t) ((hcond0_0 t).mpr h0) (fun h => h1 ((hcond0_1 t).mp h)) ((hcond0_2 t).mpr h2) (fun h => h3 ((hcond0_3 t).mp h))).2.2 _ ds Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexists _; iexact HS0
    isplitl [HS1]; · iexact HS1
    iintro ⟨H0, H1, H2, H3, H4, ⟨%e5, H5⟩, H6, ⟨%es0, HS0⟩, HS1⟩
    isplitl [HS0 HS1 Hg]
    · isplitl [HS0 HS1]
      · isplitl [HS0]
        · unfold owns; iexists _; isplitr
          swap; · iexact HS0
          ipureintro; exact (readA_hn c (grid0.coords t) _ _ _ _ _ _ _ _ _ _ _ _ _ _ _ _ _ _ (iblk m c 0 t) (iblk m c 1 t) (X0_2 m c t) (iblk m c 3 t) (iblk m c 4 t) ((hcond0_0 t).mpr h0) (fun h => h1 ((hcond0_1 t).mp h)) ((hcond0_2 t).mpr h2) (fun h => h3 ((hcond0_3 t).mp h)) es0).trans (hnAt_first m c t h0).symm
        iexists ds; isplitr
        · ipureintro; exact good_skip m c t ds (by omega) hd
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact ((readA_o c (grid0.coords t) _ _ _ _ _ _ _ _ _ _ _ _ _ _ _ _ _ _ (iblk m c 0 t) (iblk m c 1 t) (X0_2 m c t) (iblk m c 3 t) (iblk m c 4 t) ((hcond0_0 t).mpr h0) (fun h => h1 ((hcond0_1 t).mp h)) ((hcond0_2 t).mpr h2) (fun h => h3 ((hcond0_3 t).mp h)) e5).trans (congrArg (fun h => plainO h (X0_2 m c t)) (hnAt_first m c t h0).symm)).trans (outAt_plain m c t h3 h1).symm
    iexists _; iexact H6

set_option maxHeartbeats 16000000 in
/-- The body at a point of case B. -/
theorem sound_B (c : Dev nD) (t : Fin cfg0.N) (h0 : ¬t.val % 18 = 0) (h1 : ¬(t.val % 18 = 4 ∨ t.val % 18 = 5 ∨ t.val % 18 = 8 ∨ t.val % 18 = 9 ∨ t.val % 18 = 10 ∨ t.val % 18 = 11)) (h2 : (t.val % 18 = 0 ∨ t.val % 18 = 1 ∨ t.val % 18 = 2 ∨ t.val % 18 = 3 ∨ t.val % 18 = 6 ∨ t.val % 18 = 7)) (h3 : ¬12 ≤ t.val % 18) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 288 := lt_of_lt_of_eq t.isLt (show cfg0.N = 288 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5_B t (fun h => h0 ((hcond0_0 t).mp h)) (fun h => h1 ((hcond0_1 t).mp h)) ((hcond0_2 t).mpr h2) (fun h => h3 ((hcond0_3 t).mp h))], after0_5]
  rw [Dat.leavesExact_idle (dats m 0 c) 6 t (idleAt0_6_B t (fun h => h0 ((hcond0_0 t).mp h)) (fun h => h1 ((hcond0_1 t).mp h)) ((hcond0_2 t).mpr h2) (fun h => h3 ((hcond0_3 t).mp h))) (noFlush0_6_B t (fun h => h0 ((hcond0_0 t).mp h)) (fun h => h1 ((hcond0_1 t).mp h)) ((hcond0_2 t).mpr h2) (fun h => h3 ((hcond0_3 t).mp h)))]
  by_cases hz : t.val = 0
  · exfalso; omega
  · rw [PhiS_castSucc m c t, PhiS_pos m c _ _ hz]
    rw [hnAt_prev m c t h0]
    iintro ⟨⟨⟨HS0, ⟨%ds, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (iblk m c 0 t) (iblk m c 1 t) (X0_2 m c t) (iblk m c 3 t) (iblk m c 4 t) (hnAt m c t) (fun h => h0 ((hcond0_0 t).mp h)) (fun h => h1 ((hcond0_1 t).mp h)) ((hcond0_2 t).mpr h2) (fun h => h3 ((hcond0_3 t).mp h))).2 _ ds Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, HS0, HS1⟩
    isplitl [HS0 HS1 Hg]
    · isplitl [HS0 HS1]
      · isplitl [HS0]
        · iexact HS0
        iexists ds; isplitr
        · ipureintro; exact good_skip m c t ds (by omega) hd
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact (readB_o c (grid0.coords t) _ _ _ _ _ _ _ _ _ _ _ _ _ _ _ _ _ _ (iblk m c 0 t) (iblk m c 1 t) (X0_2 m c t) (iblk m c 3 t) (iblk m c 4 t) (hnAt m c t) (fun h => h0 ((hcond0_0 t).mp h)) (fun h => h1 ((hcond0_1 t).mp h)) ((hcond0_2 t).mpr h2) (fun h => h3 ((hcond0_3 t).mp h)) e5).trans (outAt_plain m c t h3 h1).symm
    iexists _; iexact H6

set_option maxHeartbeats 16000000 in
/-- The body at a point of case C. -/
theorem sound_C (c : Dev nD) (t : Fin cfg0.N) (h0 : ¬t.val % 18 = 0) (h1 : (t.val % 18 = 4 ∨ t.val % 18 = 5 ∨ t.val % 18 = 8 ∨ t.val % 18 = 9 ∨ t.val % 18 = 10 ∨ t.val % 18 = 11)) (h2 : ¬(t.val % 18 = 0 ∨ t.val % 18 = 1 ∨ t.val % 18 = 2 ∨ t.val % 18 = 3 ∨ t.val % 18 = 6 ∨ t.val % 18 = 7)) (h3 : ¬12 ≤ t.val % 18) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 288 := lt_of_lt_of_eq t.isLt (show cfg0.N = 288 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5_C t (fun h => h0 ((hcond0_0 t).mp h)) ((hcond0_1 t).mpr h1) (fun h => h2 ((hcond0_2 t).mp h)) (fun h => h3 ((hcond0_3 t).mp h))], after0_5]
  rw [Dat.leavesExact_idle (dats m 0 c) 6 t (idleAt0_6_C t (fun h => h0 ((hcond0_0 t).mp h)) ((hcond0_1 t).mpr h1) (fun h => h2 ((hcond0_2 t).mp h)) (fun h => h3 ((hcond0_3 t).mp h))) (noFlush0_6_C t (fun h => h0 ((hcond0_0 t).mp h)) ((hcond0_1 t).mpr h1) (fun h => h2 ((hcond0_2 t).mp h)) (fun h => h3 ((hcond0_3 t).mp h)))]
  by_cases hz : t.val = 0
  · exfalso; omega
  · rw [PhiS_castSucc m c t, PhiS_pos m c _ _ hz]
    rw [hnAt_prev m c t h0]
    iintro ⟨⟨⟨HS0, ⟨%ds, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ _ _ _ _ (iblk m c 0 t) (iblk m c 1 t) (X0_2 m c t) (iblk m c 3 t) (iblk m c 4 t) (hnAt m c t) (fun h => h0 ((hcond0_0 t).mp h)) ((hcond0_1 t).mpr h1) (fun h => h2 ((hcond0_2 t).mp h)) (fun h => h3 ((hcond0_3 t).mp h))).2 _ ds Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, HS0, HS1⟩
    isplitl [HS0 HS1 Hg]
    · isplitl [HS0 HS1]
      · isplitl [HS0]
        · iexact HS0
        iexists ds; isplitr
        · ipureintro; exact good_skip m c t ds (by omega) hd
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact (readC_o c (grid0.coords t) _ _ _ _ _ _ _ _ _ _ _ _ _ _ _ _ _ _ (iblk m c 0 t) (iblk m c 1 t) (X0_2 m c t) (iblk m c 3 t) (iblk m c 4 t) (hnAt m c t) (fun h => h0 ((hcond0_0 t).mp h)) ((hcond0_1 t).mpr h1) (fun h => h2 ((hcond0_2 t).mp h)) (fun h => h3 ((hcond0_3 t).mp h)) e5).trans (outAt_silu m c t h3 h1).symm
    iexists _; iexact H6

set_option maxHeartbeats 16000000 in
/-- The body at a point of case D. -/
theorem sound_D (c : Dev nD) (t : Fin cfg0.N) (h0 : ¬t.val % 18 = 0) (h1 : ¬(t.val % 18 = 4 ∨ t.val % 18 = 5 ∨ t.val % 18 = 8 ∨ t.val % 18 = 9 ∨ t.val % 18 = 10 ∨ t.val % 18 = 11)) (h2 : ¬(t.val % 18 = 0 ∨ t.val % 18 = 1 ∨ t.val % 18 = 2 ∨ t.val % 18 = 3 ∨ t.val % 18 = 6 ∨ t.val % 18 = 7)) (h3 : 12 ≤ t.val % 18) (h4 : t.val % 144 < 18) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 288 := lt_of_lt_of_eq t.isLt (show cfg0.N = 288 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5_D t (fun h => h0 ((hcond0_0 t).mp h)) (fun h => h1 ((hcond0_1 t).mp h)) (fun h => h2 ((hcond0_2 t).mp h)) ((hcond0_3 t).mpr h3) ((hcond0_4 t).mpr h4)], after0_5]
  rw [show (dats m 0 c).leavesExact 6 t = owns (c : Thread nD τ) (ms0_6 t) fullShare ((dats m 0 c).after 6 t) from by
    unfold Dat.leavesExact; rw [liveAt0_6_D t (fun h => h0 ((hcond0_0 t).mp h)) (fun h => h1 ((hcond0_1 t).mp h)) (fun h => h2 ((hcond0_2 t).mp h)) ((hcond0_3 t).mpr h3) ((hcond0_4 t).mpr h4)], after0_6]
  by_cases hz : t.val = 0
  · exfalso; omega
  · rw [PhiS_castSucc m c t, PhiS_pos m c _ _ hz]
    rw [hnAt_prev m c t h0]
    iintro ⟨⟨⟨HS0, ⟨%ds, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_D c (grid0.coords t) _ _ _ _ _ _ _ _ _ _ _ _ _ _ _ _ _ _ (iblk m c 0 t) (iblk m c 1 t) (X0_2 m c t) (iblk m c 3 t) (iblk m c 4 t) (hnAt m c t) ds (fun h => h0 ((hcond0_0 t).mp h)) (fun h => h1 ((hcond0_1 t).mp h)) (fun h => h2 ((hcond0_2 t).mp h)) ((hcond0_3 t).mpr h3) ((hcond0_4 t).mpr h4)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, HS0, HS1⟩
    isplitl [HS0 HS1 Hg]
    · isplitl [HS0 HS1]
      · isplitl [HS0]
        · iexact HS0
        iexists _; isplitr
        · ipureintro; exact good_set m c t ds h3 hd _ (trow_eq t h3) _ (fun r' hr' => rowT_put ds _ r' 0 S1x8x1024.size rfl hr' k0_pay12)
        unfold owns; iexists _; isplitr
        swap; · iexact HS1
        ipureintro; exact readD_s c (grid0.coords t) _ _ _ _ _ _ _ _ _ _ _ _ _ _ _ _ _ _ (iblk m c 0 t) (iblk m c 1 t) (X0_2 m c t) (iblk m c 3 t) (iblk m c 4 t) (hnAt m c t) ds (fun h => h0 ((hcond0_0 t).mp h)) (fun h => h1 ((hcond0_1 t).mp h)) (fun h => h2 ((hcond0_2 t).mp h)) ((hcond0_3 t).mpr h3) ((hcond0_4 t).mpr h4)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact ((readD_o c (grid0.coords t) _ _ _ _ _ _ _ _ _ _ _ _ _ _ _ _ _ _ (iblk m c 0 t) (iblk m c 1 t) (X0_2 m c t) (iblk m c 3 t) (iblk m c 4 t) (hnAt m c t) ds (fun h => h0 ((hcond0_0 t).mp h)) (fun h => h1 ((hcond0_1 t).mp h)) (fun h => h2 ((hcond0_2 t).mp h)) ((hcond0_3 t).mpr h3) ((hcond0_4 t).mpr h4) e5).trans (congrArg (convO (hnAt m c t) (X0_2 m c t) (iblk m c 3 t) (iblk m c 4 t)) (above_first m c t h4).symm)).trans (outAt_conv m c t h3).symm
    unfold owns; iexists _; isplitr
    swap; · iexact H6
    ipureintro; exact readD_t c (grid0.coords t) _ _ _ _ _ _ _ _ _ _ _ _ _ _ _ _ _ _ (iblk m c 0 t) (iblk m c 1 t) (X0_2 m c t) (iblk m c 3 t) (iblk m c 4 t) (hnAt m c t) ds (fun h => h0 ((hcond0_0 t).mp h)) (fun h => h1 ((hcond0_1 t).mp h)) (fun h => h2 ((hcond0_2 t).mp h)) ((hcond0_3 t).mpr h3) ((hcond0_4 t).mpr h4) e6

set_option maxHeartbeats 16000000 in
/-- The body at a point of case E. -/
theorem sound_E (c : Dev nD) (t : Fin cfg0.N) (h0 : ¬t.val % 18 = 0) (h1 : ¬(t.val % 18 = 4 ∨ t.val % 18 = 5 ∨ t.val % 18 = 8 ∨ t.val % 18 = 9 ∨ t.val % 18 = 10 ∨ t.val % 18 = 11)) (h2 : ¬(t.val % 18 = 0 ∨ t.val % 18 = 1 ∨ t.val % 18 = 2 ∨ t.val % 18 = 3 ∨ t.val % 18 = 6 ∨ t.val % 18 = 7)) (h3 : 12 ≤ t.val % 18) (h4 : ¬t.val % 144 < 18) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 288 := lt_of_lt_of_eq t.isLt (show cfg0.N = 288 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5_E t (fun h => h0 ((hcond0_0 t).mp h)) (fun h => h1 ((hcond0_1 t).mp h)) (fun h => h2 ((hcond0_2 t).mp h)) ((hcond0_3 t).mpr h3) (fun h => h4 ((hcond0_4 t).mp h))], after0_5]
  rw [show (dats m 0 c).leavesExact 6 t = owns (c : Thread nD τ) (ms0_6 t) fullShare ((dats m 0 c).after 6 t) from by
    unfold Dat.leavesExact; rw [liveAt0_6_E t (fun h => h0 ((hcond0_0 t).mp h)) (fun h => h1 ((hcond0_1 t).mp h)) (fun h => h2 ((hcond0_2 t).mp h)) ((hcond0_3 t).mpr h3) (fun h => h4 ((hcond0_4 t).mp h))], after0_6]
  by_cases hz : t.val = 0
  · exfalso; omega
  · rw [PhiS_castSucc m c t, PhiS_pos m c _ _ hz]
    rw [hnAt_prev m c t h0]
    iintro ⟨⟨⟨HS0, ⟨%ds, %hd, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_E c (grid0.coords t) _ _ _ _ _ _ _ _ _ _ _ _ _ _ _ _ _ _ (iblk m c 0 t) (iblk m c 1 t) (X0_2 m c t) (iblk m c 3 t) (iblk m c 4 t) (hnAt m c t) ds (fun h => h0 ((hcond0_0 t).mp h)) (fun h => h1 ((hcond0_1 t).mp h)) (fun h => h2 ((hcond0_2 t).mp h)) ((hcond0_3 t).mpr h3) (fun h => h4 ((hcond0_4 t).mp h))).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, HS0, HS1⟩
    isplitl [HS0 HS1 Hg]
    · isplitl [HS0 HS1]
      · isplitl [HS0]
        · iexact HS0
        iexists _; isplitr
        · ipureintro; exact good_set m c t ds h3 hd _ (trow_eq t h3) ds (fun _ _ => rfl)
        unfold owns; iexists _; isplitr
        swap; · iexact HS1
        ipureintro; exact readE_s c (grid0.coords t) _ _ _ _ _ _ _ _ _ _ _ _ _ _ _ _ _ _ (iblk m c 0 t) (iblk m c 1 t) (X0_2 m c t) (iblk m c 3 t) (iblk m c 4 t) (hnAt m c t) ds (fun h => h0 ((hcond0_0 t).mp h)) (fun h => h1 ((hcond0_1 t).mp h)) (fun h => h2 ((hcond0_2 t).mp h)) ((hcond0_3 t).mpr h3) (fun h => h4 ((hcond0_4 t).mp h))
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact ((readE_o c (grid0.coords t) _ _ _ _ _ _ _ _ _ _ _ _ _ _ _ _ _ _ (iblk m c 0 t) (iblk m c 1 t) (X0_2 m c t) (iblk m c 3 t) (iblk m c 4 t) (hnAt m c t) ds (fun h => h0 ((hcond0_0 t).mp h)) (fun h => h1 ((hcond0_1 t).mp h)) (fun h => h2 ((hcond0_2 t).mp h)) ((hcond0_3 t).mpr h3) (fun h => h4 ((hcond0_4 t).mp h)) e5).trans (congrArg (convO (hnAt m c t) (X0_2 m c t) (iblk m c 3 t) (iblk m c 4 t)) (good_row m c t ds h3 h4 hd))).trans (outAt_conv m c t h3).symm
    unfold owns; iexists _; isplitr
    swap; · iexact H6
    ipureintro; exact readE_t c (grid0.coords t) _ _ _ _ _ _ _ _ _ _ _ _ _ _ _ _ _ _ (iblk m c 0 t) (iblk m c 1 t) (X0_2 m c t) (iblk m c 3 t) (iblk m c 4 t) (hnAt m c t) ds (fun h => h0 ((hcond0_0 t).mp h)) (fun h => h1 ((hcond0_1 t).mp h)) (fun h => h2 ((hcond0_2 t).mp h)) ((hcond0_3 t).mpr h3) (fun h => h4 ((hcond0_4 t).mp h)) e6

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 288 := lt_of_lt_of_eq t.isLt (show cfg0.N = 288 from N_0)
  by_cases h3 : 12 ≤ t.val % 18
  · by_cases h4 : t.val % 144 < 18
    · exact sound_D m c t (by omega) (by omega) (by omega) h3 h4
    · exact sound_E m c t (by omega) (by omega) (by omega) h3 h4
  by_cases h1 : (t.val % 18 = 4 ∨ t.val % 18 = 5 ∨ t.val % 18 = 8 ∨ t.val % 18 = 9 ∨ t.val % 18 = 10 ∨ t.val % 18 = 11)
  · exact sound_C m c t (by omega) h1 (by omega) h3
  by_cases h0 : t.val % 18 = 0
  · exact sound_A m c t h0 h1 (by omega) h3
  · exact sound_B m c t h0 h1 (by omega) h3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%ds, -, HS1⟩⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 288 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and no semaphore is left counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel10Ideal.Gen

end
-- ==== Proof.RefRun.lean ====
module

public import proofs.«01_k».proof.Proof.Gen.ReferenceIdeal.Run
public import proofs.«01_k».proof.Proof.Gen.ReferenceIdeal.Step

/-! The retention reference's run as its step iterated: the generated text of the step's run, with the equation of the
    carried output array closed by its own lemma instead of a rewrite. -/

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v85_5) = s.main_v85_5
  f_6 : V0 (Proc.devRef .tc main_v85_6) = s.main_v85_6
  f_0 : V0 (Proc.devRef .tc main_v85_0) = s.main_v85_0
  f_1 : V0 (Proc.devRef .tc main_v85_1) = s.main_v85_1
  f_2 : V0 (Proc.devRef .tc main_v85_2) = s.main_v85_2
  n_4 : V0 (Proc.devRef .tc main_v85_4) = constantI S_ 32 (BitVec.ofNat 32 j)
  k_3 : V0 (Proc.devRef .tc main_v85_3) = Cert.ReferenceIdeal.Step.K_main_v76 (F := F)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x64x8x128 (V0 (Proc.devRef .tc main_v85_0)) (fun k => (((![V0 (Proc.devRef .tc main_v85_4), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x8x128_S1x2x64x8x128 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_4]
  try rfl
set_option maxRecDepth 8192 in
theorem al_5 (h : Holds V0 s j) : (res_main_while0b_v117 V0 : (Proc.devRef .tc main_while0b_v117 : DevRef τ sig).ty.Contents (Elt F)) = Cert.ReferenceIdeal.Step.b5 j s := by
  unfold res_main_while0b_v117 Cert.ReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x64x8x128 (V0 (Proc.devRef .tc main_v85_1)) (fun k => (((![V0 (Proc.devRef .tc main_v85_4), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x8x128_S1x2x64x8x128 : (Proc.devRef .tc main_while0b_call1_v0 : DevRef τ sig).ty.Contents (Elt F)) = Cert.ReferenceIdeal.Step.b10 j s := by
  unfold Cert.ReferenceIdeal.Step.b10
  rw [← al_6 h, ← al_7 h, ← al_8 h, ← al_9 h, h.f_1, h.n_4]
  try rfl
set_option maxRecDepth 8192 in
theorem al_11 (h : Holds V0 s j) : (res_main_while0b_v118 V0 : (Proc.devRef .tc main_while0b_v118 : DevRef τ sig).ty.Contents (Elt F)) = Cert.ReferenceIdeal.Step.b11 j s := by
  unfold res_main_while0b_v118 Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x64x8x256 (V0 (Proc.devRef .tc main_v85_2)) (fun k => (((![V0 (Proc.devRef .tc main_v85_4), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x8x256_S1x2x64x8x256 : (Proc.devRef .tc main_while0b_call2_v0 : DevRef τ sig).ty.Contents (Elt F)) = Cert.ReferenceIdeal.Step.b16 j s := by
  unfold Cert.ReferenceIdeal.Step.b16
  rw [← al_12 h, ← al_13 h, ← al_14 h, ← al_15 h, h.f_2, h.n_4]
  try rfl
set_option maxRecDepth 8192 in
theorem al_17 (h : Holds V0 s j) : (res_main_while0b_v119 V0 : (Proc.devRef .tc main_while0b_v119 : DevRef τ sig).ty.Contents (Elt F)) = Cert.ReferenceIdeal.Step.b17 j s := by
  unfold res_main_while0b_v119 Cert.ReferenceIdeal.Step.b17
  rw [← al_16 h]
  try rfl
set_option maxRecDepth 8192 in
theorem al_18 (h : Holds V0 s j) : (res_main_while0b_v120 V0 : (Proc.devRef .tc main_while0b_v120 : DevRef τ sig).ty.Contents (Elt F)) = Cert.ReferenceIdeal.Step.b18 j s := by
  unfold res_main_while0b_v120 Cert.ReferenceIdeal.Step.b18
  rfl
set_option maxRecDepth 8192 in
theorem al_19 (h : Holds V0 s j) : (res_main_while0b_v121 V0 : (Proc.devRef .tc main_while0b_v121 : DevRef τ sig).ty.Contents (Elt F)) = Cert.ReferenceIdeal.Step.b19 j s := by
  unfold res_main_while0b_v121 Cert.ReferenceIdeal.Step.b19
  rw [h.k_3]
  try rfl
set_option maxRecDepth 8192 in
theorem al_20 (h : Holds V0 s j) : (broadcastInDim S64x1 ![0] bcast_S64_S64x1_0 (res_main_while0b_v120 V0) : (Proc.devRef .tc main_while0b_v122 : DevRef τ sig).ty.Contents (Elt F)) = Cert.ReferenceIdeal.Step.b20 j s := by
  unfold Cert.ReferenceIdeal.Step.b20
  rw [← al_18 h]
  try rfl
set_option maxRecDepth 8192 in
theorem al_21 (h : Holds V0 s j) : (broadcastInDim S1x64 ![1] bcast_S64_S1x64_1 (res_main_while0b_v120 V0) : (Proc.devRef .tc main_while0b_v123 : DevRef τ sig).ty.Contents (Elt F)) = Cert.ReferenceIdeal.Step.b21 j s := by
  unfold Cert.ReferenceIdeal.Step.b21
  rw [← al_18 h]
  try rfl
set_option maxRecDepth 8192 in
theorem al_22 (h : Holds V0 s j) : (broadcastInDim S64x64 ![0, 1] bcast_S64x1_S64x64_0_1 (broadcastInDim S64x1 ![0] bcast_S64_S64x1_0 (res_main_while0b_v120 V0)) : (Proc.devRef .tc main_while0b_v124 : DevRef τ sig).ty.Contents (Elt F)) = Cert.ReferenceIdeal.Step.b22 j s := by
  unfold Cert.ReferenceIdeal.Step.b22
  rw [← al_20 h]
  try rfl
set_option maxRecDepth 8192 in
theorem al_23 (h : Holds V0 s j) : (broadcastInDim S64x64 ![0, 1] bcast_S1x64_S64x64_0_1 (broadcastInDim S1x64 ![1] bcast_S64_S1x64_1 (res_main_while0b_v120 V0)) : (Proc.devRef .tc main_while0b_v125 : DevRef τ sig).ty.Contents (Elt F)) = Cert.ReferenceIdeal.Step.b23 j s := by
  unfold Cert.ReferenceIdeal.Step.b23
  rw [← al_21 h]
  try rfl
set_option maxRecDepth 8192 in
theorem al_24 (h : Holds V0 s j) : (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))) : (Proc.devRef .tc main_while0b_v126 : DevRef τ sig).ty.Contents (Elt F)) = Cert.ReferenceIdeal.Step.b24 j s := by
  unfold Cert.ReferenceIdeal.Step.b24
  rw [← al_22 h, ← al_23 h]
  try rfl
set_option maxRecDepth 8192 in
theorem al_25 (h : Holds V0 s j) : (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0)))) : (Proc.devRef .tc main_while0b_v127 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))) : (Proc.devRef .tc main_while0b_v128 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (broadcastInDim S8x1x1 ![0, 1] bcast_S8x1_S8x1x1_0_1 (res_main_while0b_v121 V0) : (Proc.devRef .tc main_while0b_v129 : DevRef τ sig).ty.Contents (Elt F)) = Cert.ReferenceIdeal.Step.b27 j s := by
  unfold Cert.ReferenceIdeal.Step.b27
  rw [← al_19 h]
  try rfl
set_option maxRecDepth 8192 in
theorem al_28 (h : Holds V0 s j) : (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0)))))) : (Proc.devRef .tc main_while0b_v130 : DevRef τ sig).ty.Contents (Elt F)) = Cert.ReferenceIdeal.Step.b28 j s := by
  unfold Cert.ReferenceIdeal.Step.b28
  rw [← al_26 h]
  try rfl
set_option maxRecDepth 8192 in
theorem al_29 (h : Holds V0 s j) : (broadcastInDim S8x64x64 ![0, 1, 2] bcast_S8x1x1_S8x64x64_0_1_2 (broadcastInDim S8x1x1 ![0, 1] bcast_S8x1_S8x1x1_0_1 (res_main_while0b_v121 V0)) : (Proc.devRef .tc main_while0b_v131 : DevRef τ sig).ty.Contents (Elt F)) = Cert.ReferenceIdeal.Step.b29 j s := by
  unfold Cert.ReferenceIdeal.Step.b29
  rw [← al_27 h]
  try rfl
set_option maxRecDepth 8192 in
theorem al_30 (h : Holds V0 s j) : (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0))) : (Proc.devRef .tc main_while0b_v132 : DevRef τ sig).ty.Contents (Elt F)) = Cert.ReferenceIdeal.Step.b30 j s := by
  unfold Cert.ReferenceIdeal.Step.b30
  rw [← al_28 h, ← al_29 h]
  try rfl
set_option maxRecDepth 8192 in
theorem al_31 (h : Holds V0 s j) : (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0)))) : (Proc.devRef .tc main_while0b_v133 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (constant S_ .f32 0x3F800000#32 : (Proc.devRef .tc main_while0b_cst_19 : DevRef τ sig).ty.Contents (Elt F)) = Cert.ReferenceIdeal.Step.b32 j s := by
  unfold Cert.ReferenceIdeal.Step.b32
  rfl
set_option maxRecDepth 8192 in
theorem al_33 (h : Holds V0 s j) : (broadcastInDim S64 ![] bcast_S_S64 (constant S_ .f32 0x3F800000#32) : (Proc.devRef .tc main_while0b_v134 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (addf (res_main_while0b_v120 V0) (broadcastInDim S64 ![] bcast_S_S64 (constant S_ .f32 0x3F800000#32)) : (Proc.devRef .tc main_while0b_v135 : DevRef τ sig).ty.Contents (Elt F)) = Cert.ReferenceIdeal.Step.b34 j s := by
  unfold Cert.ReferenceIdeal.Step.b34
  rw [← al_18 h, ← al_33 h]
  try rfl
set_option maxRecDepth 8192 in
theorem al_35 (h : Holds V0 s j) : (broadcastInDim S1x64 ![1] bcast_S64_S1x64_1 (addf (res_main_while0b_v120 V0) (broadcastInDim S64 ![] bcast_S_S64 (constant S_ .f32 0x3F800000#32))) : (Proc.devRef .tc main_while0b_v136 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32)))) : (Proc.devRef .tc main_while0b_v137 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (broadcastInDim S8x64 ![0, 1] bcast_S8x1_S8x64_0_1 (res_main_while0b_v121 V0) : (Proc.devRef .tc main_while0b_v138 : DevRef τ sig).ty.Contents (Elt F)) = Cert.ReferenceIdeal.Step.b37 j s := by
  unfold Cert.ReferenceIdeal.Step.b37
  rw [← al_19 h]
  try rfl
set_option maxRecDepth 8192 in
theorem al_38 (h : Holds V0 s j) : (mulf (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32))))) (broadcastInDim S8x64 ![0, 1] bcast_S8x1_S8x64_0_1 (res_main_while0b_v121 V0)) : (Proc.devRef .tc main_while0b_v139 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (Host.exp (mulf (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32))))) (broadcastInDim S8x64 ![0, 1] bcast_S8x1_S8x64_0_1 (res_main_while0b_v121 V0))) : (Proc.devRef .tc main_while0b_v140 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (transpose S64x8 [1, 0] (Host.exp (mulf (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32))))) (broadcastInDim S8x64 ![0, 1] bcast_S8x1_S8x64_0_1 (res_main_while0b_v121 V0)))) transposes_S8x64_S64x8_1_0 : (Proc.devRef .tc main_while0b_v141 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (constant S_ .f32 0x427C0000#32 : (Proc.devRef .tc main_while0b_cst_20 : DevRef τ sig).ty.Contents (Elt F)) = Cert.ReferenceIdeal.Step.b41 j s := by
  unfold Cert.ReferenceIdeal.Step.b41
  rfl
set_option maxRecDepth 8192 in
theorem al_42 (h : Holds V0 s j) : (broadcastInDim S64 ![] bcast_S_S64 (constant S_ .f32 0x427C0000#32) : (Proc.devRef .tc main_while0b_v142 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (subf (broadcastInDim S64 ![] bcast_S_S64 (constant S_ .f32 0x427C0000#32)) (res_main_while0b_v120 V0) : (Proc.devRef .tc main_while0b_v143 : DevRef τ sig).ty.Contents (Elt F)) = Cert.ReferenceIdeal.Step.b43 j s := by
  unfold Cert.ReferenceIdeal.Step.b43
  rw [← al_42 h, ← al_18 h]
  try rfl
set_option maxRecDepth 8192 in
theorem al_44 (h : Holds V0 s j) : (broadcastInDim S1x64 ![1] bcast_S64_S1x64_1 (subf (broadcastInDim S64 ![] bcast_S_S64 (constant S_ .f32 0x427C0000#32)) (res_main_while0b_v120 V0)) : (Proc.devRef .tc main_while0b_v144 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (broadcastInDim S8x64 ![0, 1] bcast_S1x64_S8x64_0_1 (broadcastInDim S1x64 ![1] bcast_S64_S1x64_1 (subf (broadcastInDim S64 ![] bcast_S_S64 (constant S_ .f32 0x427C0000#32)) (res_main_while0b_v120 V0))) : (Proc.devRef .tc main_while0b_v145 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (broadcastInDim S8x64 ![0, 1] bcast_S8x1_S8x64_0_1 (res_main_while0b_v121 V0) : (Proc.devRef .tc main_while0b_v146 : DevRef τ sig).ty.Contents (Elt F)) = Cert.ReferenceIdeal.Step.b46 j s := by
  unfold Cert.ReferenceIdeal.Step.b46
  rw [← al_19 h]
  try rfl
set_option maxRecDepth 8192 in
theorem al_47 (h : Holds V0 s j) : (mulf (broadcastInDim S8x64 ![0, 1] bcast_S1x64_S8x64_0_1 (broadcastInDim S1x64 ![1] bcast_S64_S1x64_1 (subf (broadcastInDim S64 ![] bcast_S_S64 (constant S_ .f32 0x427C0000#32)) (res_main_while0b_v120 V0)))) (broadcastInDim S8x64 ![0, 1] bcast_S8x1_S8x64_0_1 (res_main_while0b_v121 V0)) : (Proc.devRef .tc main_while0b_v147 : DevRef τ sig).ty.Contents (Elt F)) = Cert.ReferenceIdeal.Step.b47 j s := by
  unfold Cert.ReferenceIdeal.Step.b47
  rw [← al_45 h, ← al_46 h]
  try rfl
set_option maxRecDepth 8192 in
theorem al_48 (h : Holds V0 s j) : (Host.exp (mulf (broadcastInDim S8x64 ![0, 1] bcast_S1x64_S8x64_0_1 (broadcastInDim S1x64 ![1] bcast_S64_S1x64_1 (subf (broadcastInDim S64 ![] bcast_S_S64 (constant S_ .f32 0x427C0000#32)) (res_main_while0b_v120 V0)))) (broadcastInDim S8x64 ![0, 1] bcast_S8x1_S8x64_0_1 (res_main_while0b_v121 V0))) : (Proc.devRef .tc main_while0b_v148 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (transpose S64x8 [1, 0] (Host.exp (mulf (broadcastInDim S8x64 ![0, 1] bcast_S1x64_S8x64_0_1 (broadcastInDim S1x64 ![1] bcast_S64_S1x64_1 (subf (broadcastInDim S64 ![] bcast_S_S64 (constant S_ .f32 0x427C0000#32)) (res_main_while0b_v120 V0)))) (broadcastInDim S8x64 ![0, 1] bcast_S8x1_S8x64_0_1 (res_main_while0b_v121 V0)))) transposes_S8x64_S64x8_1_0 : (Proc.devRef .tc main_while0b_v149 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (constant S_ .f32 0x42800000#32 : (Proc.devRef .tc main_while0b_cst_21 : DevRef τ sig).ty.Contents (Elt F)) = Cert.ReferenceIdeal.Step.b50 j s := by
  unfold Cert.ReferenceIdeal.Step.b50
  rfl
set_option maxRecDepth 8192 in
theorem al_51 (h : Holds V0 s j) : (broadcastInDim S8 ![] bcast_S_S8 (constant S_ .f32 0x42800000#32) : (Proc.devRef .tc main_while0b_v150 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (mulf (broadcastInDim S8 ![] bcast_S_S8 (constant S_ .f32 0x42800000#32)) (V0 (Proc.devRef .tc main_v85_3)) : (Proc.devRef .tc main_while0b_v151 : DevRef τ sig).ty.Contents (Elt F)) = Cert.ReferenceIdeal.Step.b52 j s := by
  unfold Cert.ReferenceIdeal.Step.b52
  rw [← al_51 h, h.k_3]
  try rfl
set_option maxRecDepth 8192 in
theorem al_53 (h : Holds V0 s j) : (Host.exp (mulf (broadcastInDim S8 ![] bcast_S_S8 (constant S_ .f32 0x42800000#32)) (V0 (Proc.devRef .tc main_v85_3))) : (Proc.devRef .tc main_while0b_v152 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (Host.dotGeneral dot_S2x64x8x128_S2x64x8x128_S2x8x64x64_3_3_1_1_02_02 none (res_main_while0b_v117 V0) (res_main_while0b_v118 V0) : (Proc.devRef .tc main_while0b_v153 : DevRef τ sig).ty.Contents (Elt F)) = Cert.ReferenceIdeal.Step.b54 j s := by
  unfold Cert.ReferenceIdeal.Step.b54
  rw [← al_5 h, ← al_11 h]
  try rfl
set_option maxRecDepth 8192 in
theorem al_55 (h : Holds V0 s j) : (broadcastInDim S1x8x64x64 ![1, 2, 3] bcast_S8x64x64_S1x8x64x64_1_2_3 (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0))))) : (Proc.devRef .tc main_while0b_v154 : DevRef τ sig).ty.Contents (Elt F)) = Cert.ReferenceIdeal.Step.b55 j s := by
  unfold Cert.ReferenceIdeal.Step.b55
  rw [← al_31 h]
  try rfl
set_option maxRecDepth 8192 in
theorem al_56 (h : Holds V0 s j) : (broadcastInDim S2x8x64x64 ![0, 1, 2, 3] bcast_S1x8x64x64_S2x8x64x64_0_1_2_3 (broadcastInDim S1x8x64x64 ![1, 2, 3] bcast_S8x64x64_S1x8x64x64_1_2_3 (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0)))))) : (Proc.devRef .tc main_while0b_v155 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (mulf (Host.dotGeneral dot_S2x64x8x128_S2x64x8x128_S2x8x64x64_3_3_1_1_02_02 none (res_main_while0b_v117 V0) (res_main_while0b_v118 V0)) (broadcastInDim S2x8x64x64 ![0, 1, 2, 3] bcast_S1x8x64x64_S2x8x64x64_0_1_2_3 (broadcastInDim S1x8x64x64 ![1, 2, 3] bcast_S8x64x64_S1x8x64x64_1_2_3 (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0))))))) : (Proc.devRef .tc main_while0b_v156 : DevRef τ sig).ty.Contents (Elt F)) = Cert.ReferenceIdeal.Step.b57 j s := by
  unfold Cert.ReferenceIdeal.Step.b57
  rw [← al_54 h, ← al_56 h]
  try rfl
set_option maxRecDepth 8192 in
theorem al_58 (h : Holds V0 s j) : (Host.dotGeneral dot_S2x64x8x256_S2x8x64x64_S2x8x256x64_1_3_3_2_02_01 none (res_main_while0b_v119 V0) (mulf (Host.dotGeneral dot_S2x64x8x128_S2x64x8x128_S2x8x64x64_3_3_1_1_02_02 none (res_main_while0b_v117 V0) (res_main_while0b_v118 V0)) (broadcastInDim S2x8x64x64 ![0, 1, 2, 3] bcast_S1x8x64x64_S2x8x64x64_0_1_2_3 (broadcastInDim S1x8x64x64 ![1, 2, 3] bcast_S8x64x64_S1x8x64x64_1_2_3 (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0)))))))) : (Proc.devRef .tc main_while0b_v157 : DevRef τ sig).ty.Contents (Elt F)) = Cert.ReferenceIdeal.Step.b58 j s := by
  unfold Cert.ReferenceIdeal.Step.b58
  rw [← al_17 h, ← al_57 h]
  try rfl
set_option maxRecDepth 8192 in
theorem al_59 (h : Holds V0 s j) : (transpose S2x64x8x256 [0, 3, 1, 2] (Host.dotGeneral dot_S2x64x8x256_S2x8x64x64_S2x8x256x64_1_3_3_2_02_01 none (res_main_while0b_v119 V0) (mulf (Host.dotGeneral dot_S2x64x8x128_S2x64x8x128_S2x8x64x64_3_3_1_1_02_02 none (res_main_while0b_v117 V0) (res_main_while0b_v118 V0)) (broadcastInDim S2x8x64x64 ![0, 1, 2, 3] bcast_S1x8x64x64_S2x8x64x64_0_1_2_3 (broadcastInDim S1x8x64x64 ![1, 2, 3] bcast_S8x64x64_S1x8x64x64_1_2_3 (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0))))))))) transposes_S2x8x256x64_S2x64x8x256_0_3_1_2 : (Proc.devRef .tc main_while0b_v158 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (Host.dotGeneral dot_S2x8x128x256_S2x64x8x128_S2x8x256x64_2_3_3_1_01_02 none (V0 (Proc.devRef .tc main_v85_5)) (res_main_while0b_v117 V0) : (Proc.devRef .tc main_while0b_v159 : DevRef τ sig).ty.Contents (Elt F)) = Cert.ReferenceIdeal.Step.b60 j s := by
  unfold Cert.ReferenceIdeal.Step.b60
  rw [← al_5 h, h.f_5]
  try rfl
set_option maxRecDepth 8192 in
theorem al_61 (h : Holds V0 s j) : (transpose S2x64x8x256 [0, 3, 1, 2] (Host.dotGeneral dot_S2x8x128x256_S2x64x8x128_S2x8x256x64_2_3_3_1_01_02 none (V0 (Proc.devRef .tc main_v85_5)) (res_main_while0b_v117 V0)) transposes_S2x8x256x64_S2x64x8x256_0_3_1_2 : (Proc.devRef .tc main_while0b_v160 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32))))) (broadcastInDim S8x64 ![0, 1] bcast_S8x1_S8x64_0_1 (res_main_while0b_v121 V0)))) transposes_S8x64_S64x8_1_0) : (Proc.devRef .tc main_while0b_v161 : DevRef τ sig).ty.Contents (Elt F)) = Cert.ReferenceIdeal.Step.b62 j s := by
  unfold Cert.ReferenceIdeal.Step.b62
  rw [← al_40 h]
  try rfl
set_option maxRecDepth 8192 in
theorem al_63 (h : Holds V0 s j) : (broadcastInDim S2x64x8x256 ![0, 1, 2, 3] bcast_S1x64x8x1_S2x64x8x256_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32))))) (broadcastInDim S8x64 ![0, 1] bcast_S8x1_S8x64_0_1 (res_main_while0b_v121 V0)))) transposes_S8x64_S64x8_1_0)) : (Proc.devRef .tc main_while0b_v162 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (mulf (transpose S2x64x8x256 [0, 3, 1, 2] (Host.dotGeneral dot_S2x8x128x256_S2x64x8x128_S2x8x256x64_2_3_3_1_01_02 none (V0 (Proc.devRef .tc main_v85_5)) (res_main_while0b_v117 V0)) transposes_S2x8x256x64_S2x64x8x256_0_3_1_2) (broadcastInDim S2x64x8x256 ![0, 1, 2, 3] bcast_S1x64x8x1_S2x64x8x256_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32))))) (broadcastInDim S8x64 ![0, 1] bcast_S8x1_S8x64_0_1 (res_main_while0b_v121 V0)))) transposes_S8x64_S64x8_1_0))) : (Proc.devRef .tc main_while0b_v163 : DevRef τ sig).ty.Contents (Elt F)) = Cert.ReferenceIdeal.Step.b64 j s := by
  unfold Cert.ReferenceIdeal.Step.b64
  rw [← al_61 h, ← al_63 h]
  try rfl
set_option maxRecDepth 8192 in
theorem al_65 (h : Holds V0 s j) : (addf (transpose S2x64x8x256 [0, 3, 1, 2] (Host.dotGeneral dot_S2x64x8x256_S2x8x64x64_S2x8x256x64_1_3_3_2_02_01 none (res_main_while0b_v119 V0) (mulf (Host.dotGeneral dot_S2x64x8x128_S2x64x8x128_S2x8x64x64_3_3_1_1_02_02 none (res_main_while0b_v117 V0) (res_main_while0b_v118 V0)) (broadcastInDim S2x8x64x64 ![0, 1, 2, 3] bcast_S1x8x64x64_S2x8x64x64_0_1_2_3 (broadcastInDim S1x8x64x64 ![1, 2, 3] bcast_S8x64x64_S1x8x64x64_1_2_3 (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0))))))))) transposes_S2x8x256x64_S2x64x8x256_0_3_1_2) (mulf (transpose S2x64x8x256 [0, 3, 1, 2] (Host.dotGeneral dot_S2x8x128x256_S2x64x8x128_S2x8x256x64_2_3_3_1_01_02 none (V0 (Proc.devRef .tc main_v85_5)) (res_main_while0b_v117 V0)) transposes_S2x8x256x64_S2x64x8x256_0_3_1_2) (broadcastInDim S2x64x8x256 ![0, 1, 2, 3] bcast_S1x64x8x1_S2x64x8x256_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32))))) (broadcastInDim S8x64 ![0, 1] bcast_S8x1_S8x64_0_1 (res_main_while0b_v121 V0)))) transposes_S8x64_S64x8_1_0)))) : (Proc.devRef .tc main_while0b_v164 : DevRef τ sig).ty.Contents (Elt F)) = Cert.ReferenceIdeal.Step.b65 j s := by
  unfold Cert.ReferenceIdeal.Step.b65
  rw [← al_59 h, ← al_64 h]
  try rfl
set_option maxRecDepth 8192 in
theorem al_66 (h : Holds V0 s j) : (broadcastInDim S8x1x1 ![0] bcast_S8_S8x1x1_0 (Host.exp (mulf (broadcastInDim S8 ![] bcast_S_S8 (constant S_ .f32 0x42800000#32)) (V0 (Proc.devRef .tc main_v85_3)))) : (Proc.devRef .tc main_while0b_v165 : DevRef τ sig).ty.Contents (Elt F)) = Cert.ReferenceIdeal.Step.b66 j s := by
  unfold Cert.ReferenceIdeal.Step.b66
  rw [← al_53 h]
  try rfl
set_option maxRecDepth 8192 in
theorem al_67 (h : Holds V0 s j) : (broadcastInDim S1x8x1x1 ![1, 2, 3] bcast_S8x1x1_S1x8x1x1_1_2_3 (broadcastInDim S8x1x1 ![0] bcast_S8_S8x1x1_0 (Host.exp (mulf (broadcastInDim S8 ![] bcast_S_S8 (constant S_ .f32 0x42800000#32)) (V0 (Proc.devRef .tc main_v85_3))))) : (Proc.devRef .tc main_while0b_v166 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (broadcastInDim S2x8x128x256 ![0, 1, 2, 3] bcast_S1x8x1x1_S2x8x128x256_0_1_2_3 (broadcastInDim S1x8x1x1 ![1, 2, 3] bcast_S8x1x1_S1x8x1x1_1_2_3 (broadcastInDim S8x1x1 ![0] bcast_S8_S8x1x1_0 (Host.exp (mulf (broadcastInDim S8 ![] bcast_S_S8 (constant S_ .f32 0x42800000#32)) (V0 (Proc.devRef .tc main_v85_3)))))) : (Proc.devRef .tc main_while0b_v167 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (mulf (broadcastInDim S2x8x128x256 ![0, 1, 2, 3] bcast_S1x8x1x1_S2x8x128x256_0_1_2_3 (broadcastInDim S1x8x1x1 ![1, 2, 3] bcast_S8x1x1_S1x8x1x1_1_2_3 (broadcastInDim S8x1x1 ![0] bcast_S8_S8x1x1_0 (Host.exp (mulf (broadcastInDim S8 ![] bcast_S_S8 (constant S_ .f32 0x42800000#32)) (V0 (Proc.devRef .tc main_v85_3))))))) (V0 (Proc.devRef .tc main_v85_5)) : (Proc.devRef .tc main_while0b_v168 : DevRef τ sig).ty.Contents (Elt F)) = Cert.ReferenceIdeal.Step.b69 j s := by
  unfold Cert.ReferenceIdeal.Step.b69
  rw [← al_68 h, h.f_5]
  try rfl
set_option maxRecDepth 8192 in
theorem al_70 (h : Holds V0 s j) : (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (subf (broadcastInDim S64 ![] bcast_S_S64 (constant S_ .f32 0x427C0000#32)) (res_main_while0b_v120 V0)))) (broadcastInDim S8x64 ![0, 1] bcast_S8x1_S8x64_0_1 (res_main_while0b_v121 V0)))) transposes_S8x64_S64x8_1_0) : (Proc.devRef .tc main_while0b_v169 : DevRef τ sig).ty.Contents (Elt F)) = Cert.ReferenceIdeal.Step.b70 j s := by
  unfold Cert.ReferenceIdeal.Step.b70
  rw [← al_49 h]
  try rfl
set_option maxRecDepth 8192 in
theorem al_71 (h : Holds V0 s j) : (broadcastInDim S2x64x8x128 ![0, 1, 2, 3] bcast_S1x64x8x1_S2x64x8x128_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (subf (broadcastInDim S64 ![] bcast_S_S64 (constant S_ .f32 0x427C0000#32)) (res_main_while0b_v120 V0)))) (broadcastInDim S8x64 ![0, 1] bcast_S8x1_S8x64_0_1 (res_main_while0b_v121 V0)))) transposes_S8x64_S64x8_1_0)) : (Proc.devRef .tc main_while0b_v170 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (mulf (res_main_while0b_v118 V0) (broadcastInDim S2x64x8x128 ![0, 1, 2, 3] bcast_S1x64x8x1_S2x64x8x128_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (subf (broadcastInDim S64 ![] bcast_S_S64 (constant S_ .f32 0x427C0000#32)) (res_main_while0b_v120 V0)))) (broadcastInDim S8x64 ![0, 1] bcast_S8x1_S8x64_0_1 (res_main_while0b_v121 V0)))) transposes_S8x64_S64x8_1_0))) : (Proc.devRef .tc main_while0b_v171 : DevRef τ sig).ty.Contents (Elt F)) = Cert.ReferenceIdeal.Step.b72 j s := by
  unfold Cert.ReferenceIdeal.Step.b72
  rw [← al_11 h, ← al_71 h]
  try rfl
set_option maxRecDepth 8192 in
theorem al_73 (h : Holds V0 s j) : (Host.dotGeneral dot_S2x64x8x128_S2x64x8x256_S2x8x128x256_1_1_3_3_02_02 none (mulf (res_main_while0b_v118 V0) (broadcastInDim S2x64x8x128 ![0, 1, 2, 3] bcast_S1x64x8x1_S2x64x8x128_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (subf (broadcastInDim S64 ![] bcast_S_S64 (constant S_ .f32 0x427C0000#32)) (res_main_while0b_v120 V0)))) (broadcastInDim S8x64 ![0, 1] bcast_S8x1_S8x64_0_1 (res_main_while0b_v121 V0)))) transposes_S8x64_S64x8_1_0)))) (res_main_while0b_v119 V0) : (Proc.devRef .tc main_while0b_v172 : DevRef τ sig).ty.Contents (Elt F)) = Cert.ReferenceIdeal.Step.b73 j s := by
  unfold Cert.ReferenceIdeal.Step.b73
  rw [← al_72 h, ← al_17 h]
  try rfl
set_option maxRecDepth 8192 in
theorem al_74 (h : Holds V0 s j) : (addf (mulf (broadcastInDim S2x8x128x256 ![0, 1, 2, 3] bcast_S1x8x1x1_S2x8x128x256_0_1_2_3 (broadcastInDim S1x8x1x1 ![1, 2, 3] bcast_S8x1x1_S1x8x1x1_1_2_3 (broadcastInDim S8x1x1 ![0] bcast_S8_S8x1x1_0 (Host.exp (mulf (broadcastInDim S8 ![] bcast_S_S8 (constant S_ .f32 0x42800000#32)) (V0 (Proc.devRef .tc main_v85_3))))))) (V0 (Proc.devRef .tc main_v85_5))) (Host.dotGeneral dot_S2x64x8x128_S2x64x8x256_S2x8x128x256_1_1_3_3_02_02 none (mulf (res_main_while0b_v118 V0) (broadcastInDim S2x64x8x128 ![0, 1, 2, 3] bcast_S1x64x8x1_S2x64x8x128_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (subf (broadcastInDim S64 ![] bcast_S_S64 (constant S_ .f32 0x427C0000#32)) (res_main_while0b_v120 V0)))) (broadcastInDim S8x64 ![0, 1] bcast_S8x1_S8x64_0_1 (res_main_while0b_v121 V0)))) transposes_S8x64_S64x8_1_0)))) (res_main_while0b_v119 V0)) : (Proc.devRef .tc main_while0b_v173 : DevRef τ sig).ty.Contents (Elt F)) = Cert.ReferenceIdeal.Step.b74 j s := by
  unfold Cert.ReferenceIdeal.Step.b74
  rw [← al_69 h, ← al_73 h]
  try rfl
set_option maxRecDepth 8192 in
theorem al_75 (h : Holds V0 s j) : (broadcastInDim S1x2x64x8x256 ![1, 2, 3, 4] bcast_S2x64x8x256_S1x2x64x8x256_1_2_3_4 (addf (transpose S2x64x8x256 [0, 3, 1, 2] (Host.dotGeneral dot_S2x64x8x256_S2x8x64x64_S2x8x256x64_1_3_3_2_02_01 none (res_main_while0b_v119 V0) (mulf (Host.dotGeneral dot_S2x64x8x128_S2x64x8x128_S2x8x64x64_3_3_1_1_02_02 none (res_main_while0b_v117 V0) (res_main_while0b_v118 V0)) (broadcastInDim S2x8x64x64 ![0, 1, 2, 3] bcast_S1x8x64x64_S2x8x64x64_0_1_2_3 (broadcastInDim S1x8x64x64 ![1, 2, 3] bcast_S8x64x64_S1x8x64x64_1_2_3 (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0))))))))) transposes_S2x8x256x64_S2x64x8x256_0_3_1_2) (mulf (transpose S2x64x8x256 [0, 3, 1, 2] (Host.dotGeneral dot_S2x8x128x256_S2x64x8x128_S2x8x256x64_2_3_3_1_01_02 none (V0 (Proc.devRef .tc main_v85_5)) (res_main_while0b_v117 V0)) transposes_S2x8x256x64_S2x64x8x256_0_3_1_2) (broadcastInDim S2x64x8x256 ![0, 1, 2, 3] bcast_S1x64x8x1_S2x64x8x256_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32))))) (broadcastInDim S8x64 ![0, 1] bcast_S8x1_S8x64_0_1 (res_main_while0b_v121 V0)))) transposes_S8x64_S64x8_1_0))))) : (Proc.devRef .tc main_while0b_call3_v0 : DevRef τ sig).ty.Contents (Elt F)) = Cert.ReferenceIdeal.Step.b75 j s := by
  unfold Cert.ReferenceIdeal.Step.b75
  rw [← al_65 h]
  try rfl
set_option maxRecDepth 8192 in
theorem al_76 (h : Holds V0 s j) : (constantI S_ 32 0#32 : (Proc.devRef .tc main_while0b_call3_c : DevRef τ sig).ty.Contents (Elt F)) = Cert.ReferenceIdeal.Step.b76 j s := by
  unfold Cert.ReferenceIdeal.Step.b76
  rfl
set_option maxRecDepth 8192 in
theorem al_77 (h : Holds V0 s j) : (constantI S_ 32 0#32 : (Proc.devRef .tc main_while0b_call3_c_0 : DevRef τ sig).ty.Contents (Elt F)) = Cert.ReferenceIdeal.Step.b77 j s := by
  unfold Cert.ReferenceIdeal.Step.b77
  rfl
set_option maxRecDepth 8192 in
theorem al_78 (h : Holds V0 s j) : (constantI S_ 32 0#32 : (Proc.devRef .tc main_while0b_call3_c_1 : DevRef τ sig).ty.Contents (Elt F)) = Cert.ReferenceIdeal.Step.b78 j s := by
  unfold Cert.ReferenceIdeal.Step.b78
  rfl
set_option maxRecDepth 8192 in
theorem al_79 (h : Holds V0 s j) : (constantI S_ 32 0#32 : (Proc.devRef .tc main_while0b_call3_c_2 : DevRef τ sig).ty.Contents (Elt F)) = Cert.ReferenceIdeal.Step.b79 j s := by
  unfold Cert.ReferenceIdeal.Step.b79
  rfl
set_option maxRecDepth 8192 in
theorem al_80 (h : Holds V0 s j) : (Host.dynamicUpdateSlice (V0 (Proc.devRef .tc main_v85_6)) (broadcastInDim S1x2x64x8x256 ![1, 2, 3, 4] bcast_S2x64x8x256_S1x2x64x8x256_1_2_3_4 (addf (transpose S2x64x8x256 [0, 3, 1, 2] (Host.dotGeneral dot_S2x64x8x256_S2x8x64x64_S2x8x256x64_1_3_3_2_02_01 none (res_main_while0b_v119 V0) (mulf (Host.dotGeneral dot_S2x64x8x128_S2x64x8x128_S2x8x64x64_3_3_1_1_02_02 none (res_main_while0b_v117 V0) (res_main_while0b_v118 V0)) (broadcastInDim S2x8x64x64 ![0, 1, 2, 3] bcast_S1x8x64x64_S2x8x64x64_0_1_2_3 (broadcastInDim S1x8x64x64 ![1, 2, 3] bcast_S8x64x64_S1x8x64x64_1_2_3 (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0))))))))) transposes_S2x8x256x64_S2x64x8x256_0_3_1_2) (mulf (transpose S2x64x8x256 [0, 3, 1, 2] (Host.dotGeneral dot_S2x8x128x256_S2x64x8x128_S2x8x256x64_2_3_3_1_01_02 none (V0 (Proc.devRef .tc main_v85_5)) (res_main_while0b_v117 V0)) transposes_S2x8x256x64_S2x64x8x256_0_3_1_2) (broadcastInDim S2x64x8x256 ![0, 1, 2, 3] bcast_S1x64x8x1_S2x64x8x256_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32))))) (broadcastInDim S8x64 ![0, 1] bcast_S8x1_S8x64_0_1 (res_main_while0b_v121 V0)))) transposes_S8x64_S64x8_1_0)))))) (fun k => (((![V0 (Proc.devRef .tc main_v85_4), constantI S_ 32 0#32, constantI S_ 32 0#32, constantI S_ 32 0#32, constantI S_ 32 0#32] : Fin 5 → (⟨S_, .i32⟩ : BufTy).Contents (Elt F))) k (Shape.Idx.first h_S_)).toInt) updateFits_S128x2x64x8x256_S1x2x64x8x256 : (Proc.devRef .tc main_while0b_v174 : DevRef τ sig).ty.Contents (Elt F)) = Cert.ReferenceIdeal.Step.b80 j s := by
  unfold Cert.ReferenceIdeal.Step.b80
  rw [← al_75 h, ← al_76 h, ← al_77 h, ← al_78 h, ← al_79 h, h.f_6, h.n_4]
  try rfl

/-! One trip's step of the carried values is `step`, field by field; a counter steps to the next number. -/

theorem step_5 (h : Holds V0 s j) : step_main_v85_5 V0 = (step j s).main_v85_5 := by
  unfold step_main_v85_5 Cert.ReferenceIdeal.Step.step
  show id (addf (mulf (broadcastInDim S2x8x128x256 ![0, 1, 2, 3] bcast_S1x8x1x1_S2x8x128x256_0_1_2_3 (broadcastInDim S1x8x1x1 ![1, 2, 3] bcast_S8x1x1_S1x8x1x1_1_2_3 (broadcastInDim S8x1x1 ![0] bcast_S8_S8x1x1_0 (Host.exp (mulf (broadcastInDim S8 ![] bcast_S_S8 (constant S_ .f32 0x42800000#32)) (V0 (Proc.devRef .tc main_v85_3))))))) (V0 (Proc.devRef .tc main_v85_5))) (Host.dotGeneral dot_S2x64x8x128_S2x64x8x256_S2x8x128x256_1_1_3_3_02_02 none (mulf (res_main_while0b_v118 V0) (broadcastInDim S2x64x8x128 ![0, 1, 2, 3] bcast_S1x64x8x1_S2x64x8x128_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (subf (broadcastInDim S64 ![] bcast_S_S64 (constant S_ .f32 0x427C0000#32)) (res_main_while0b_v120 V0)))) (broadcastInDim S8x64 ![0, 1] bcast_S8x1_S8x64_0_1 (res_main_while0b_v121 V0)))) transposes_S8x64_S64x8_1_0)))) (res_main_while0b_v119 V0))) = _
  rw [al_74 h]
  try rfl
theorem step_6 (h : Holds V0 s j) : step_main_v85_6 V0 = (step j s).main_v85_6 := by
  unfold step_main_v85_6 Cert.ReferenceIdeal.Step.step
  show id (Host.dynamicUpdateSlice (V0 (Proc.devRef .tc main_v85_6)) (broadcastInDim S1x2x64x8x256 ![1, 2, 3, 4] bcast_S2x64x8x256_S1x2x64x8x256_1_2_3_4 (addf (transpose S2x64x8x256 [0, 3, 1, 2] (Host.dotGeneral dot_S2x64x8x256_S2x8x64x64_S2x8x256x64_1_3_3_2_02_01 none (res_main_while0b_v119 V0) (mulf (Host.dotGeneral dot_S2x64x8x128_S2x64x8x128_S2x8x64x64_3_3_1_1_02_02 none (res_main_while0b_v117 V0) (res_main_while0b_v118 V0)) (broadcastInDim S2x8x64x64 ![0, 1, 2, 3] bcast_S1x8x64x64_S2x8x64x64_0_1_2_3 (broadcastInDim S1x8x64x64 ![1, 2, 3] bcast_S8x64x64_S1x8x64x64_1_2_3 (Host.exp (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v120 V0))) (broadcastInDim S64x64 ![0, 1] bcast_S1x64_S64x64_0_1 (broadcastInDim S1x64 ![1] bcast_S64_S1x64_1 (res_main_while0b_v120 V0))))))) (broadcastInDim S8x64x64 ![0, 1, 2] bcast_S8x1x1_S8x64x64_0_1_2 (broadcastInDim S8x1x1 ![0, 1] bcast_S8x1_S8x1x1_0_1 (res_main_while0b_v121 V0))))))))) transposes_S2x8x256x64_S2x64x8x256_0_3_1_2) (mulf (transpose S2x64x8x256 [0, 3, 1, 2] (Host.dotGeneral dot_S2x8x128x256_S2x64x8x128_S2x8x256x64_2_3_3_1_01_02 none (V0 (Proc.devRef .tc main_v85_5)) (res_main_while0b_v117 V0)) transposes_S2x8x256x64_S2x64x8x256_0_3_1_2) (broadcastInDim S2x64x8x256 ![0, 1, 2, 3] bcast_S1x64x8x1_S2x64x8x256_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (addf (res_main_while0b_v120 V0) (broadcastInDim S64 ![] bcast_S_S64 (constant S_ .f32 0x3F800000#32))))) (broadcastInDim S8x64 ![0, 1] bcast_S8x1_S8x64_0_1 (res_main_while0b_v121 V0)))) transposes_S8x64_S64x8_1_0)))))) (fun k => (((![V0 (Proc.devRef .tc main_v85_4), constantI S_ 32 0#32, constantI S_ 32 0#32, constantI S_ 32 0#32, constantI S_ 32 0#32] : Fin 5 → (⟨S_, .i32⟩ : BufTy).Contents (Elt F))) k (Shape.Idx.first h_S_)).toInt) updateFits_S128x2x64x8x256_S1x2x64x8x256) = _
  exact al_80 h
theorem step_4 (h : Holds V0 s j) : step_main_v85_4 V0 = constantI S_ 32 (BitVec.ofNat 32 (j + 1)) := by
  unfold step_main_v85_4
  rw [h.n_4]
  funext i
  show BitVec.ofNat 32 j + 1#32 = BitVec.ofNat 32 (j + 1)
  simp only [BitVec.ofNat_add]

set_option maxRecDepth 8192 in
theorem out_main_v114_holds (h : Holds V0 s j) {x_main_arg0 : (⟨S16384x18432, .f32⟩ : BufTy).Contents (Elt F)} (h_main_arg0 : V0 (Proc.devRef .tc main_arg0) = x_main_arg0) {x_main_arg1 : (⟨S2048, .f32⟩ : BufTy).Contents (Elt F)} (h_main_arg1 : V0 (Proc.devRef .tc main_arg1) = x_main_arg1) : out_main_v114 V0 = Cert.ReferenceIdeal.Step.R_main_v114 s x_main_arg0 x_main_arg1 := by
  unfold out_main_v114 Cert.ReferenceIdeal.Step.R_main_v114
  rw [h.f_6, h_main_arg0, h_main_arg1]
  try rfl

set_option maxRecDepth 8192 in
theorem out_main_v116_holds (h : Holds V0 s j) {x_main_arg2 : (⟨S4x8x128x256, .f32⟩ : BufTy).Contents (Elt F)} (h_main_arg2 : V0 (Proc.devRef .tc main_arg2) = x_main_arg2) : out_main_v116 V0 = Cert.ReferenceIdeal.Step.R_main_v116 s x_main_arg2 := by
  unfold out_main_v116 Cert.ReferenceIdeal.Step.R_main_v116
  rw [h.f_5, h_main_arg2]
  try rfl

/-- One trip keeps the valuation holding: `step` of the state, the same set-up values, the next number. -/
theorem holds_step (h : Holds V0 s j) : Holds (STEP V0) (step j s) (j + 1) where
  f_5 := (STEP_main_v85_5 V0).trans (step_5 h)
  f_6 := (STEP_main_v85_6 V0).trans (step_6 h)
  n_4 := (STEP_main_v85_4 V0).trans (step_4 h)
  k_3 := (STEP_main_v85_3 V0).trans h.k_3
  f_0 := (STEP_main_v85_0 V0).trans h.f_0
  f_1 := (STEP_main_v85_1 V0).trans h.f_1
  f_2 := (STEP_main_v85_2 V0).trans h.f_2

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v114) = Cert.ReferenceIdeal.Step.R_main_v114 (it c 128) (m ((c.tc : Thread nD τ).loc main_arg0)) (m ((c.tc : Thread nD τ).loc main_arg1))
      ∧ r.2.mem ((c.tc : Thread nD τ).loc main_v116) = Cert.ReferenceIdeal.Step.R_main_v116 (it c 128) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 128
    ⟨(h c).1.trans (out_main_v114_holds hk (iter_main_arg0 m c 128) (iter_main_arg1 m c 128)), (h c).2.1.trans (out_main_v116_holds hk (iter_main_arg2 m c 128)), (h c).2.2.1, (h c).2.2.2.1, (h c).2.2.2.2⟩) (Value.run m ρ)

end Cert.ReferenceIdeal.RefRun

end
-- ==== Proof.Scal.lean ====
module

public import Idealize.ShloMosaic.Lib.Pointwise

/-! The numbers both programs' tables hold: the rotation angles and the powers of the decay. -/

@[expose] public section

noncomputable section

namespace Cert.Scal

open Idealize.ShloMosaic

/-- A small integer as a real. -/
def num (n : ℕ) : EReal := FloatOps.sitofp (F := Ideal) FTy.f32 (BitVec.ofNat 32 n)

/-- The angle of position `l` in frequency `f`. -/
def ang (l f : ℕ) : EReal :=
  num l * Ideal.exp (Ideal.div (Ideal.ofBits .f32 3239271822#32 * num f) (Ideal.ofBits .f32 1115684864#32))

/-- The logarithm of head `h`'s decay. -/
def lgam (h : ℕ) : EReal :=
  Ideal.log1p (-Ideal.exp (Ideal.ofBits .f32 1060205080#32 * (Ideal.ofBits .f32 3231711232#32 - num h)))

/-- The decay between rows `i` and `j` of one chunk. -/
def intraT (h i j : ℕ) : EReal := Ideal.exp (FloatOps.absf (F := Ideal) (φ := FTy.f32) (num i - num j) * lgam h)

/-- The decay of the carried state at row `i`. -/
def dinT (h i : ℕ) : EReal := Ideal.exp ((num i + 1) * lgam h)

/-- The decay of row `i`'s contribution to the next state. -/
def dupT (h i : ℕ) : EReal := Ideal.exp ((Ideal.ofBits .f32 1115422720#32 - num i) * lgam h)

/-- The decay of the state over one chunk. -/
def dallT (h : ℕ) : EReal := Ideal.exp (Ideal.ofBits .f32 1115684864#32 * lgam h)

/-- The array row of row `j` of chunk `n` of batch row `b`. -/
def row (b : Fin 2) (n : ℕ) (hn : n < 128) (j : Fin 64) : Fin 16384 := ⟨8192 * b.val + 64 * n + j.val, by omega⟩

/-- The position of row `j` of chunk `n`. -/
def posn (n : ℕ) (hn : n < 128) (j : Fin 64) : Fin 8192 := ⟨64 * n + j.val, by omega⟩

/-- Column `d` of head `h` in a part of the projection that starts at `o`, heads 128 wide. -/
def colQ (o : ℕ) (ho : o ≤ 1024) (h : Fin 8) (d : Fin 128) : Fin 18432 := ⟨o + 128 * h.val + d.val, by omega⟩

/-- … heads 256 wide. -/
def colV (o : ℕ) (ho : o ≤ 4096) (h : Fin 8) (e : Fin 256) : Fin 18432 := ⟨o + 256 * h.val + e.val, by omega⟩

/-- One row of a head turned by the angles of position `l`. -/
def ropeE (x : Fin 128 → EReal) (l : ℕ) (d : Fin 128) : EReal :=
  if h : d.val < 64 then x d * Ideal.cos (ang l d.val) - x ⟨d.val + 64, by omega⟩ * Ideal.sin (ang l d.val)
  else x d * Ideal.cos (ang l (d.val - 64)) + x ⟨d.val - 64, by omega⟩ * Ideal.sin (ang l (d.val - 64))

/-- The projection. -/
abbrev Proj := Fin 16384 → Fin 18432 → EReal

variable (p : Proj)

/-- A query row. -/
def qE (b : Fin 2) (n : ℕ) (hn : n < 128) (h : Fin 8) (j : Fin 64) (d : Fin 128) : EReal :=
  ropeE (fun d' => p (row b n hn j) (colQ 0 (by omega) h d')) (64 * n + j.val) d

/-- A key row. -/
def kE (b : Fin 2) (n : ℕ) (hn : n < 128) (h : Fin 8) (j : Fin 64) (d : Fin 128) : EReal :=
  ropeE (fun d' => p (row b n hn j) (colQ 1024 le_rfl h d')) (64 * n + j.val) d * Ideal.ofBits .f32 1035273459#32

/-- A value row. -/
def vE (b : Fin 2) (n : ℕ) (hn : n < 128) (h : Fin 8) (j : Fin 64) (e : Fin 256) : EReal :=
  p (row b n hn j) (colV 2048 (by omega) h e)

/-- A gate row. -/
def gE (b : Fin 2) (n : ℕ) (hn : n < 128) (h : Fin 8) (j : Fin 64) (e : Fin 256) : EReal :=
  p (row b n hn j) (colV 4096 le_rfl h e)

/-- The state after chunk `n` from the state `s` before it. -/
def stepE (b : Fin 2) (n : ℕ) (hn : n < 128) (h : Fin 8) (s : Fin 128 → Fin 256 → EReal) (d : Fin 128) (e : Fin 256) : EReal :=
  dallT h.val * s d e + ∑ j : Fin 64, kE p b n hn h j d * dupT h.val j.val * vE p b n hn h j e

/-- Row `j` of the chunk's output from the state `s` before it. -/
def outE (b : Fin 2) (n : ℕ) (hn : n < 128) (h : Fin 8) (s : Fin 128 → Fin 256 → EReal) (j : Fin 64) (e : Fin 256) : EReal :=
  (∑ i : Fin 64, (∑ d : Fin 128, qE p b n hn h j d * kE p b n hn h i d) * intraT h.val j.val i.val * vE p b n hn h i e)
    + (∑ d : Fin 128, qE p b n hn h j d * s d e) * dinT h.val j.val

end Cert.Scal

end
-- ==== Proof.RefArr.lean ====
module

public import proofs.«01_k».proof.Proof.RefRun
public import proofs.«01_k».proof.Proof.Scal

/-! The reference's query, key and value arrays over the extended reals, element by element. -/

@[expose] public section

noncomputable section

namespace Cert.ReferenceIdeal.RefVal

open Cert.ReferenceIdeal Cert.ReferenceIdeal.Gen Cert.ReferenceIdeal.Step Idealize.ShloMosaic Idealize.ShloMosaic.TcCoe Idealize.SL Cert.Scal

variable (a0 : (⟨S16384x18432, .f32⟩ : BufTy).Contents (Elt Ideal))

/-- The projection by row and column. -/
def pj : Proj := fun r q => (a0 : Vec Ideal S16384x18432 .f32) (ix2 r q)

/-- Row `l` of batch row `b`. -/
def rowL (b : Fin 2) (l : Fin 8192) : Fin 16384 := ⟨8192 * b.val + l.val, by omega⟩

theorem ix2_eq {n1 n2 : ℕ} {a a' : Fin n1} {b b' : Fin n2} (h1 : a.val = a'.val) (h2 : b.val = b'.val) : ix2 a b = ix2 a' b' := by
  rw [Fin.ext h1, Fin.ext h2]

theorem head_q (b : Fin 2) (l : Fin 8192) (h : Fin 8) (d : Fin 128) :
    (A_main_v6 a0 : Vec Ideal S2x8192x8x128 .f32) (ix4 b l h d) = (pj a0 (rowL b l) (colQ 0 (by omega) h d) : EReal) := by
  pointwise [A_main_v6, A_main_v3, A_main_v2, A_main_v1]
  refine congrArg a0 (ix2_eq ?_ ?_)
  · show b.val * 8192 + l.val = 8192 * b.val + l.val; omega
  · show h.val * 128 + d.val = 0 + 128 * h.val + d.val; omega

theorem head_k (b : Fin 2) (l : Fin 8192) (h : Fin 8) (d : Fin 128) :
    (A_main_v36 a0 : Vec Ideal S2x8192x8x128 .f32) (ix4 b l h d) = (pj a0 (rowL b l) (colQ 1024 le_rfl h d) : EReal) := by
  pointwise [A_main_v36, A_main_v4, A_main_v2, A_main_v1]
  refine congrArg a0 (ix2_eq ?_ ?_)
  · show b.val * 8192 + l.val = 8192 * b.val + l.val; omega
  · show 1024 + (h.val * 128 + d.val) = 1024 + 128 * h.val + d.val; omega

theorem head_v (b : Fin 2) (l : Fin 8192) (h : Fin 8) (e : Fin 256) :
    (A_main_v68 a0 : Vec Ideal S2x8192x8x256 .f32) (ix4 b l h e) = (pj a0 (rowL b l) (colV 2048 (by omega) h e) : EReal) := by
  pointwise [A_main_v68, A_main_v5, A_main_v2, A_main_v1]
  refine congrArg a0 (ix2_eq ?_ ?_)
  · show b.val * 8192 + l.val = 8192 * b.val + l.val; omega
  · show 2048 + (h.val * 256 + e.val) = 2048 + 256 * h.val + e.val; omega

theorem addi_zero (x : BitVec 32) : IntOp.addi (0#32) x = x := BitVec.zero_add x

theorem K_ang (l : Fin 8192) (f : Fin 64) : (K_main_v18 (F := Ideal) : Vec Ideal S8192x64 .f32) (ix2 l f) = (ang l.val f.val : EReal) := by
  pointwise [K_main_v18, K_main_v16, K_main_v17, K_main_v14, K_main_v15, K_main_v13, K_main_v12, K_main_v11, K_main_v9, K_main_v10, K_main_v7, K_main_v8, K_main_v0, K_main_cst, K_main_cst_0]
  rfl

theorem K_cosq (b : Fin 2) (l : Fin 8192) (h : Fin 8) (f : Fin 64) :
    (K_main_v25 (F := Ideal) : Vec Ideal S2x8192x8x64 .f32) (ix4 b l h f) = (Ideal.cos (ang l.val f.val) : EReal) := by
  pointwise [K_main_v25, K_main_v20, K_main_v19]
  rw [K_ang]

theorem K_sinq (b : Fin 2) (l : Fin 8192) (h : Fin 8) (f : Fin 64) :
    (K_main_v27 (F := Ideal) : Vec Ideal S2x8192x8x64 .f32) (ix4 b l h f) = (Ideal.sin (ang l.val f.val) : EReal) := by
  pointwise [K_main_v27, K_main_v22, K_main_v21]
  rw [K_ang]

/-- Two halves side by side. -/
theorem cat_at (x y : Vec Ideal S2x8192x8x64 .f32) (b : Fin 2) (l : Fin 8192) (h : Fin 8) (d : Fin 128) :
    concatenate S2x8192x8x128 3 [⟨S2x8192x8x64, x⟩, ⟨S2x8192x8x64, y⟩] concatenates_S2x8192x8x64_S2x8192x8x64_S2x8192x8x128_d3 (ix4 b l h d)
      = if hd : d.val < 64 then x (ix4 b l h ⟨d.val, hd⟩) else y (ix4 b l h ⟨d.val - 64, by omega⟩) := by
  pointwise

theorem q_lo (b : Fin 2) (l : Fin 8192) (h : Fin 8) (f : Fin 64) :
    (A_main_v29 a0 : Vec Ideal S2x8192x8x64 .f32) (ix4 b l h f)
      = (pj a0 (rowL b l) (colQ 0 (by omega) h ⟨f.val, by omega⟩) * Ideal.cos (ang l.val f.val)
          - pj a0 (rowL b l) (colQ 0 (by omega) h ⟨f.val + 64, by omega⟩) * Ideal.sin (ang l.val f.val) : EReal) := by
  have hc := K_cosq b l h f
  have hs := K_sinq b l h f
  have h1 := head_q a0 b l h ⟨f.val, by omega⟩
  have h2 := head_q a0 b l h ⟨f.val + 64, by omega⟩
  rw [← hc, ← hs, ← h1, ← h2]
  pointwise [A_main_v29, A_main_v26, A_main_v28, A_main_v23, A_main_v24]
  simp only [Nat.add_comm 64]

theorem q_hi (b : Fin 2) (l : Fin 8192) (h : Fin 8) (f : Fin 64) :
    (A_main_v34 a0 : Vec Ideal S2x8192x8x64 .f32) (ix4 b l h f)
      = (pj a0 (rowL b l) (colQ 0 (by omega) h ⟨f.val + 64, by omega⟩) * Ideal.cos (ang l.val f.val)
          + pj a0 (rowL b l) (colQ 0 (by omega) h ⟨f.val, by omega⟩) * Ideal.sin (ang l.val f.val) : EReal) := by
  have hc := K_cosq b l h f
  have hs := K_sinq b l h f
  have h1 := head_q a0 b l h ⟨f.val, by omega⟩
  have h2 := head_q a0 b l h ⟨f.val + 64, by omega⟩
  rw [← hc, ← hs, ← h1, ← h2]
  pointwise [A_main_v34, A_main_v31, A_main_v33, A_main_v23, A_main_v24]
  simp only [Nat.add_comm 64]
  rfl

theorem q_turn (b : Fin 2) (l : Fin 8192) (h : Fin 8) (d : Fin 128) :
    (A_main_v35 a0 : Vec Ideal S2x8192x8x128 .f32) (ix4 b l h d) = ropeE (fun d' => pj a0 (rowL b l) (colQ 0 (by omega) h d')) l.val d := by
  unfold A_main_v35 ropeE
  rw [cat_at]
  by_cases hd : d.val < 64
  · rw [dif_pos hd, dif_pos hd, q_lo]
  · rw [dif_neg hd, dif_neg hd, q_hi]
    have e : (⟨d.val - 64 + 64, by omega⟩ : Fin 128) = d := Fin.ext (by show d.val - 64 + 64 = d.val; omega)
    rw [e]

theorem k0_lo (b : Fin 2) (l : Fin 8192) (h : Fin 8) (f : Fin 64) :
    (A_main_v59 a0 : Vec Ideal S2x8192x8x64 .f32) (ix4 b l h f)
      = (pj a0 (rowL b l) (colQ 1024 le_rfl h ⟨f.val, by omega⟩) * Ideal.cos (ang l.val f.val)
          - pj a0 (rowL b l) (colQ 1024 le_rfl h ⟨f.val + 64, by omega⟩) * Ideal.sin (ang l.val f.val) : EReal) := by
  have hc := K_cosq b l h f
  have hs := K_sinq b l h f
  have h1 := head_k a0 b l h ⟨f.val, by omega⟩
  have h2 := head_k a0 b l h ⟨f.val + 64, by omega⟩
  rw [← hc, ← hs, ← h1, ← h2]
  pointwise [A_main_v59, A_main_v56, A_main_v58, A_main_v53, A_main_v54]
  simp only [Nat.add_comm 64]
  rfl

theorem k0_hi (b : Fin 2) (l : Fin 8192) (h : Fin 8) (f : Fin 64) :
    (A_main_v64 a0 : Vec Ideal S2x8192x8x64 .f32) (ix4 b l h f)
      = (pj a0 (rowL b l) (colQ 1024 le_rfl h ⟨f.val + 64, by omega⟩) * Ideal.cos (ang l.val f.val)
          + pj a0 (rowL b l) (colQ 1024 le_rfl h ⟨f.val, by omega⟩) * Ideal.sin (ang l.val f.val) : EReal) := by
  have hc := K_cosq b l h f
  have hs := K_sinq b l h f
  have h1 := head_k a0 b l h ⟨f.val, by omega⟩
  have h2 := head_k a0 b l h ⟨f.val + 64, by omega⟩
  rw [← hc, ← hs, ← h1, ← h2]
  pointwise [A_main_v64, A_main_v61, A_main_v63, A_main_v53, A_main_v54]
  simp only [Nat.add_comm 64]
  rfl

theorem k0_turn (b : Fin 2) (l : Fin 8192) (h : Fin 8) (d : Fin 128) :
    (A_main_v65 a0 : Vec Ideal S2x8192x8x128 .f32) (ix4 b l h d) = ropeE (fun d' => pj a0 (rowL b l) (colQ 1024 le_rfl h d')) l.val d := by
  unfold A_main_v65 ropeE
  rw [cat_at]
  by_cases hd : d.val < 64
  · rw [dif_pos hd, dif_pos hd, k0_lo]
  · rw [dif_neg hd, dif_neg hd, k0_hi]
    have e : (⟨d.val - 64 + 64, by omega⟩ : Fin 128) = d := Fin.ext (by show d.val - 64 + 64 = d.val; omega)
    rw [e]

theorem k_turn (b : Fin 2) (l : Fin 8192) (h : Fin 8) (d : Fin 128) :
    (A_main_v67 a0 : Vec Ideal S2x8192x8x128 .f32) (ix4 b l h d)
      = ropeE (fun d' => pj a0 (rowL b l) (colQ 1024 le_rfl h d')) l.val d * Ideal.ofBits .f32 1035273459#32 := by
  rw [← k0_turn]
  pointwise [A_main_v67, K_main_v66]
  rfl

end Cert.ReferenceIdeal.RefVal

end
-- ==== Proof.RefChunk.lean ====
module

public import proofs.«01_k».proof.Proof.RefArr

/-! The reference's query, key and value arrays cut into chunks. -/

@[expose] public section

noncomputable section

namespace Cert.ReferenceIdeal.RefVal

open Cert.ReferenceIdeal Cert.ReferenceIdeal.Gen Cert.ReferenceIdeal.Step Idealize.ShloMosaic Idealize.ShloMosaic.TcCoe Idealize.SL Cert.Scal

variable (a0 : (⟨S16384x18432, .f32⟩ : BufTy).Contents (Elt Ideal))

/-- The place of row `j` of chunk `n` in a batch row. -/
def lpos (n : Fin 128) (j : Fin 64) : Fin 8192 := ⟨n.val * 64 + j.val, by omega⟩

theorem cut_q (x : Vec Ideal S2x8192x8x128 .f32) (n : Fin 128) (b : Fin 2) (j : Fin 64) (h : Fin 8) (d : Fin 128) :
    transpose S128x2x64x8x128 [1, 0, 2, 3, 4] (shapeCast S2x128x64x8x128 x shapeCasts_S2x8192x8x128_S2x128x64x8x128)
      transposes_S2x128x64x8x128_S128x2x64x8x128_1_0_2_3_4 (ix5 n b j h d) = x (ix4 b (lpos n j) h d) := by
  pointwise
  rfl

theorem cut_v (x : Vec Ideal S2x8192x8x256 .f32) (n : Fin 128) (b : Fin 2) (j : Fin 64) (h : Fin 8) (d : Fin 256) :
    transpose S128x2x64x8x256 [1, 0, 2, 3, 4] (shapeCast S2x128x64x8x256 x shapeCasts_S2x8192x8x256_S2x128x64x8x256)
      transposes_S2x128x64x8x256_S128x2x64x8x256_1_0_2_3_4 (ix5 n b j h d) = x (ix4 b (lpos n j) h d) := by
  pointwise
  rfl

theorem row_eq (b : Fin 2) (n : Fin 128) (j : Fin 64) : rowL b (lpos n j) = row b n.val n.isLt j :=
  Fin.ext (by show 8192 * b.val + (n.val * 64 + j.val) = 8192 * b.val + 64 * n.val + j.val; omega)

theorem pos_eq (n : Fin 128) (j : Fin 64) : (lpos n j).val = 64 * n.val + j.val := by show n.val * 64 + j.val = 64 * n.val + j.val; omega

/-- THE QUERIES by chunk. -/
theorem q_arr (n : Fin 128) (b : Fin 2) (j : Fin 64) (h : Fin 8) (d : Fin 128) :
    (A_main_v79 a0 : Vec Ideal S128x2x64x8x128 .f32) (ix5 n b j h d) = qE (pj a0) b n.val n.isLt h j d := by
  refine (cut_q (A_main_v35 a0) n b j h d).trans ?_
  rw [q_turn, row_eq, pos_eq]
  rfl

/-- THE KEYS by chunk. -/
theorem k_arr (n : Fin 128) (b : Fin 2) (j : Fin 64) (h : Fin 8) (d : Fin 128) :
    (A_main_v81 a0 : Vec Ideal S128x2x64x8x128 .f32) (ix5 n b j h d) = kE (pj a0) b n.val n.isLt h j d := by
  refine (cut_q (A_main_v67 a0) n b j h d).trans ?_
  rw [k_turn, row_eq, pos_eq]
  rfl

/-- THE VALUES by chunk. -/
theorem v_arr (n : Fin 128) (b : Fin 2) (j : Fin 64) (h : Fin 8) (e : Fin 256) :
    (A_main_v83 a0 : Vec Ideal S128x2x64x8x256 .f32) (ix5 n b j h e) = vE (pj a0) b n.val n.isLt h j e := by
  refine (cut_v (A_main_v68 a0) n b j h e).trans ?_
  rw [head_v, row_eq]
  rfl

end Cert.ReferenceIdeal.RefVal

end
-- ==== Proof.RefVal.lean ====
module

public import proofs.«01_k».proof.Proof.RefChunk

/-! The reference's chunk step over the extended reals, element by element. -/

@[expose] public section

noncomputable section

namespace Cert.ReferenceIdeal.RefVal

open Cert.ReferenceIdeal Cert.ReferenceIdeal.Gen Cert.ReferenceIdeal.Step Idealize.ShloMosaic Idealize.ShloMosaic.TcCoe Idealize.SL Cert.Scal

theorem ix5_eq {n1 n2 n3 n4 n5 : ℕ} {a a' : Fin n1} {b b' : Fin n2} {c c' : Fin n3} {d d' : Fin n4} {e e' : Fin n5}
    (h1 : a.val = a'.val) (h2 : b.val = b'.val) (h3 : c.val = c'.val) (h4 : d.val = d'.val) (h5 : e.val = e'.val) :
    ix5 a b c d e = ix5 a' b' c' d' e' := by
  rw [Fin.ext h1, Fin.ext h2, Fin.ext h3, Fin.ext h4, Fin.ext h5]

theorem toInt_small : ∀ n : ℕ, n < 128 → (BitVec.ofNat 32 n).toInt = n := by decide

/-- Chunk `n` of a chunked array. -/
theorem slice_q (x : Vec Ideal S128x2x64x8x128 .f32) (start : Fin 5 → Int) (n : ℕ) (hn : n < 128) (h0 : start 0 = n) (h1 : start 1 = 0) (h2 : start 2 = 0)
    (h3 : start 3 = 0) (h4 : start 4 = 0) (b : Fin 2) (i : Fin 64) (h : Fin 8) (d : Fin 128) :
    shapeCast S2x64x8x128 (Host.dynamicSlice S1x2x64x8x128 x start sliceFits_S128x2x64x8x128_S1x2x64x8x128) shapeCasts_S1x2x64x8x128_S2x64x8x128 (ix4 b i h d)
      = x (ix5 ⟨n, hn⟩ b i h d) := by
  have c0 := Host.clampedStart_of_le (s := S128x2x64x8x128) (t := S1x2x64x8x128) rfl start 0 n h0 (by show n + 1 ≤ 128; omega)
  have c1 := Host.clampedStart_of_le (s := S128x2x64x8x128) (t := S1x2x64x8x128) rfl start 1 0 h1 (by decide)
  have c2 := Host.clampedStart_of_le (s := S128x2x64x8x128) (t := S1x2x64x8x128) rfl start 2 0 h2 (by decide)
  have c3 := Host.clampedStart_of_le (s := S128x2x64x8x128) (t := S1x2x64x8x128) rfl start 3 0 h3 (by decide)
  have c4 := Host.clampedStart_of_le (s := S128x2x64x8x128) (t := S1x2x64x8x128) rfl start 4 0 h4 (by decide)
  pointwise
  refine congrArg x (ix5_eq ?_ ?_ ?_ ?_ ?_)
  · exact c0
  · exact (congrArg (· + b.val) c1).trans (Nat.zero_add _)
  · exact (congrArg (· + i.val) c2).trans (Nat.zero_add _)
  · exact (congrArg (· + h.val) c3).trans (Nat.zero_add _)
  · exact (congrArg (· + d.val) c4).trans (Nat.zero_add _)

/-- Chunk `n` of a chunked array. -/
theorem slice_v (x : Vec Ideal S128x2x64x8x256 .f32) (start : Fin 5 → Int) (n : ℕ) (hn : n < 128) (h0 : start 0 = n) (h1 : start 1 = 0) (h2 : start 2 = 0)
    (h3 : start 3 = 0) (h4 : start 4 = 0) (b : Fin 2) (i : Fin 64) (h : Fin 8) (d : Fin 256) :
    shapeCast S2x64x8x256 (Host.dynamicSlice S1x2x64x8x256 x start sliceFits_S128x2x64x8x256_S1x2x64x8x256) shapeCasts_S1x2x64x8x256_S2x64x8x256 (ix4 b i h d)
      = x (ix5 ⟨n, hn⟩ b i h d) := by
  have c0 := Host.clampedStart_of_le (s := S128x2x64x8x256) (t := S1x2x64x8x256) rfl start 0 n h0 (by show n + 1 ≤ 128; omega)
  have c1 := Host.clampedStart_of_le (s := S128x2x64x8x256) (t := S1x2x64x8x256) rfl start 1 0 h1 (by decide)
  have c2 := Host.clampedStart_of_le (s := S128x2x64x8x256) (t := S1x2x64x8x256) rfl start 2 0 h2 (by decide)
  have c3 := Host.clampedStart_of_le (s := S128x2x64x8x256) (t := S1x2x64x8x256) rfl start 3 0 h3 (by decide)
  have c4 := Host.clampedStart_of_le (s := S128x2x64x8x256) (t := S1x2x64x8x256) rfl start 4 0 h4 (by decide)
  pointwise
  refine congrArg x (ix5_eq ?_ ?_ ?_ ?_ ?_)
  · exact c0
  · exact (congrArg (· + b.val) c1).trans (Nat.zero_add _)
  · exact (congrArg (· + i.val) c2).trans (Nat.zero_add _)
  · exact (congrArg (· + h.val) c3).trans (Nat.zero_add _)
  · exact (congrArg (· + d.val) c4).trans (Nat.zero_add _)

theorem b5_at (s : State Ideal) (n : ℕ) (hn : n < 128) (b : Fin 2) (i : Fin 64) (h : Fin 8) (d : Fin 128) :
    (b5 n s : Vec Ideal S2x64x8x128 .f32) (ix4 b i h d) = (s.main_v85_0 : Vec Ideal S128x2x64x8x128 .f32) (ix5 ⟨n, hn⟩ b i h d) :=
  slice_q s.main_v85_0 _ n hn (toInt_small n hn) rfl rfl rfl rfl b i h d

theorem b11_at (s : State Ideal) (n : ℕ) (hn : n < 128) (b : Fin 2) (i : Fin 64) (h : Fin 8) (d : Fin 128) :
    (b11 n s : Vec Ideal S2x64x8x128 .f32) (ix4 b i h d) = (s.main_v85_1 : Vec Ideal S128x2x64x8x128 .f32) (ix5 ⟨n, hn⟩ b i h d) :=
  slice_q s.main_v85_1 _ n hn (toInt_small n hn) rfl rfl rfl rfl b i h d

theorem b17_at (s : State Ideal) (n : ℕ) (hn : n < 128) (b : Fin 2) (i : Fin 64) (h : Fin 8) (d : Fin 256) :
    (b17 n s : Vec Ideal S2x64x8x256 .f32) (ix4 b i h d) = (s.main_v85_2 : Vec Ideal S128x2x64x8x256 .f32) (ix5 ⟨n, hn⟩ b i h d) :=
  slice_v s.main_v85_2 _ n hn (toInt_small n hn) rfl rfl rfl rfl b i h d

theorem lg_at (h : Fin 8) : (K_main_v76 (F := Ideal) : Vec Ideal S8 .f32) (ix1 h) = (lgam h.val : EReal) := by
  pointwise [K_main_v76, K_main_v75, K_main_v74, K_main_v73, K_main_v72, K_main_v71, K_main_v70, K_main_v69, K_main_cst_4, K_main_cst_5]
  rfl

theorem b31_at (s : State Ideal) (n : ℕ) (h : Fin 8) (i j : Fin 64) :
    (b31 n s : Vec Ideal S8x64x64 .f32) (ix3 h i j) = (intraT h.val i.val j.val : EReal) := by
  pointwise [b31, b30, b29, b28, b27, b26, b25, b24, b23, b22, b21, b20, b19, b18]
  rw [lg_at]; rfl

theorem b40_at (s : State Ideal) (n : ℕ) (h : Fin 8) (i : Fin 64) :
    (b40 n s : Vec Ideal S64x8 .f32) (ix2 i h) = (dinT h.val i.val : EReal) := by
  pointwise [b40, b39, b38, b37, b36, b35, b34, b33, b32, b19, b18]
  rw [lg_at]
  rfl

theorem b74_at (s : State Ideal) (n : ℕ) (b : Fin 2) (h : Fin 8) (d : Fin 128) (e : Fin 256) :
    (b74 n s : Vec Ideal S2x8x128x256 .f32) (ix4 b h d e)
      = (dallT h.val * (s.main_v85_5 : Vec Ideal S2x8x128x256 .f32) (ix4 b h d e)
        + ∑ x : Fin 64, (b11 n s : Vec Ideal S2x64x8x128 .f32) (ix4 b x h d) * dupT h.val x.val * (b17 n s : Vec Ideal S2x64x8x256 .f32) (ix4 b x h e) : EReal) := by
  pointwise [b74, b69, b73, b68, b67, b66, b72, b71, b70, b49, b53, b52, b51, b50]
  rw [lg_at]
  congr 1

theorem b65_at (s : State Ideal) (n : ℕ) (b : Fin 2) (i : Fin 64) (h : Fin 8) (e : Fin 256) :
    (b65 n s : Vec Ideal S2x64x8x256 .f32) (ix4 b i h e)
      = ((∑ x : Fin 64, (∑ d : Fin 128, (b5 n s : Vec Ideal S2x64x8x128 .f32) (ix4 b i h d) * (b11 n s : Vec Ideal S2x64x8x128 .f32) (ix4 b x h d))
            * intraT h.val i.val x.val * (b17 n s : Vec Ideal S2x64x8x256 .f32) (ix4 b x h e))
          + (∑ d : Fin 128, (b5 n s : Vec Ideal S2x64x8x128 .f32) (ix4 b i h d) * (s.main_v85_5 : Vec Ideal S2x8x128x256 .f32) (ix4 b h d e)) * dinT h.val i.val : EReal) := by
  pointwise [b65, b59, b64, b58, b57, b54, b56, b55, b61, b60, b63, b62]
  rw [b40_at]
  congr 1
  · refine Finset.sum_congr rfl fun x _ => ?_
    rw [b31_at]; exact mul_comm _ _
  · congr 1
    refine Finset.sum_congr rfl fun x _ => ?_
    exact mul_comm _ _

theorem ix4_eq {n1 n2 n3 n4 : ℕ} {a a' : Fin n1} {b b' : Fin n2} {c c' : Fin n3} {d d' : Fin n4}
    (h1 : a.val = a'.val) (h2 : b.val = b'.val) (h3 : c.val = c'.val) (h4 : d.val = d'.val) : ix4 a b c d = ix4 a' b' c' d' := by
  rw [Fin.ext h1, Fin.ext h2, Fin.ext h3, Fin.ext h4]

/-- Chunk `n` of a chunked array written over. -/
theorem update_v (x : Vec Ideal S128x2x64x8x256 .f32) (u : Vec Ideal S2x64x8x256 .f32) (start : Fin 5 → Int) (n : ℕ) (hn : n < 128) (h0 : start 0 = n) (h1 : start 1 = 0)
    (h2 : start 2 = 0) (h3 : start 3 = 0) (h4 : start 4 = 0) (n' : Fin 128) (b : Fin 2) (i : Fin 64) (h : Fin 8) (e : Fin 256) :
    Host.dynamicUpdateSlice x (broadcastInDim S1x2x64x8x256 ![1, 2, 3, 4] bcast_S2x64x8x256_S1x2x64x8x256_1_2_3_4 u) start updateFits_S128x2x64x8x256_S1x2x64x8x256 (ix5 n' b i h e)
      = if n'.val = n then u (ix4 b i h e) else x (ix5 n' b i h e) := by
  have c0 := Host.clampedStart_of_le (s := S128x2x64x8x256) (t := S1x2x64x8x256) rfl start 0 n h0 (by show n + 1 ≤ 128; omega)
  have c1 := Host.clampedStart_of_le (s := S128x2x64x8x256) (t := S1x2x64x8x256) rfl start 1 0 h1 (by decide)
  have c2 := Host.clampedStart_of_le (s := S128x2x64x8x256) (t := S1x2x64x8x256) rfl start 2 0 h2 (by decide)
  have c3 := Host.clampedStart_of_le (s := S128x2x64x8x256) (t := S1x2x64x8x256) rfl start 3 0 h3 (by decide)
  have c4 := Host.clampedStart_of_le (s := S128x2x64x8x256) (t := S1x2x64x8x256) rfl start 4 0 h4 (by decide)
  pointwise
  split_ifs with p q q
  · refine congrArg u (ix4_eq ?_ ?_ ?_ ?_)
    · exact (congrArg (b.val - ·) c1)
    · exact (congrArg (i.val - ·) c2)
    · exact (congrArg (h.val - ·) c3)
    · exact (congrArg (e.val - ·) c4)
  · exact absurd (by have p1 := p.1; rw [c0] at p1; omega) q
  · exact absurd ⟨⟨c0.le.trans q.ge, by rw [c0]; omega⟩, ⟨c1.le.trans (Nat.zero_le _), by rw [c1]; omega⟩, ⟨c2.le.trans (Nat.zero_le _), by rw [c2]; omega⟩, ⟨c3.le.trans (Nat.zero_le _), by rw [c3]; omega⟩, ⟨c4.le.trans (Nat.zero_le _), by rw [c4]; omega⟩⟩ p
  · rfl

theorem b80_at (s : State Ideal) (n : ℕ) (hn : n < 128) (n' : Fin 128) (b : Fin 2) (i : Fin 64) (h : Fin 8) (e : Fin 256) :
    (b80 n s : Vec Ideal S128x2x64x8x256 .f32) (ix5 n' b i h e)
      = (if n'.val = n then (b65 n s : Vec Ideal S2x64x8x256 .f32) (ix4 b i h e)
        else (s.main_v85_6 : Vec Ideal S128x2x64x8x256 .f32) (ix5 n' b i h e) : EReal) :=
  update_v s.main_v85_6 (b65 n s) _ n hn (toInt_small n hn) rfl rfl rfl rfl n' b i h e

end Cert.ReferenceIdeal.RefVal

end
-- ==== Proof.Body.lean ====
module

public import proofs.«01_k».proof.Proof.Gen.KernelIdeal.Skeleton
public import Idealize.ShloMosaic.Lib.Pipeline.Value
public import Idealize.ShloMosaic.Lib.Pipeline.FrameBody

/-! What one point of the retention kernel does, as a recursion over its 32 (chunk, head) pairs: pair `n` is chunk
    `n / 8`, head `n % 8` of the point's four chunks and eight heads. -/

@[expose] public section

noncomputable section

namespace Cert.KernelIdeal.Body

open Cert.KernelIdeal Cert.KernelIdeal.Gen Idealize.ShloMosaic Idealize.ShloMosaic.TcCoe Idealize.SL

variable {F : FTy → Type} [FloatOps F]

/-- The new state of one head after one chunk. -/
def headS (cos sin k : Vec F S64x128 .f32) (v : Vec F S64x256 .f32) (dall : Elt F .f32) (dup : Vec F S1x64x128 .f32)
    (s : Vec F S1x128x256 .f32) : FVec F S1x128x256 .f32 :=
  k0_pay11 (k0_pay5 v) (k0_pay6 cos sin k) (k0_pay8 s) dall dup

/-- The gated output of one head over one chunk. -/
def headO (cos sin q k : Vec F S64x128 .f32) (v : Vec F S64x256 .f32) (intra : Vec F S1x64x64 .f32) (din : Vec F S1x64x256 .f32)
    (gn : Vec F S1x256 .f32) (g : Vec F S64x256 .f32) (s : Vec F S1x128x256 .f32) : FVec F S64x256 .bf16 :=
  k0_pay12 (k0_pay9 cos sin q k v intra) (k0_pay10 cos sin q s) din gn g

/-! The rectangles pair `n` loads and stores through. -/

theorem inb2 (n a b A B : ℕ) (h : a * 64 + 64 ≤ A) (h' : b + n ≤ B) :
    ∀ i : Fin 2, (![a * 64, b] : Fin 2 → ℕ) i + (![64, n] : Fin 2 → ℕ) i ≤ (![A, B] : Fin 2 → ℕ) i := by
  intro i; fin_cases i
  · exact h
  · exact h'

theorem inb3 (h m n : ℕ) (hh : h < 8) :
    ∀ i : Fin 3, (![h, 0, 0] : Fin 3 → ℕ) i + (![1, m, n] : Fin 3 → ℕ) i ≤ (![8, m, n] : Fin 3 → ℕ) i := by
  intro i; fin_cases i
  · show h + 1 ≤ 8; omega
  · show 0 + m ≤ m; omega
  · show 0 + n ≤ n; omega

abbrev rQ (n : Fin 32) : Rect S256x1024 :=
  Rect.unit ![n.val / 8 * 64, n.val % 8 * 128] S64x128.size (inb2 128 _ _ 256 1024 (by omega) (by omega))
abbrev rV (n : Fin 32) : Rect S256x2048 :=
  Rect.unit ![n.val / 8 * 64, n.val % 8 * 256] S64x256.size (inb2 256 _ _ 256 2048 (by omega) (by omega))
abbrev rC (n : Fin 32) : Rect S256x128 :=
  Rect.unit ![n.val / 8 * 64, 0] S64x128.size (inb2 128 _ _ 256 128 (by omega) (by omega))
abbrev rI (n : Fin 32) : Rect S8x64x64 := Rect.unit ![n.val % 8, 0, 0] S1x64x64.size (inb3 _ 64 64 (by omega))
abbrev rD (n : Fin 32) : Rect S8x64x256 := Rect.unit ![n.val % 8, 0, 0] S1x64x256.size (inb3 _ 64 256 (by omega))
abbrev rU (n : Fin 32) : Rect S8x64x128 := Rect.unit ![n.val % 8, 0, 0] S1x64x128.size (inb3 _ 64 128 (by omega))
abbrev rS (n : Fin 32) : Rect S8x128x256 := Rect.unit ![n.val % 8, 0, 0] S1x128x256.size (inb3 _ 128 256 (by omega))
abbrev rA (n : Fin 32) : Rect S8 := Rect.unit ![n.val % 8] S1.size (by intro i; fin_cases i; show n.val % 8 + 1 ≤ 8; omega)
abbrev rG (n : Fin 32) : Rect S1x2048 :=
  Rect.unit ![0, n.val % 8 * 256] S1x256.size (by
    intro i; fin_cases i
    · show 0 + 1 ≤ 1; omega
    · show n.val % 8 * 256 + 256 ≤ 2048; omega)

/-- The input blocks of a point. -/
structure Blocks (F : FTy → Type) [FloatOps F] where
  q : Vec F S256x1024 .f32
  k : Vec F S256x1024 .f32
  v : Vec F S256x2048 .f32
  g : Vec F S256x2048 .f32
  cos : Vec F S256x128 .f32
  sin : Vec F S256x128 .f32
  intra : Vec F S8x64x64 .f32
  din : Vec F S8x64x256 .f32
  dup : Vec F S8x64x128 .f32
  dall : Vec F S8 .f32
  gn : Vec F S1x2048 .f32

variable (x : Blocks F)

/-- Pair `n`'s new state over the state `s` it loads. -/
def stS (n : Fin 32) (s : Vec F S1x128x256 .f32) : FVec F S1x128x256 .f32 :=
  headS (View.ld x.cos (rC n)) (View.ld x.sin (rC n)) (View.ld x.k (rQ n)) (View.ld x.v (rV n))
    (View.ld x.dall (rA n) (Shape.Idx.first (show 0 < S1.numel by rw [numel1_S1]; exact Nat.one_pos))) (View.ld x.dup (rU n)) s

/-- Pair `n`'s output over the state `s` it loads. -/
def stO (n : Fin 32) (s : Vec F S1x128x256 .f32) : FVec F S64x256 .bf16 :=
  headO (View.ld x.cos (rC n)) (View.ld x.sin (rC n)) (View.ld x.q (rQ n)) (View.ld x.k (rQ n)) (View.ld x.v (rV n))
    (View.ld x.intra (rI n)) (View.ld x.din (rD n)) (View.ld x.gn (rG n)) (View.ld x.g (rV n)) s

/-- The pieces the scratch holds after the first `n` pairs, last first, over the pieces `L0` it starts with; `ld` is
    what a pair loads. -/
def Ls (L0 : List (View.Piece (Elt F) S8x128x256 .f32))
    (ld : ℕ → Fin 32 → List (View.Piece (Elt F) S8x128x256 .f32) → Vec F S1x128x256 .f32) (n : ℕ) :
    List (View.Piece (Elt F) S8x128x256 .f32) :=
  Nat.rec L0 (fun n L => if h : n < 32 then ⟨rS ⟨n, h⟩, stS x ⟨n, h⟩ (ld n ⟨n, h⟩ L)⟩ :: L else L) n

/-- The pieces the output block holds after the first `n` pairs. -/
def Lo (L0 : List (View.Piece (Elt F) S8x128x256 .f32))
    (ld : ℕ → Fin 32 → List (View.Piece (Elt F) S8x128x256 .f32) → Vec F S1x128x256 .f32) (n : ℕ) :
    List (View.Piece (Elt F) S256x2048 .bf16) :=
  Nat.rec [] (fun n L => if h : n < 32 then ⟨rV ⟨n, h⟩, stO x ⟨n, h⟩ (ld n ⟨n, h⟩ (Ls x L0 ld n))⟩ :: L else L) n

/-- What a pair loads at a point that resets the scratch: the pieces so far. -/
def ldA (V : View sig .tc .vmem S8x128x256 .f32) (_ : ℕ) (n : Fin 32) (L : List (View.Piece (Elt F) S8x128x256 .f32)) :
    Vec F S1x128x256 .f32 := V.readCov L (rS n).toLoadRect

/-- What a pair loads at another point: in the first chunk the scratch the point before left. -/
def ldB (V : View sig .tc .vmem S8x128x256 .f32) (s0 : Vec F S8x128x256 .f32) (m : ℕ) (n : Fin 32)
    (L : List (View.Piece (Elt F) S8x128x256 .f32)) : Vec F S1x128x256 .f32 :=
  if m < 8 then View.ld s0 (rS n) else V.readCov L (rS n).toLoadRect

end Cert.KernelIdeal.Body

end
-- ==== Proof.KVal.lean ====
module

public import proofs.«01_k».proof.Proof.Body
public import Idealize.ShloMosaic.Lib.Pointwise

/-! One head's chunk over the extended reals, element by element. -/

@[expose] public section

noncomputable section

namespace Cert.KernelIdeal.Body

open Cert.KernelIdeal Cert.KernelIdeal.Gen Idealize.ShloMosaic Idealize.ShloMosaic.TcCoe Idealize.SL

/-- The other half's column. -/
def rot (d : Fin 128) : Fin 128 := ⟨(d.val + 128 - 64) % 128, Nat.mod_lt _ (by decide)⟩

theorem pay6_apply (cos sin k : Vec Ideal S64x128 .f32) (j : Fin 64) (d : Fin 128) :
    k0_pay6 cos sin k (ix2 j d)
      = (k (ix2 j d) * cos (ix2 j d) + k (ix2 j (rot d)) * sin (ix2 j d)) * Ideal.ofBits .f32 1035273459#32 := by
  pointwise [k0_pay6, k0_pay3, k0_pay4]
  rfl

theorem pay7_apply (cos sin k : Vec Ideal S64x128 .f32) (j : Fin 64) (d : Fin 128) :
    k0_pay7 cos sin k (ix2 j d) = k (ix2 j d) * cos (ix2 j d) + k (ix2 j (rot d)) * sin (ix2 j d) := by
  pointwise [k0_pay7, k0_pay3, k0_pay4]
  rfl

/-- THE NEW STATE of one head. -/
theorem headS_apply (cos sin k : Vec Ideal S64x128 .f32) (v : Vec Ideal S64x256 .f32) (dall : Elt Ideal .f32) (dup : Vec Ideal S1x64x128 .f32)
    (s : Vec Ideal S1x128x256 .f32) (d : Fin 128) (e : Fin 256) :
    headS cos sin k v dall dup s (ix3 0 d e)
      = dall * s (ix3 0 d e) + ∑ j : Fin 64, k0_pay6 cos sin k (ix2 j d) * dup (ix3 0 j d) * v (ix2 j e) := by
  unfold headS
  pointwise [k0_pay11, k0_pay5, k0_pay8]

theorem pay9_apply (cos sin q k : Vec Ideal S64x128 .f32) (v : Vec Ideal S64x256 .f32) (intra : Vec Ideal S1x64x64 .f32) (j : Fin 64) (e : Fin 256) :
    k0_pay9 cos sin q k v intra (ix2 j e)
      = ∑ i : Fin 64, (∑ d : Fin 128, k0_pay7 cos sin q (ix2 j d) * k0_pay6 cos sin k (ix2 i d)) * intra (ix3 0 j i) * v (ix2 i e) := by
  pointwise [k0_pay9, k0_pay5]

theorem pay10_apply (cos sin q : Vec Ideal S64x128 .f32) (s : Vec Ideal S1x128x256 .f32) (j : Fin 64) (e : Fin 256) :
    k0_pay10 cos sin q s (ix2 j e) = ∑ d : Fin 128, k0_pay7 cos sin q (ix2 j d) * s (ix3 0 d e) := by
  pointwise [k0_pay10, k0_pay8]

/-- The mean of a row. -/
def rmean (o : Fin 256 → EReal) : EReal := Ideal.div (∑ e : Fin 256, o e) (Ideal.ofBits .f32 1132462080#32)

/-- One row of retention outputs normalised, scaled by the gains and gated. -/
def gated (o g gn : Fin 256 → EReal) (e : Fin 256) : EReal :=
  g e * ((o e - rmean o) * Ideal.rsqrt (rmean (fun x => (o x - rmean o) * (o x - rmean o)) + Ideal.ofBits .f32 897988541#32) * gn e)

/-- THE OUTPUT of one head. -/
theorem headO_apply (cos sin q k : Vec Ideal S64x128 .f32) (v : Vec Ideal S64x256 .f32) (intra : Vec Ideal S1x64x64 .f32) (din : Vec Ideal S1x64x256 .f32)
    (gn : Vec Ideal S1x256 .f32) (g : Vec Ideal S64x256 .f32) (s : Vec Ideal S1x128x256 .f32) (j : Fin 64) (e : Fin 256) :
    headO cos sin q k v intra din gn g s (ix2 j e)
      = gated (fun x => k0_pay9 cos sin q k v intra (ix2 j x) + k0_pay10 cos sin q s (ix2 j x) * din (ix3 0 j x))
          (fun x => g (ix2 j x)) (fun x => gn (ix2 0 x)) e := by
  unfold headO gated rmean
  pointwise [k0_pay12]

theorem pay1_apply (s : Vec Ideal S8x128x256 .f32) (h : Fin 8) (d : Fin 128) (e : Fin 256) :
    k0_pay1 s (ix4 0 h d e) = s (ix3 h d e) := by
  pointwise [k0_pay1]

end Cert.KernelIdeal.Body

end
-- ==== Proof.RefOut.lean ====
module

public import proofs.«01_k».proof.Proof.RefVal
public import proofs.«01_k».proof.Proof.KVal

/-! What the reference's operations after the loop make of the states, element by element. -/

@[expose] public section

noncomputable section

namespace Cert.ReferenceIdeal.RefVal

open Cert.ReferenceIdeal Cert.ReferenceIdeal.Gen Cert.ReferenceIdeal.Step Idealize.ShloMosaic Idealize.ShloMosaic.TcCoe Idealize.SL Cert.Scal
open Cert.KernelIdeal.Body (gated rmean)

variable (a0 : (⟨S16384x18432, .f32⟩ : BufTy).Contents (Elt Ideal))

/-- The states of the loop. -/
def it (a0 : (⟨S16384x18432, .f32⟩ : BufTy).Contents (Elt Ideal)) : ℕ → State Ideal
  | 0 => init a0
  | n + 1 => step n (it a0 n)

theorem it_q (n : ℕ) : (it a0 n).main_v85_0 = A_main_v79 a0 := by
  induction n with
  | zero => rfl
  | succ n ih => exact ih

theorem it_k (n : ℕ) : (it a0 n).main_v85_1 = A_main_v81 a0 := by
  induction n with
  | zero => rfl
  | succ n ih => exact ih

theorem it_v (n : ℕ) : (it a0 n).main_v85_2 = A_main_v83 a0 := by
  induction n with
  | zero => rfl
  | succ n ih => exact ih

/-- A head's state before chunk `n`. -/
def stR (n : ℕ) (b : Fin 2) (h : Fin 8) (d : Fin 128) (e : Fin 256) : EReal :=
  ((it a0 n).main_v85_5 : Vec Ideal S2x8x128x256 .f32) (ix4 b h d e)

theorem stR_zero (b : Fin 2) (h : Fin 8) (d : Fin 128) (e : Fin 256) : stR a0 0 b h d e = 0 := by
  show (K_main_v77 (F := Ideal) : Vec Ideal S2x8x128x256 .f32) (ix4 b h d e) = 0
  pointwise [K_main_v77, K_main_cst_6]

theorem q_it (n : ℕ) (hn : n < 128) (b : Fin 2) (i : Fin 64) (h : Fin 8) (d : Fin 128) :
    (b5 n (it a0 n) : Vec Ideal S2x64x8x128 .f32) (ix4 b i h d) = qE (pj a0) b n hn h i d := by
  rw [b5_at _ n hn, it_q]; exact q_arr a0 ⟨n, hn⟩ b i h d

theorem k_it (n : ℕ) (hn : n < 128) (b : Fin 2) (i : Fin 64) (h : Fin 8) (d : Fin 128) :
    (b11 n (it a0 n) : Vec Ideal S2x64x8x128 .f32) (ix4 b i h d) = kE (pj a0) b n hn h i d := by
  rw [b11_at _ n hn, it_k]; exact k_arr a0 ⟨n, hn⟩ b i h d

theorem v_it (n : ℕ) (hn : n < 128) (b : Fin 2) (i : Fin 64) (h : Fin 8) (e : Fin 256) :
    (b17 n (it a0 n) : Vec Ideal S2x64x8x256 .f32) (ix4 b i h e) = vE (pj a0) b n hn h i e := by
  rw [b17_at _ n hn, it_v]; exact v_arr a0 ⟨n, hn⟩ b i h e

/-- THE STATE'S RECURSION. -/
theorem stR_succ (n : ℕ) (hn : n < 128) (b : Fin 2) (h : Fin 8) (d : Fin 128) (e : Fin 256) :
    stR a0 (n + 1) b h d e = stepE (pj a0) b n hn h (stR a0 n b h) d e := by
  show (b74 n (it a0 n) : Vec Ideal S2x8x128x256 .f32) (ix4 b h d e) = _
  rw [b74_at]
  exact congrArg₂ (· + ·) rfl (Finset.sum_congr rfl fun j _ =>
    congrArg₂ (· * ·) (congrArg₂ (· * ·) (k_it a0 n hn b j h d) rfl) (v_it a0 n hn b j h e))

theorem row_it (n : ℕ) (hn : n < 128) (b : Fin 2) (i : Fin 64) (h : Fin 8) (e : Fin 256) :
    (b65 n (it a0 n) : Vec Ideal S2x64x8x256 .f32) (ix4 b i h e) = outE (pj a0) b n hn h (stR a0 n b h) i e := by
  rw [b65_at]
  refine congrArg₂ (· + ·) (Finset.sum_congr rfl fun x _ => congrArg₂ (· * ·) (congrArg₂ (· * ·) (Finset.sum_congr rfl fun d _ =>
      congrArg₂ (· * ·) (q_it a0 n hn b i h d) (k_it a0 n hn b x h d)) rfl) (v_it a0 n hn b x h e))
    (congrArg₂ (· * ·) (Finset.sum_congr rfl fun d _ => congrArg₂ (· * ·) (q_it a0 n hn b i h d) rfl) rfl)

/-- THE OUTPUT ROWS: a chunk's row stays as its own trip left it. -/
theorem rows_it (n : ℕ) (hn : n ≤ 128) (n' : Fin 128) (hl : n'.val < n) (b : Fin 2) (i : Fin 64) (h : Fin 8) (e : Fin 256) :
    ((it a0 n).main_v85_6 : Vec Ideal S128x2x64x8x256 .f32) (ix5 n' b i h e) = outE (pj a0) b n'.val n'.isLt h (stR a0 n'.val b h) i e := by
  induction n with
  | zero => omega
  | succ n ih =>
    show (b80 n (it a0 n) : Vec Ideal S128x2x64x8x256 .f32) (ix5 n' b i h e) = _
    rw [b80_at _ n (by omega)]
    by_cases hc : n'.val = n
    · rw [if_pos hc]
      subst hc
      exact row_it a0 n'.val n'.isLt b i h e
    · rw [if_neg hc]
      exact ih (by omega) (by omega)

/-- The chunks' rows put back in order. -/
theorem join_v (x : Vec Ideal S128x2x64x8x256 .f32) (b : Fin 2) (l : Fin 8192) (h : Fin 8) (e : Fin 256) :
    shapeCast S2x8192x8x256 (transpose S2x128x64x8x256 [1, 0, 2, 3, 4] x transposes_S128x2x64x8x256_S2x128x64x8x256_1_0_2_3_4)
      shapeCasts_S2x128x64x8x256_S2x8192x8x256 (ix4 b l h e)
      = x (ix5 ⟨l.val / 64, by omega⟩ b ⟨l.val % 64, by omega⟩ h e) := by
  pointwise

/-- The mean of each row, over the row. -/
def meanR (x : FVec Ideal S2x8192x8x256 .f32) : FVec Ideal S2x8192x8x256 .f32 :=
  broadcastInDim S2x8192x8x256 ![0, 1, 2, 3] bcast_S2x8192x8x1_S2x8192x8x256_0_1_2_3 (Host.divf (broadcastInDim S2x8192x8x1 ![0, 1, 2] bcast_S2x8192x8_S2x8192x8x1_0_1_2 (Host.reduceAdd x (constant S_ .f32 0x00000000#32) reducesTo_S2x8192x8x256_S2x8192x8_d3 h_S_)) (broadcastInDim S2x8192x8x1 ![] bcast_S_S2x8192x8x1 (constant S_ .f32 0x43800000#32)))

/-- The rows less their means. -/
def cenR (x : FVec Ideal S2x8192x8x256 .f32) : FVec Ideal S2x8192x8x256 .f32 := subf x (meanR x)

/-- Each row's scale, over the row. -/
def sclR (x : FVec Ideal S2x8192x8x256 .f32) : FVec Ideal S2x8192x8x256 .f32 :=
  broadcastInDim S2x8192x8x256 ![0, 1, 2, 3] bcast_S2x8192x8x1_S2x8192x8x256_0_1_2_3 (Host.rsqrt (addf (Host.divf (broadcastInDim S2x8192x8x1 ![0, 1, 2] bcast_S2x8192x8_S2x8192x8x1_0_1_2 (Host.reduceAdd (mulf (cenR x) (cenR x)) (constant S_ .f32 0x00000000#32) reducesTo_S2x8192x8x256_S2x8192x8_d3 h_S_)) (broadcastInDim S2x8192x8x1 ![] bcast_S_S2x8192x8x1 (constant S_ .f32 0x43800000#32))) (broadcastInDim S2x8192x8x1 ![] bcast_S_S2x8192x8x1 (constant S_ .f32 0x358637BD#32))))

/-- The rows normalised. -/
def nrmR (x : FVec Ideal S2x8192x8x256 .f32) : FVec Ideal S2x8192x8x256 .f32 := mulf (cenR x) (sclR x)

/-- The normalised rows under their gains and gates. -/
def gateR (y : FVec Ideal S2x8192x8x256 .f32) (a0 : FVec Ideal S16384x18432 .f32) (a1 : FVec Ideal S2048 .f32) : FVec Ideal S16384x2048 .bf16 :=
  shapeCast S16384x2048 (truncf .bf16 (mulf (shapeCast S2x8192x2048 (extractStridedSlice S16384x2048 ![0, 4096] a0 slices_S16384x18432_S16384x2048_0_4096) shapeCasts_S16384x2048_S2x8192x2048) (mulf (shapeCast S2x8192x2048 y shapeCasts_S2x8192x8x256_S2x8192x2048) (broadcastInDim S2x8192x2048 ![0, 1, 2] bcast_S1x1x2048_S2x8192x2048_0_1_2 (broadcastInDim S1x1x2048 ![2] bcast_S2048_S1x1x2048_2 a1)))) bitsLt_bf16_f32) shapeCasts_S2x8192x2048_S16384x2048

theorem R_tail (s : State Ideal) (a1 : (⟨S2048, .f32⟩ : BufTy).Contents (Elt Ideal)) :
    R_main_v114 s a0 a1 = gateR (nrmR (shapeCast S2x8192x8x256 (transpose S2x128x64x8x256 [1, 0, 2, 3, 4] s.main_v85_6 transposes_S128x2x64x8x256_S2x128x64x8x256_1_0_2_3_4)
      shapeCasts_S2x128x64x8x256_S2x8192x8x256)) a0 a1 := rfl

theorem mean_at (x : Vec Ideal S2x8192x8x256 .f32) (b : Fin 2) (l : Fin 8192) (h : Fin 8) (e : Fin 256) :
    (meanR x : Vec Ideal S2x8192x8x256 .f32) (ix4 b l h e) = rmean (fun e => x (ix4 b l h e)) := by
  unfold rmean
  pointwise [meanR]

theorem cen_at (x : Vec Ideal S2x8192x8x256 .f32) (b : Fin 2) (l : Fin 8192) (h : Fin 8) (e : Fin 256) :
    (cenR x : Vec Ideal S2x8192x8x256 .f32) (ix4 b l h e) = (x (ix4 b l h e) - rmean (fun e => x (ix4 b l h e)) : EReal) := by
  rw [← mean_at x b l h e]
  pointwise [cenR]

theorem scl_at (x : Vec Ideal S2x8192x8x256 .f32) (b : Fin 2) (l : Fin 8192) (h : Fin 8) (e : Fin 256) :
    (sclR x : Vec Ideal S2x8192x8x256 .f32) (ix4 b l h e)
      = Ideal.rsqrt (rmean (fun e => ((cenR x : Vec Ideal S2x8192x8x256 .f32) (ix4 b l h e) * (cenR x : Vec Ideal S2x8192x8x256 .f32) (ix4 b l h e) : EReal))
          + Ideal.ofBits .f32 897988541#32) := by
  unfold rmean
  pointwise [sclR]

theorem gate_at (y : Vec Ideal S2x8192x8x256 .f32) (a1 : (⟨S2048, .f32⟩ : BufTy).Contents (Elt Ideal)) (b : Fin 2) (l : Fin 8192) (h : Fin 8) (e : Fin 256) :
    (gateR y a0 a1 : Vec Ideal S16384x2048 .bf16) (ix2 (rowL b l) ⟨256 * h.val + e.val, by omega⟩)
      = (pj a0 (rowL b l) (colV 4096 le_rfl h e) * (y (ix4 b l h e) * (a1 : Vec Ideal S2048 .f32) (ix1 ⟨256 * h.val + e.val, by omega⟩)) : EReal) := by
  pointwise [gateR]
  refine congrArg₂ (· * ·) (congrArg a0 (ix2_eq ?_ ?_)) (congrArg₂ (· * ·) (congrArg y (ix4_eq ?_ ?_ ?_ ?_)) (congrArg a1 ?_))
  · rfl
  · show 4096 + (256 * h.val + e.val) = 4096 + 256 * h.val + e.val; omega
  · show (8192 * b.val + l.val) / 8192 = b.val; omega
  · show (8192 * b.val + l.val) % 8192 = l.val; omega
  · rfl
  · rfl
  · rfl

/-- One row normalised under its gain and gate. -/
theorem nrm_gate (x : Vec Ideal S2x8192x8x256 .f32) (a1 : (⟨S2048, .f32⟩ : BufTy).Contents (Elt Ideal)) (b : Fin 2) (l : Fin 8192) (h : Fin 8) (e : Fin 256) :
    (gateR (nrmR x) a0 a1 : Vec Ideal S16384x2048 .bf16) (ix2 (rowL b l) ⟨256 * h.val + e.val, by omega⟩)
      = gated (fun e => x (ix4 b l h e)) (fun e => pj a0 (rowL b l) (colV 4096 le_rfl h e))
          (fun e => (a1 : Vec Ideal S2048 .f32) (ix1 ⟨256 * h.val + e.val, by omega⟩)) e := by
  rw [gate_at]
  have hs := scl_at x b l h e
  have hc : ∀ e, _ := fun e => cen_at x b l h e
  have hm : (nrmR x : Vec Ideal S2x8192x8x256 .f32) (ix4 b l h e)
      = ((cenR x : Vec Ideal S2x8192x8x256 .f32) (ix4 b l h e) * (sclR x : Vec Ideal S2x8192x8x256 .f32) (ix4 b l h e) : EReal) := by
    pointwise [nrmR]
  rw [hm, hs]
  simp only [hc]
  rfl

/-- THE FIRST RESULT, element by element. -/
theorem R_rows (a1 : (⟨S2048, .f32⟩ : BufTy).Contents (Elt Ideal)) (b : Fin 2) (n : Fin 128) (j : Fin 64) (h : Fin 8) (e : Fin 256) :
    (R_main_v114 (it a0 128) a0 a1 : Vec Ideal S16384x2048 .bf16) (ix2 (row b n.val n.isLt j) ⟨256 * h.val + e.val, by omega⟩)
      = gated (outE (pj a0) b n.val n.isLt h (stR a0 n.val b h) j) (gE (pj a0) b n.val n.isLt h j)
          (fun e => (a1 : Vec Ideal S2048 .f32) (ix1 ⟨256 * h.val + e.val, by omega⟩)) e := by
  rw [R_tail, ← row_eq]
  refine (nrm_gate a0 _ a1 b (lpos n j) h e).trans ?_
  have h1 : ∀ x : Fin 256, shapeCast S2x8192x8x256 (transpose S2x128x64x8x256 [1, 0, 2, 3, 4] (it a0 128).main_v85_6 transposes_S128x2x64x8x256_S2x128x64x8x256_1_0_2_3_4)
      shapeCasts_S2x128x64x8x256_S2x8192x8x256 (ix4 b (lpos n j) h x) = outE (pj a0) b n.val n.isLt h (stR a0 n.val b h) j x := fun x => by
    rw [join_v, ← rows_it a0 128 le_rfl n n.isLt]
    refine congrArg _ (ix5_eq ?_ rfl ?_ rfl rfl)
    · show (n.val * 64 + j.val) / 64 = n.val; omega
    · show (n.val * 64 + j.val) % 64 = j.val; omega
  have h2 : ∀ x : Fin 256, pj a0 (rowL b (lpos n j)) (colV 4096 le_rfl h x) = gE (pj a0) b n.val n.isLt h j x := fun x => by rw [row_eq]; rfl
  exact congrFun (congr (congrArg₂ gated (funext h1) (funext h2)) rfl) e

theorem R_state (s : State Ideal) (a2 : (⟨S4x8x128x256, .f32⟩ : BufTy).Contents (Elt Ideal)) (i : Fin 4) (h : Fin 8) (d : Fin 128) (e : Fin 256) :
    (R_main_v116 s a2 : Vec Ideal S4x8x128x256 .f32) (ix4 i h d e)
      = (if hi : i.val < 2 then (a2 : Vec Ideal S4x8x128x256 .f32) (ix4 i h d e)
        else (s.main_v85_5 : Vec Ideal S2x8x128x256 .f32) (ix4 ⟨i.val - 2, by omega⟩ h d e) : EReal) := by
  unfold R_main_v116
  pointwise

end Cert.ReferenceIdeal.RefVal

end
-- ==== Proof.Lists.lean ====
module

public import proofs.«01_k».proof.Proof.Gen.KernelIdeal.Frame.RunC
public import proofs.«01_k».proof.Proof.Body

/-! The pieces the body's run leaves in the scratch and in the output block, case by case, are the recursion's. -/

@[expose] public section

set_option maxRecDepth 65536

noncomputable section

namespace Cert.KernelIdeal.Body

open Cert.KernelIdeal Cert.KernelIdeal.Gen Idealize.ShloMosaic Idealize.ShloMosaic.TcCoe Idealize.SL Idealize.ShloMosaic.Tactic

variable {F : FTy → Type} [FloatOps F]

theorem listS_B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : ¬cond0_0 i) (hc1 : ¬cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (xs0 : Vec F S8x128x256 .f32) :
    (kernelRun0_B c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0).2.2.1 = Ls ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10)⟩ [] (ldB arg16.view (arg16.view.read (Elt F) (harg16.unread xs0))) 32 := by
  set_option maxHeartbeats 4000000 in
  sl_kernel_rfl

theorem listO_B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : ¬cond0_0 i) (hc1 : ¬cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (xs0 : Vec F S8x128x256 .f32) :
    (kernelRun0_B c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0).1 = Lo ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10)⟩ [] (ldB arg16.view (arg16.view.read (Elt F) (harg16.unread xs0))) 32 := by
  set_option maxHeartbeats 4000000 in
  sl_kernel_rfl

theorem listS_C (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : ¬cond0_0 i) (hc1 : cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (xs0 : Vec F S8x128x256 .f32) :
    (kernelRun0_C c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0).2.2.1 = Ls ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10)⟩ [] (ldB arg16.view (arg16.view.read (Elt F) (harg16.unread xs0))) 32 := by
  set_option maxHeartbeats 4000000 in
  sl_kernel_rfl

theorem listO_C (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : ¬cond0_0 i) (hc1 : cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (xs0 : Vec F S8x128x256 .f32) :
    (kernelRun0_C c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0).1 = Lo ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10)⟩ [] (ldB arg16.view (arg16.view.read (Elt F) (harg16.unread xs0))) 32 := by
  set_option maxHeartbeats 4000000 in
  sl_kernel_rfl

theorem listS_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : cond0_0 i) (hc1 : ¬cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) :
    (kernelRun0_A c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10).2.2.1 = Ls ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10)⟩ [⟨Rect.unit ![0, 0, 0] S8x128x256.size inb_S8x128x256_S8x128x256_0_0_0, k0_pay2⟩] (ldA arg16.view) 32 := by
  set_option maxHeartbeats 4000000 in
  sl_kernel_rfl

theorem listO_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : cond0_0 i) (hc1 : ¬cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) :
    (kernelRun0_A c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10).1 = Lo ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10)⟩ [⟨Rect.unit ![0, 0, 0] S8x128x256.size inb_S8x128x256_S8x128x256_0_0_0, k0_pay2⟩] (ldA arg16.view) 32 := by
  set_option maxHeartbeats 4000000 in
  sl_kernel_rfl

theorem listW_C (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : ¬cond0_0 i) (hc1 : cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (xs0 : Vec F S8x128x256 .f32) :
    (kernelRun0_C c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0).2.1 = [⟨Rect.unit ![0, 0, 0, 0] S1x8x128x256.size inb_S1x8x128x256_S1x8x128x256_0_0_0_0, k0_pay1 (arg16.view.readCov (Ls ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10)⟩ [] (ldB arg16.view (arg16.view.read (Elt F) (harg16.unread xs0))) 32) (Rect.unit ![0, 0, 0] S8x128x256.size inb_S8x128x256_S8x128x256_0_0_0).toLoadRect)⟩] := by
  set_option maxHeartbeats 4000000 in
  sl_kernel_rfl

end Cert.KernelIdeal.Body

end
-- ==== Proof.BodyVal.lean ====
module

public import proofs.«01_k».proof.Proof.Body
public import Idealize.ShloMosaic.Lib.Pointwise

/-! The recursion over pairs read back: each head's state after each chunk, the scratch the point leaves, and the
    output block. -/

@[expose] public section

noncomputable section

namespace Cert.KernelIdeal.Body

open Cert.KernelIdeal Cert.KernelIdeal.Gen Idealize.ShloMosaic Idealize.ShloMosaic.TcCoe Idealize.SL

variable {F : FTy → Type} [FloatOps F] (x : Blocks F)

/-- Pair of chunk `cc` and head `h`. -/
def pair (cc : ℕ) (h : Fin 8) (hcc : cc < 4) : Fin 32 := ⟨8 * cc + h.val, by omega⟩

/-- Head `h`'s state after `cc` of the point's chunks, from `s0`. -/
def SH (s0 : Fin 8 → Vec F S1x128x256 .f32) (h : Fin 8) (cc : ℕ) : Vec F S1x128x256 .f32 :=
  Nat.rec (s0 h) (fun cc s => if hc : cc < 4 then stS x (pair cc h hc) s else s) cc

theorem SH_succ (s0 : Fin 8 → Vec F S1x128x256 .f32) (h : Fin 8) (cc : ℕ) (hc : cc < 4) :
    SH x s0 h (cc + 1) = stS x (pair cc h hc) (SH x s0 h cc) := by
  show (if hc : cc < 4 then stS x (pair cc h hc) (SH x s0 h cc) else _) = _
  rw [dif_pos hc]

/-- The head of pair `n`. -/
def hd (n : ℕ) : Fin 8 := ⟨n % 8, Nat.mod_lt _ (by decide)⟩

theorem SH_succ' (s0 : Fin 8 → Vec F S1x128x256 .f32) (n : ℕ) (hn : n < 32) :
    SH x s0 (hd n) (n / 8 + 1) = stS x ⟨n, hn⟩ (SH x s0 (hd n) (n / 8)) := by
  rw [SH_succ x s0 (hd n) (n / 8) (by omega)]
  congr 1
  apply Fin.ext
  show 8 * (n / 8) + n % 8 = n
  omega

variable (L0 : List (View.Piece (Elt F) S8x128x256 .f32))
  (ld : ℕ → Fin 32 → List (View.Piece (Elt F) S8x128x256 .f32) → Vec F S1x128x256 .f32)

theorem Ls_zero : Ls x L0 ld 0 = L0 := rfl

theorem Ls_succ (n : ℕ) (h : n < 32) :
    Ls x L0 ld (n + 1) = ⟨rS ⟨n, h⟩, stS x ⟨n, h⟩ (ld n ⟨n, h⟩ (Ls x L0 ld n))⟩ :: Ls x L0 ld n := by
  show (if h : n < 32 then _ else _) = _
  rw [dif_pos h]; rfl

theorem Lo_succ (n : ℕ) (h : n < 32) :
    Lo x L0 ld (n + 1) = ⟨rV ⟨n, h⟩, stO x ⟨n, h⟩ (ld n ⟨n, h⟩ (Ls x L0 ld n))⟩ :: Lo x L0 ld n := by
  show (if h : n < 32 then _ else _) = _
  rw [dif_pos h]; rfl

/-- Two heads' slices of the scratch are disjoint. -/
theorem rS_disjoint (a b : Fin 32) (h : a.val % 8 ≠ b.val % 8) : Disjoint (rS a).set (rS b).toLoadRect.set := by
  rw [Finset.disjoint_left]
  intro y hy hy'
  have h1 := Rect.mem_set_unit.mp hy 0
  have h2 := Rect.mem_set_unit.mp (show y ∈ (rS b).set from hy') 0
  have e1 : a.val % 8 ≤ (y 0 : ℕ) ∧ (y 0 : ℕ) < a.val % 8 + 1 := h1
  have e2 : b.val % 8 ≤ (y 0 : ℕ) ∧ (y 0 : ℕ) < b.val % 8 + 1 := h2
  omega

/-- A load of one head's slice passes a store into another's. -/
theorem readCov_skip (a b : Fin 32) (h : a.val % 8 ≠ b.val % 8) (V : View sig .tc .vmem S8x128x256 .f32)
    (w : (rS a).shape.Idx → Elt F .f32) (L : List (View.Piece (Elt F) S8x128x256 .f32)) :
    V.readCov (⟨rS a, w⟩ :: L) (rS b).toLoadRect = V.readCov L (rS b).toLoadRect :=
  View.readCov_cons_of_disjoint V ⟨rS a, w⟩ L (rS b).toLoadRect (rS_disjoint a b h)

theorem rS_congr (a b : Fin 32) (h : a.val % 8 = b.val % 8) (V : View sig .tc .vmem S8x128x256 .f32)
    (L : List (View.Piece (Elt F) S8x128x256 .f32)) :
    (V.readCov L (rS a).toLoadRect : Vec F S1x128x256 .f32) = V.readCov L (rS b).toLoadRect := by
  rw [View.readCov_eq_canon', View.readCov_eq_canon']
  funext j
  congr 1
  funext i
  apply Fin.ext
  show (![a.val % 8, 0, 0] : Fin 3 → ℕ) i + 1 * (j i : ℕ) = (![b.val % 8, 0, 0] : Fin 3 → ℕ) i + 1 * (j i : ℕ)
  rw [h]

variable (V : View sig .tc .vmem S8x128x256 .f32) (s0 : Fin 8 → Vec F S1x128x256 .f32)

/-- What pairs load and what the last eight slices of the scratch hold. -/
theorem loads (h0 : ∀ n (h : n < 32), n < 8 → ld n ⟨n, h⟩ (Ls x L0 ld n) = s0 (hd n))
    (h1 : ∀ n (h : n < 32) L, 8 ≤ n → ld n ⟨n, h⟩ L = V.readCov L (rS ⟨n, h⟩).toLoadRect) :
    ∀ n, n ≤ 32 → (∀ h : n < 32, ld n ⟨n, h⟩ (Ls x L0 ld n) = SH x s0 (hd n) (n / 8))
      ∧ ∀ j (hj : j < 32), j < n → n ≤ j + 8 →
        V.readCov (Ls x L0 ld n) (rS ⟨j, hj⟩).toLoadRect = SH x s0 (hd j) (j / 8 + 1) := by
  intro n
  induction n with
  | zero =>
    intro _
    refine ⟨fun h => h0 0 h (by decide), fun j _ hj => absurd hj (by omega)⟩
  | succ n ih =>
    intro hn
    obtain ⟨i1, i2⟩ := ih (by omega)
    have hn' : n < 32 := by omega
    have key : ∀ j (hj : j < 32), j < n + 1 → n + 1 ≤ j + 8 →
        V.readCov (Ls x L0 ld (n + 1)) (rS ⟨j, hj⟩).toLoadRect = SH x s0 (hd j) (j / 8 + 1) := by
      intro j hj hjn hnj
      rw [Ls_succ x L0 ld n hn']
      by_cases e : j = n
      · subst e
        rw [View.readCov_cons_toLoadRect, i1 hn', SH_succ' x s0 j hn']
      · have hne : (⟨n, hn'⟩ : Fin 32).val % 8 ≠ (⟨j, hj⟩ : Fin 32).val % 8 := by
          show n % 8 ≠ j % 8
          omega
        exact (readCov_skip ⟨n, hn'⟩ ⟨j, hj⟩ hne V _ _).trans (i2 j hj (by omega) (by omega))
    refine ⟨fun h => ?_, key⟩
    by_cases h8 : n + 1 < 8
    · rw [h0 (n + 1) h h8]
      have : (n + 1) / 8 = 0 := by omega
      rw [this]; rfl
    · rw [h1 (n + 1) h _ (by omega), rS_congr _ ⟨n + 1 - 8, by omega⟩ (show (n + 1) % 8 = (n + 1 - 8) % 8 by omega),
        key (n + 1 - 8) (by omega) (by omega) (by omega)]
      have e1 : hd (n + 1 - 8) = hd (n + 1) := Fin.ext (show (n + 1 - 8) % 8 = (n + 1) % 8 by omega)
      have e2 : (n + 1 - 8) / 8 + 1 = (n + 1) / 8 := by omega
      rw [e1, e2]

/-- THE SCRATCH the point leaves: each head's state after its four chunks. -/
theorem canon_Ls (h0 : ∀ n (h : n < 32), n < 8 → ld n ⟨n, h⟩ (Ls x L0 ld n) = s0 (hd n))
    (h1 : ∀ n (h : n < 32) L, 8 ≤ n → ld n ⟨n, h⟩ L = V.readCov L (rS ⟨n, h⟩).toLoadRect)
    (h : Fin 8) (d : Fin 128) (e : Fin 256) :
    View.canon (Ls x L0 ld 32) (ix3 h d e : S8x128x256.Idx) = SH x s0 h 4 (ix3 0 d e) := by
  have hk := (loads x L0 ld V s0 h0 h1 32 le_rfl).2 (24 + h.val) (by omega) (by omega) (by omega)
  have e1 : hd (24 + h.val) = h := Fin.ext (show (24 + h.val) % 8 = h.val by omega)
  have e2 : (24 + h.val) / 8 + 1 = 4 := by omega
  rw [e1, e2, View.readCov_eq_canon'] at hk
  rw [← hk]
  show _ = View.canon _ ((rS ⟨24 + h.val, _⟩).toLoadRect.idx (ix3 0 d e : S1x128x256.Idx))
  congr 1
  funext i
  apply Fin.ext
  show ((ix3 h d e : S8x128x256.Idx) i : ℕ) = (![(24 + h.val) % 8, 0, 0] : Fin 3 → ℕ) i + 1 * ((ix3 0 d e : S1x128x256.Idx) i : ℕ)
  fin_cases i
  · show h.val = (24 + h.val) % 8 + 1 * 0; omega
  · show d.val = 0 + 1 * d.val; omega
  · show e.val = 0 + 1 * e.val; omega

theorem rV_disjoint (a b : Fin 32) (h : a ≠ b) (y : S256x2048.Idx) (hy : y ∈ (rV a).set) : y ∉ (rV b).set := by
  intro hy'
  have h1 := Rect.mem_set_unit.mp hy
  have h2 := Rect.mem_set_unit.mp hy'
  have a0 : a.val / 8 * 64 ≤ (y 0 : ℕ) ∧ (y 0 : ℕ) < a.val / 8 * 64 + 64 := h1 0
  have a1 : a.val % 8 * 256 ≤ (y 1 : ℕ) ∧ (y 1 : ℕ) < a.val % 8 * 256 + 256 := h1 1
  have b0 : b.val / 8 * 64 ≤ (y 0 : ℕ) ∧ (y 0 : ℕ) < b.val / 8 * 64 + 64 := h2 0
  have b1 : b.val % 8 * 256 ≤ (y 1 : ℕ) ∧ (y 1 : ℕ) < b.val % 8 * 256 + 256 := h2 1
  exact h (Fin.ext (by omega))

/-- An element of one pair's block is not under another pair's store. -/
theorem canon_skip (a b : Fin 32) (h : a ≠ b) (w : (rV b).shape.Idx → Elt F .bf16)
    (L : List (View.Piece (Elt F) S256x2048 .bf16)) (y : (rV a).shape.Idx) :
    View.canon (⟨rV b, w⟩ :: L) ((rV a).emb y) = View.canon L ((rV a).emb y) :=
  View.canon_cons_of_not_mem ⟨rV b, w⟩ L (rV_disjoint a b h _ ((rV a).idx_mem y))

/-- THE OUTPUT BLOCK the point leaves, pair by pair. -/
theorem canon_Lo (h0 : ∀ n (h : n < 32), n < 8 → ld n ⟨n, h⟩ (Ls x L0 ld n) = s0 (hd n))
    (h1 : ∀ n (h : n < 32) L, 8 ≤ n → ld n ⟨n, h⟩ L = V.readCov L (rS ⟨n, h⟩).toLoadRect) :
    ∀ n, n ≤ 32 → ∀ j (hj : j < 32), j < n → ∀ y : S64x256.Idx,
      View.canon (Lo x L0 ld n) ((rV ⟨j, hj⟩).emb y) = stO x ⟨j, hj⟩ (SH x s0 (hd j) (j / 8)) y := by
  intro n
  induction n with
  | zero => intro _ j _ hj; exact absurd hj (by omega)
  | succ n ih =>
    intro hn j hj hjn y
    have hn' : n < 32 := by omega
    rw [Lo_succ x L0 ld n hn']
    by_cases e : j = n
    · subst e
      rw [View.canon_cons_emb, (loads x L0 ld V s0 h0 h1 j (by omega)).1 hn']
    · have hne : (⟨j, hj⟩ : Fin 32) ≠ ⟨n, hn'⟩ := fun q => e (congrArg Fin.val q)
      exact (canon_skip ⟨j, hj⟩ ⟨n, hn'⟩ hne _ _ y).trans (ih (by omega) j hj (by omega) y)

/-! The two kinds of point. -/

theorem ldB_first (s : Vec F S8x128x256 .f32) (n : ℕ) (h : n < 32) (h8 : n < 8) :
    ldB V s n ⟨n, h⟩ (Ls x [] (ldB V s) n) = (fun hh : Fin 8 => (View.ld s (rS ⟨hh.val, by omega⟩) : Vec F S1x128x256 .f32)) (hd n) := by
  unfold ldB
  rw [if_pos h8]
  have : n % 8 = n := by omega
  dsimp only [hd]
  congr 3
  exact this.symm

theorem ldB_later (s : Vec F S8x128x256 .f32) (n : ℕ) (h : n < 32) (L : List (View.Piece (Elt F) S8x128x256 .f32)) (h8 : 8 ≤ n) :
    ldB V s n ⟨n, h⟩ L = V.readCov L (rS ⟨n, h⟩).toLoadRect := by
  unfold ldB
  rw [if_neg (by omega)]

/-- The piece that clears the scratch. -/
abbrev L0A : List (View.Piece (Elt F) S8x128x256 .f32) :=
  [⟨Rect.unit ![0, 0, 0] S8x128x256.size inb_S8x128x256_S8x128x256_0_0_0, k0_pay2⟩]

theorem ldA_reads (n : ℕ) : n ≤ 8 → ∀ j (hj : j < 32), n ≤ j → j < 8 →
    V.readCov (Ls x (L0A (F := F)) (ldA V) n) (rS ⟨j, hj⟩).toLoadRect = fun _ => FloatOps.ofBits .f32 0x00000000#32 := by
  induction n with
  | zero =>
    intro _ j hj _ _
    rw [Ls_zero, View.readCov_eq_canon']
    funext y
    rw [View.canon_cons_unit_zero (by decide)]
    rfl
  | succ n ih =>
    intro hn j hj hnj hj8
    have hn' : n < 32 := by omega
    have hne : (⟨n, hn'⟩ : Fin 32).val % 8 ≠ (⟨j, hj⟩ : Fin 32).val % 8 := by
      show n % 8 ≠ j % 8
      omega
    rw [Ls_succ x _ _ n hn']
    exact (readCov_skip ⟨n, hn'⟩ ⟨j, hj⟩ hne V _ _).trans (ih (by omega) j hj (by omega) hj8)

theorem ldA_first (n : ℕ) (h : n < 32) (h8 : n < 8) :
    ldA V n ⟨n, h⟩ (Ls x (L0A (F := F)) (ldA V) n) = (fun (_ : Fin 8) (_ : S1x128x256.Idx) => (FloatOps.ofBits .f32 0x00000000#32 : F .f32)) (hd n) :=
  ldA_reads x V n (by omega) n h le_rfl h8

end Cert.KernelIdeal.Body

end
-- ==== Proof.Point.lean ====
module

public import proofs.«01_k».proof.Proof.Lists
public import proofs.«01_k».proof.Proof.BodyVal
public import proofs.«01_k».proof.Proof.Gen.KernelIdeal.Frame

/-! The generated terms of a point's results, read through the recursion over pairs. -/

@[expose] public section

noncomputable section

namespace Cert.KernelIdeal.Body

open Cert.KernelIdeal Cert.KernelIdeal.Gen Idealize.ShloMosaic Idealize.ShloMosaic.TcCoe Idealize.SL

variable {F : FTy → Type} [FloatOps F]

/-- The zero state of every head. -/
abbrev sZ : Fin 8 → Vec F S1x128x256 .f32 := fun _ _ => FloatOps.ofBits .f32 0x00000000#32

/-- Each head's slice of a scratch. -/
abbrev sOf (s : Vec F S8x128x256 .f32) : Fin 8 → Vec F S1x128x256 .f32 := fun hh => View.ld s (rS ⟨hh.val, by omega⟩)

/-- A load of the whole scratch reads what its pieces hold. -/
theorem pay1_whole (V : View sig .tc .vmem S8x128x256 .f32) (L : List (View.Piece (Elt F) S8x128x256 .f32)) :
    k0_pay1 (V.readCov L (Rect.unit ![0, 0, 0] S8x128x256.size inb_S8x128x256_S8x128x256_0_0_0).toLoadRect) = k0_pay1 (View.canon L) := by
  congr 1
  rw [View.readCov_eq_canon']
  funext i
  congr 1
  funext a
  apply Fin.ext
  fin_cases a
  · show 0 + 1 * (i 0 : ℕ) = (i 0 : ℕ); omega
  · show 0 + 1 * (i 1 : ℕ) = (i 1 : ℕ); omega
  · show 0 + 1 * (i 2 : ℕ) = (i 2 : ℕ); omega

theorem sout_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : cond0_0 i) (hc1 : ¬cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (h : Fin 8) (d : Fin 128) (e : Fin 256) :
    sout0_A_0 c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 (ix3 h d e) = SH ⟨x0, x1, x2, x3, x4, x5, x6, x7, x8, x9, x10⟩ sZ h 4 (ix3 0 d e) := by
  unfold sout0_A_0
  rw [View.read_writes_junk_eq_canon, listS_A c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10, harg2.read_unread, harg3.read_unread, harg4.read_unread, harg5.read_unread, harg6.read_unread, harg7.read_unread, harg8.read_unread, harg9.read_unread, harg10.read_unread, harg11.read_unread, harg12.read_unread]
  exact canon_Ls _ _ (ldA arg16.view) arg16.view sZ (fun n h => ldA_first _ _ n h) (fun n h L _ => rfl) h d e

theorem out_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : cond0_0 i) (hc1 : ¬cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (h : Fin 8) (cc : ℕ) (hcc : cc < 4) (y : S64x256.Idx) :
    out0_A_11 c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 ((rV (pair cc h hcc)).emb y) = stO ⟨x0, x1, x2, x3, x4, x5, x6, x7, x8, x9, x10⟩ (pair cc h hcc) (SH ⟨x0, x1, x2, x3, x4, x5, x6, x7, x8, x9, x10⟩ sZ h cc) y := by
  unfold out0_A_11
  rw [View.read_writes_junk_eq_canon, listO_A c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10, harg2.read_unread, harg3.read_unread, harg4.read_unread, harg5.read_unread, harg6.read_unread, harg7.read_unread, harg8.read_unread, harg9.read_unread, harg10.read_unread, harg11.read_unread, harg12.read_unread]
  have hk := canon_Lo ⟨x0, x1, x2, x3, x4, x5, x6, x7, x8, x9, x10⟩ _ (ldA arg16.view) arg16.view sZ (fun n h => ldA_first _ _ n h) (fun n h L _ => rfl) 32 le_rfl (8 * cc + h.val) (by omega) (by omega) y
  have e1 : hd (8 * cc + h.val) = h := Fin.ext (show (8 * cc + h.val) % 8 = h.val by omega)
  have e2 : (8 * cc + h.val) / 8 = cc := by omega
  rw [e1, e2] at hk
  exact hk

theorem sout_B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : ¬cond0_0 i) (hc1 : ¬cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (xs0 : Vec F S8x128x256 .f32) (h : Fin 8) (d : Fin 128) (e : Fin 256) :
    sout0_B_0 c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0 (ix3 h d e) = SH ⟨x0, x1, x2, x3, x4, x5, x6, x7, x8, x9, x10⟩ (sOf xs0) h 4 (ix3 0 d e) := by
  unfold sout0_B_0
  rw [View.read_writes_junk_eq_canon, listS_B c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0, harg2.read_unread, harg3.read_unread, harg4.read_unread, harg5.read_unread, harg6.read_unread, harg7.read_unread, harg8.read_unread, harg9.read_unread, harg10.read_unread, harg11.read_unread, harg12.read_unread, harg16.read_unread]
  exact canon_Ls _ _ (ldB arg16.view xs0) arg16.view (sOf xs0) (fun n h => ldB_first _ _ _ n h) (fun n h L => ldB_later _ _ n h L) h d e

theorem out_B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : ¬cond0_0 i) (hc1 : ¬cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (xs0 : Vec F S8x128x256 .f32) (h : Fin 8) (cc : ℕ) (hcc : cc < 4) (y : S64x256.Idx) :
    out0_B_11 c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0 ((rV (pair cc h hcc)).emb y) = stO ⟨x0, x1, x2, x3, x4, x5, x6, x7, x8, x9, x10⟩ (pair cc h hcc) (SH ⟨x0, x1, x2, x3, x4, x5, x6, x7, x8, x9, x10⟩ (sOf xs0) h cc) y := by
  unfold out0_B_11
  rw [View.read_writes_junk_eq_canon, listO_B c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0, harg2.read_unread, harg3.read_unread, harg4.read_unread, harg5.read_unread, harg6.read_unread, harg7.read_unread, harg8.read_unread, harg9.read_unread, harg10.read_unread, harg11.read_unread, harg12.read_unread, harg16.read_unread]
  have hk := canon_Lo ⟨x0, x1, x2, x3, x4, x5, x6, x7, x8, x9, x10⟩ _ (ldB arg16.view xs0) arg16.view (sOf xs0) (fun n h => ldB_first _ _ _ n h) (fun n h L => ldB_later _ _ n h L) 32 le_rfl (8 * cc + h.val) (by omega) (by omega) y
  have e1 : hd (8 * cc + h.val) = h := Fin.ext (show (8 * cc + h.val) % 8 = h.val by omega)
  have e2 : (8 * cc + h.val) / 8 = cc := by omega
  rw [e1, e2] at hk
  exact hk

theorem sout_C (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : ¬cond0_0 i) (hc1 : cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (xs0 : Vec F S8x128x256 .f32) (h : Fin 8) (d : Fin 128) (e : Fin 256) :
    sout0_C_0 c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0 (ix3 h d e) = SH ⟨x0, x1, x2, x3, x4, x5, x6, x7, x8, x9, x10⟩ (sOf xs0) h 4 (ix3 0 d e) := by
  unfold sout0_C_0
  rw [View.read_writes_junk_eq_canon, listS_C c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0, harg2.read_unread, harg3.read_unread, harg4.read_unread, harg5.read_unread, harg6.read_unread, harg7.read_unread, harg8.read_unread, harg9.read_unread, harg10.read_unread, harg11.read_unread, harg12.read_unread, harg16.read_unread]
  exact canon_Ls _ _ (ldB arg16.view xs0) arg16.view (sOf xs0) (fun n h => ldB_first _ _ _ n h) (fun n h L => ldB_later _ _ n h L) h d e

theorem out_C (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : ¬cond0_0 i) (hc1 : cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (xs0 : Vec F S8x128x256 .f32) (h : Fin 8) (cc : ℕ) (hcc : cc < 4) (y : S64x256.Idx) :
    out0_C_11 c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0 ((rV (pair cc h hcc)).emb y) = stO ⟨x0, x1, x2, x3, x4, x5, x6, x7, x8, x9, x10⟩ (pair cc h hcc) (SH ⟨x0, x1, x2, x3, x4, x5, x6, x7, x8, x9, x10⟩ (sOf xs0) h cc) y := by
  unfold out0_C_11
  rw [View.read_writes_junk_eq_canon, listO_C c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0, harg2.read_unread, harg3.read_unread, harg4.read_unread, harg5.read_unread, harg6.read_unread, harg7.read_unread, harg8.read_unread, harg9.read_unread, harg10.read_unread, harg11.read_unread, harg12.read_unread, harg16.read_unread]
  have hk := canon_Lo ⟨x0, x1, x2, x3, x4, x5, x6, x7, x8, x9, x10⟩ _ (ldB arg16.view xs0) arg16.view (sOf xs0) (fun n h => ldB_first _ _ _ n h) (fun n h L => ldB_later _ _ n h L) 32 le_rfl (8 * cc + h.val) (by omega) (by omega) y
  have e1 : hd (8 * cc + h.val) = h := Fin.ext (show (8 * cc + h.val) % 8 = h.val by omega)
  have e2 : (8 * cc + h.val) / 8 = cc := by omega
  rw [e1, e2] at hk
  exact hk

theorem outW_C (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x256 .f32) (harg9 : arg9.IsWhole) (arg10 : Memref sig .tc .vmem S8x64x128 .f32) (harg10 : arg10.IsWhole) (arg11 : Memref sig .tc .smem S8 .f32) (harg11 : arg11.IsWhole) (arg12 : Memref sig .tc .vmem S1x2048 .f32) (harg12 : arg12.IsWhole) (arg14 : Memref sig .tc .vmem S256x2048 .bf16) (harg14 : arg14.IsWhole) (arg15 : Memref sig .tc .vmem S1x8x128x256 .f32) (harg15 : arg15.IsWhole) (arg16 : Memref sig .tc .vmem S8x128x256 .f32) (harg16 : arg16.IsWhole) (hc0 : ¬cond0_0 i) (hc1 : cond0_1 i)
    (x0 : Vec F S256x1024 .f32) (x1 : Vec F S256x1024 .f32) (x2 : Vec F S256x2048 .f32) (x3 : Vec F S256x2048 .f32) (x4 : Vec F S256x128 .f32) (x5 : Vec F S256x128 .f32) (x6 : Vec F S8x64x64 .f32) (x7 : Vec F S8x64x256 .f32) (x8 : Vec F S8x64x128 .f32) (x9 : Vec F S8 .f32) (x10 : Vec F S1x2048 .f32) (xs0 : Vec F S8x128x256 .f32) :
    out0_C_12 c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0 = k0_pay1 (sout0_C_0 c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0) := by
  have a : out0_C_12 c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0 = k0_pay1 (arg16.view.readCov (Ls ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10)⟩ [] (ldB arg16.view (arg16.view.read (Elt F) (harg16.unread xs0))) 32) (Rect.unit ![0, 0, 0] S8x128x256.size inb_S8x128x256_S8x128x256_0_0_0).toLoadRect) := by
    unfold out0_C_12
    rw [View.read_writes_junk_eq_canon, listW_C c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0]
    exact View.canon_unit_zero (by decide) _ _
  have b : sout0_C_0 c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0 = View.canon (Ls ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10)⟩ [] (ldB arg16.view (arg16.view.read (Elt F) (harg16.unread xs0))) 32) := by
    unfold sout0_C_0
    rw [View.read_writes_junk_eq_canon, listS_C c i arg2 harg2 arg3 harg3 arg4 harg4 arg5 harg5 arg6 harg6 arg7 harg7 arg8 harg8 arg9 harg9 arg10 harg10 arg11 harg11 arg12 harg12 arg14 harg14 arg15 harg15 arg16 harg16 hc0 hc1 x0 x1 x2 x3 x4 x5 x6 x7 x8 x9 x10 xs0]
  rw [a, b]
  exact pay1_whole _ _

end Cert.KernelIdeal.Body

end
-- ==== Proof.Grid.lean ====
module

public import proofs.«01_k».proof.Proof.Point
public import proofs.«01_k».proof.Proof.Gen.KernelIdeal.Value

/-! The points chained: each head's state after every chunk of a batch row, and what every point writes. -/

@[expose] public section

noncomputable section

namespace Cert.KernelIdeal.Body

open Cert.KernelIdeal Cert.KernelIdeal.Gen Cert.KernelIdeal.Value Idealize.ShloMosaic Idealize.ShloMosaic.TcCoe Idealize.SL

variable {F : FTy → Type} [FloatOps F]
variable (m : (ℓ : Loc nD τ sig) → Buf (Elt F) ℓ) (c : Dev nD)

/-- The input blocks of point `t`. -/
def blk (t : Fin cfg0.N) : Blocks F :=
  ⟨iblk m c 0 t, iblk m c 1 t, iblk m c 2 t, iblk m c 3 t, iblk m c 4 t, iblk m c 5 t, iblk m c 6 t, iblk m c 7 t,
    iblk m c 8 t, iblk m c 9 t, iblk m c 10 t⟩

/-- What point `t` leaves in the scratch. -/
def scr (t : Fin cfg0.N) : Vec F S8x128x256 .f32 := (outsAt0 m c t.val t.isLt).2.2

/-- The state each head has before point `t`. -/
def sIn (t : Fin cfg0.N) : Fin 8 → Vec F S1x128x256 .f32 :=
  if t.val % 32 = 0 then sZ else sOf (scr m c ⟨t.val - 1, Nat.lt_of_le_of_lt (Nat.sub_le _ _) t.isLt⟩)

theorem scr_eq (t : Fin cfg0.N) (h : Fin 8) (d : Fin 128) (e : Fin 256) :
    scr m c t (ix3 h d e) = SH (blk m c t) (sIn m c t) h 4 (ix3 0 d e) := by
  unfold scr sIn blk
  by_cases h0 : t.val % 32 = 0
  · have h1 : ¬ t.val % 32 = 31 := by omega
    rw [outsAt0_A m c t h0 h1, if_pos h0]
    dsimp only
    exact sout_A (h := h) (d := d) (e := e) ..
  · by_cases h1 : t.val % 32 = 31
    · rw [outsAt0_C m c t h0 h1, if_neg h0]
      dsimp only
      exact sout_C (h := h) (d := d) (e := e) ..
    · rw [outsAt0_B m c t h0 h1, if_neg h0]
      dsimp only
      exact sout_B (h := h) (d := d) (e := e) ..

theorem out_eq (t : Fin cfg0.N) (h : Fin 8) (cc : ℕ) (hcc : cc < 4) (y : S64x256.Idx) :
    (outsAt0 m c t.val t.isLt).1 ((rV (pair cc h hcc)).emb y)
      = stO (blk m c t) (pair cc h hcc) (SH (blk m c t) (sIn m c t) h cc) y := by
  unfold sIn blk
  by_cases h0 : t.val % 32 = 0
  · have h1 : ¬ t.val % 32 = 31 := by omega
    rw [outsAt0_A m c t h0 h1, if_pos h0]
    dsimp only
    exact out_A (h := h) (cc := cc) (hcc := hcc) (y := y) ..
  · by_cases h1 : t.val % 32 = 31
    · rw [outsAt0_C m c t h0 h1, if_neg h0]
      dsimp only
      exact out_C (h := h) (cc := cc) (hcc := hcc) (y := y) ..
    · rw [outsAt0_B m c t h0 h1, if_neg h0]
      dsimp only
      exact out_B (h := h) (cc := cc) (hcc := hcc) (y := y) ..

theorem outW_eq (t : Fin cfg0.N) (h1 : t.val % 32 = 31) :
    (outsAt0 m c t.val t.isLt).2.1 = k0_pay1 (scr m c t) := by
  have h0 : ¬ t.val % 32 = 0 := by omega
  unfold scr
  rw [outsAt0_C m c t h0 h1]
  dsimp only
  exact outW_C ..

/-- The point of batch row `b` that does chunk `n`. -/
def pt (b : Fin 2) (n : ℕ) (hn : n < 128) : Fin cfg0.N :=
  ⟨32 * b.val + n / 4, by rw [show cfg0.N = 64 from N_0]; omega⟩

/-- Head `h`'s state of batch row `b` after `n` chunks. -/
def kS (b : Fin 2) (h : Fin 8) (n : ℕ) : Vec F S1x128x256 .f32 :=
  Nat.rec (sZ h) (fun n s => if hn : n < 128 then stS (blk m c (pt b n hn)) (pair (n % 4) h (by omega)) s else s) n

theorem kS_zero (b : Fin 2) (h : Fin 8) : kS m c b h 0 = sZ h := rfl

theorem kS_succ (b : Fin 2) (h : Fin 8) (n : ℕ) (hn : n < 128) :
    kS m c b h (n + 1) = stS (blk m c (pt b n hn)) (pair (n % 4) h (by omega)) (kS m c b h n) := by
  show (if hn : n < 128 then _ else _) = _
  rw [dif_pos hn]; rfl

/-- Within a point the chain is the point's own recursion. -/
theorem SH_kS (b : Fin 2) (h : Fin 8) (q : ℕ) (hq : q < 32) (t : Fin cfg0.N) (ht : t.val = 32 * b.val + q)
    (h0 : sIn m c t h = kS m c b h (4 * q)) (cc : ℕ) (hcc : cc ≤ 4) :
    SH (blk m c t) (sIn m c t) h cc = kS m c b h (4 * q + cc) := by
  induction cc with
  | zero => exact h0
  | succ cc ih =>
    have hlt : 4 * q + cc < 128 := by omega
    have ept : pt b (4 * q + cc) hlt = t := Fin.ext (by show 32 * b.val + (4 * q + cc) / 4 = t.val; omega)
    have epr : pair ((4 * q + cc) % 4) h (by omega) = pair cc h (by omega) :=
      Fin.ext (by show 8 * ((4 * q + cc) % 4) + h.val = 8 * cc + h.val; omega)
    rw [SH_succ _ _ _ _ (by omega), ih (by omega), show 4 * q + (cc + 1) = (4 * q + cc) + 1 from rfl,
      kS_succ m c b h _ hlt, ept, epr]

/-- A three-axis index of one head's slice. -/
theorem ix_eta (y : S1x128x256.Idx) : ∃ (d : Fin 128) (e : Fin 256), y = ix3 (0 : Fin 1) d e := by
  refine ⟨y 1, y 2, ?_⟩
  funext a
  apply Fin.ext
  fin_cases a
  · have h1 : (y 0 : ℕ) < 1 := (y 0).isLt
    show (y 0 : ℕ) = 0
    omega
  · rfl
  · rfl

theorem sIn_kS (b : Fin 2) (h : Fin 8) (q : ℕ) : ∀ (hq : q < 32) (t : Fin cfg0.N) (ht : t.val = 32 * b.val + q),
    sIn m c t h = kS m c b h (4 * q) := by
  induction q with
  | zero =>
    intro _ t ht
    unfold sIn
    rw [if_pos (by omega)]
    rfl
  | succ q ih =>
    intro hq t ht
    unfold sIn
    rw [if_neg (by omega)]
    have hp : (⟨t.val - 1, Nat.lt_of_le_of_lt (Nat.sub_le _ _) t.isLt⟩ : Fin cfg0.N).val = 32 * b.val + q := by
      show t.val - 1 = _
      omega
    generalize (⟨t.val - 1, Nat.lt_of_le_of_lt (Nat.sub_le _ _) t.isLt⟩ : Fin cfg0.N) = t' at hp
    have k4 := SH_kS m c b h q (by omega) t' hp (ih (by omega) t' hp) 4 le_rfl
    funext y
    obtain ⟨d, e, rfl⟩ := ix_eta y
    have e1 : (rS ⟨h.val, by omega⟩).idx (ix3 (0 : Fin 1) d e) = (ix3 h d e : S8x128x256.Idx) := by
      funext a
      apply Fin.ext
      fin_cases a
      · show h.val % 8 + 1 * 0 = h.val; omega
      · show 0 + 1 * d.val = d.val; omega
      · show 0 + 1 * e.val = e.val; omega
    show scr m c t' ((rS ⟨h.val, by omega⟩).idx (ix3 (0 : Fin 1) d e)) = _
    rw [e1, scr_eq, k4]
    rfl

/-- THE SCRATCH after a point, of the chain. -/
theorem scr_kS (b : Fin 2) (q : ℕ) (hq : q < 32) (t : Fin cfg0.N) (ht : t.val = 32 * b.val + q) (h : Fin 8) (d : Fin 128) (e : Fin 256) :
    scr m c t (ix3 h d e) = kS m c b h (4 * q + 4) (ix3 0 d e) := by
  rw [scr_eq, SH_kS m c b h q hq t ht (sIn_kS m c b h q hq t ht) 4 le_rfl]

/-- THE OUTPUT BLOCK of a point, of the chain. -/
theorem out_kS (b : Fin 2) (q : ℕ) (hq : q < 32) (t : Fin cfg0.N) (ht : t.val = 32 * b.val + q) (h : Fin 8) (cc : ℕ) (hcc : cc < 4)
    (y : S64x256.Idx) :
    (outsAt0 m c t.val t.isLt).1 ((rV (pair cc h hcc)).emb y)
      = stO (blk m c t) (pair cc h hcc) (kS m c b h (4 * q + cc)) y := by
  rw [out_eq, SH_kS m c b h q hq t ht (sIn_kS m c b h q hq t ht) cc (by omega)]

end Cert.KernelIdeal.Body

end
-- ==== Proof.Tables.lean ====
module

public import proofs.«01_k».proof.Proof.Gen.KernelIdeal.Frame
public import proofs.«01_k».proof.Proof.Scal
public import Idealize.ShloMosaic.Lib.Claim

/-! The tables the kernel's host code makes, element by element. -/

@[expose] public section

noncomputable section

namespace Cert.KernelIdeal.Body

open Cert.KernelIdeal Cert.KernelIdeal.Gen Idealize.ShloMosaic Idealize.ShloMosaic.TcCoe Idealize.SL Cert.Scal

variable (m : (ℓ : Loc nD τ sig) → Buf (Elt Ideal) ℓ) (c : Dev nD)

theorem addi_zero (x : BitVec 32) : IntOp.addi (0#32) x = x := BitVec.zero_add x

theorem V_cos (l : Fin 8192) (d : Fin 128) :
    (V m c main_v18 : Vec Ideal S8192x128 .f32) (ix2 l d) = (Ideal.cos (ang l.val (d.val % 64)) : EReal) := by
  entry_read
  pointwise
  split
  · rw [Nat.mod_eq_of_lt (by assumption)]
    rw [addi_zero]; rfl
  · rw [show d.val % 64 = d.val - 64 by omega]
    rw [addi_zero]; rfl

theorem V_sin (l : Fin 8192) (d : Fin 128) :
    (V m c main_v22 : Vec Ideal S8192x128 .f32) (ix2 l d)
      = ((if d.val < 64 then -Ideal.sin (ang l.val d.val) else Ideal.sin (ang l.val (d.val - 64))) : EReal) := by
  entry_read
  pointwise
  split
  all_goals rw [addi_zero]; rfl

theorem V_intra (h : Fin 8) (i j : Fin 64) :
    (V m c main_v44 : Vec Ideal S8x64x64 .f32) (ix3 h i j) = (intraT h.val i.val j.val : EReal) := by
  entry_read
  pointwise
  rfl

theorem V_din (h : Fin 8) (i : Fin 64) (j : Fin 256) :
    (V m c main_v53 : Vec Ideal S8x64x256 .f32) (ix3 h i j) = (dinT h.val i.val : EReal) := by
  entry_read
  pointwise
  rfl

theorem V_dup (h : Fin 8) (i : Fin 64) (j : Fin 128) :
    (V m c main_v62 : Vec Ideal S8x64x128 .f32) (ix3 h i j) = (dupT h.val i.val : EReal) := by
  entry_read
  pointwise
  rfl

theorem V_dall (h : Fin 8) :
    (V m c main_v65 : Vec Ideal S8 .f32) (ix1 h) = (dallT h.val : EReal) := by
  entry_read
  pointwise
  rfl

theorem V_gn (e : Fin 2048) :
    (V m c main_v0 : Vec Ideal S1x2048 .f32) (ix2 0 e) = (m ((c : Thread nD τ).loc main_arg1) : Vec Ideal S2048 .f32) (ix1 e) := by
  entry_read
  pointwise

end Cert.KernelIdeal.Body

end
-- ==== Proof.Blocks.lean ====
module

public import proofs.«01_k».proof.Proof.Grid
public import proofs.«01_k».proof.Proof.Tables

/-! The blocks a pair loads, element by element in the arrays. -/

@[expose] public section

noncomputable section

namespace Cert.KernelIdeal.Body

open Cert.KernelIdeal Cert.KernelIdeal.Gen Idealize.ShloMosaic Idealize.ShloMosaic.TcCoe Idealize.SL Cert.Scal

variable (m : (ℓ : Loc nD τ sig) → Buf (Elt Ideal) ℓ) (c : Dev nD)

/-- The projection. -/
abbrev prj : Vec Ideal S16384x18432 .f32 := m ((c : Thread nD τ).loc main_arg0)

theorem index_0 : ∀ t : Fin cfg0.N, win0_0.index t 0 = t.val ∧ win0_0.index t 1 = 0 :=
  (by decide +kernel : ∀ t : Fin grid0.N, win0_0.index t 0 = t.val ∧ win0_0.index t 1 = 0)

theorem index_1 : ∀ t : Fin cfg0.N, win0_1.index t 0 = t.val ∧ win0_1.index t 1 = 1 :=
  (by decide +kernel : ∀ t : Fin grid0.N, win0_1.index t 0 = t.val ∧ win0_1.index t 1 = 1)

theorem index_2 : ∀ t : Fin cfg0.N, win0_2.index t 0 = t.val ∧ win0_2.index t 1 = 1 :=
  (by decide +kernel : ∀ t : Fin grid0.N, win0_2.index t 0 = t.val ∧ win0_2.index t 1 = 1)

theorem index_3 : ∀ t : Fin cfg0.N, win0_3.index t 0 = t.val ∧ win0_3.index t 1 = 2 :=
  (by decide +kernel : ∀ t : Fin grid0.N, win0_3.index t 0 = t.val ∧ win0_3.index t 1 = 2)

theorem index_4 : ∀ t : Fin cfg0.N, win0_4.index t 0 = t.val % 32 ∧ win0_4.index t 1 = 0 :=
  (by decide +kernel : ∀ t : Fin grid0.N, win0_4.index t 0 = t.val % 32 ∧ win0_4.index t 1 = 0)

theorem index_5 : ∀ t : Fin cfg0.N, win0_5.index t 0 = t.val % 32 ∧ win0_5.index t 1 = 0 :=
  (by decide +kernel : ∀ t : Fin grid0.N, win0_5.index t 0 = t.val % 32 ∧ win0_5.index t 1 = 0)

theorem index_6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

theorem index_7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)

theorem index_8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)

theorem index_9 : ∀ t : Fin cfg0.N, win0_9.index t 0 = 0 :=
  (by decide +kernel : ∀ t : Fin grid0.N, win0_9.index t 0 = 0)

theorem index_10 : ∀ t : Fin cfg0.N, win0_10.index t 0 = 0 ∧ win0_10.index t 1 = 0 :=
  (by decide +kernel : ∀ t : Fin grid0.N, win0_10.index t 0 = 0 ∧ win0_10.index t 1 = 0)

theorem index_11 : ∀ t : Fin cfg0.N, win0_11.index t 0 = t.val ∧ win0_11.index t 1 = 0 :=
  (by decide +kernel : ∀ t : Fin grid0.N, win0_11.index t 0 = t.val ∧ win0_11.index t 1 = 0)

theorem q_at (b : Fin 2) (n : ℕ) (hn : n < 128) (h : Fin 8) (j : Fin 64) (d : Fin 128) :
    View.ld (blk m c (pt b n hn)).q (rQ (pair (n % 4) h (by omega))) (ix2 j d) = (prj m c (ix2 (row b n hn j) (colQ 0 (by omega) h d)) : EReal) := by
  show iblk m c 0 (pt b n hn) ((rQ (pair (n % 4) h (by omega))).idx (ix2 j d)) = _
  unfold iblk
  rw [View.read_apply]
  refine Eq.trans ?_ (congrFun (V_main_arg0 m c) (ix2 (row b n hn j) (colQ 0 (by omega) h d)))
  show V m c main_arg0 _ = V m c main_arg0 _
  congr 1
  funext a
  apply Fin.ext
  obtain ⟨i0, i1⟩ := index_0 (pt b n hn)
  have hp : (pt b n hn).val = 32 * b.val + n / 4 := rfl
  match a with
  | ⟨0, _⟩ => show win0_0.index (pt b n hn) 0 * 256 + 1 * ((8 * (n % 4) + h.val) / 8 * 64 + 1 * j.val) = 8192 * b.val + 64 * n + j.val; rw [i0]; omega
  | ⟨1, _⟩ => show win0_0.index (pt b n hn) 1 * 1024 + 1 * ((8 * (n % 4) + h.val) % 8 * 128 + 1 * d.val) = 0 + 128 * h.val + d.val; rw [i1]; omega

theorem k_at (b : Fin 2) (n : ℕ) (hn : n < 128) (h : Fin 8) (j : Fin 64) (d : Fin 128) :
    View.ld (blk m c (pt b n hn)).k (rQ (pair (n % 4) h (by omega))) (ix2 j d) = (prj m c (ix2 (row b n hn j) (colQ 1024 le_rfl h d)) : EReal) := by
  show iblk m c 1 (pt b n hn) ((rQ (pair (n % 4) h (by omega))).idx (ix2 j d)) = _
  unfold iblk
  rw [View.read_apply]
  refine Eq.trans ?_ (congrFun (V_main_arg0 m c) (ix2 (row b n hn j) (colQ 1024 le_rfl h d)))
  show V m c main_arg0 _ = V m c main_arg0 _
  congr 1
  funext a
  apply Fin.ext
  obtain ⟨i0, i1⟩ := index_1 (pt b n hn)
  have hp : (pt b n hn).val = 32 * b.val + n / 4 := rfl
  match a with
  | ⟨0, _⟩ => show win0_1.index (pt b n hn) 0 * 256 + 1 * ((8 * (n % 4) + h.val) / 8 * 64 + 1 * j.val) = 8192 * b.val + 64 * n + j.val; rw [i0]; omega
  | ⟨1, _⟩ => show win0_1.index (pt b n hn) 1 * 1024 + 1 * ((8 * (n % 4) + h.val) % 8 * 128 + 1 * d.val) = 1024 + 128 * h.val + d.val; rw [i1]; omega

theorem v_at (b : Fin 2) (n : ℕ) (hn : n < 128) (h : Fin 8) (j : Fin 64) (e : Fin 256) :
    View.ld (blk m c (pt b n hn)).v (rV (pair (n % 4) h (by omega))) (ix2 j e) = (prj m c (ix2 (row b n hn j) (colV 2048 (by omega) h e)) : EReal) := by
  show iblk m c 2 (pt b n hn) ((rV (pair (n % 4) h (by omega))).idx (ix2 j e)) = _
  unfold iblk
  rw [View.read_apply]
  refine Eq.trans ?_ (congrFun (V_main_arg0 m c) (ix2 (row b n hn j) (colV 2048 (by omega) h e)))
  show V m c main_arg0 _ = V m c main_arg0 _
  congr 1
  funext a
  apply Fin.ext
  obtain ⟨i0, i1⟩ := index_2 (pt b n hn)
  have hp : (pt b n hn).val = 32 * b.val + n / 4 := rfl
  match a with
  | ⟨0, _⟩ => show win0_2.index (pt b n hn) 0 * 256 + 1 * ((8 * (n % 4) + h.val) / 8 * 64 + 1 * j.val) = 8192 * b.val + 64 * n + j.val; rw [i0]; omega
  | ⟨1, _⟩ => show win0_2.index (pt b n hn) 1 * 2048 + 1 * ((8 * (n % 4) + h.val) % 8 * 256 + 1 * e.val) = 2048 + 256 * h.val + e.val; rw [i1]; omega

theorem g_at (b : Fin 2) (n : ℕ) (hn : n < 128) (h : Fin 8) (j : Fin 64) (e : Fin 256) :
    View.ld (blk m c (pt b n hn)).g (rV (pair (n % 4) h (by omega))) (ix2 j e) = (prj m c (ix2 (row b n hn j) (colV 4096 le_rfl h e)) : EReal) := by
  show iblk m c 3 (pt b n hn) ((rV (pair (n % 4) h (by omega))).idx (ix2 j e)) = _
  unfold iblk
  rw [View.read_apply]
  refine Eq.trans ?_ (congrFun (V_main_arg0 m c) (ix2 (row b n hn j) (colV 4096 le_rfl h e)))
  show V m c main_arg0 _ = V m c main_arg0 _
  congr 1
  funext a
  apply Fin.ext
  obtain ⟨i0, i1⟩ := index_3 (pt b n hn)
  have hp : (pt b n hn).val = 32 * b.val + n / 4 := rfl
  match a with
  | ⟨0, _⟩ => show win0_3.index (pt b n hn) 0 * 256 + 1 * ((8 * (n % 4) + h.val) / 8 * 64 + 1 * j.val) = 8192 * b.val + 64 * n + j.val; rw [i0]; omega
  | ⟨1, _⟩ => show win0_3.index (pt b n hn) 1 * 2048 + 1 * ((8 * (n % 4) + h.val) % 8 * 256 + 1 * e.val) = 4096 + 256 * h.val + e.val; rw [i1]; omega

theorem cos_at (b : Fin 2) (n : ℕ) (hn : n < 128) (h : Fin 8) (j : Fin 64) (d : Fin 128) :
    View.ld (blk m c (pt b n hn)).cos (rC (pair (n % 4) h (by omega))) (ix2 j d) = (Ideal.cos (ang (64 * n + j.val) (d.val % 64)) : EReal) := by
  show iblk m c 4 (pt b n hn) ((rC (pair (n % 4) h (by omega))).idx (ix2 j d)) = _
  unfold iblk
  rw [View.read_apply]
  refine Eq.trans ?_ (V_cos m c (posn n hn j) d)
  show V m c main_v18 _ = V m c main_v18 _
  congr 1
  funext a
  apply Fin.ext
  obtain ⟨i0, i1⟩ := index_4 (pt b n hn)
  have hp : (pt b n hn).val = 32 * b.val + n / 4 := rfl
  match a with
  | ⟨0, _⟩ => show win0_4.index (pt b n hn) 0 * 256 + 1 * ((8 * (n % 4) + h.val) / 8 * 64 + 1 * j.val) = 64 * n + j.val; rw [i0]; omega
  | ⟨1, _⟩ => show win0_4.index (pt b n hn) 1 * 128 + 1 * (0 + 1 * d.val) = d.val; rw [i1]; omega

theorem sin_at (b : Fin 2) (n : ℕ) (hn : n < 128) (h : Fin 8) (j : Fin 64) (d : Fin 128) :
    View.ld (blk m c (pt b n hn)).sin (rC (pair (n % 4) h (by omega))) (ix2 j d) = (if d.val < 64 then -Ideal.sin (ang (64 * n + j.val) d.val) else Ideal.sin (ang (64 * n + j.val) (d.val - 64)) : EReal) := by
  show iblk m c 5 (pt b n hn) ((rC (pair (n % 4) h (by omega))).idx (ix2 j d)) = _
  unfold iblk
  rw [View.read_apply]
  refine Eq.trans ?_ (V_sin m c (posn n hn j) d)
  show V m c main_v22 _ = V m c main_v22 _
  congr 1
  funext a
  apply Fin.ext
  obtain ⟨i0, i1⟩ := index_5 (pt b n hn)
  have hp : (pt b n hn).val = 32 * b.val + n / 4 := rfl
  match a with
  | ⟨0, _⟩ => show win0_5.index (pt b n hn) 0 * 256 + 1 * ((8 * (n % 4) + h.val) / 8 * 64 + 1 * j.val) = 64 * n + j.val; rw [i0]; omega
  | ⟨1, _⟩ => show win0_5.index (pt b n hn) 1 * 128 + 1 * (0 + 1 * d.val) = d.val; rw [i1]; omega

theorem intra_at (b : Fin 2) (n : ℕ) (hn : n < 128) (h : Fin 8) (j i : Fin 64) :
    View.ld (blk m c (pt b n hn)).intra (rI (pair (n % 4) h (by omega))) (ix3 0 j i) = (intraT h.val j.val i.val : EReal) := by
  show iblk m c 6 (pt b n hn) ((rI (pair (n % 4) h (by omega))).idx (ix3 0 j i)) = _
  unfold iblk
  rw [View.read_apply]
  refine Eq.trans ?_ (V_intra m c h j i)
  show V m c main_v44 _ = V m c main_v44 _
  congr 1
  funext a
  apply Fin.ext
  obtain ⟨i0, i1, i2⟩ := index_6 (pt b n hn)
  have hp : (pt b n hn).val = 32 * b.val + n / 4 := rfl
  match a with
  | ⟨0, _⟩ => show win0_6.index (pt b n hn) 0 * 8 + 1 * ((8 * (n % 4) + h.val) % 8 + 1 * 0) = h.val; rw [i0]; omega
  | ⟨1, _⟩ => show win0_6.index (pt b n hn) 1 * 64 + 1 * (0 + 1 * j.val) = j.val; rw [i1]; omega
  | ⟨2, _⟩ => show win0_6.index (pt b n hn) 2 * 64 + 1 * (0 + 1 * i.val) = i.val; rw [i2]; omega

theorem din_at (b : Fin 2) (n : ℕ) (hn : n < 128) (h : Fin 8) (j : Fin 64) (e : Fin 256) :
    View.ld (blk m c (pt b n hn)).din (rD (pair (n % 4) h (by omega))) (ix3 0 j e) = (dinT h.val j.val : EReal) := by
  show iblk m c 7 (pt b n hn) ((rD (pair (n % 4) h (by omega))).idx (ix3 0 j e)) = _
  unfold iblk
  rw [View.read_apply]
  refine Eq.trans ?_ (V_din m c h j e)
  show V m c main_v53 _ = V m c main_v53 _
  congr 1
  funext a
  apply Fin.ext
  obtain ⟨i0, i1, i2⟩ := index_7 (pt b n hn)
  have hp : (pt b n hn).val = 32 * b.val + n / 4 := rfl
  match a with
  | ⟨0, _⟩ => show win0_7.index (pt b n hn) 0 * 8 + 1 * ((8 * (n % 4) + h.val) % 8 + 1 * 0) = h.val; rw [i0]; omega
  | ⟨1, _⟩ => show win0_7.index (pt b n hn) 1 * 64 + 1 * (0 + 1 * j.val) = j.val; rw [i1]; omega
  | ⟨2, _⟩ => show win0_7.index (pt b n hn) 2 * 256 + 1 * (0 + 1 * e.val) = e.val; rw [i2]; omega

theorem dup_at (b : Fin 2) (n : ℕ) (hn : n < 128) (h : Fin 8) (j : Fin 64) (d : Fin 128) :
    View.ld (blk m c (pt b n hn)).dup (rU (pair (n % 4) h (by omega))) (ix3 0 j d) = (dupT h.val j.val : EReal) := by
  show iblk m c 8 (pt b n hn) ((rU (pair (n % 4) h (by omega))).idx (ix3 0 j d)) = _
  unfold iblk
  rw [View.read_apply]
  refine Eq.trans ?_ (V_dup m c h j d)
  show V m c main_v62 _ = V m c main_v62 _
  congr 1
  funext a
  apply Fin.ext
  obtain ⟨i0, i1, i2⟩ := index_8 (pt b n hn)
  have hp : (pt b n hn).val = 32 * b.val + n / 4 := rfl
  match a with
  | ⟨0, _⟩ => show win0_8.index (pt b n hn) 0 * 8 + 1 * ((8 * (n % 4) + h.val) % 8 + 1 * 0) = h.val; rw [i0]; omega
  | ⟨1, _⟩ => show win0_8.index (pt b n hn) 1 * 64 + 1 * (0 + 1 * j.val) = j.val; rw [i1]; omega
  | ⟨2, _⟩ => show win0_8.index (pt b n hn) 2 * 128 + 1 * (0 + 1 * d.val) = d.val; rw [i2]; omega

theorem dall_at (b : Fin 2) (n : ℕ) (hn : n < 128) (h : Fin 8)  :
    View.ld (blk m c (pt b n hn)).dall (rA (pair (n % 4) h (by omega))) (Shape.Idx.first (show 0 < S1.numel by rw [numel1_S1]; exact Nat.one_pos)) = (dallT h.val : EReal) := by
  show iblk m c 9 (pt b n hn) ((rA (pair (n % 4) h (by omega))).idx (Shape.Idx.first (show 0 < S1.numel by rw [numel1_S1]; exact Nat.one_pos))) = _
  unfold iblk
  rw [View.read_apply]
  refine Eq.trans ?_ (V_dall m c h)
  show V m c main_v65 _ = V m c main_v65 _
  congr 1
  funext a
  apply Fin.ext
  have i0 := index_9 (pt b n hn)
  have hp : (pt b n hn).val = 32 * b.val + n / 4 := rfl
  match a with
  | ⟨0, _⟩ => show win0_9.index (pt b n hn) 0 * 8 + 1 * ((8 * (n % 4) + h.val) % 8 + 1 * 0) = h.val; rw [i0]; omega

theorem gn_at (b : Fin 2) (n : ℕ) (hn : n < 128) (h : Fin 8) (e : Fin 256) :
    View.ld (blk m c (pt b n hn)).gn (rG (pair (n % 4) h (by omega))) (ix2 0 e) = ((m ((c : Thread nD τ).loc main_arg1) : Vec Ideal S2048 .f32) (ix1 ⟨256 * h.val + e.val, by omega⟩) : EReal) := by
  show iblk m c 10 (pt b n hn) ((rG (pair (n % 4) h (by omega))).idx (ix2 0 e)) = _
  unfold iblk
  rw [View.read_apply]
  refine Eq.trans ?_ (V_gn m c ⟨256 * h.val + e.val, by omega⟩)
  show V m c main_v0 _ = V m c main_v0 _
  congr 1
  funext a
  apply Fin.ext
  obtain ⟨i0, i1⟩ := index_10 (pt b n hn)
  have hp : (pt b n hn).val = 32 * b.val + n / 4 := rfl
  match a with
  | ⟨0, _⟩ => show win0_10.index (pt b n hn) 0 * 1 + 1 * (0 + 1 * 0) = 0; rw [i0]
  | ⟨1, _⟩ => show win0_10.index (pt b n hn) 1 * 2048 + 1 * ((8 * (n % 4) + h.val) % 8 * 256 + 1 * e.val) = 256 * h.val + e.val; rw [i1]; omega

end Cert.KernelIdeal.Body

end
-- ==== Proof.KState.lean ====
module

public import proofs.«01_k».proof.Proof.KVal
public import proofs.«01_k».proof.Proof.Blocks
public import proofs.«01_k».proof.Proof.Grid

/-! The kernel's head states and outputs, in the projection's elements. -/

@[expose] public section

noncomputable section

namespace Cert.KernelIdeal.Body

open Cert.KernelIdeal Cert.KernelIdeal.Gen Idealize.ShloMosaic Idealize.ShloMosaic.TcCoe Idealize.SL Cert.Scal

/-- Both ways of writing the turn agree. -/
theorem rope_eq (x : Fin 128 → EReal) (l : ℕ) (d : Fin 128) :
    x d * Ideal.cos (ang l (d.val % 64)) + x (rot d) * (if d.val < 64 then -Ideal.sin (ang l d.val) else Ideal.sin (ang l (d.val - 64)))
      = ropeE x l d := by
  unfold ropeE
  by_cases h : d.val < 64
  · rw [dif_pos h, if_pos h, Nat.mod_eq_of_lt h, show rot d = ⟨d.val + 64, by omega⟩ from Fin.ext (by show (d.val + 128 - 64) % 128 = d.val + 64; omega)]
    rw [mul_neg, sub_eq_add_neg]
  · rw [dif_neg h, if_neg h, show d.val % 64 = d.val - 64 by omega,
      show rot d = ⟨d.val - 64, by omega⟩ from Fin.ext (by show (d.val + 128 - 64) % 128 = d.val - 64; omega)]

variable (m : (ℓ : Loc nD τ sig) → Buf (Elt Ideal) ℓ) (c : Dev nD)

/-- The projection by row and column. -/
def pj : Proj := fun r q => prj m c (ix2 r q)

theorem key_at (b : Fin 2) (n : ℕ) (hn : n < 128) (h : Fin 8) (j : Fin 64) (d : Fin 128) :
    k0_pay6 (View.ld (blk m c (pt b n hn)).cos (rC (pair (n % 4) h (by omega)))) (View.ld (blk m c (pt b n hn)).sin (rC (pair (n % 4) h (by omega))))
      (View.ld (blk m c (pt b n hn)).k (rQ (pair (n % 4) h (by omega)))) (ix2 j d) = kE (pj m c) b n hn h j d := by
  rw [pay6_apply, cos_at, sin_at, k_at, k_at]
  unfold kE
  rw [← rope_eq]; rfl

theorem query_at (b : Fin 2) (n : ℕ) (hn : n < 128) (h : Fin 8) (j : Fin 64) (d : Fin 128) :
    k0_pay7 (View.ld (blk m c (pt b n hn)).cos (rC (pair (n % 4) h (by omega)))) (View.ld (blk m c (pt b n hn)).sin (rC (pair (n % 4) h (by omega))))
      (View.ld (blk m c (pt b n hn)).q (rQ (pair (n % 4) h (by omega)))) (ix2 j d) = qE (pj m c) b n hn h j d := by
  rw [pay7_apply, cos_at, sin_at, q_at, q_at]
  unfold qE
  rw [← rope_eq]; rfl

theorem state_step (b : Fin 2) (h : Fin 8) (n : ℕ) (hn : n < 128) (d : Fin 128) (e : Fin 256) :
    kS m c b h (n + 1) (ix3 0 d e) = stepE (pj m c) b n hn h (fun d e => kS m c b h n (ix3 0 d e)) d e := by
  rw [kS_succ m c b h n hn]
  refine (headS_apply _ _ _ _ _ _ _ d e).trans ?_
  exact congrArg₂ (· + ·) (congrArg₂ (· * ·) (dall_at m c b n hn h) rfl)
    (Finset.sum_congr rfl fun j _ =>
      congrArg₂ (· * ·) (congrArg₂ (· * ·) (key_at m c b n hn h j d) (dup_at m c b n hn h j d)) (v_at m c b n hn h j e))

theorem intra_out (b : Fin 2) (h : Fin 8) (n : ℕ) (hn : n < 128) (j : Fin 64) (e : Fin 256) :
    k0_pay9 (View.ld (blk m c (pt b n hn)).cos (rC (pair (n % 4) h (by omega)))) (View.ld (blk m c (pt b n hn)).sin (rC (pair (n % 4) h (by omega))))
      (View.ld (blk m c (pt b n hn)).q (rQ (pair (n % 4) h (by omega)))) (View.ld (blk m c (pt b n hn)).k (rQ (pair (n % 4) h (by omega))))
      (View.ld (blk m c (pt b n hn)).v (rV (pair (n % 4) h (by omega)))) (View.ld (blk m c (pt b n hn)).intra (rI (pair (n % 4) h (by omega)))) (ix2 j e)
      = ∑ i : Fin 64, (∑ d : Fin 128, qE (pj m c) b n hn h j d * kE (pj m c) b n hn h i d) * intraT h.val j.val i.val * vE (pj m c) b n hn h i e :=
  (pay9_apply _ _ _ _ _ _ j e).trans
    (Finset.sum_congr rfl fun i _ => congrArg₂ (· * ·)
      (congrArg₂ (· * ·) (Finset.sum_congr rfl fun d _ => congrArg₂ (· * ·) (query_at m c b n hn h j d) (key_at m c b n hn h i d))
        (intra_at m c b n hn h j i)) (v_at m c b n hn h i e))

theorem carry_out (b : Fin 2) (h : Fin 8) (n : ℕ) (hn : n < 128) (s : Vec Ideal S1x128x256 .f32) (j : Fin 64) (e : Fin 256) :
    k0_pay10 (View.ld (blk m c (pt b n hn)).cos (rC (pair (n % 4) h (by omega)))) (View.ld (blk m c (pt b n hn)).sin (rC (pair (n % 4) h (by omega))))
      (View.ld (blk m c (pt b n hn)).q (rQ (pair (n % 4) h (by omega)))) s (ix2 j e)
      = ∑ d : Fin 128, qE (pj m c) b n hn h j d * s (ix3 0 d e) :=
  (pay10_apply _ _ _ _ j e).trans
    (Finset.sum_congr rfl fun d _ => congrArg₂ (· * ·) (query_at m c b n hn h j d) rfl)

theorem out_at (b : Fin 2) (h : Fin 8) (n : ℕ) (hn : n < 128) (j : Fin 64) (e : Fin 256) :
    stO (blk m c (pt b n hn)) (pair (n % 4) h (by omega)) (kS m c b h n) (ix2 j e)
      = gated (outE (pj m c) b n hn h (fun d e => kS m c b h n (ix3 0 d e)) j) (gE (pj m c) b n hn h j)
          (fun x => (m ((c : Thread nD τ).loc main_arg1) : Vec Ideal S2048 .f32) (ix1 ⟨256 * h.val + x.val, by omega⟩)) e := by
  refine (headO_apply _ _ _ _ _ _ _ _ _ _ j e).trans ?_
  have h1 : ∀ x : Fin 256, _ := fun x => congrArg₂ (· + ·) (intra_out m c b h n hn j x)
    (congrArg₂ (· * ·) (carry_out m c b h n hn (kS m c b h n) j x) (din_at m c b n hn h j x))
  have h2 : ∀ x : Fin 256, _ := fun x => g_at m c b n hn h j x
  have h3 : ∀ x : Fin 256, _ := fun x => gn_at m c b n hn h x
  exact congrFun (congr (congrArg₂ gated (funext h1) (funext h2)) (funext h3)) e

end Cert.KernelIdeal.Body

end
-- ==== Proof.Meet.lean ====
module

public import proofs.«01_k».proof.Proof.RefOut
public import proofs.«01_k».proof.Proof.KState
public import proofs.«01_k».proof.Proof.Gen.KernelIdeal.Value
public import Idealize.ShloMosaic.Lib.Pipeline.ValueKit.Partial
public import Idealize.ShloMosaic.Lib.Claim

/-! The kernel's two results, array by array, are the reference's. -/

@[expose] public section

noncomputable section

namespace Cert.KernelIdeal.Body

open Cert.KernelIdeal Cert.KernelIdeal.Gen Cert.KernelIdeal.Value Idealize.ShloMosaic Idealize.ShloMosaic.TcCoe Idealize.SL Cert.Scal
open Cert.ReferenceIdeal.RefVal (stR it)
open Cert.ReferenceIdeal.Step (R_main_v114 R_main_v116)

variable (m : (ℓ : Loc nD τ sig) → Buf (Elt Ideal) ℓ) (c : Dev nD)

/-- The kernel's argument as the reference's. -/
abbrev ra0 : (⟨Cert.ReferenceIdeal.S16384x18432, .f32⟩ : BufTy).Contents (Elt Ideal) := m ((c : Thread nD τ).loc main_arg0)
abbrev ra1 : (⟨Cert.ReferenceIdeal.S2048, .f32⟩ : BufTy).Contents (Elt Ideal) := m ((c : Thread nD τ).loc main_arg1)
abbrev ra2 : (⟨Cert.ReferenceIdeal.S4x8x128x256, .f32⟩ : BufTy).Contents (Elt Ideal) := m ((c : Thread nD τ).loc main_arg2)

theorem kS_zero_at (b : Fin 2) (h : Fin 8) (d : Fin 128) (e : Fin 256) : kS m c b h 0 (ix3 0 d e) = (0 : EReal) := by
  rw [kS_zero]
  exact Ideal.ofBits_zero_f32

/-- THE STATES ARE EQUAL before every chunk. -/
theorem states_eq (n : ℕ) (hn : n ≤ 128) (b : Fin 2) (h : Fin 8) (d : Fin 128) (e : Fin 256) :
    kS m c b h n (ix3 0 d e) = stR (ra0 m c) n b h d e := by
  induction n generalizing d e with
  | zero => rw [kS_zero_at, Cert.ReferenceIdeal.RefVal.stR_zero]
  | succ n ih =>
    rw [state_step m c b h n (by omega), Cert.ReferenceIdeal.RefVal.stR_succ _ n (by omega)]
    have e1 : (fun d e => kS m c b h n (ix3 0 d e)) = stR (ra0 m c) n b h := funext fun d => funext fun e => ih (by omega) d e
    rw [e1]
    rfl

/-- One output element of the kernel is the reference's. -/
theorem out_eqR (b : Fin 2) (n : Fin 128) (h : Fin 8) (j : Fin 64) (e : Fin 256) :
    stO (blk m c (pt b n.val n.isLt)) (pair (n.val % 4) h (by omega)) (kS m c b h n.val) (ix2 j e)
      = (R_main_v114 (it (ra0 m c) 128) (ra0 m c) (ra1 m c) : Vec Ideal S16384x2048 .bf16) (ix2 (row b n.val n.isLt j) ⟨256 * h.val + e.val, by omega⟩) := by
  rw [out_at]
  refine Eq.trans ?_ (Cert.ReferenceIdeal.RefVal.R_rows (ra0 m c) (ra1 m c) b n j h e).symm
  have e1 : (fun d e => kS m c b h n.val (ix3 0 d e)) = stR (ra0 m c) n.val b h := funext fun d => funext fun e => states_eq m c n.val n.isLt.le b h d e
  rw [e1]
  rfl

theorem pt_eq (t : Fin cfg0.N) (b : Fin 2) (n : ℕ) (hn : n < 128) (ht : t.val = 32 * b.val + n / 4) : t = pt b n hn := Fin.ext ht

/-- One element of a point's output block. -/
theorem block_at (t : Fin cfg0.N) (i : Fin 256) (q : Fin 2048) :
    (outsAt0 m c t.val t.isLt).1 (ix2 i q)
      = (R_main_v114 (it (ra0 m c) 128) (ra0 m c) (ra1 m c) : Vec Ideal S16384x2048 .bf16)
          (ix2 ⟨256 * t.val + i.val, by have := lt_of_lt_of_eq t.isLt (show cfg0.N = 64 from N_0); omega⟩ q) := by
  have hN : t.val < 64 := lt_of_lt_of_eq t.isLt (show cfg0.N = 64 from N_0)
  obtain ⟨b, hb⟩ : ∃ b : Fin 2, b.val = t.val / 32 := ⟨⟨t.val / 32, by omega⟩, rfl⟩
  obtain ⟨n, hn⟩ : ∃ n : Fin 128, n.val = 4 * (t.val % 32) + i.val / 64 := ⟨⟨4 * (t.val % 32) + i.val / 64, by omega⟩, rfl⟩
  obtain ⟨j, hj⟩ : ∃ j : Fin 64, j.val = i.val % 64 := ⟨⟨i.val % 64, by omega⟩, rfl⟩
  obtain ⟨h, hh⟩ : ∃ h : Fin 8, h.val = q.val / 256 := ⟨⟨q.val / 256, by omega⟩, rfl⟩
  obtain ⟨e, he⟩ : ∃ e : Fin 256, e.val = q.val % 256 := ⟨⟨q.val % 256, by omega⟩, rfl⟩
  have hcc : n.val % 4 < 4 := by omega
  have e1 : ix2 i q = (rV (pair (n.val % 4) h hcc)).emb (ix2 j e) := by
    funext a
    apply Fin.ext
    match a with
    | ⟨0, _⟩ => show i.val = (8 * (n.val % 4) + h.val) / 8 * 64 + 1 * j.val; omega
    | ⟨1, _⟩ => show q.val = (8 * (n.val % 4) + h.val) % 8 * 256 + 1 * e.val; omega
  have e2 : (⟨256 * t.val + i.val, by omega⟩ : Fin 16384) = row b n.val n.isLt j :=
    Fin.ext (by show 256 * t.val + i.val = 8192 * b.val + 64 * n.val + j.val; omega)
  have e3 : q = ⟨256 * h.val + e.val, by omega⟩ := Fin.ext (by show q.val = 256 * h.val + e.val; omega)
  have o := out_kS m c b (t.val % 32) (by omega) t (by omega) h (n.val % 4) hcc (ix2 j e)
  have e4 : 4 * (t.val % 32) + n.val % 4 = n.val := by omega
  rw [e4, pt_eq t b n.val n.isLt (by omega)] at o
  have e5 := o.trans (out_eqR m c b n h j e)
  rw [← pt_eq t b n.val n.isLt (by omega)] at e5
  rw [e1, e2]
  refine e5.trans ?_
  rw [← e3]

theorem eta2 {n1 n2 : ℕ} (y : (⟨2, ![n1, n2]⟩ : Shape).Idx) : y = ix2 (y 0) (y 1) := by
  funext a
  match a with
  | ⟨0, _⟩ => rfl
  | ⟨1, _⟩ => rfl

/-- THE FIRST RESULT'S ARRAY. -/
theorem arr11 : (dats m 0 c).arrAt 11 cfg0.N = R_main_v114 (it (ra0 m c) 128) (ra0 m c) (ra1 m c) := by
  refine (dats m 0 c).arrAt_eq_of_covers 11 _ (by decide +kernel) fun t hf y => ?_
  have e := block_at m c t (y 0) (y 1)
  show (dats m 0 c).after 11 t y = _
  rw [after0_11]
  refine (congrArg (outsAt0 m c t.val t.isLt).1 (eta2 (n1 := 256) (n2 := 2048) y)).trans (e.trans (congrArg _ ?_))
  have hi := index_11 t
  funext a
  apply Fin.ext
  match a with
  | ⟨0, _⟩ => show 256 * t.val + (y 0).val = win0_11.index t 0 * 256 + 1 * (y 0).val; rw [hi.1]; omega
  | ⟨1, _⟩ => show (y 1).val = win0_11.index t 1 * 2048 + 1 * (y 1).val; rw [hi.2]; omega

theorem index_12' : ∀ t : Fin cfg0.N, win0_12.index t 0 = 2 + t.val / 32 ∧ win0_12.index t 1 = 0 ∧ win0_12.index t 2 = 0 ∧ win0_12.index t 3 = 0 :=
  (by decide +kernel : ∀ t : Fin grid0.N, win0_12.index t 0 = 2 + t.val / 32 ∧ win0_12.index t 1 = 0 ∧ win0_12.index t 2 = 0 ∧ win0_12.index t 3 = 0)

theorem flush_12 : ∀ t : Fin cfg0.N, (cfg0.win 12).flush t = true → t.val % 32 = 31 :=
  (by decide +kernel : ∀ t : Fin grid0.N, win0_12.flush t = true → t.val % 32 = 31)

/-- The second result's buffer starts as a copy of the earlier states. -/
theorem V_prev (i : Fin 4) (h : Fin 8) (d : Fin 128) (e : Fin 256) :
    (V m c main_v66_1 : Vec Ideal S4x8x128x256 .f32) (ix4 i h d e) = (m ((c : Thread nD τ).loc main_arg2) : Vec Ideal S4x8x128x256 .f32) (ix4 i h d e) := by
  entry_read
  rfl

/-- THE SECOND RESULT'S ARRAY. -/
theorem arr12 : (dats m 0 c).arrAt 12 cfg0.N = R_main_v116 (it (ra0 m c) 128) (ra2 m c) := by
  refine (dats m 0 c).arrAt_eq_of_coversWhere_of_agree 12 _ (fun f => 2 ≤ f 0) (by decide +kernel) (fun t hf y => ?_) (fun j hj => ?_)
  · have h31 := flush_12 t hf
    have hN : t.val < 64 := lt_of_lt_of_eq t.isLt (show cfg0.N = 64 from N_0)
    have hi := index_12' t
    show (dats m 0 c).after 12 t y = _
    rw [after0_12, outW_eq m c t h31]
    have y0 : (y 0).val < 1 := (y 0).isLt
    have ey : (y : S1x8x128x256.Idx) = ix4 0 (y 1) (y 2) (y 3) := by
      funext a
      match a with
      | ⟨0, _⟩ => exact Fin.ext (show (y 0).val = 0 by omega)
      | ⟨1, _⟩ => rfl
      | ⟨2, _⟩ => rfl
      | ⟨3, _⟩ => rfl
    obtain ⟨b, hb⟩ : ∃ b : Fin 2, b.val = t.val / 32 := ⟨⟨t.val / 32, by omega⟩, rfl⟩
    refine (congrArg (k0_pay1 (scr m c t)) ey).trans ((pay1_apply _ _ _ _).trans ?_)
    refine (scr_kS m c b 31 (by omega) t (by omega) (y 1) (y 2) (y 3)).trans ?_
    refine (states_eq m c 128 le_rfl b (y 1) (y 2) (y 3)).trans ?_
    have eR := Cert.ReferenceIdeal.RefVal.R_state (it (ra0 m c) 128) (ra2 m c) ⟨2 + b.val, by omega⟩ (y 1) (y 2) (y 3)
    rw [dif_neg (show ¬ (2 + b.val < 2) by omega)] at eR
    have eb : (⟨2 + b.val - 2, by omega⟩ : Fin 2) = b := Fin.ext (by show 2 + b.val - 2 = b.val; omega)
    rw [eb] at eR
    refine eR.symm.trans (congrArg _ ?_)
    funext a
    apply Fin.ext
    match a with
    | ⟨0, _⟩ => show 2 + b.val = win0_12.index t 0 * 1 + 1 * (y 0).val; rw [hi.1]; omega
    | ⟨1, _⟩ => show (y 1).val = win0_12.index t 1 * 8 + 1 * (y 1).val; rw [hi.2.1]; omega
    | ⟨2, _⟩ => show (y 2).val = win0_12.index t 2 * 128 + 1 * (y 2).val; rw [hi.2.2.1]; omega
    | ⟨3, _⟩ => show (y 3).val = win0_12.index t 3 * 256 + 1 * (y 3).val; rw [hi.2.2.2]; omega
  · have j0 : ¬ 2 ≤ (j 0).val / 1 := hj
    have j0' : (j 0).val < 2 := by omega
    have ej : (j : S4x8x128x256.Idx) = ix4 (j 0) (j 1) (j 2) (j 3) := by
      funext a
      match a with
      | ⟨0, _⟩ => rfl
      | ⟨1, _⟩ => rfl
      | ⟨2, _⟩ => rfl
      | ⟨3, _⟩ => rfl
    have eR := Cert.ReferenceIdeal.RefVal.R_state (it (ra0 m c) 128) (ra2 m c) (j 0) (j 1) (j 2) (j 3)
    rw [dif_pos j0'] at eR
    rw [A_eq]
    show V m c main_v66_1 j = R_main_v116 (it (ra0 m c) 128) (ra2 m c) j
    exact (congrArg (V m c main_v66_1) ej).trans ((V_prev m c (j 0) (j 1) (j 2) (j 3)).trans (eR.symm.trans (congrArg _ ej.symm)))

end Cert.KernelIdeal.Body

end
-- ==== Proof.Retention.lean ====
module

public import proofs.«01_k».proof.Defs
public import proofs.«01_k».proof.Proof.Meet

/-! The retention call's claims: the reference's frame and the equality of both results. -/

@[expose] public section

noncomputable section

namespace Cert.Retention

open Idealize.ShloMosaic Idealize.ShloMosaic.TcCoe Idealize.SL Idealize.SL.Sem
open Cert.ReferenceIdeal.RefVal (it)
open Cert.KernelIdeal.Body (arr11 arr12 ra0 ra1 ra2)

/-- The reference runs, keeps its arguments, and declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- BOTH RESULTS ARE EQUAL over the extended reals. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.ReferenceIdeal.Step.R_main_v114 (it (ra0 m c) 128) (ra0 m c) (ra1 m c),
    fun c => Cert.ReferenceIdeal.Step.R_main_v116 (it (ra0 m c) 128) (ra2 m c), ?_, ?_⟩
  · exact (θ_run _ _ _).mono (fun _ h c => ⟨(h c).1.trans (arr11 m c), (h c).2.1.trans (arr12 m c), (h c).2.2⟩)
      (Cert.KernelIdeal.Value.run_blocks (F := Ideal) m ρ)
  · have hrun := Cert.ReferenceIdeal.RefRun.run_iter (F := Ideal) m' ρ'
      (fun c => it (m' ((c.tc : Thread Cert.ReferenceIdeal.nD Cert.ReferenceIdeal.τ).loc Cert.ReferenceIdeal.main_arg0))) (fun c => rfl) (fun c n => rfl)
    refine (θ_run _ _ _).mono (fun _ h c => ⟨(h c).1.trans ?_, (h c).2.1.trans ?_, (h c).2.2⟩) hrun
    · rw [(hagree c).1, (hagree c).2.1]
    · rw [(hagree c).1, (hagree c).2.2]

end Cert.Retention

end
-- ==== Proof.Dense.lean ====
module

public import Idealize.ShloMosaic.Lib.Pointwise
public import Idealize.ShloMosaic.Lib.Claim

/-! The numbers the dense calls compute: a row's normalization by its root mean square, and a product's entry. -/

@[expose] public section

noncomputable section

namespace Cert.Dense

open Idealize.ShloMosaic

/-- The factor a row of 2048 numbers is normalized by: the reciprocal root of its mean square plus a small number. -/
def inv (y : Fin 2048 → EReal) : EReal :=
  Ideal.rsqrt (Ideal.div (∑ k, y k * y k) (Ideal.ofBits .f32 1157627904#32) + Ideal.ofBits .f32 897988541#32)

/-- A normalized row, with its gains. -/
def nrm (y g : Fin 2048 → EReal) (k : Fin 2048) : EReal := y k * inv y * g k

/-- The logistic function. -/
def sg (x : EReal) : EReal := Ideal.div 1 (1 + Ideal.exp (-x))

/-- The squared positive part. -/
def sqPos (u : EReal) : EReal := max u 0 * max u 0

/-- The gated sum of three mixers' outputs, the second's a product with a logistic gate of its own. -/
def gated (g1 y1 g2 v2 w2 g3 y3 : EReal) : EReal := g1 * y1 + g2 * (v2 * sg w2) + g3 * y3

/-- Indices of two axes are equal where their numbers are. -/
theorem ix2_eq {n1 n2 : ℕ} {a a' : Fin n1} {b b' : Fin n2} (h1 : a.val = a'.val) (h2 : b.val = b'.val) : ix2 a b = ix2 a' b' := by
  rw [Fin.ext h1, Fin.ext h2]

/-- An index of two axes by its parts. -/
theorem eta2 {n1 n2 : ℕ} (y : (⟨2, ![n1, n2]⟩ : Shape).Idx) : y = ix2 (y 0) (y 1) := by
  funext a
  match a with
  | ⟨0, _⟩ => rfl
  | ⟨1, _⟩ => rfl

/-- A row of one axis read as a row of two. -/
theorem cast_row (x : FVec Ideal ⟨1, ![2048]⟩ .f32) (h : (⟨1, ![2048]⟩ : Shape).ShapeCasts ⟨2, ![1, 2048]⟩) (q : Fin 2048) :
    shapeCast ⟨2, ![1, 2048]⟩ x h (ix2 0 q) = x (ix1 q) := by
  pointwise

/-- Two stacked tables read as one of their joined rows. -/
theorem join_2048 (x : FVec Ideal ⟨3, ![2, 256, 2048]⟩ .f32) (h : (⟨3, ![2, 256, 2048]⟩ : Shape).ShapeCasts ⟨2, ![512, 2048]⟩) (r : Fin 512) (q : Fin 2048) :
    shapeCast ⟨2, ![512, 2048]⟩ x h (ix2 r q) = x (ix3 ⟨r.val / 256, by omega⟩ ⟨r.val % 256, by omega⟩ q) := by
  refine shapeCast_apply x h _ _ ?_
  rw [Shape.rowMajor_val_three, Shape.rowMajor_val_two]
  show (r.val / 256 * 256 + r.val % 256) * 2048 + q.val = r.val * 2048 + q.val
  omega

/-- Two stacked tables read as one of their joined rows. -/
theorem join_4096 (x : FVec Ideal ⟨3, ![2, 256, 4096]⟩ .f32) (h : (⟨3, ![2, 256, 4096]⟩ : Shape).ShapeCasts ⟨2, ![512, 4096]⟩) (r : Fin 512) (q : Fin 4096) :
    shapeCast ⟨2, ![512, 4096]⟩ x h (ix2 r q) = x (ix3 ⟨r.val / 256, by omega⟩ ⟨r.val % 256, by omega⟩ q) := by
  refine shapeCast_apply x h _ _ ?_
  rw [Shape.rowMajor_val_three, Shape.rowMajor_val_two]
  show (r.val / 256 * 256 + r.val % 256) * 4096 + q.val = r.val * 4096 + q.val
  omega

end Cert.Dense

end
-- ==== Proof.Res2.lean ====
module

public import proofs.«01_k».proof.Defs
public import proofs.«01_k».proof.Proof.Dense
public import proofs.«01_k».proof.Proof.Gen.Kernel2Ideal.Value
public import proofs.«01_k».proof.Proof.Gen.Reference2Ideal.Run
public import Idealize.ShloMosaic.Lib.Pipeline.ValueKit

/-! The two-layer network with its norms and residual sum: the wide layer is taken in eight slices, accumulated. -/

@[expose] public section

noncomputable section

namespace Cert.Reference2Ideal.Body

open Cert.Reference2Ideal Cert.Reference2Ideal.Gen Idealize.ShloMosaic Idealize.ShloMosaic.TcCoe Idealize.SL Cert.Dense

variable (x y : FVec Ideal S16384x2048 .f32) (g : FVec Ideal S2048 .f32) (w : FVec Ideal S2048x8192 .f32) (d : FVec Ideal S8192x2048 .f32)

/-- The norm of rows. -/
def hn : FVec Ideal S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

/-- The wide product, its squared positive part, and the product back. -/
def up : FVec Ideal S16384x8192 .f32 := Host.dotGeneral dot_S16384x2048_S2048x8192_S16384x8192_1_0_0_1_n_n none y w
def act (u : FVec Ideal S16384x8192 .f32) : FVec Ideal S16384x8192 .f32 :=
  mulf (maximumf u (broadcastInDim S16384x8192 ![] bcast_S_S16384x8192 (constant S_ .f32 0x00000000#32))) (maximumf u (broadcastInDim S16384x8192 ![] bcast_S_S16384x8192 (constant S_ .f32 0x00000000#32)))
def down (u : FVec Ideal S16384x8192 .f32) : FVec Ideal S16384x2048 .f32 := Host.dotGeneral dot_S16384x8192_S8192x2048_S16384x2048_1_0_0_1_n_n none u d

theorem hn_at (r : Fin 16384) (q : Fin 2048) : hn y g (ix2 r q) = nrm (fun q => y (ix2 r q)) (fun q => g (ix1 q)) q := by
  pointwise [hn]
  rfl

theorem up_at (r : Fin 16384) (q : Fin 8192) : up y w (ix2 r q) = ∑ k : Fin 2048, y (ix2 r k) * w (ix2 k q) := by
  pointwise [up]

theorem act_at (u : FVec Ideal S16384x8192 .f32) (r : Fin 16384) (q : Fin 8192) : act u (ix2 r q) = sqPos (u (ix2 r q)) := by
  pointwise [act]
  rfl

theorem down_at (u : FVec Ideal S16384x8192 .f32) (r : Fin 16384) (q : Fin 2048) : down d u (ix2 r q) = ∑ k : Fin 8192, u (ix2 r k) * d (ix2 k q) := by
  pointwise [down]

end Cert.Reference2Ideal.Body

namespace Cert.Kernel2Ideal.Body

open Cert.Kernel2Ideal Cert.Kernel2Ideal.Gen Idealize.ShloMosaic Idealize.ShloMosaic.TcCoe Idealize.SL Cert.Dense
open Cert.Reference2Ideal.Body (hn up act down hn_at up_at act_at down_at)

theorem pay1_at (x : Vec Ideal S512x2048 .f32) (g : Vec Ideal S1x2048 .f32) (i : Fin 512) (q : Fin 2048) :
    k0_pay1 x g (ix2 i q) = nrm (fun q => x (ix2 i q)) (fun q => g (ix2 0 q)) q := by
  pointwise [k0_pay1]
  rfl

theorem pay2_at (i : Fin 512) (q : Fin 2048) : (k0_pay2 (F := Ideal)) (ix2 i q) = 0 := by
  pointwise [k0_pay2]

theorem pay3_at (h : Vec Ideal S512x2048 .bf16) (w : Vec Ideal S2048x1024 .bf16) (a : Vec Ideal S512x2048 .f32) (d : Vec Ideal S1024x2048 .bf16) (i : Fin 512) (q : Fin 2048) :
    k0_pay3 h w a d (ix2 i q) = a (ix2 i q) + ∑ l : Fin 1024, sqPos (∑ k : Fin 2048, h (ix2 i k) * w (ix2 k l)) * d (ix2 l q) := by
  pointwise [k0_pay3]
  rfl

theorem pay4_at (x y : Vec Ideal S512x2048 .f32) (g : Vec Ideal S1x2048 .f32) (i : Fin 512) (q : Fin 2048) :
    k0_pay4 x y g (ix2 i q) = x (ix2 i q) + nrm (fun q => y (ix2 i q)) (fun q => g (ix2 0 q)) q := by
  pointwise [k0_pay4]
  rfl

variable (m : (ℓ : Loc nD τ sig) → Buf (Elt Ideal) ℓ) (c : Dev nD)

/-- The arguments. -/
abbrev rx : FVec Ideal S16384x2048 .f32 := m ((c : Thread nD τ).loc main_arg0)
abbrev rgi : FVec Ideal S2048 .f32 := m ((c : Thread nD τ).loc main_arg1)
abbrev rgo : FVec Ideal S2048 .f32 := m ((c : Thread nD τ).loc main_arg2)
abbrev rw' : FVec Ideal S2048x8192 .f32 := m ((c : Thread nD τ).loc main_arg3)
abbrev rd : FVec Ideal S8192x2048 .f32 := m ((c : Thread nD τ).loc main_arg4)

/-- Which block each window takes at step `t`. -/
theorem idx : ∀ t : Fin cfg0.N, (win0_0.index t 0 = t.val / 8 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = t.val % 8) ∧ (win0_4.index t 0 = t.val % 8 ∧ win0_4.index t 1 = 0) ∧ (win0_5.index t 0 = t.val / 8 ∧ win0_5.index t 1 = 0) :=
  (by decide +kernel : ∀ t : Fin grid0.N, (win0_0.index t 0 = t.val / 8 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = t.val % 8) ∧ (win0_4.index t 0 = t.val % 8 ∧ win0_4.index t 1 = 0) ∧ (win0_5.index t 0 = t.val / 8 ∧ win0_5.index t 1 = 0))

/-- The array row of row `i` of step `t`, and the place on the wide axis of lane `l`. -/
def row (t : Fin cfg0.N) (i : Fin 512) : Fin 16384 :=
  ⟨512 * (t.val / 8) + i.val, by have := lt_of_lt_of_eq t.isLt (show cfg0.N = 256 from N_0); omega⟩
def col (t : Fin cfg0.N) (l : Fin 1024) : Fin 8192 := ⟨t.val % 8 * 1024 + l.val, by omega⟩

theorem V_gi (q : Fin 2048) : (V m c main_v0 : FVec Ideal S1x2048 .f32) (ix2 0 q) = rgi m c (ix1 q) := by
  entry_read
  exact cast_row _ _ q
theorem V_go (q : Fin 2048) : (V m c main_v1 : FVec Ideal S1x2048 .f32) (ix2 0 q) = rgo m c (ix1 q) := by
  entry_read
  exact cast_row _ _ q
theorem V_w (k : Fin 2048) (q : Fin 8192) : (V m c main_v2 : FVec Ideal S2048x8192 .bf16) (ix2 k q) = rw' m c (ix2 k q) := by
  entry_read
  rfl
theorem V_d (k : Fin 8192) (q : Fin 2048) : (V m c main_v3 : FVec Ideal S8192x2048 .bf16) (ix2 k q) = rd m c (ix2 k q) := by
  entry_read
  rfl

abbrev bX (t : Fin cfg0.N) : FVec Ideal S512x2048 .f32 := iblk m c 0 t

theorem bX_at (t : Fin cfg0.N) (i : Fin 512) (k : Fin 2048) : bX m c t (ix2 i k) = rx m c (ix2 (row t i) k) := by
  unfold bX iblk
  rw [View.read_apply]
  refine Eq.trans ?_ (congrFun (V_main_arg0 m c) (ix2 (row t i) k))
  show V m c main_arg0 _ = V m c main_arg0 _
  congr 1
  funext a
  apply Fin.ext
  have hi := (idx t).1
  match a with
  | ⟨0, _⟩ => show win0_0.index t 0 * 512 + 1 * i.val = 512 * (t.val / 8) + i.val; rw [hi.1]; omega
  | ⟨1, _⟩ => show win0_0.index t 1 * 2048 + 1 * k.val = k.val; rw [hi.2]; omega

abbrev bGi (t : Fin cfg0.N) : FVec Ideal S1x2048 .f32 := iblk m c 1 t

theorem bGi_at (t : Fin cfg0.N) (k : Fin 2048) : bGi m c t (ix2 0 k) = rgi m c (ix1 k) := by
  unfold bGi iblk
  rw [View.read_apply]
  refine Eq.trans ?_ (V_gi m c k)
  show V m c main_v0 _ = V m c main_v0 _
  congr 1
  funext a
  apply Fin.ext
  have hi := (idx t).2.1
  match a with
  | ⟨0, _⟩ => show win0_1.index t 0 * 1 + 1 * 0 = 0; rw [hi.1]
  | ⟨1, _⟩ => show win0_1.index t 1 * 2048 + 1 * k.val = k.val; rw [hi.2]; omega

abbrev bGo (t : Fin cfg0.N) : FVec Ideal S1x2048 .f32 := iblk m c 2 t

theorem bGo_at (t : Fin cfg0.N) (k : Fin 2048) : bGo m c t (ix2 0 k) = rgo m c (ix1 k) := by
  unfold bGo iblk
  rw [View.read_apply]
  refine Eq.trans ?_ (V_go m c k)
  show V m c main_v1 _ = V m c main_v1 _
  congr 1
  funext a
  apply Fin.ext
  have hi := (idx t).2.2.1
  match a with
  | ⟨0, _⟩ => show win0_2.index t 0 * 1 + 1 * 0 = 0; rw [hi.1]
  | ⟨1, _⟩ => show win0_2.index t 1 * 2048 + 1 * k.val = k.val; rw [hi.2]; omega

abbrev bW (t : Fin cfg0.N) : FVec Ideal S2048x1024 .bf16 := iblk m c 3 t

theorem bW_at (t : Fin cfg0.N) (i : Fin 2048) (k : Fin 1024) : bW m c t (ix2 i k) = rw' m c (ix2 i (col t k)) := by
  unfold bW iblk
  rw [View.read_apply]
  refine Eq.trans ?_ (V_w m c i (col t k))
  show V m c main_v2 _ = V m c main_v2 _
  congr 1
  funext a
  apply Fin.ext
  have hi := (idx t).2.2.2.1
  match a with
  | ⟨0, _⟩ => show win0_3.index t 0 * 2048 + 1 * i.val = i.val; rw [hi.1]; omega
  | ⟨1, _⟩ => show win0_3.index t 1 * 1024 + 1 * k.val = t.val % 8 * 1024 + k.val; rw [hi.2]; omega

abbrev bD (t : Fin cfg0.N) : FVec Ideal S1024x2048 .bf16 := iblk m c 4 t

theorem bD_at (t : Fin cfg0.N) (i : Fin 1024) (k : Fin 2048) : bD m c t (ix2 i k) = rd m c (ix2 (col t i) k) := by
  unfold bD iblk
  rw [View.read_apply]
  refine Eq.trans ?_ (V_d m c (col t i) k)
  show V m c main_v3 _ = V m c main_v3 _
  congr 1
  funext a
  apply Fin.ext
  have hi := (idx t).2.2.2.2.1
  match a with
  | ⟨0, _⟩ => show win0_4.index t 0 * 1024 + 1 * i.val = t.val % 8 * 1024 + i.val; rw [hi.1]; omega
  | ⟨1, _⟩ => show win0_4.index t 1 * 2048 + 1 * k.val = k.val; rw [hi.2]; omega

/-- The reference's stages, of this memory's arguments. -/
abbrev H : FVec Ideal S16384x2048 .f32 := hn (rx m c) (rgi m c)
abbrev D : FVec Ideal S16384x2048 .f32 := down (rd m c) (act (up (H m c) (rw' m c)))
abbrev R : FVec Ideal S16384x2048 .f32 := addf (rx m c) (hn (D m c) (rgo m c))

/-! The steps' stored values. -/

theorem hnA (t : Fin cfg0.N) (h0 : t.val % 8 = 0) (h1 : ¬t.val % 8 = 7) : (outsAt0 m c t.val t.isLt).2.1 = k0_pay1 (F := Ideal) (bX m c t) (bGi m c t) := by
  rw [outsAt0_A m c t h0 h1]
  dsimp only
  frame_out

theorem hnB (t : Fin cfg0.N) (h0 : ¬t.val % 8 = 0) :
    (outsAt0 m c t.val t.isLt).2.1 = (outsAt0 m c (t.val - 1) (Nat.lt_of_le_of_lt (Nat.sub_le _ _) t.isLt)).2.1 := by
  by_cases h1 : t.val % 8 = 7
  · rw [outsAt0_C m c t h0 h1]
    rfl
  · rw [outsAt0_B m c t h0 h1]
    rfl

theorem accA (t : Fin cfg0.N) (h0 : t.val % 8 = 0) (h1 : ¬t.val % 8 = 7) :
    (outsAt0 m c t.val t.isLt).2.2 = k0_pay3 (F := Ideal) (k0_pay1 (F := Ideal) (bX m c t) (bGi m c t)) (bW m c t) (k0_pay2 (F := Ideal)) (bD m c t) := by
  rw [outsAt0_A m c t h0 h1]
  dsimp only
  frame_out

theorem accB (t : Fin cfg0.N) (h0 : ¬t.val % 8 = 0) :
    (outsAt0 m c t.val t.isLt).2.2 = k0_pay3 (outsAt0 m c (t.val - 1) (Nat.lt_of_le_of_lt (Nat.sub_le _ _) t.isLt)).2.1 (bW m c t)
      (outsAt0 m c (t.val - 1) (Nat.lt_of_le_of_lt (Nat.sub_le _ _) t.isLt)).2.2 (bD m c t) := by
  by_cases h1 : t.val % 8 = 7
  · rw [outsAt0_C m c t h0 h1]
    dsimp only
    frame_out
    exact congrArg₂ (fun h a => k0_pay3 (F := Ideal) h (bW m c t) a (bD m c t)) ((Memref.isWhole_whole _).read_unread _) ((Memref.isWhole_whole _).read_unread _)
  · rw [outsAt0_B m c t h0 h1]
    dsimp only
    frame_out
    exact congrArg₂ (fun h a => k0_pay3 (F := Ideal) h (bW m c t) a (bD m c t)) ((Memref.isWhole_whole _).read_unread _) ((Memref.isWhole_whole _).read_unread _)

theorem outC (t : Fin cfg0.N) (h0 : ¬t.val % 8 = 0) (h1 : t.val % 8 = 7) :
    (outsAt0 m c t.val t.isLt).1 = k0_pay4 (bX m c t) (outsAt0 m c t.val t.isLt).2.2 (bGo m c t) := by
  rw [outsAt0_C m c t h0 h1]
  dsimp only
  frame_out

/-- The normed rows' block, at every step. -/
theorem hn_inv : ∀ (n : ℕ) (h : n < cfg0.N) (i : Fin 512) (k : Fin 2048),
    (outsAt0 m c n h).2.1 (ix2 i k) = H m c (ix2 (row ⟨n, h⟩ i) k) := by
  intro n
  induction n with
  | zero =>
    intro h i k
    refine (congrFun (hnA m c ⟨0, h⟩ (Nat.zero_mod 8) (by show ¬0 % 8 = 7; omega)) (ix2 i k)).trans ((pay1_at _ _ i k).trans (Eq.trans ?_ (hn_at _ _ (row ⟨0, h⟩ i) k).symm))
    exact congrArg₂ (nrm · · k) (funext fun q => bX_at m c _ i q) (funext fun q => bGi_at m c _ q)
  | succ n ih =>
    intro h i k
    by_cases h0 : (n + 1) % 8 = 0
    · refine (congrFun (hnA m c ⟨n + 1, h⟩ h0 (by show ¬(n + 1) % 8 = 7; omega)) (ix2 i k)).trans ((pay1_at _ _ i k).trans (Eq.trans ?_ (hn_at _ _ (row ⟨n + 1, h⟩ i) k).symm))
      exact congrArg₂ (nrm · · k) (funext fun q => bX_at m c _ i q) (funext fun q => bGi_at m c _ q)
    · refine (congrFun (hnB m c ⟨n + 1, h⟩ h0) (ix2 i k)).trans ((ih _ i k).trans ?_)
      refine congrArg (fun r => H m c (ix2 r k)) (Fin.ext ?_)
      show 512 * (n / 8) + i.val = 512 * ((n + 1) / 8) + i.val
      omega

/-- What step `t` adds to the accumulator. -/
def term (t : Fin cfg0.N) (y : S512x2048.Idx) : EReal :=
  ∑ l : Fin 1024, act (up (H m c) (rw' m c)) (ix2 (row t (y 0)) (col t l)) * rd m c (ix2 (col t l) (y 1))

theorem step_at (t : Fin cfg0.N) (h : Vec Ideal S512x2048 .bf16) (a : Vec Ideal S512x2048 .f32)
    (hh : ∀ (i : Fin 512) (k : Fin 2048), h (ix2 i k) = H m c (ix2 (row t i) k)) (i : Fin 512) (q : Fin 2048) :
    k0_pay3 h (bW m c t) a (bD m c t) (ix2 i q) = a (ix2 i q) + term m c t (ix2 i q) := by
  refine (pay3_at _ _ _ _ i q).trans (congrArg (_ + ·) (Finset.sum_congr rfl fun l _ => congrArg₂ (· * ·) ?_ (bD_at m c t l q)))
  refine Eq.trans (congrArg sqPos ?_) (act_at _ (row t i) (col t l)).symm
  refine Eq.trans ?_ (up_at _ _ (row t i) (col t l)).symm
  exact Finset.sum_congr rfl fun k _ => congrArg₂ (· * ·) (hh i k) (bW_at m c t k l)

theorem acc_start (t : Fin cfg0.N) (h0 : t.val % 8 = 0) (y : S512x2048.Idx) :
    (outsAt0 m c t.val t.isLt).2.2 y = 0 + term m c t y := by
  have hh : ∀ (i : Fin 512) (k : Fin 2048), k0_pay1 (F := Ideal) (bX m c t) (bGi m c t) (ix2 i k) = H m c (ix2 (row t i) k) := fun i k =>
    (congrFun (hnA m c t h0 (by omega)) (ix2 i k)).symm.trans (hn_inv m c t.val t.isLt i k)
  have hs := step_at m c t _ (k0_pay2 (F := Ideal)) hh (y 0) (y 1)
  rw [accA m c t h0 (by omega)]
  have e : y = ix2 (y 0) (y 1) := eta2 (n1 := 512) (n2 := 2048) y
  rw [e]
  exact hs.trans (congrArg (· + term m c t (ix2 (y 0) (y 1))) (pay2_at (y 0) (y 1)))

theorem acc_step (t : Fin cfg0.N) (h0 : ¬t.val % 8 = 0) (y : S512x2048.Idx) :
    (outsAt0 m c t.val t.isLt).2.2 y = (outsAt0 m c (t.val - 1) (Nat.lt_of_le_of_lt (Nat.sub_le _ _) t.isLt)).2.2 y + term m c t y := by
  have hh : ∀ (i : Fin 512) (k : Fin 2048),
      (outsAt0 m c (t.val - 1) (Nat.lt_of_le_of_lt (Nat.sub_le _ _) t.isLt)).2.1 (ix2 i k) = H m c (ix2 (row t i) k) := fun i k =>
    (congrFun (hnB m c t h0) (ix2 i k)).symm.trans (hn_inv m c t.val t.isLt i k)
  have hs := step_at m c t _ (outsAt0 m c (t.val - 1) (Nat.lt_of_le_of_lt (Nat.sub_le _ _) t.isLt)).2.2 hh (y 0) (y 1)
  rw [accB m c t h0]
  have e : y = ix2 (y 0) (y 1) := eta2 (n1 := 512) (n2 := 2048) y
  rw [e]
  exact hs

/-- The accumulator at the step that writes the block back is the reference's product. -/
theorem acc_last (t : Fin cfg0.N) (h1 : t.val % 8 = 7) (i : Fin 512) (q : Fin 2048) :
    (outsAt0 m c t.val t.isLt).2.2 (ix2 i q) = D m c (ix2 (row t i) q) := by
  refine (Pipeline.eq_sum_fin_of_reset_step_apply_of_flush (fun n h y => (outsAt0 m c n h).2.2 y) 8 (fun _ => (0 : EReal)) (term m c)
    (acc_start m c) (acc_step m c) t h1 (ix2 i q)).trans ?_
  refine (zero_add _).trans (Eq.trans ?_ (down_at _ _ (row t i) q).symm)
  refine Eq.trans ?_ (Fin.sum_mul_add_fin 8 1024 (fun l : Fin 8192 => act (up (H m c) (rw' m c)) (ix2 (row t i) l) * rd m c (ix2 l q)))
  refine Finset.sum_congr rfl fun s _ => Finset.sum_congr rfl fun l _ => ?_
  have er : row ⟨8 * (t.val / 8) + s.val, Pipeline.run_point_lt_of_flush t h1 s⟩ i = row t i := by
    apply Fin.ext
    show 512 * ((8 * (t.val / 8) + s.val) / 8) + i.val = 512 * (t.val / 8) + i.val
    omega
  have ec : col ⟨8 * (t.val / 8) + s.val, Pipeline.run_point_lt_of_flush t h1 s⟩ l = ⟨s.val * 1024 + l.val, by omega⟩ := by
    apply Fin.ext
    show (8 * (t.val / 8) + s.val) % 8 * 1024 + l.val = s.val * 1024 + l.val
    omega
  exact congrArg₂ (· * ·) (congrArg₂ (fun r l => act (up (H m c) (rw' m c)) (ix2 r l)) er ec) (congrArg (fun l => rd m c (ix2 l q)) ec)

/-- One element of the block written back. -/
theorem out_blk (t : Fin cfg0.N) (h1 : t.val % 8 = 7) (i : Fin 512) (q : Fin 2048) :
    (outsAt0 m c t.val t.isLt).1 (ix2 i q) = R m c (ix2 (row t i) q) := by
  refine (congrFun (outC m c t (by omega) h1) (ix2 i q)).trans ((pay4_at _ _ _ i q).trans ?_)
  refine congrArg₂ (· + ·) (bX_at m c t i q) (Eq.trans ?_ (hn_at _ _ (row t i) q).symm)
  exact congrArg₂ (nrm · · q) (funext fun q => acc_last m c t h1 i q) (funext fun q => bGo_at m c t q)

/-- THE RESULT'S ARRAY. -/
theorem arrO : (dats m 0 c).arrAt 5 cfg0.N = R m c := by
  refine (dats m 0 c).arrAt_eq_of_covers 5 _ (by decide +kernel) fun t hf y => ?_
  show (dats m 0 c).after 5 t y = _
  rw [after0_5]
  refine (congrArg (outsAt0 m c t.val t.isLt).1 (eta2 (n1 := 512) (n2 := 2048) y)).trans
    ((out_blk m c t ((flush0_5 t).mp hf) (y 0) (y 1)).trans (congrArg _ ?_))
  have hi := (idx t).2.2.2.2.2
  funext a
  apply Fin.ext
  match a with
  | ⟨0, _⟩ => show 512 * (t.val / 8) + (y 0).val = win0_5.index t 0 * 512 + 1 * (y 0).val; rw [hi.1]; omega
  | ⟨1, _⟩ => show (y 1).val = win0_5.index t 1 * 2048 + 1 * (y 1).val; rw [hi.2]; omega

end Cert.Kernel2Ideal.Body

namespace Cert.Res2

open Idealize.ShloMosaic Idealize.ShloMosaic.TcCoe Idealize.SL Idealize.SL.Sem
open Cert.Kernel2Ideal.Body

/-- The reference runs, keeps its arguments, and declares no semaphore. -/
theorem frame_ref : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- THE RESULT IS EQUAL over the extended reals. -/
theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨fun c => R m c, ?_, ?_⟩
  · exact (θ_run _ _ _).mono (fun _ h c => ⟨(h c).1.trans (arrO m c), (h c).2⟩)
      (Cert.Kernel2Ideal.Value.run_blocks (F := Ideal) m ρ)
  · refine (θ_run _ _ _).mono (fun _ h c => ⟨(h c).1.trans ?_, (h c).2⟩) (Cert.Reference2Ideal.Value.run (F := Ideal) m' ρ')
    unfold Cert.Reference2Ideal.Value.res_main_v30
    rw [(hagree c).1, (hagree c).2.1, (hagree c).2.2.1, (hagree c).2.2.2.1, (hagree c).2.2.2.2]
    rfl

end Cert.Res2

end
-- ==== Proof.Res3.lean ====
module

public import proofs.«01_k».proof.Defs
public import proofs.«01_k».proof.Proof.Dense
public import proofs.«01_k».proof.Proof.Gen.Kernel3Ideal.Value
public import proofs.«01_k».proof.Proof.Gen.Reference3Ideal.Run
public import Idealize.ShloMosaic.Lib.Pipeline.ValueKit.Partial

/-! The gated sum of the three mixers' output products. -/

@[expose] public section

noncomputable section

namespace Cert.Reference3Ideal.Body

open Cert.Reference3Ideal Cert.Reference3Ideal.Gen Idealize.ShloMosaic Idealize.ShloMosaic.TcCoe Idealize.SL Cert.Dense

variable (a0 a1 : FVec Ideal S16384x2048 .bf16) (a2 : FVec Ideal S16384x4096 .bf16) (a3 : FVec Ideal S16384x6144 .f32)
  (a4 : FVec Ideal S2048x2048 .f32) (a5 : FVec Ideal S2048x4096 .f32) (a6 : FVec Ideal S4096x2048 .f32)

/-- The three products. -/
def prodR : FVec Ideal S16384x2048 .f32 := Host.dotGeneral dot_S16384x2048_S2048x2048_S16384x2048_1_0_0_1_n_n none (extf .f32 a0 bitsLt_bf16_f32) a4
def prodS : FVec Ideal S16384x4096 .f32 := Host.dotGeneral dot_S16384x2048_S2048x4096_S16384x4096_1_0_0_1_n_n none (extf .f32 a1 bitsLt_bf16_f32) a5
def prodD : FVec Ideal S16384x2048 .f32 := Host.dotGeneral dot_S16384x4096_S4096x2048_S16384x2048_1_0_0_1_n_n none (extf .f32 a2 bitsLt_bf16_f32) a6

/-- The gated sum, from the products. -/
def out (yr : FVec Ideal S16384x2048 .f32) (ys : FVec Ideal S16384x4096 .f32) (yd : FVec Ideal S16384x2048 .f32) : FVec Ideal S16384x2048 .bf16 :=
  truncf .bf16 (addf (addf (mulf (extractStridedSlice S16384x2048 ![0, 0] a3 slices_S16384x6144_S16384x2048_0_0) yr) (mulf (extractStridedSlice S16384x2048 ![0, 2048] a3 slices_S16384x6144_S16384x2048_0_2048) (mulf (extractStridedSlice S16384x2048 ![0, 0] ys slices_S16384x4096_S16384x2048_0_0) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 2048] ys slices_S16384x4096_S16384x2048_0_2048)))))))) (mulf (extractStridedSlice S16384x2048 ![0, 4096] a3 slices_S16384x6144_S16384x2048_0_4096) yd)) bitsLt_bf16_f32

theorem prodR_at (r : Fin 16384) (q : Fin 2048) : prodR a0 a4 (ix2 r q) = ∑ k : Fin 2048, a0 (ix2 r k) * a4 (ix2 k q) := by
  pointwise [prodR]

theorem prodS_at (r : Fin 16384) (q : Fin 4096) : prodS a1 a5 (ix2 r q) = ∑ k : Fin 2048, a1 (ix2 r k) * a5 (ix2 k q) := by
  pointwise [prodS]

theorem prodD_at (r : Fin 16384) (q : Fin 2048) : prodD a2 a6 (ix2 r q) = ∑ k : Fin 4096, a2 (ix2 r k) * a6 (ix2 k q) := by
  pointwise [prodD]

theorem out_at (yr : FVec Ideal S16384x2048 .f32) (ys : FVec Ideal S16384x4096 .f32) (yd : FVec Ideal S16384x2048 .f32) (r : Fin 16384) (q : Fin 2048) :
    out a3 yr ys yd (ix2 r q) = gated (a3 (ix2 r ⟨0 + q.val, by omega⟩)) (yr (ix2 r q)) (a3 (ix2 r ⟨2048 + q.val, by omega⟩)) (ys (ix2 r ⟨0 + q.val, by omega⟩))
      (ys (ix2 r ⟨2048 + q.val, by omega⟩)) (a3 (ix2 r ⟨4096 + q.val, by omega⟩)) (yd (ix2 r q)) := by
  pointwise [out]
  rfl

end Cert.Reference3Ideal.Body

namespace Cert.Kernel3Ideal.Body

open Cert.Kernel3Ideal Cert.Kernel3Ideal.Gen Idealize.ShloMosaic Idealize.ShloMosaic.TcCoe Idealize.SL Cert.Dense
open Cert.Reference3Ideal.Body (prodR prodS prodD out prodR_at prodS_at prodD_at)

/-- One element of what a grid step writes. -/
theorem pay_at (v0 v1 : Vec Ideal S512x2048 .bf16) (v2 v3 v4 : Vec Ideal S2048x512 .bf16) (v5 : Vec Ideal S512x4096 .bf16) (v6 : Vec Ideal S4096x512 .bf16)
    (g1 g2 g3 : Vec Ideal S512x512 .f32) (i q : Fin 512) :
    k0_pay1 (k0_pay2 v1 v0 v2 v3 v4 v5 v6 g1 g2 g3) (ix2 i q)
      = gated (g1 (ix2 i q)) (∑ k : Fin 2048, v0 (ix2 i k) * v2 (ix2 k q)) (g2 (ix2 i q)) (∑ k : Fin 2048, v1 (ix2 i k) * v3 (ix2 k q))
        (∑ k : Fin 2048, v1 (ix2 i k) * v4 (ix2 k q)) (g3 (ix2 i q)) (∑ k : Fin 4096, v5 (ix2 i k) * v6 (ix2 k q)) := by
  pointwise [k0_pay1, k0_pay2]
  rw [zero_sub]
  rfl

variable (m : (ℓ : Loc nD τ sig) → Buf (Elt Ideal) ℓ) (c : Dev nD)

/-- The arguments. -/
abbrev r0 : FVec Ideal S16384x2048 .bf16 := m ((c : Thread nD τ).loc main_arg0)
abbrev r1 : FVec Ideal S16384x2048 .bf16 := m ((c : Thread nD τ).loc main_arg1)
abbrev r2 : FVec Ideal S16384x4096 .bf16 := m ((c : Thread nD τ).loc main_arg2)
abbrev r3 : FVec Ideal S16384x6144 .f32 := m ((c : Thread nD τ).loc main_arg3)
abbrev r4 : FVec Ideal S2048x2048 .f32 := m ((c : Thread nD τ).loc main_arg4)
abbrev r5 : FVec Ideal S2048x4096 .f32 := m ((c : Thread nD τ).loc main_arg5)
abbrev r6 : FVec Ideal S4096x2048 .f32 := m ((c : Thread nD τ).loc main_arg6)

/-- Which block each window takes at step `t`. -/
theorem idx : ∀ t : Fin cfg0.N, (win0_0.index t 0 = t.val / 4 ∧ win0_0.index t 1 = 0) ∧ (win0_1.index t 0 = t.val / 4 ∧ win0_1.index t 1 = 0) ∧ (win0_2.index t 0 = t.val / 4 ∧ win0_2.index t 1 = 0) ∧ (win0_3.index t 0 = t.val / 4 ∧ win0_3.index t 1 = t.val % 4) ∧ (win0_4.index t 0 = t.val / 4 ∧ win0_4.index t 1 = 4 + t.val % 4) ∧ (win0_5.index t 0 = t.val / 4 ∧ win0_5.index t 1 = 8 + t.val % 4) ∧ (win0_6.index t 0 = 0 ∧ win0_6.index t 1 = t.val % 4) ∧ (win0_7.index t 0 = 0 ∧ win0_7.index t 1 = t.val % 4) ∧ (win0_8.index t 0 = 0 ∧ win0_8.index t 1 = 4 + t.val % 4) ∧ (win0_9.index t 0 = 0 ∧ win0_9.index t 1 = t.val % 4) ∧ (win0_10.index t 0 = t.val / 4 ∧ win0_10.index t 1 = t.val % 4) :=
  (by decide +kernel : ∀ t : Fin grid0.N, (win0_0.index t 0 = t.val / 4 ∧ win0_0.index t 1 = 0) ∧ (win0_1.index t 0 = t.val / 4 ∧ win0_1.index t 1 = 0) ∧ (win0_2.index t 0 = t.val / 4 ∧ win0_2.index t 1 = 0) ∧ (win0_3.index t 0 = t.val / 4 ∧ win0_3.index t 1 = t.val % 4) ∧ (win0_4.index t 0 = t.val / 4 ∧ win0_4.index t 1 = 4 + t.val % 4) ∧ (win0_5.index t 0 = t.val / 4 ∧ win0_5.index t 1 = 8 + t.val % 4) ∧ (win0_6.index t 0 = 0 ∧ win0_6.index t 1 = t.val % 4) ∧ (win0_7.index t 0 = 0 ∧ win0_7.index t 1 = t.val % 4) ∧ (win0_8.index t 0 = 0 ∧ win0_8.index t 1 = 4 + t.val % 4) ∧ (win0_9.index t 0 = 0 ∧ win0_9.index t 1 = t.val % 4) ∧ (win0_10.index t 0 = t.val / 4 ∧ win0_10.index t 1 = t.val % 4))

/-- The array row of row `i`, and the array column of column `q`, of grid step `t`. -/
def row (t : Fin cfg0.N) (i : Fin 512) : Fin 16384 :=
  ⟨512 * (t.val / 4) + i.val, by have := lt_of_lt_of_eq t.isLt (show cfg0.N = 128 from N_0); omega⟩
def col (t : Fin cfg0.N) (q : Fin 512) : Fin 2048 := ⟨512 * (t.val % 4) + q.val, by omega⟩

theorem V_4 (k q : Fin 2048) : (V m c main_v0 : FVec Ideal S2048x2048 .bf16) (ix2 k q) = r4 m c (ix2 k q) := by
  entry_read
  rfl
theorem V_5 (k : Fin 2048) (q : Fin 4096) : (V m c main_v1 : FVec Ideal S2048x4096 .bf16) (ix2 k q) = r5 m c (ix2 k q) := by
  entry_read
  rfl
theorem V_6 (k : Fin 4096) (q : Fin 2048) : (V m c main_v2 : FVec Ideal S4096x2048 .bf16) (ix2 k q) = r6 m c (ix2 k q) := by
  entry_read
  rfl

abbrev bR (t : Fin cfg0.N) : FVec Ideal S512x2048 .bf16 := iblk m c 0 t

theorem bR_at (t : Fin cfg0.N) (i : Fin 512) (k : Fin 2048) : bR m c t (ix2 i k) = r0 m c (ix2 (row t i) k) := by
  unfold bR iblk
  rw [View.read_apply]
  refine Eq.trans ?_ (congrFun (V_main_arg0 m c) (ix2 (row t i) k))
  show V m c main_arg0 _ = V m c main_arg0 _
  congr 1
  funext a
  apply Fin.ext
  have hi := (idx t).1
  match a with
  | ⟨0, _⟩ => show win0_0.index t 0 * 512 + 1 * i.val = 512 * (t.val / 4) + i.val; rw [hi.1]; omega
  | ⟨1, _⟩ => show win0_0.index t 1 * 2048 + 1 * k.val = k.val; rw [hi.2]; omega

abbrev bS (t : Fin cfg0.N) : FVec Ideal S512x2048 .bf16 := iblk m c 1 t

theorem bS_at (t : Fin cfg0.N) (i : Fin 512) (k : Fin 2048) : bS m c t (ix2 i k) = r1 m c (ix2 (row t i) k) := by
  unfold bS iblk
  rw [View.read_apply]
  refine Eq.trans ?_ (congrFun (V_main_arg1 m c) (ix2 (row t i) k))
  show V m c main_arg1 _ = V m c main_arg1 _
  congr 1
  funext a
  apply Fin.ext
  have hi := (idx t).2.1
  match a with
  | ⟨0, _⟩ => show win0_1.index t 0 * 512 + 1 * i.val = 512 * (t.val / 4) + i.val; rw [hi.1]; omega
  | ⟨1, _⟩ => show win0_1.index t 1 * 2048 + 1 * k.val = k.val; rw [hi.2]; omega

abbrev bD (t : Fin cfg0.N) : FVec Ideal S512x4096 .bf16 := iblk m c 2 t

theorem bD_at (t : Fin cfg0.N) (i : Fin 512) (k : Fin 4096) : bD m c t (ix2 i k) = r2 m c (ix2 (row t i) k) := by
  unfold bD iblk
  rw [View.read_apply]
  refine Eq.trans ?_ (congrFun (V_main_arg2 m c) (ix2 (row t i) k))
  show V m c main_arg2 _ = V m c main_arg2 _
  congr 1
  funext a
  apply Fin.ext
  have hi := (idx t).2.2.1
  match a with
  | ⟨0, _⟩ => show win0_2.index t 0 * 512 + 1 * i.val = 512 * (t.val / 4) + i.val; rw [hi.1]; omega
  | ⟨1, _⟩ => show win0_2.index t 1 * 4096 + 1 * k.val = k.val; rw [hi.2]; omega

abbrev gR (t : Fin cfg0.N) : FVec Ideal S512x512 .f32 := iblk m c 3 t

theorem gR_at (t : Fin cfg0.N) (i k : Fin 512) : gR m c t (ix2 i k) = r3 m c (ix2 (row t i) ⟨0 + (col t k).val, by omega⟩) := by
  unfold gR iblk
  rw [View.read_apply]
  refine Eq.trans ?_ (congrFun (V_main_arg3 m c) (ix2 (row t i) ⟨0 + (col t k).val, by omega⟩))
  show V m c main_arg3 _ = V m c main_arg3 _
  congr 1
  funext a
  apply Fin.ext
  have hi := (idx t).2.2.2.1
  match a with
  | ⟨0, _⟩ => show win0_3.index t 0 * 512 + 1 * i.val = 512 * (t.val / 4) + i.val; rw [hi.1]; omega
  | ⟨1, _⟩ => show win0_3.index t 1 * 512 + 1 * k.val = 0 + (512 * (t.val % 4) + k.val); rw [hi.2]; omega

abbrev gS (t : Fin cfg0.N) : FVec Ideal S512x512 .f32 := iblk m c 4 t

theorem gS_at (t : Fin cfg0.N) (i k : Fin 512) : gS m c t (ix2 i k) = r3 m c (ix2 (row t i) ⟨2048 + (col t k).val, by omega⟩) := by
  unfold gS iblk
  rw [View.read_apply]
  refine Eq.trans ?_ (congrFun (V_main_arg3 m c) (ix2 (row t i) ⟨2048 + (col t k).val, by omega⟩))
  show V m c main_arg3 _ = V m c main_arg3 _
  congr 1
  funext a
  apply Fin.ext
  have hi := (idx t).2.2.2.2.1
  match a with
  | ⟨0, _⟩ => show win0_4.index t 0 * 512 + 1 * i.val = 512 * (t.val / 4) + i.val; rw [hi.1]; omega
  | ⟨1, _⟩ => show win0_4.index t 1 * 512 + 1 * k.val = 2048 + (512 * (t.val % 4) + k.val); rw [hi.2]; omega

abbrev gD (t : Fin cfg0.N) : FVec Ideal S512x512 .f32 := iblk m c 5 t

theorem gD_at (t : Fin cfg0.N) (i k : Fin 512) : gD m c t (ix2 i k) = r3 m c (ix2 (row t i) ⟨4096 + (col t k).val, by omega⟩) := by
  unfold gD iblk
  rw [View.read_apply]
  refine Eq.trans ?_ (congrFun (V_main_arg3 m c) (ix2 (row t i) ⟨4096 + (col t k).val, by omega⟩))
  show V m c main_arg3 _ = V m c main_arg3 _
  congr 1
  funext a
  apply Fin.ext
  have hi := (idx t).2.2.2.2.2.1
  match a with
  | ⟨0, _⟩ => show win0_5.index t 0 * 512 + 1 * i.val = 512 * (t.val / 4) + i.val; rw [hi.1]; omega
  | ⟨1, _⟩ => show win0_5.index t 1 * 512 + 1 * k.val = 4096 + (512 * (t.val % 4) + k.val); rw [hi.2]; omega

abbrev wR (t : Fin cfg0.N) : FVec Ideal S2048x512 .bf16 := iblk m c 6 t

theorem wR_at (t : Fin cfg0.N) (k : Fin 2048) (q : Fin 512) : wR m c t (ix2 k q) = r4 m c (ix2 k (col t q)) := by
  unfold wR iblk
  rw [View.read_apply]
  refine Eq.trans ?_ (V_4 m c k (col t q))
  show V m c main_v0 _ = V m c main_v0 _
  congr 1
  funext a
  apply Fin.ext
  have hi := (idx t).2.2.2.2.2.2.1
  match a with
  | ⟨0, _⟩ => show win0_6.index t 0 * 2048 + 1 * k.val = k.val; rw [hi.1]; omega
  | ⟨1, _⟩ => show win0_6.index t 1 * 512 + 1 * q.val = 512 * (t.val % 4) + q.val; rw [hi.2]; omega

abbrev wV (t : Fin cfg0.N) : FVec Ideal S2048x512 .bf16 := iblk m c 7 t

theorem wV_at (t : Fin cfg0.N) (k : Fin 2048) (q : Fin 512) : wV m c t (ix2 k q) = r5 m c (ix2 k ⟨0 + (col t q).val, by omega⟩) := by
  unfold wV iblk
  rw [View.read_apply]
  refine Eq.trans ?_ (V_5 m c k ⟨0 + (col t q).val, by omega⟩)
  show V m c main_v1 _ = V m c main_v1 _
  congr 1
  funext a
  apply Fin.ext
  have hi := (idx t).2.2.2.2.2.2.2.1
  match a with
  | ⟨0, _⟩ => show win0_7.index t 0 * 2048 + 1 * k.val = k.val; rw [hi.1]; omega
  | ⟨1, _⟩ => show win0_7.index t 1 * 512 + 1 * q.val = 0 + (512 * (t.val % 4) + q.val); rw [hi.2]; omega

abbrev wG (t : Fin cfg0.N) : FVec Ideal S2048x512 .bf16 := iblk m c 8 t

theorem wG_at (t : Fin cfg0.N) (k : Fin 2048) (q : Fin 512) : wG m c t (ix2 k q) = r5 m c (ix2 k ⟨2048 + (col t q).val, by omega⟩) := by
  unfold wG iblk
  rw [View.read_apply]
  refine Eq.trans ?_ (V_5 m c k ⟨2048 + (col t q).val, by omega⟩)
  show V m c main_v1 _ = V m c main_v1 _
  congr 1
  funext a
  apply Fin.ext
  have hi := (idx t).2.2.2.2.2.2.2.2.1
  match a with
  | ⟨0, _⟩ => show win0_8.index t 0 * 2048 + 1 * k.val = k.val; rw [hi.1]; omega
  | ⟨1, _⟩ => show win0_8.index t 1 * 512 + 1 * q.val = 2048 + (512 * (t.val % 4) + q.val); rw [hi.2]; omega

abbrev wD (t : Fin cfg0.N) : FVec Ideal S4096x512 .bf16 := iblk m c 9 t

theorem wD_at (t : Fin cfg0.N) (k : Fin 4096) (q : Fin 512) : wD m c t (ix2 k q) = r6 m c (ix2 k (col t q)) := by
  unfold wD iblk
  rw [View.read_apply]
  refine Eq.trans ?_ (V_6 m c k (col t q))
  show V m c main_v2 _ = V m c main_v2 _
  congr 1
  funext a
  apply Fin.ext
  have hi := (idx t).2.2.2.2.2.2.2.2.2.1
  match a with
  | ⟨0, _⟩ => show win0_9.index t 0 * 4096 + 1 * k.val = k.val; rw [hi.1]; omega
  | ⟨1, _⟩ => show win0_9.index t 1 * 512 + 1 * q.val = 512 * (t.val % 4) + q.val; rw [hi.2]; omega

theorem off0 : (![0, 0] : Fin 2 → ℕ) = fun _ => 0 := by
  funext a
  match a with
  | ⟨0, _⟩ => rfl
  | ⟨1, _⟩ => rfl

/-- The reference's result, of this memory's arguments. -/
abbrev R : FVec Ideal S16384x2048 .bf16 :=
  out (r3 m c) (prodR (r0 m c) (r4 m c)) (prodS (r1 m c) (r5 m c)) (prodD (r2 m c) (r6 m c))

theorem gated_congr {a b c d e f g a' b' c' d' e' f' g' : EReal} (h1 : a = a') (h2 : b = b') (h3 : c = c') (h4 : d = d') (h5 : e = e')
    (h6 : f = f') (h7 : g = g') : gated a b c d e f g = gated a' b' c' d' e' f' g' := by
  rw [h1, h2, h3, h4, h5, h6, h7]

/-- One element of a step's output block is the reference's. -/
theorem out_blk (t : Fin cfg0.N) (i q : Fin 512) :
    (out0_10 (F := Ideal) (bR m c t) (bS m c t) (bD m c t) (gR m c t) (gS m c t) (gD m c t) (wR m c t) (wV m c t) (wG m c t) (wD m c t)) (ix2 i q)
      = R m c (ix2 (row t i) (col t q)) := by
  unfold out0_10
  rw [View.canon_unit_zero off0]
  repeat rw [View.ld_unit_zero off0]
  refine (pay_at _ _ _ _ _ _ _ _ _ _ i q).trans (Eq.trans ?_ (Cert.Reference3Ideal.Body.out_at _ _ _ _ (row t i) (col t q)).symm)
  refine gated_congr (gR_at m c t i q) ?_ (gS_at m c t i q) ?_ ?_ (gD_at m c t i q) ?_
  · rw [prodR_at]
    exact Finset.sum_congr rfl fun k _ => congrArg₂ (· * ·) (bR_at m c t i k) (wR_at m c t k q)
  · rw [prodS_at]
    exact Finset.sum_congr rfl fun k _ => congrArg₂ (· * ·) (bS_at m c t i k) (wV_at m c t k q)
  · rw [prodS_at]
    exact Finset.sum_congr rfl fun k _ => congrArg₂ (· * ·) (bS_at m c t i k) (wG_at m c t k q)
  · rw [prodD_at]
    exact Finset.sum_congr rfl fun k _ => congrArg₂ (· * ·) (bD_at m c t i k) (wD_at m c t k q)

/-- THE RESULT'S ARRAY. -/
theorem arrO : (dats m 0 c).arrAt 10 cfg0.N = R m c := by
  refine (dats m 0 c).arrAt_eq_of_covers 10 _ (by decide +kernel) fun t hf y => ?_
  show (dats m 0 c).after 10 t y = _
  rw [after0_10]
  refine (congrArg (out0_10 (iblk m c 0 t) (iblk m c 1 t) (iblk m c 2 t) (iblk m c 3 t) (iblk m c 4 t) (iblk m c 5 t) (iblk m c 6 t) (iblk m c 7 t) (iblk m c 8 t) (iblk m c 9 t)) (eta2 (n1 := 512) (n2 := 512) y)).trans
    ((out_blk m c t (y 0) (y 1)).trans (congrArg _ ?_))
  have hi := (idx t).2.2.2.2.2.2.2.2.2.2
  funext a
  apply Fin.ext
  match a with
  | ⟨0, _⟩ => show 512 * (t.val / 4) + (y 0).val = win0_10.index t 0 * 512 + 1 * (y 0).val; rw [hi.1]; omega
  | ⟨1, _⟩ => show 512 * (t.val % 4) + (y 1).val = win0_10.index t 1 * 512 + 1 * (y 1).val; rw [hi.2]; omega

end Cert.Kernel3Ideal.Body

namespace Cert.Res3

open Idealize.ShloMosaic Idealize.ShloMosaic.TcCoe Idealize.SL Idealize.SL.Sem
open Cert.Kernel3Ideal.Body

/-- The reference runs, keeps its arguments, and declares no semaphore. -/
theorem frame_ref : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- THE RESULT IS EQUAL over the extended reals. -/
theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨fun c => R m c, ?_, ?_⟩
  · exact (θ_run _ _ _).mono (fun _ h c => ⟨(h c).1.trans (arrO m c), (h c).2⟩)
      (Cert.Kernel3Ideal.Value.run_blocks (F := Ideal) m ρ)
  · refine (θ_run _ _ _).mono (fun _ h c => ⟨(h c).1.trans ?_, (h c).2⟩) (Cert.Reference3Ideal.Value.run (F := Ideal) m' ρ')
    rw [(hagree c).1, (hagree c).2.1, (hagree c).2.2.1, (hagree c).2.2.2.1, (hagree c).2.2.2.2.1, (hagree c).2.2.2.2.2.1, (hagree c).2.2.2.2.2.2]
    rfl

end Cert.Res3

end
-- ==== Proof.Res4.lean ====
module

public import proofs.«01_k».proof.Defs
public import proofs.«01_k».proof.Proof.Dense
public import proofs.«01_k».proof.Proof.Gen.Kernel4Ideal.Value
public import proofs.«01_k».proof.Proof.Gen.Reference4Ideal.Run
public import Idealize.ShloMosaic.Lib.Pipeline.ValueKit

/-! The memory rows' norm and their product with the key and value columns. -/

@[expose] public section

noncomputable section

namespace Cert.Reference4Ideal.Body

open Cert.Reference4Ideal Cert.Reference4Ideal.Gen Idealize.ShloMosaic Idealize.ShloMosaic.TcCoe Idealize.SL Cert.Dense

variable (y : FVec Ideal S2x256x2048 .f32) (g : FVec Ideal S2048 .f32) (w : FVec Ideal S2048x4096 .f32)

/-- The norm of rows. -/
def hn : FVec Ideal S2x256x2048 .f32 :=
  mulf (mulf y (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf y y) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 g))

theorem hn_at (a : Fin 2) (r : Fin 256) (q : Fin 2048) : hn y g (ix3 a r q) = nrm (fun q => y (ix3 a r q)) (fun q => g (ix1 q)) q := by
  pointwise [hn]
  rfl

/-- The product with the key and value columns, and its rows joined. -/
def prod : FVec Ideal S2x256x4096 .f32 := Host.dotGeneral dot_S2x256x2048_S2048x4096_S2x256x4096_2_0_01_1_n_n none y w
def out (p : FVec Ideal S2x256x4096 .f32) : FVec Ideal S512x4096 .f32 := shapeCast _ p shapeCasts_S2x256x4096_S512x4096

theorem prod_at (a : Fin 2) (r : Fin 256) (q : Fin 4096) : prod y w (ix3 a r q) = ∑ k : Fin 2048, y (ix3 a r k) * w (ix2 k q) := by
  pointwise [prod]

theorem out_at (p : FVec Ideal S2x256x4096 .f32) (r : Fin 512) (q : Fin 4096) : out p (ix2 r q) = p (ix3 ⟨r.val / 256, by omega⟩ ⟨r.val % 256, by omega⟩ q) :=
  join_4096 p shapeCasts_S2x256x4096_S512x4096 r q

end Cert.Reference4Ideal.Body

namespace Cert.Kernel4Ideal.Body

open Cert.Kernel4Ideal Cert.Kernel4Ideal.Gen Idealize.ShloMosaic Idealize.ShloMosaic.TcCoe Idealize.SL Cert.Dense
open Cert.Reference4Ideal.Body (hn prod out hn_at prod_at out_at)

theorem pay1_at (x : Vec Ideal S512x2048 .f32) (g : Vec Ideal S1x2048 .f32) (i : Fin 512) (q : Fin 2048) :
    k0_pay1 x g (ix2 i q) = nrm (fun q => x (ix2 i q)) (fun q => g (ix2 0 q)) q := by
  pointwise [k0_pay1]
  rfl

theorem pay2_at (h : Vec Ideal S512x2048 .bf16) (w : Vec Ideal S2048x512 .bf16) (i q : Fin 512) :
    k0_pay2 h w (ix2 i q) = ∑ k : Fin 2048, h (ix2 i k) * w (ix2 k q) := by
  pointwise [k0_pay2]

variable (m : (ℓ : Loc nD τ sig) → Buf (Elt Ideal) ℓ) (c : Dev nD)

/-- The arguments. -/
abbrev rx : FVec Ideal S2x256x2048 .f32 := m ((c : Thread nD τ).loc main_arg0)
abbrev rg : FVec Ideal S2048 .f32 := m ((c : Thread nD τ).loc main_arg1)
abbrev rw' : FVec Ideal S2048x4096 .f32 := m ((c : Thread nD τ).loc main_arg2)

/-- Which block each window takes at step `t`. -/
theorem idx : ∀ t : Fin cfg0.N, (win0_0.index t 0 = t.val / 8 ∧ win0_0.index t 1 = 0) ∧ (win0_1.index t 0 = 0 ∧ win0_1.index t 1 = 0) ∧ (win0_2.index t 0 = 0 ∧ win0_2.index t 1 = t.val % 8) ∧ (win0_3.index t 0 = t.val / 8 ∧ win0_3.index t 1 = t.val % 8) :=
  (by decide +kernel : ∀ t : Fin grid0.N, (win0_0.index t 0 = t.val / 8 ∧ win0_0.index t 1 = 0) ∧ (win0_1.index t 0 = 0 ∧ win0_1.index t 1 = 0) ∧ (win0_2.index t 0 = 0 ∧ win0_2.index t 1 = t.val % 8) ∧ (win0_3.index t 0 = t.val / 8 ∧ win0_3.index t 1 = t.val % 8))

/-- The array row of row `i`, and the array column of column `q`, of step `t`. -/
def row (t : Fin cfg0.N) (i : Fin 512) : Fin 512 :=
  ⟨512 * (t.val / 8) + i.val, by have := lt_of_lt_of_eq t.isLt (show cfg0.N = 8 from N_0); omega⟩
def col (t : Fin cfg0.N) (q : Fin 512) : Fin 4096 := ⟨512 * (t.val % 8) + q.val, by omega⟩

theorem V_g (q : Fin 2048) : (V m c main_v1 : FVec Ideal S1x2048 .f32) (ix2 0 q) = rg m c (ix1 q) := by
  entry_read
  exact cast_row _ _ q

theorem V_x (r : Fin 512) (k : Fin 2048) : (V m c main_v0 : FVec Ideal S512x2048 .f32) (ix2 r k) = rx m c (ix3 ⟨r.val / 256, by omega⟩ ⟨r.val % 256, by omega⟩ k) := by
  entry_read
  exact join_2048 _ _ r k
theorem V_w (k : Fin 2048) (q : Fin 4096) : (V m c main_v2 : FVec Ideal S2048x4096 .bf16) (ix2 k q) = rw' m c (ix2 k q) := by
  entry_read
  rfl

abbrev bX (t : Fin cfg0.N) : FVec Ideal S512x2048 .f32 := iblk m c 0 t

theorem bX_at (t : Fin cfg0.N) (i : Fin 512) (k : Fin 2048) : bX m c t (ix2 i k) = rx m c (ix3 ⟨(row t i).val / 256, by omega⟩ ⟨(row t i).val % 256, by omega⟩ k) := by
  unfold bX iblk
  rw [View.read_apply]
  refine Eq.trans ?_ (V_x m c (row t i) k)
  show V m c main_v0 _ = V m c main_v0 _
  congr 1
  funext a
  apply Fin.ext
  have hi := (idx t).1
  match a with
  | ⟨0, _⟩ => show win0_0.index t 0 * 512 + 1 * i.val = 512 * (t.val / 8) + i.val; rw [hi.1]; omega
  | ⟨1, _⟩ => show win0_0.index t 1 * 2048 + 1 * k.val = k.val; rw [hi.2]; omega

abbrev bG (t : Fin cfg0.N) : FVec Ideal S1x2048 .f32 := iblk m c 1 t

theorem bG_at (t : Fin cfg0.N) (k : Fin 2048) : bG m c t (ix2 0 k) = rg m c (ix1 k) := by
  unfold bG iblk
  rw [View.read_apply]
  refine Eq.trans ?_ (V_g m c k)
  show V m c main_v1 _ = V m c main_v1 _
  congr 1
  funext a
  apply Fin.ext
  have hi := (idx t).2.1
  match a with
  | ⟨0, _⟩ => show win0_1.index t 0 * 1 + 1 * 0 = 0; rw [hi.1]
  | ⟨1, _⟩ => show win0_1.index t 1 * 2048 + 1 * k.val = k.val; rw [hi.2]; omega

abbrev bW (t : Fin cfg0.N) : FVec Ideal S2048x512 .bf16 := iblk m c 2 t

theorem bW_at (t : Fin cfg0.N) (i : Fin 2048) (k : Fin 512) : bW m c t (ix2 i k) = rw' m c (ix2 i (col t k)) := by
  unfold bW iblk
  rw [View.read_apply]
  refine Eq.trans ?_ (V_w m c i (col t k))
  show V m c main_v2 _ = V m c main_v2 _
  congr 1
  funext a
  apply Fin.ext
  have hi := (idx t).2.2.1
  match a with
  | ⟨0, _⟩ => show win0_2.index t 0 * 2048 + 1 * i.val = i.val; rw [hi.1]; omega
  | ⟨1, _⟩ => show win0_2.index t 1 * 512 + 1 * k.val = 512 * (t.val % 8) + k.val; rw [hi.2]; omega

/-- The reference's stages, of this memory's arguments. -/
abbrev H (r : Fin 512) (k : Fin 2048) : EReal := hn (rx m c) (rg m c) (ix3 ⟨r.val / 256, by omega⟩ ⟨r.val % 256, by omega⟩ k)
theorem H_at (r : Fin 512) (k : Fin 2048) : H m c r k = nrm (fun q => rx m c (ix3 ⟨r.val / 256, by omega⟩ ⟨r.val % 256, by omega⟩ q)) (fun q => rg m c (ix1 q)) k := hn_at _ _ _ _ k
abbrev R : FVec Ideal S512x4096 .f32 := out (prod (hn (rx m c) (rg m c)) (rw' m c))

/-! The steps' stored values. -/

theorem hnA (t : Fin cfg0.N) (h0 : t.val % 8 = 0) : (outsAt0 m c t.val t.isLt).2 = k0_pay1 (F := Ideal) (bX m c t) (bG m c t) := by
  rw [outsAt0_A m c t h0]
  dsimp only
  frame_out

theorem hnB (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- The normed rows' block, at every step. -/
theorem hn_inv : ∀ (n : ℕ) (h : n < cfg0.N) (i : Fin 512) (k : Fin 2048),
    (outsAt0 m c n h).2 (ix2 i k) = H m c (row ⟨n, h⟩ i) k := by
  intro n
  induction n with
  | zero =>
    intro h i k
    refine (congrFun (hnA m c ⟨0, h⟩ (Nat.zero_mod 8)) (ix2 i k)).trans ((pay1_at _ _ i k).trans (Eq.trans ?_ (H_at m c (row ⟨0, h⟩ i) k).symm))
    exact congrArg₂ (nrm · · k) (funext fun q => bX_at m c _ i q) (funext fun q => bG_at m c _ q)
  | succ n ih =>
    intro h i k
    by_cases h0 : (n + 1) % 8 = 0
    · refine (congrFun (hnA m c ⟨n + 1, h⟩ h0) (ix2 i k)).trans ((pay1_at _ _ i k).trans (Eq.trans ?_ (H_at m c (row ⟨n + 1, h⟩ i) k).symm))
      exact congrArg₂ (nrm · · k) (funext fun q => bX_at m c _ i q) (funext fun q => bG_at m c _ q)
    · refine (congrFun (hnB m c ⟨n + 1, h⟩ h0) (ix2 i k)).trans ((ih _ i k).trans ?_)
      refine congrArg (fun r => H m c r k) (Fin.ext ?_)
      show 512 * (n / 8) + i.val = 512 * ((n + 1) / 8) + i.val
      omega

theorem outA (t : Fin cfg0.N) (h0 : t.val % 8 = 0) : (outsAt0 m c t.val t.isLt).1 = k0_pay2 (F := Ideal) (k0_pay1 (F := Ideal) (bX m c t) (bG m c t)) (bW m c t) := by
  rw [outsAt0_A m c t h0]
  dsimp only
  frame_out

theorem outB (t : Fin cfg0.N) (h0 : ¬t.val % 8 = 0) :
    (outsAt0 m c t.val t.isLt).1 = k0_pay2 (F := Ideal) (outsAt0 m c (t.val - 1) (Nat.lt_of_le_of_lt (Nat.sub_le _ _) t.isLt)).2 (bW m c t) := by
  rw [outsAt0_B m c t h0]
  dsimp only
  frame_out
  exact congrArg (fun h => k0_pay2 (F := Ideal) h (bW m c t)) ((Memref.isWhole_whole _).read_unread _)

theorem out_eq (t : Fin cfg0.N) : (outsAt0 m c t.val t.isLt).1 = k0_pay2 (F := Ideal) (outsAt0 m c t.val t.isLt).2 (bW m c t) := by
  by_cases h0 : t.val % 8 = 0
  · rw [outA m c t h0, hnA m c t h0]
  · rw [outB m c t h0, hnB m c t h0]

/-- One element of a step's output block. -/
theorem out_blk (t : Fin cfg0.N) (i q : Fin 512) : (outsAt0 m c t.val t.isLt).1 (ix2 i q) = R m c (ix2 (row t i) (col t q)) := by
  refine (congrFun (out_eq m c t) (ix2 i q)).trans ((pay2_at _ _ i q).trans (Eq.trans ?_ (out_at _ (row t i) (col t q)).symm))
  refine Eq.trans ?_ (prod_at _ _ _ _ (col t q)).symm
  exact Finset.sum_congr rfl fun k _ => congrArg₂ (· * ·) (hn_inv m c t.val t.isLt i k) (bW_at m c t k q)

/-- THE RESULT'S ARRAY. -/
theorem arrO : (dats m 0 c).arrAt 3 cfg0.N = R m c := by
  refine (dats m 0 c).arrAt_eq_of_covers 3 _ (by decide +kernel) fun t hf y => ?_
  show (dats m 0 c).after 3 t y = _
  rw [after0_3]
  refine (congrArg (outsAt0 m c t.val t.isLt).1 (eta2 (n1 := 512) (n2 := 512) y)).trans
    ((out_blk m c t (y 0) (y 1)).trans (congrArg _ ?_))
  have hi := (idx t).2.2.2
  funext a
  apply Fin.ext
  match a with
  | ⟨0, _⟩ => show 512 * (t.val / 8) + (y 0).val = win0_3.index t 0 * 512 + 1 * (y 0).val; rw [hi.1]; omega
  | ⟨1, _⟩ => show 512 * (t.val % 8) + (y 1).val = win0_3.index t 1 * 512 + 1 * (y 1).val; rw [hi.2]; omega

end Cert.Kernel4Ideal.Body

namespace Cert.Res4

open Idealize.ShloMosaic Idealize.ShloMosaic.TcCoe Idealize.SL Idealize.SL.Sem
open Cert.Kernel4Ideal.Body

/-- The reference runs, keeps its arguments, and declares no semaphore. -/
theorem frame_ref : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- THE RESULT IS EQUAL over the extended reals. -/
theorem algebraic : Cert.algebraic_Kernel4Ideal_Reference4Ideal (hKernel4Ideal := Cert.Kernel4Ideal.Gen.facts) (hReference4Ideal := Cert.Reference4Ideal.Gen.facts) := by
  intro m ρ m' ρ' _ hagree
  refine ⟨fun c => R m c, ?_, ?_⟩
  · exact (θ_run _ _ _).mono (fun _ h c => ⟨(h c).1.trans (arrO m c), (h c).2⟩)
      (Cert.Kernel4Ideal.Value.run_blocks (F := Ideal) m ρ)
  · refine (θ_run _ _ _).mono (fun _ h c => ⟨(h c).1.trans ?_, (h c).2⟩) (Cert.Reference4Ideal.Value.run (F := Ideal) m' ρ')
    rw [(hagree c).1, (hagree c).2.1, (hagree c).2.2]
    rfl

end Cert.Res4

end
-- ==== Proof.Res5.lean ====
module

public import proofs.«01_k».proof.Defs
public import proofs.«01_k».proof.Proof.Dense
public import proofs.«01_k».proof.Proof.Gen.Kernel5Ideal.Value
public import proofs.«01_k».proof.Proof.Gen.Reference5Ideal.Run
public import Idealize.ShloMosaic.Lib.Pipeline.ValueKit

/-! The normed rows' product with the gates' columns, then the logistic function. -/

@[expose] public section

noncomputable section

namespace Cert.Reference5Ideal.Body

open Cert.Reference5Ideal Cert.Reference5Ideal.Gen Idealize.ShloMosaic Idealize.ShloMosaic.TcCoe Idealize.SL Cert.Dense

variable (y : FVec Ideal S16384x2048 .f32) (g : FVec Ideal S2048 .f32) (w : FVec Ideal S2048x24640 .f32)

/-- The norm of rows. -/
def hn : FVec Ideal S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

theorem hn_at (r : Fin 16384) (q : Fin 2048) : hn y g (ix2 r q) = nrm (fun q => y (ix2 r q)) (fun q => g (ix1 q)) q := by
  pointwise [hn]
  rfl

/-- The product with the gates' columns, and the logistic function of it. -/
def prod : FVec Ideal S16384x6144 .f32 := Host.dotGeneral dot_S16384x2048_S2048x6144_S16384x6144_1_0_0_1_n_n none y (extractStridedSlice S2048x6144 ![0, 18496] w slices_S2048x24640_S2048x6144_0_18496)
def out (p : FVec Ideal S16384x6144 .f32) : FVec Ideal S16384x6144 .f32 :=
  Host.divf (broadcastInDim S16384x6144 ![] bcast_S_S16384x6144 (constant S_ .f32 0x3F800000#32)) (addf (broadcastInDim S16384x6144 ![] bcast_S_S16384x6144 (constant S_ .f32 0x3F800000#32)) (Host.exp (Host.negf p)))

theorem prod_at (r : Fin 16384) (q : Fin 6144) : prod y w (ix2 r q) = ∑ k : Fin 2048, y (ix2 r k) * w (ix2 k ⟨18496 + q.val, by omega⟩) := by
  pointwise [prod]

theorem out_at (p : FVec Ideal S16384x6144 .f32) (r : Fin 16384) (q : Fin 6144) : out p (ix2 r q) = sg (p (ix2 r q)) := by
  pointwise [out]
  rfl

end Cert.Reference5Ideal.Body

namespace Cert.Kernel5Ideal.Body

open Cert.Kernel5Ideal Cert.Kernel5Ideal.Gen Idealize.ShloMosaic Idealize.ShloMosaic.TcCoe Idealize.SL Cert.Dense
open Cert.Reference5Ideal.Body (hn prod out hn_at prod_at out_at)

theorem pay1_at (x : Vec Ideal S1024x2048 .f32) (g : Vec Ideal S1x2048 .f32) (i : Fin 1024) (q : Fin 2048) :
    k0_pay1 x g (ix2 i q) = nrm (fun q => x (ix2 i q)) (fun q => g (ix2 0 q)) q := by
  pointwise [k0_pay1]
  rfl

theorem pay2_at (h : Vec Ideal S1024x2048 .bf16) (w : Vec Ideal S2048x1024 .bf16) (i q : Fin 1024) :
    k0_pay2 h w (ix2 i q) = sg (∑ k : Fin 2048, h (ix2 i k) * w (ix2 k q)) := by
  pointwise [k0_pay2]
  rw [zero_sub]
  rfl

variable (m : (ℓ : Loc nD τ sig) → Buf (Elt Ideal) ℓ) (c : Dev nD)

/-- The arguments. -/
abbrev rx : FVec Ideal S16384x2048 .f32 := m ((c : Thread nD τ).loc main_arg0)
abbrev rg : FVec Ideal S2048 .f32 := m ((c : Thread nD τ).loc main_arg1)
abbrev rw' : FVec Ideal S2048x24640 .f32 := m ((c : Thread nD τ).loc main_arg2)

/-- Which block each window takes at step `t`. -/
theorem idx : ∀ t : Fin cfg0.N, (win0_0.index t 0 = t.val / 6 ∧ win0_0.index t 1 = 0) ∧ (win0_1.index t 0 = 0 ∧ win0_1.index t 1 = 0) ∧ (win0_2.index t 0 = 0 ∧ win0_2.index t 1 = t.val % 6) ∧ (win0_3.index t 0 = t.val / 6 ∧ win0_3.index t 1 = t.val % 6) :=
  (by decide +kernel : ∀ t : Fin grid0.N, (win0_0.index t 0 = t.val / 6 ∧ win0_0.index t 1 = 0) ∧ (win0_1.index t 0 = 0 ∧ win0_1.index t 1 = 0) ∧ (win0_2.index t 0 = 0 ∧ win0_2.index t 1 = t.val % 6) ∧ (win0_3.index t 0 = t.val / 6 ∧ win0_3.index t 1 = t.val % 6))

/-- The array row of row `i`, and the array column of column `q`, of step `t`. -/
def row (t : Fin cfg0.N) (i : Fin 1024) : Fin 16384 :=
  ⟨1024 * (t.val / 6) + i.val, by have := lt_of_lt_of_eq t.isLt (show cfg0.N = 96 from N_0); omega⟩
def col (t : Fin cfg0.N) (q : Fin 1024) : Fin 6144 := ⟨1024 * (t.val % 6) + q.val, by omega⟩

theorem V_g (q : Fin 2048) : (V m c main_v0 : FVec Ideal S1x2048 .f32) (ix2 0 q) = rg m c (ix1 q) := by
  entry_read
  exact cast_row _ _ q
theorem V_w (k : Fin 2048) (q : Fin 6144) : (V m c main_v2 : FVec Ideal S2048x6144 .bf16) (ix2 k q) = rw' m c (ix2 k ⟨18496 + q.val, by omega⟩) := by
  entry_read
  pointwise []

abbrev bX (t : Fin cfg0.N) : FVec Ideal S1024x2048 .f32 := iblk m c 0 t

theorem bX_at (t : Fin cfg0.N) (i : Fin 1024) (k : Fin 2048) : bX m c t (ix2 i k) = rx m c (ix2 (row t i) k) := by
  unfold bX iblk
  rw [View.read_apply]
  refine Eq.trans ?_ (congrFun (V_main_arg0 m c) (ix2 (row t i) k))
  show V m c main_arg0 _ = V m c main_arg0 _
  congr 1
  funext a
  apply Fin.ext
  have hi := (idx t).1
  match a with
  | ⟨0, _⟩ => show win0_0.index t 0 * 1024 + 1 * i.val = 1024 * (t.val / 6) + i.val; rw [hi.1]; omega
  | ⟨1, _⟩ => show win0_0.index t 1 * 2048 + 1 * k.val = k.val; rw [hi.2]; omega

abbrev bG (t : Fin cfg0.N) : FVec Ideal S1x2048 .f32 := iblk m c 1 t

theorem bG_at (t : Fin cfg0.N) (k : Fin 2048) : bG m c t (ix2 0 k) = rg m c (ix1 k) := by
  unfold bG iblk
  rw [View.read_apply]
  refine Eq.trans ?_ (V_g m c k)
  show V m c main_v0 _ = V m c main_v0 _
  congr 1
  funext a
  apply Fin.ext
  have hi := (idx t).2.1
  match a with
  | ⟨0, _⟩ => show win0_1.index t 0 * 1 + 1 * 0 = 0; rw [hi.1]
  | ⟨1, _⟩ => show win0_1.index t 1 * 2048 + 1 * k.val = k.val; rw [hi.2]; omega

abbrev bW (t : Fin cfg0.N) : FVec Ideal S2048x1024 .bf16 := iblk m c 2 t

theorem bW_at (t : Fin cfg0.N) (i : Fin 2048) (k : Fin 1024) : bW m c t (ix2 i k) = rw' m c (ix2 i ⟨18496 + (col t k).val, by omega⟩) := by
  unfold bW iblk
  rw [View.read_apply]
  refine Eq.trans ?_ (V_w m c i (col t k))
  show V m c main_v2 _ = V m c main_v2 _
  congr 1
  funext a
  apply Fin.ext
  have hi := (idx t).2.2.1
  match a with
  | ⟨0, _⟩ => show win0_2.index t 0 * 2048 + 1 * i.val = i.val; rw [hi.1]; omega
  | ⟨1, _⟩ => show win0_2.index t 1 * 1024 + 1 * k.val = 1024 * (t.val % 6) + k.val; rw [hi.2]; omega

/-- The reference's stages, of this memory's arguments. -/
abbrev H (r : Fin 16384) (k : Fin 2048) : EReal := hn (rx m c) (rg m c) (ix2 r k)
theorem H_at (r : Fin 16384) (k : Fin 2048) : H m c r k = nrm (fun q => rx m c (ix2 r q)) (fun q => rg m c (ix1 q)) k := hn_at _ _ r k
abbrev R : FVec Ideal S16384x6144 .f32 := out (prod (hn (rx m c) (rg m c)) (rw' m c))

/-! The steps' stored values. -/

theorem hnA (t : Fin cfg0.N) (h0 : t.val % 6 = 0) : (outsAt0 m c t.val t.isLt).2 = k0_pay1 (F := Ideal) (bX m c t) (bG m c t) := by
  rw [outsAt0_A m c t h0]
  dsimp only
  frame_out

theorem hnB (t : Fin cfg0.N) (h0 : ¬t.val % 6 = 0) :
    (outsAt0 m c t.val t.isLt).2 = (outsAt0 m c (t.val - 1) (Nat.lt_of_le_of_lt (Nat.sub_le _ _) t.isLt)).2 := by
  rw [outsAt0_B m c t h0]
  rfl

/-- The normed rows' block, at every step. -/
theorem hn_inv : ∀ (n : ℕ) (h : n < cfg0.N) (i : Fin 1024) (k : Fin 2048),
    (outsAt0 m c n h).2 (ix2 i k) = H m c (row ⟨n, h⟩ i) k := by
  intro n
  induction n with
  | zero =>
    intro h i k
    refine (congrFun (hnA m c ⟨0, h⟩ (Nat.zero_mod 6)) (ix2 i k)).trans ((pay1_at _ _ i k).trans (Eq.trans ?_ (H_at m c (row ⟨0, h⟩ i) k).symm))
    exact congrArg₂ (nrm · · k) (funext fun q => bX_at m c _ i q) (funext fun q => bG_at m c _ q)
  | succ n ih =>
    intro h i k
    by_cases h0 : (n + 1) % 6 = 0
    · refine (congrFun (hnA m c ⟨n + 1, h⟩ h0) (ix2 i k)).trans ((pay1_at _ _ i k).trans (Eq.trans ?_ (H_at m c (row ⟨n + 1, h⟩ i) k).symm))
      exact congrArg₂ (nrm · · k) (funext fun q => bX_at m c _ i q) (funext fun q => bG_at m c _ q)
    · refine (congrFun (hnB m c ⟨n + 1, h⟩ h0) (ix2 i k)).trans ((ih _ i k).trans ?_)
      refine congrArg (fun r => H m c r k) (Fin.ext ?_)
      show 1024 * (n / 6) + i.val = 1024 * ((n + 1) / 6) + i.val
      omega

theorem outA (t : Fin cfg0.N) (h0 : t.val % 6 = 0) : (outsAt0 m c t.val t.isLt).1 = k0_pay2 (F := Ideal) (k0_pay1 (F := Ideal) (bX m c t) (bG m c t)) (bW m c t) := by
  rw [outsAt0_A m c t h0]
  dsimp only
  frame_out

theorem outB (t : Fin cfg0.N) (h0 : ¬t.val % 6 = 0) :
    (outsAt0 m c t.val t.isLt).1 = k0_pay2 (F := Ideal) (outsAt0 m c (t.val - 1) (Nat.lt_of_le_of_lt (Nat.sub_le _ _) t.isLt)).2 (bW m c t) := by
  rw [outsAt0_B m c t h0]
  dsimp only
  frame_out
  exact congrArg (fun h => k0_pay2 (F := Ideal) h (bW m c t)) ((Memref.isWhole_whole _).read_unread _)

theorem out_eq (t : Fin cfg0.N) : (outsAt0 m c t.val t.isLt).1 = k0_pay2 (F := Ideal) (outsAt0 m c t.val t.isLt).2 (bW m c t) := by
  by_cases h0 : t.val % 6 = 0
  · rw [outA m c t h0, hnA m c t h0]
  · rw [outB m c t h0, hnB m c t h0]

/-- One element of a step's output block. -/
theorem out_blk (t : Fin cfg0.N) (i q : Fin 1024) : (outsAt0 m c t.val t.isLt).1 (ix2 i q) = R m c (ix2 (row t i) (col t q)) := by
  refine (congrFun (out_eq m c t) (ix2 i q)).trans ((pay2_at _ _ i q).trans (Eq.trans (congrArg sg ?_) (out_at _ (row t i) (col t q)).symm))
  refine Eq.trans ?_ (prod_at _ _ (row t i) (col t q)).symm
  exact Finset.sum_congr rfl fun k _ => congrArg₂ (· * ·) (hn_inv m c t.val t.isLt i k) (bW_at m c t k q)

/-- THE RESULT'S ARRAY. -/
theorem arrO : (dats m 0 c).arrAt 3 cfg0.N = R m c := by
  refine (dats m 0 c).arrAt_eq_of_covers 3 _ (by decide +kernel) fun t hf y => ?_
  show (dats m 0 c).after 3 t y = _
  rw [after0_3]
  refine (congrArg (outsAt0 m c t.val t.isLt).1 (eta2 (n1 := 1024) (n2 := 1024) y)).trans
    ((out_blk m c t (y 0) (y 1)).trans (congrArg _ ?_))
  have hi := (idx t).2.2.2
  funext a
  apply Fin.ext
  match a with
  | ⟨0, _⟩ => show 1024 * (t.val / 6) + (y 0).val = win0_3.index t 0 * 1024 + 1 * (y 0).val; rw [hi.1]; omega
  | ⟨1, _⟩ => show 1024 * (t.val % 6) + (y 1).val = win0_3.index t 1 * 1024 + 1 * (y 1).val; rw [hi.2]; omega

end Cert.Kernel5Ideal.Body

namespace Cert.Res5

open Idealize.ShloMosaic Idealize.ShloMosaic.TcCoe Idealize.SL Idealize.SL.Sem
open Cert.Kernel5Ideal.Body

/-- The reference runs, keeps its arguments, and declares no semaphore. -/
theorem frame_ref : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- THE RESULT IS EQUAL over the extended reals. -/
theorem algebraic : Cert.algebraic_Kernel5Ideal_Reference5Ideal (hKernel5Ideal := Cert.Kernel5Ideal.Gen.facts) (hReference5Ideal := Cert.Reference5Ideal.Gen.facts) := by
  intro m ρ m' ρ' _ hagree
  refine ⟨fun c => R m c, ?_, ?_⟩
  · exact (θ_run _ _ _).mono (fun _ h c => ⟨(h c).1.trans (arrO m c), (h c).2⟩)
      (Cert.Kernel5Ideal.Value.run_blocks (F := Ideal) m ρ)
  · refine (θ_run _ _ _).mono (fun _ h c => ⟨(h c).1.trans ?_, (h c).2⟩) (Cert.Reference5Ideal.Value.run (F := Ideal) m' ρ')
    rw [(hagree c).1, (hagree c).2.1, (hagree c).2.2]
    rfl

end Cert.Res5

end
-- ==== Proof.Res6.lean ====
module

public import proofs.«01_k».proof.Defs
public import proofs.«01_k».proof.Proof.Dense
public import proofs.«01_k».proof.Proof.Gen.Kernel6Ideal.Value
public import proofs.«01_k».proof.Proof.Gen.Reference6Ideal.Run
public import Idealize.ShloMosaic.Lib.Pipeline.ValueKit.Partial

/-! The product followed by the norm and the residual sum. -/

@[expose] public section

noncomputable section

namespace Cert.Reference6Ideal.Body

open Cert.Reference6Ideal Cert.Reference6Ideal.Gen Idealize.ShloMosaic Idealize.ShloMosaic.TcCoe Idealize.SL Cert.Dense

variable (a : FVec Ideal S16384x2048 .bf16) (w : FVec Ideal S2048x2048 .f32) (g : FVec Ideal S2048 .f32) (x : FVec Ideal S16384x2048 .f32)

/-- The reference's product. -/
def prod : FVec Ideal S16384x2048 .f32 :=
  Host.dotGeneral dot_S16384x2048_S2048x2048_S16384x2048_1_0_0_1_n_n none (extf .f32 a bitsLt_bf16_f32) w

/-- The reference's result. -/
def out (y : FVec Ideal S16384x2048 .f32) : FVec Ideal S16384x2048 .f32 :=
  addf x (mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g)))

theorem prod_at (r : Fin 16384) (q : Fin 2048) :
    prod a w (ix2 r q) = ∑ k : Fin 2048, a (ix2 r k) * w (ix2 k q) := by
  pointwise [prod]

theorem out_at (y : FVec Ideal S16384x2048 .f32) (r : Fin 16384) (q : Fin 2048) :
    out g x y (ix2 r q)
      = x (ix2 r q) + nrm (fun q => y (ix2 r q)) (fun q => g (ix1 q)) q := by
  pointwise [out]
  rfl

end Cert.Reference6Ideal.Body

namespace Cert.Kernel6Ideal.Body

open Cert.Kernel6Ideal Cert.Kernel6Ideal.Gen Idealize.ShloMosaic Idealize.ShloMosaic.TcCoe Idealize.SL Cert.Dense

/-- One element of what a grid step writes. -/
theorem pay_at (v0 : Vec Ideal S512x2048 .bf16) (v1 : Vec Ideal S2048x2048 .bf16) (v4 : Vec Ideal S512x2048 .f32) (v5 : Vec Ideal S1x2048 .f32)
    (i : Fin 512) (q : Fin 2048) :
    k0_pay1 v0 v1 v4 v5 (ix2 i q)
      = v4 (ix2 i q) + nrm (fun q => ∑ k : Fin 2048, v0 (ix2 i k) * v1 (ix2 k q)) (fun q => v5 (ix2 0 q)) q := by
  pointwise [k0_pay1]
  rfl

variable (m : (ℓ : Loc nD τ sig) → Buf (Elt Ideal) ℓ) (c : Dev nD)

/-- The four arguments. -/
abbrev ra : FVec Ideal S16384x2048 .bf16 := m ((c : Thread nD τ).loc main_arg0)
abbrev rw' : FVec Ideal S2048x2048 .f32 := m ((c : Thread nD τ).loc main_arg1)
abbrev rg : FVec Ideal S2048 .f32 := m ((c : Thread nD τ).loc main_arg2)
abbrev rx : FVec Ideal S16384x2048 .f32 := m ((c : Thread nD τ).loc main_arg3)

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ win0_4.index t 0 = t.val ∧ win0_4.index t 1 = 0 :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ win0_4.index t 0 = t.val ∧ win0_4.index t 1 = 0)

/-- The array row of row `i` of grid step `t`. -/
def row (t : Fin cfg0.N) (i : Fin 512) : Fin 16384 :=
  ⟨512 * t.val + i.val, by have := lt_of_lt_of_eq t.isLt (show cfg0.N = 32 from N_0); omega⟩

theorem V_w (k q : Fin 2048) : (V m c main_v0 : FVec Ideal S2048x2048 .bf16) (ix2 k q) = rw' m c (ix2 k q) := by
  entry_read
  rfl

theorem V_g (q : Fin 2048) : (V m c main_v1 : FVec Ideal S1x2048 .f32) (ix2 0 q) = rg m c (ix1 q) := by
  entry_read
  exact cast_row _ _ q

/-- The blocks of a step. -/
abbrev bA (t : Fin cfg0.N) : FVec Ideal S512x2048 .bf16 := iblk m c 0 t
abbrev bW (t : Fin cfg0.N) : FVec Ideal S2048x2048 .bf16 := iblk m c 1 t

theorem blk0 (t : Fin cfg0.N) (i : Fin 512) (k : Fin 2048) : (iblk m c 0 t : FVec Ideal S512x2048 .bf16) (ix2 i k) = ra m c (ix2 (row t i) k) := by
  unfold iblk
  rw [View.read_apply]
  refine Eq.trans ?_ (congrFun (V_main_arg0 m c) (ix2 (row t i) k))
  show V m c main_arg0 _ = V m c main_arg0 _
  congr 1
  funext a
  apply Fin.ext
  have hi := (idx t).1
  match a with
  | ⟨0, _⟩ => show win0_0.index t 0 * 512 + 1 * i.val = 512 * t.val + i.val; rw [hi.1]; omega
  | ⟨1, _⟩ => show win0_0.index t 1 * 2048 + 1 * k.val = k.val; rw [hi.2]; omega

theorem blk1 (t : Fin cfg0.N) (k q : Fin 2048) : (iblk m c 1 t : FVec Ideal S2048x2048 .bf16) (ix2 k q) = rw' m c (ix2 k q) := by
  unfold iblk
  rw [View.read_apply]
  refine Eq.trans ?_ (V_w m c k q)
  show V m c main_v0 _ = V m c main_v0 _
  congr 1
  funext a
  apply Fin.ext
  have hi := (idx t).2.1
  match a with
  | ⟨0, _⟩ => show win0_1.index t 0 * 2048 + 1 * k.val = k.val; rw [hi.1]; omega
  | ⟨1, _⟩ => show win0_1.index t 1 * 2048 + 1 * q.val = q.val; rw [hi.2]; omega

theorem blk2 (t : Fin cfg0.N) (q : Fin 2048) : (iblk m c 2 t : FVec Ideal S1x2048 .f32) (ix2 0 q) = rg m c (ix1 q) := by
  unfold iblk
  rw [View.read_apply]
  refine Eq.trans ?_ (V_g m c q)
  show V m c main_v1 _ = V m c main_v1 _
  congr 1
  funext a
  apply Fin.ext
  have hi := (idx t).2.2.1
  match a with
  | ⟨0, _⟩ => show win0_2.index t 0 * 1 + 1 * 0 = 0; rw [hi.1]
  | ⟨1, _⟩ => show win0_2.index t 1 * 2048 + 1 * q.val = q.val; rw [hi.2]; omega

theorem blk3 (t : Fin cfg0.N) (i : Fin 512) (k : Fin 2048) : (iblk m c 3 t : FVec Ideal S512x2048 .f32) (ix2 i k) = rx m c (ix2 (row t i) k) := by
  unfold iblk
  rw [View.read_apply]
  refine Eq.trans ?_ (congrFun (V_main_arg3 m c) (ix2 (row t i) k))
  show V m c main_arg3 _ = V m c main_arg3 _
  congr 1
  funext a
  apply Fin.ext
  have hi := (idx t).2.2.2.1
  match a with
  | ⟨0, _⟩ => show win0_3.index t 0 * 512 + 1 * i.val = 512 * t.val + i.val; rw [hi.1]; omega
  | ⟨1, _⟩ => show win0_3.index t 1 * 2048 + 1 * k.val = k.val; rw [hi.2]; omega

theorem off0 : (![0, 0] : Fin 2 → ℕ) = fun _ => 0 := by
  funext a
  match a with
  | ⟨0, _⟩ => rfl
  | ⟨1, _⟩ => rfl

/-- One element of a step's output block is the reference's. -/
theorem out_at (t : Fin cfg0.N) (i : Fin 512) (q : Fin 2048) :
    out0_4 (iblk m c 0 t) (iblk m c 1 t) (iblk m c 2 t) (iblk m c 3 t) (ix2 i q)
      = Cert.Reference6Ideal.Body.out (rg m c) (rx m c) (Cert.Reference6Ideal.Body.prod (ra m c) (rw' m c)) (ix2 (row t i) q) := by
  unfold out0_4
  rw [View.canon_unit_zero off0, View.ld_unit_zero off0, View.ld_unit_zero off0, View.ld_unit_zero off0, View.ld_unit_zero off0]
  rw [pay_at, Cert.Reference6Ideal.Body.out_at]
  refine congrArg₂ (· + ·) (blk3 m c t i q) ?_
  have e : (fun q => ∑ k : Fin 2048, bA m c t (ix2 i k) * bW m c t (ix2 k q))
      = fun q => (Cert.Reference6Ideal.Body.prod (ra m c) (rw' m c) : FVec Ideal S16384x2048 .f32) (ix2 (row t i) q) := by
    funext q
    rw [Cert.Reference6Ideal.Body.prod_at]
    exact Finset.sum_congr rfl fun k _ => congrArg₂ (· * ·) (blk0 m c t i k) (blk1 m c t k q)
  exact congrArg₂ (fun y g => nrm y g q) e (funext fun q => blk2 m c t q)

/-- THE RESULT'S ARRAY. -/
theorem arr4 : (dats m 0 c).arrAt 4 cfg0.N
    = Cert.Reference6Ideal.Body.out (rg m c) (rx m c) (Cert.Reference6Ideal.Body.prod (ra m c) (rw' m c)) := by
  refine (dats m 0 c).arrAt_eq_of_covers 4 _ (by decide +kernel) fun t hf y => ?_
  show (dats m 0 c).after 4 t y = _
  rw [after0_4]
  refine (congrArg (out0_4 (iblk m c 0 t) (iblk m c 1 t) (iblk m c 2 t) (iblk m c 3 t)) (eta2 (n1 := 512) (n2 := 2048) y)).trans
    ((out_at m c t (y 0) (y 1)).trans (congrArg _ ?_))
  have hi := (idx t).2.2.2.2
  funext a
  apply Fin.ext
  match a with
  | ⟨0, _⟩ => show 512 * t.val + (y 0).val = win0_4.index t 0 * 512 + 1 * (y 0).val; rw [hi.1]; omega
  | ⟨1, _⟩ => show (y 1).val = win0_4.index t 1 * 2048 + 1 * (y 1).val; rw [hi.2]; omega

end Cert.Kernel6Ideal.Body

namespace Cert.Res6

open Idealize.ShloMosaic Idealize.ShloMosaic.TcCoe Idealize.SL Idealize.SL.Sem
open Cert.Kernel6Ideal.Body (arr4 ra rw' rg rx)

/-- The reference runs, keeps its arguments, and declares no semaphore. -/
theorem frame_ref : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- THE RESULT IS EQUAL over the extended reals. -/
theorem algebraic : Cert.algebraic_Kernel6Ideal_Reference6Ideal (hKernel6Ideal := Cert.Kernel6Ideal.Gen.facts) (hReference6Ideal := Cert.Reference6Ideal.Gen.facts) := by
  intro m ρ m' ρ' _ hagree
  refine ⟨fun c => Cert.Reference6Ideal.Body.out (rg m c) (rx m c) (Cert.Reference6Ideal.Body.prod (ra m c) (rw' m c)), ?_, ?_⟩
  · exact (θ_run _ _ _).mono (fun _ h c => ⟨(h c).1.trans (arr4 m c), (h c).2⟩)
      (Cert.Kernel6Ideal.Value.run_blocks (F := Ideal) m ρ)
  · refine (θ_run _ _ _).mono (fun _ h c => ⟨(h c).1.trans ?_, (h c).2⟩) (Cert.Reference6Ideal.Value.run (F := Ideal) m' ρ')
    rw [(hagree c).1, (hagree c).2.1, (hagree c).2.2.1, (hagree c).2.2.2]
    rfl

end Cert.Res6

end
-- ==== Proof.Res7.lean ====
module

public import proofs.«01_k».proof.Defs
public import proofs.«01_k».proof.Proof.Dense
public import proofs.«01_k».proof.Proof.Gen.Kernel7Ideal.Value
public import proofs.«01_k».proof.Proof.Gen.Reference7Ideal.Run
public import Idealize.ShloMosaic.Lib.Pipeline.ValueKit

/-! The normed rows' product with the second layer's weights, with silu of the two ranges of gates. -/

@[expose] public section

noncomputable section

namespace Cert.Reference7Ideal.Body

open Cert.Reference7Ideal Cert.Reference7Ideal.Gen Idealize.ShloMosaic Idealize.ShloMosaic.TcCoe Idealize.SL Cert.Dense

section
variable (xa : FVec Ideal S512x4096 .f32) (xb xc : FVec Ideal S512x2048 .f32) (xd : FVec Ideal S512x4096 .f32) (xe : FVec Ideal S512x6144 .f32)

/-- The five column ranges put together, read range by range. -/
def cat : FVec Ideal S512x18432 .f32 :=
  concatenate S512x18432 1 [⟨S512x4096, xa⟩, ⟨S512x2048, xb⟩, ⟨S512x2048, xc⟩, ⟨S512x4096, xd⟩, ⟨S512x6144, xe⟩] concatenates_S512x4096_S512x2048_S512x2048_S512x4096_S512x6144_S512x18432_d1

set_option maxRecDepth 65536 in
theorem cat_at0 (r : Fin 512) (q : Fin 4096) : cat xa xb xc xd xe (ix2 r ⟨0 + q.val, by omega⟩) = xa (ix2 r q) :=
  concatenate_apply_piece (t := S512x18432) 1 [⟨S512x4096, xa⟩, ⟨S512x2048, xb⟩, ⟨S512x2048, xc⟩, ⟨S512x4096, xd⟩, ⟨S512x6144, xe⟩] concatenates_S512x4096_S512x2048_S512x2048_S512x4096_S512x6144_S512x18432_d1 _ 0 (by decide : 0 < 5) S512x4096 xa rfl rfl 0 rfl (ix2 r q)
    (fun b hb => by match b with | ⟨0, _⟩ => rfl | ⟨1, _⟩ => exact absurd rfl hb) rfl

set_option maxRecDepth 65536 in
theorem cat_at1 (r : Fin 512) (q : Fin 2048) : cat xa xb xc xd xe (ix2 r ⟨4096 + q.val, by omega⟩) = xb (ix2 r q) :=
  concatenate_apply_piece (t := S512x18432) 1 [⟨S512x4096, xa⟩, ⟨S512x2048, xb⟩, ⟨S512x2048, xc⟩, ⟨S512x4096, xd⟩, ⟨S512x6144, xe⟩] concatenates_S512x4096_S512x2048_S512x2048_S512x4096_S512x6144_S512x18432_d1 _ 1 (by decide : 1 < 5) S512x2048 xb rfl rfl 4096 rfl (ix2 r q)
    (fun b hb => by match b with | ⟨0, _⟩ => rfl | ⟨1, _⟩ => exact absurd rfl hb) rfl

set_option maxRecDepth 65536 in
theorem cat_at2 (r : Fin 512) (q : Fin 2048) : cat xa xb xc xd xe (ix2 r ⟨6144 + q.val, by omega⟩) = xc (ix2 r q) :=
  concatenate_apply_piece (t := S512x18432) 1 [⟨S512x4096, xa⟩, ⟨S512x2048, xb⟩, ⟨S512x2048, xc⟩, ⟨S512x4096, xd⟩, ⟨S512x6144, xe⟩] concatenates_S512x4096_S512x2048_S512x2048_S512x4096_S512x6144_S512x18432_d1 _ 2 (by decide : 2 < 5) S512x2048 xc rfl rfl 6144 rfl (ix2 r q)
    (fun b hb => by match b with | ⟨0, _⟩ => rfl | ⟨1, _⟩ => exact absurd rfl hb) rfl

set_option maxRecDepth 65536 in
theorem cat_at3 (r : Fin 512) (q : Fin 4096) : cat xa xb xc xd xe (ix2 r ⟨8192 + q.val, by omega⟩) = xd (ix2 r q) :=
  concatenate_apply_piece (t := S512x18432) 1 [⟨S512x4096, xa⟩, ⟨S512x2048, xb⟩, ⟨S512x2048, xc⟩, ⟨S512x4096, xd⟩, ⟨S512x6144, xe⟩] concatenates_S512x4096_S512x2048_S512x2048_S512x4096_S512x6144_S512x18432_d1 _ 3 (by decide : 3 < 5) S512x4096 xd rfl rfl 8192 rfl (ix2 r q)
    (fun b hb => by match b with | ⟨0, _⟩ => rfl | ⟨1, _⟩ => exact absurd rfl hb) rfl

set_option maxRecDepth 65536 in
theorem cat_at4 (r : Fin 512) (q : Fin 6144) : cat xa xb xc xd xe (ix2 r ⟨12288 + q.val, by omega⟩) = xe (ix2 r q) :=
  concatenate_apply_piece (t := S512x18432) 1 [⟨S512x4096, xa⟩, ⟨S512x2048, xb⟩, ⟨S512x2048, xc⟩, ⟨S512x4096, xd⟩, ⟨S512x6144, xe⟩] concatenates_S512x4096_S512x2048_S512x2048_S512x4096_S512x6144_S512x18432_d1 _ 4 (by decide : 4 < 5) S512x6144 xe rfl rfl 12288 rfl (ix2 r q)
    (fun b hb => by match b with | ⟨0, _⟩ => rfl | ⟨1, _⟩ => exact absurd rfl hb) rfl

end

variable (y : FVec Ideal S512x2048 .f32) (g : FVec Ideal S2048 .f32) (w : FVec Ideal S2x2048x24640 .f32)

/-- The norm of rows. -/
def hn : FVec Ideal S512x2048 .f32 :=
  mulf (mulf y (broadcastInDim S512x2048 ![0, 1] bcast_S512x1_S512x2048_0_1 (Host.rsqrt (addf (Host.divf (broadcastInDim S512x1 ![0] bcast_S512_S512x1_0 (Host.reduceAdd (mulf y y) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 g))

theorem hn_at (r : Fin 512) (q : Fin 2048) : hn y g (ix2 r q) = nrm (fun q => y (ix2 r q)) (fun q => g (ix1 q)) q := by
  pointwise [hn]
  rfl

/-- The product with the second layer's weights. -/
def prod : FVec Ideal S512x18432 .f32 := Host.dotGeneral dot_S512x2048_S2048x18432_S512x18432_1_0_0_1_n_n none y (extractStridedSlice S2048x18432 ![0, 0] (shapeCast S2048x24640 (extractStridedSlice S1x2048x24640 ![1, 0, 0] w slices_S2x2048x24640_S1x2048x24640_1_0_0) shapeCasts_S1x2048x24640_S2048x24640) slices_S2048x24640_S2048x18432_0_0)

theorem prod_at (r : Fin 512) (q : Fin 18432) : prod y w (ix2 r q) = ∑ k : Fin 2048, y (ix2 r k) * w (ix3 1 k ⟨q.val, by omega⟩) := by
  pointwise [prod]

/-- `x · logistic x` of a range of columns. -/
def act2048 (x : FVec Ideal S512x2048 .f32) : FVec Ideal S512x2048 .f32 :=
  mulf x (Host.divf (broadcastInDim S512x2048 ![] bcast_S_S512x2048 (constant S_ .f32 0x3F800000#32)) (addf (broadcastInDim S512x2048 ![] bcast_S_S512x2048 (constant S_ .f32 0x3F800000#32)) (Host.exp (Host.negf x))))
def act4096 (x : FVec Ideal S512x4096 .f32) : FVec Ideal S512x4096 .f32 :=
  mulf x (Host.divf (broadcastInDim S512x4096 ![] bcast_S_S512x4096 (constant S_ .f32 0x3F800000#32)) (addf (broadcastInDim S512x4096 ![] bcast_S_S512x4096 (constant S_ .f32 0x3F800000#32)) (Host.exp (Host.negf x))))

theorem act2048_at (x : FVec Ideal S512x2048 .f32) (r : Fin 512) (q : Fin 2048) : act2048 x (ix2 r q) = x (ix2 r q) * sg (x (ix2 r q)) := by
  pointwise [act2048]
  rfl
theorem act4096_at (x : FVec Ideal S512x4096 .f32) (r : Fin 512) (q : Fin 4096) : act4096 x (ix2 r q) = x (ix2 r q) * sg (x (ix2 r q)) := by
  pointwise [act4096]
  rfl

/-- The product's columns, with silu applied to the two ranges of gates. -/
def out (p : FVec Ideal S512x18432 .f32) : FVec Ideal S512x18432 .f32 :=
  cat (extractStridedSlice S512x4096 ![0, 0] p slices_S512x18432_S512x4096_0_0)
    (act2048 (extractStridedSlice S512x2048 ![0, 4096] p slices_S512x18432_S512x2048_0_4096))
    (extractStridedSlice S512x2048 ![0, 6144] p slices_S512x18432_S512x2048_0_6144)
    (act4096 (extractStridedSlice S512x4096 ![0, 8192] p slices_S512x18432_S512x4096_0_8192))
    (extractStridedSlice S512x6144 ![0, 12288] p slices_S512x18432_S512x6144_0_12288)

/-- A column from which silu is taken. -/
def gate (n : ℕ) : Prop := (4096 ≤ n ∧ n < 6144) ∨ (8192 ≤ n ∧ n < 12288)

theorem out_plain (p : FVec Ideal S512x18432 .f32) (r : Fin 512) (q : Fin 18432) (h : ¬gate q.val) : out p (ix2 r q) = p (ix2 r q) := by
  unfold gate at h
  by_cases h1 : q.val < 4096
  · have e : q = ⟨0 + (⟨q.val, h1⟩ : Fin 4096).val, by show 0 + q.val < 18432; omega⟩ := Fin.ext (by show q.val = 0 + q.val; omega)
    rw [e]
    refine (cat_at0 _ _ _ _ _ r _).trans ?_
    pointwise []
  · by_cases h2 : q.val < 8192
    · have e : q = ⟨6144 + (⟨q.val - 6144, by omega⟩ : Fin 2048).val, by show 6144 + (q.val - 6144) < 18432; omega⟩ := Fin.ext (by show q.val = 6144 + (q.val - 6144); omega)
      rw [e]
      refine (cat_at2 _ _ _ _ _ r _).trans ?_
      pointwise []
    · have e : q = ⟨12288 + (⟨q.val - 12288, by omega⟩ : Fin 6144).val, by show 12288 + (q.val - 12288) < 18432; omega⟩ := Fin.ext (by show q.val = 12288 + (q.val - 12288); omega)
      rw [e]
      refine (cat_at4 _ _ _ _ _ r _).trans ?_
      pointwise []

theorem out_gate (p : FVec Ideal S512x18432 .f32) (r : Fin 512) (q : Fin 18432) (h : gate q.val) : out p (ix2 r q) = p (ix2 r q) * sg (p (ix2 r q)) := by
  unfold gate at h
  by_cases h2 : q.val < 6144
  · have e : q = ⟨4096 + (⟨q.val - 4096, by omega⟩ : Fin 2048).val, by show 4096 + (q.val - 4096) < 18432; omega⟩ := Fin.ext (by show q.val = 4096 + (q.val - 4096); omega)
    rw [e]
    refine (cat_at1 _ _ _ _ _ r _).trans ((act2048_at _ r _).trans ?_)
    refine congrArg (fun z : EReal => z * sg z) ?_
    pointwise []
  · have e : q = ⟨8192 + (⟨q.val - 8192, by omega⟩ : Fin 4096).val, by show 8192 + (q.val - 8192) < 18432; omega⟩ := Fin.ext (by show q.val = 8192 + (q.val - 8192); omega)
    rw [e]
    refine (cat_at3 _ _ _ _ _ r _).trans ((act4096_at _ r _).trans ?_)
    refine congrArg (fun z : EReal => z * sg z) ?_
    pointwise []

end Cert.Reference7Ideal.Body

namespace Cert.Kernel7Ideal.Body

open Cert.Kernel7Ideal Cert.Kernel7Ideal.Gen Idealize.ShloMosaic Idealize.ShloMosaic.TcCoe Idealize.SL Cert.Dense
open Cert.Reference7Ideal.Body (hn prod out hn_at prod_at out_plain out_gate gate)

theorem pay1_at (x : Vec Ideal S512x2048 .f32) (g : Vec Ideal S1x2048 .f32) (i : Fin 512) (q : Fin 2048) :
    k0_pay1 x g (ix2 i q) = nrm (fun q => x (ix2 i q)) (fun q => g (ix2 0 q)) q := by
  pointwise [k0_pay1]
  rfl

/-- `x · logistic x`. -/
def sw (x : EReal) : EReal := x * sg x

theorem pay4_at (h : Vec Ideal S512x2048 .bf16) (w : Vec Ideal S1x2048x1024 .bf16) (i : Fin 512) (q : Fin 1024) :
    k0_pay4 h w (ix2 i q) = ∑ k : Fin 2048, h (ix2 i k) * w (ix3 0 k q) := by
  pointwise [k0_pay4]

theorem pay3_at (h : Vec Ideal S512x2048 .bf16) (w : Vec Ideal S1x2048x256 .bf16) (i : Fin 512) (q : Fin 256) :
    k0_pay3 h w (ix2 i q) = sw (∑ k : Fin 2048, h (ix2 i k) * w (ix3 0 k q)) := by
  pointwise [k0_pay3]
  rw [zero_sub]
  rfl

theorem pay5_at (h : Vec Ideal S512x2048 .bf16) (w : Vec Ideal S1x2048x256 .bf16) (i : Fin 512) (q : Fin 256) :
    k0_pay5 h w (ix2 i q) = sw (∑ k : Fin 2048, h (ix2 i k) * w (ix3 0 k q)) := by
  pointwise [k0_pay5]
  rw [zero_sub]
  rfl

theorem pay6_at (h : Vec Ideal S512x2048 .bf16) (w : Vec Ideal S1x2048x256 .bf16) (i : Fin 512) (q : Fin 256) :
    k0_pay6 h w (ix2 i q) = sw (∑ k : Fin 2048, h (ix2 i k) * w (ix3 0 k q)) := by
  pointwise [k0_pay6]
  rw [zero_sub]
  rfl

theorem pay7_at (h : Vec Ideal S512x2048 .bf16) (w : Vec Ideal S1x2048x256 .bf16) (i : Fin 512) (q : Fin 256) :
    k0_pay2 (k0_pay7 h w) (ix2 i q) = sw (∑ k : Fin 2048, h (ix2 i k) * w (ix3 0 k q)) := by
  pointwise [k0_pay2, k0_pay7]
  rw [zero_sub]
  rfl

/-- A stored quarter of the block holds what the whole block holds there. -/
theorem tile_at (h : Vec Ideal S512x2048 .bf16) (W : Vec Ideal S1x2048x1024 .bf16) (P : FVec Ideal S512x256 .f32) (o : ℕ)
    (inb : ∀ a, (![0, 0, o] : Fin 3 → ℕ) a + (![1, 2048, 256] : Fin 3 → ℕ) a ≤ S1x2048x1024.size a)
    (hP : ∀ (i : Fin 512) (j : Fin 256), P (ix2 i j) = sw (∑ k : Fin 2048, h (ix2 i k) * View.ld W (Rect.unit (s := S1x2048x1024) ![0, 0, o] ![1, 2048, 256] inb) (ix3 0 k j)))
    (i : Fin 512) (q : Fin 1024) :
    View.TileAt (S := S512x1024) (e := .f32) (Val := Elt Ideal) (ix2 i q) ![0, o] ![512, 256] P (sw (∑ k : Fin 2048, h (ix2 i k) * W (ix3 0 k q))) := by
  intro x hx
  have h0 : i.val = 0 + (x 0).val := hx 0
  have h1 : q.val = o + (x 1).val := hx 1
  refine (congrArg P (eta2 (n1 := 512) (n2 := 256) x)).trans ((hP (x 0) (x 1)).trans ?_)
  refine congrArg sw (Finset.sum_congr rfl fun k _ => congrArg₂ (· * ·) ?_ ?_)
  · exact congrArg h (ix2_eq (by omega) rfl)
  · refine View.ld_unit_apply_of W _ _ _ _ (ix3 0 k q) fun a => ?_
    match a with
    | ⟨0, _⟩ => rfl
    | ⟨1, _⟩ => show k.val = 0 + k.val; omega
    | ⟨2, _⟩ => exact h1

variable (m : (ℓ : Loc nD τ sig) → Buf (Elt Ideal) ℓ) (c : Dev nD)

/-- The arguments. -/
abbrev rx : FVec Ideal S512x2048 .f32 := m ((c : Thread nD τ).loc main_arg0)
abbrev rg : FVec Ideal S2048 .f32 := m ((c : Thread nD τ).loc main_arg1)
abbrev rw' : FVec Ideal S2x2048x24640 .f32 := m ((c : Thread nD τ).loc main_arg2)

/-- Which block each window takes at step `t`. -/
theorem idx : ∀ t : Fin cfg0.N, (win0_0.index t 0 = t.val / 18 ∧ win0_0.index t 1 = 0) ∧ (win0_1.index t 0 = 0 ∧ win0_1.index t 1 = 0) ∧ (win0_2.index t 0 = 1 ∧ win0_2.index t 1 = 0 ∧ win0_2.index t 2 = t.val % 18) ∧ (win0_3.index t 0 = t.val / 18 ∧ win0_3.index t 1 = t.val % 18) :=
  (by decide +kernel : ∀ t : Fin grid0.N, (win0_0.index t 0 = t.val / 18 ∧ win0_0.index t 1 = 0) ∧ (win0_1.index t 0 = 0 ∧ win0_1.index t 1 = 0) ∧ (win0_2.index t 0 = 1 ∧ win0_2.index t 1 = 0 ∧ win0_2.index t 2 = t.val % 18) ∧ (win0_3.index t 0 = t.val / 18 ∧ win0_3.index t 1 = t.val % 18))

/-- The array row of row `i`, and the array column of column `q`, of step `t`. -/
def row (t : Fin cfg0.N) (i : Fin 512) : Fin 512 :=
  ⟨512 * (t.val / 18) + i.val, by have := lt_of_lt_of_eq t.isLt (show cfg0.N = 18 from N_0); omega⟩
def col (t : Fin cfg0.N) (q : Fin 1024) : Fin 18432 := ⟨1024 * (t.val % 18) + q.val, by omega⟩

theorem V_g (q : Fin 2048) : (V m c main_v0 : FVec Ideal S1x2048 .f32) (ix2 0 q) = rg m c (ix1 q) := by
  entry_read
  exact cast_row _ _ q
theorem V_w (a : Fin 2) (k : Fin 2048) (q : Fin 24640) : (V m c main_v1 : FVec Ideal S2x2048x24640 .bf16) (ix3 a k q) = rw' m c (ix3 a k q) := by
  entry_read
  rfl

abbrev bX (t : Fin cfg0.N) : FVec Ideal S512x2048 .f32 := iblk m c 0 t

theorem bX_at (t : Fin cfg0.N) (i : Fin 512) (k : Fin 2048) : bX m c t (ix2 i k) = rx m c (ix2 (row t i) k) := by
  unfold bX iblk
  rw [View.read_apply]
  refine Eq.trans ?_ (congrFun (V_main_arg0 m c) (ix2 (row t i) k))
  show V m c main_arg0 _ = V m c main_arg0 _
  congr 1
  funext a
  apply Fin.ext
  have hi := (idx t).1
  match a with
  | ⟨0, _⟩ => show win0_0.index t 0 * 512 + 1 * i.val = 512 * (t.val / 18) + i.val; rw [hi.1]; omega
  | ⟨1, _⟩ => show win0_0.index t 1 * 2048 + 1 * k.val = k.val; rw [hi.2]; omega

abbrev bG (t : Fin cfg0.N) : FVec Ideal S1x2048 .f32 := iblk m c 1 t

theorem bG_at (t : Fin cfg0.N) (k : Fin 2048) : bG m c t (ix2 0 k) = rg m c (ix1 k) := by
  unfold bG iblk
  rw [View.read_apply]
  refine Eq.trans ?_ (V_g m c k)
  show V m c main_v0 _ = V m c main_v0 _
  congr 1
  funext a
  apply Fin.ext
  have hi := (idx t).2.1
  match a with
  | ⟨0, _⟩ => show win0_1.index t 0 * 1 + 1 * 0 = 0; rw [hi.1]
  | ⟨1, _⟩ => show win0_1.index t 1 * 2048 + 1 * k.val = k.val; rw [hi.2]; omega

abbrev bW (t : Fin cfg0.N) : FVec Ideal S1x2048x1024 .bf16 := X0_2 m c t

theorem bW_at (t : Fin cfg0.N) (k : Fin 2048) (q : Fin 1024) : bW m c t (ix3 0 k q) = rw' m c (ix3 1 k ⟨(col t q).val, by omega⟩) := by
  unfold bW X0_2 Pipeline.Window.fill
  refine (dif_pos (moved0_2 t _)).trans ?_
  unfold iblk
  rw [View.read_apply]
  refine Eq.trans ?_ (V_w m c 1 k ⟨(col t q).val, by omega⟩)
  show V m c main_v1 _ = V m c main_v1 _
  congr 1
  funext a
  apply Fin.ext
  have hi := (idx t).2.2.1
  match a with
  | ⟨0, _⟩ => show win0_2.index t 0 * 1 + 1 * 0 = 1; rw [hi.1]
  | ⟨1, _⟩ => show win0_2.index t 1 * 2048 + 1 * k.val = k.val; rw [hi.2.1]; omega
  | ⟨2, _⟩ => show win0_2.index t 2 * 1024 + 1 * q.val = 1024 * (t.val % 18) + q.val; rw [hi.2.2]; omega

/-- The reference's stages, of this memory's arguments. -/
abbrev H (r : Fin 512) (k : Fin 2048) : EReal := hn (rx m c) (rg m c) (ix2 r k)
theorem H_at (r : Fin 512) (k : Fin 2048) : H m c r k = nrm (fun q => rx m c (ix2 r q)) (fun q => rg m c (ix1 q)) k := hn_at _ _ r k
abbrev R : FVec Ideal S512x18432 .f32 := out (prod (hn (rx m c) (rg m c)) (rw' m c))

/-! The steps' stored values. -/

/-- The steps whose columns are gates. -/
def sil (n : ℕ) : Prop := n % 18 = 4 ∨ n % 18 = 5 ∨ n % 18 = 8 ∨ n % 18 = 9 ∨ n % 18 = 10 ∨ n % 18 = 11

theorem hnA (t : Fin cfg0.N) (h0 : t.val % 18 = 0) : (outsAt0 m c t.val t.isLt).2 = k0_pay1 (F := Ideal) (bX m c t) (bG m c t) := by
  have h1 : ¬sil t.val := by unfold sil; omega
  rw [outsAt0_A m c t h0 h1 h1]
  dsimp only
  frame_out

theorem hnB (t : Fin cfg0.N) (h0 : ¬t.val % 18 = 0) :
    (outsAt0 m c t.val t.isLt).2 = (outsAt0 m c (t.val - 1) (Nat.lt_of_le_of_lt (Nat.sub_le _ _) t.isLt)).2 := by
  by_cases h1 : sil t.val
  · rw [outsAt0_C m c t h0 h1 (fun h => h h1)]
    rfl
  · rw [outsAt0_B m c t h0 h1 h1]
    rfl

/-- The normed rows' block, at every step. -/
theorem hn_inv : ∀ (n : ℕ) (h : n < cfg0.N) (i : Fin 512) (k : Fin 2048),
    (outsAt0 m c n h).2 (ix2 i k) = H m c (row ⟨n, h⟩ i) k := by
  intro n
  induction n with
  | zero =>
    intro h i k
    refine (congrFun (hnA m c ⟨0, h⟩ (Nat.zero_mod 18)) (ix2 i k)).trans ((pay1_at _ _ i k).trans (Eq.trans ?_ (H_at m c (row ⟨0, h⟩ i) k).symm))
    exact congrArg₂ (nrm · · k) (funext fun q => bX_at m c _ i q) (funext fun q => bG_at m c _ q)
  | succ n ih =>
    intro h i k
    by_cases h0 : (n + 1) % 18 = 0
    · refine (congrFun (hnA m c ⟨n + 1, h⟩ h0) (ix2 i k)).trans ((pay1_at _ _ i k).trans (Eq.trans ?_ (H_at m c (row ⟨n + 1, h⟩ i) k).symm))
      exact congrArg₂ (nrm · · k) (funext fun q => bX_at m c _ i q) (funext fun q => bG_at m c _ q)
    · refine (congrFun (hnB m c ⟨n + 1, h⟩ h0) (ix2 i k)).trans ((ih _ i k).trans ?_)
      refine congrArg (fun r => H m c r k) (Fin.ext ?_)
      show 512 * (n / 18) + i.val = 512 * ((n + 1) / 18) + i.val
      omega

theorem out_plain_eq (t : Fin cfg0.N) (h1 : ¬sil t.val) : (outsAt0 m c t.val t.isLt).1 = k0_pay4 (F := Ideal) (outsAt0 m c t.val t.isLt).2 (bW m c t) := by
  by_cases h0 : t.val % 18 = 0
  · rw [hnA m c t h0, outsAt0_A m c t h0 h1 h1]
    dsimp only
    frame_out
  · rw [hnB m c t h0, outsAt0_B m c t h0 h1 h1]
    dsimp only
    frame_out
    exact congrArg (fun h => k0_pay4 (F := Ideal) h (bW m c t)) ((Memref.isWhole_whole _).read_unread _)

theorem out_gate_eq (t : Fin cfg0.N) (h1 : sil t.val) (i : Fin 512) (q : Fin 1024) :
    (outsAt0 m c t.val t.isLt).1 (ix2 i q) = sw (∑ k : Fin 2048, (outsAt0 m c t.val t.isLt).2 (ix2 i k) * bW m c t (ix3 0 k q)) := by
  have h0 : ¬t.val % 18 = 0 := by unfold sil at h1; omega
  rw [hnB m c t h0, outsAt0_C m c t h0 h1 (fun h => h h1)]
  dsimp only
  frame_out
  refine View.canon_eq_of_allAt _ _ _ (View.cover_of_tiled_head _ _ _ rfl _) ?_
  refine View.allAt_cons_unit _ _ _ _ _ (tile_at _ (bW m c t) _ 768 inb_S1x2048x1024_S1x2048x256_0_0_768 (fun i j => (congrArg (fun h : Vec Ideal S512x2048 .bf16 => (k0_pay3 (F := Ideal) h (View.ld (X0_2 m c t) (Rect.unit ![0, 0, 768] ![1, 2048, 256] inb_S1x2048x1024_S1x2048x256_0_0_768)) : FVec Ideal S512x256 .f32) (ix2 i j)) ((Memref.isWhole_whole _).read_unread _)).trans (pay3_at _ _ i j)) i q) ?_
  refine View.allAt_cons_unit _ _ _ _ _ (tile_at _ (bW m c t) _ 512 inb_S1x2048x1024_S1x2048x256_0_0_512 (fun i j => (congrArg (fun h : Vec Ideal S512x2048 .bf16 => (k0_pay2 (F := Ideal) (k0_pay7 (F := Ideal) h (View.ld (X0_2 m c t) (Rect.unit ![0, 0, 512] ![1, 2048, 256] inb_S1x2048x1024_S1x2048x256_0_0_512))) : FVec Ideal S512x256 .f32) (ix2 i j)) ((Memref.isWhole_whole _).read_unread _)).trans (pay7_at _ _ i j)) i q) ?_
  refine View.allAt_cons_unit _ _ _ _ _ (tile_at _ (bW m c t) _ 256 inb_S1x2048x1024_S1x2048x256_0_0_256 (fun i j => (congrArg (fun h : Vec Ideal S512x2048 .bf16 => (k0_pay6 (F := Ideal) h (View.ld (X0_2 m c t) (Rect.unit ![0, 0, 256] ![1, 2048, 256] inb_S1x2048x1024_S1x2048x256_0_0_256)) : FVec Ideal S512x256 .f32) (ix2 i j)) ((Memref.isWhole_whole _).read_unread _)).trans (pay6_at _ _ i j)) i q) ?_
  exact View.allAt_cons_unit _ _ _ _ _ (tile_at _ (bW m c t) _ 0 inb_S1x2048x1024_S1x2048x256_0_0_0 (fun i j => (congrArg (fun h : Vec Ideal S512x2048 .bf16 => (k0_pay5 (F := Ideal) h (View.ld (X0_2 m c t) (Rect.unit ![0, 0, 0] ![1, 2048, 256] inb_S1x2048x1024_S1x2048x256_0_0_0)) : FVec Ideal S512x256 .f32) (ix2 i j)) ((Memref.isWhole_whole _).read_unread _)).trans (pay5_at _ _ i j)) i q) (View.allAt_nil _ _)

/-- The sum over a row of a step's normed rows and its weights is the reference's product. -/
theorem sum_at (t : Fin cfg0.N) (i : Fin 512) (q : Fin 1024) :
    (∑ k : Fin 2048, (outsAt0 m c t.val t.isLt).2 (ix2 i k) * bW m c t (ix3 0 k q)) = prod (hn (rx m c) (rg m c)) (rw' m c) (ix2 (row t i) (col t q)) := by
  refine Eq.trans ?_ (prod_at _ _ (row t i) (col t q)).symm
  exact Finset.sum_congr rfl fun k _ => congrArg₂ (· * ·) (hn_inv m c t.val t.isLt i k) (bW_at m c t k q)

/-- One element of a step's output block. -/
theorem out_blk (t : Fin cfg0.N) (i : Fin 512) (q : Fin 1024) : (outsAt0 m c t.val t.isLt).1 (ix2 i q) = R m c (ix2 (row t i) (col t q)) := by
  have hN : t.val < 18 := lt_of_lt_of_eq t.isLt (show cfg0.N = 18 from N_0)
  have hq : (col t q).val = 1024 * (t.val % 18) + q.val := rfl
  by_cases h1 : sil t.val
  · have hg : gate (col t q).val := by unfold gate; unfold sil at h1; omega
    refine (out_gate_eq m c t h1 i q).trans (Eq.trans ?_ (out_gate _ (row t i) (col t q) hg).symm)
    exact congrArg sw (sum_at m c t i q)
  · have hg : ¬gate (col t q).val := by unfold gate; unfold sil at h1; omega
    refine (congrFun (out_plain_eq m c t h1) (ix2 i q)).trans ((pay4_at _ _ i q).trans (Eq.trans ?_ (out_plain _ (row t i) (col t q) hg).symm))
    exact sum_at m c t i q

/-- THE RESULT'S ARRAY. -/
theorem arrO : (dats m 0 c).arrAt 3 cfg0.N = R m c := by
  refine (dats m 0 c).arrAt_eq_of_covers 3 _ (by decide +kernel) fun t hf y => ?_
  show (dats m 0 c).after 3 t y = _
  rw [after0_3]
  refine (congrArg (outsAt0 m c t.val t.isLt).1 (eta2 (n1 := 512) (n2 := 1024) y)).trans
    ((out_blk m c t (y 0) (y 1)).trans (congrArg _ ?_))
  have hi := (idx t).2.2.2
  funext a
  apply Fin.ext
  match a with
  | ⟨0, _⟩ => show 512 * (t.val / 18) + (y 0).val = win0_3.index t 0 * 512 + 1 * (y 0).val; rw [hi.1]; omega
  | ⟨1, _⟩ => show 1024 * (t.val % 18) + (y 1).val = win0_3.index t 1 * 1024 + 1 * (y 1).val; rw [hi.2]; omega

end Cert.Kernel7Ideal.Body

namespace Cert.Res7

open Idealize.ShloMosaic Idealize.ShloMosaic.TcCoe Idealize.SL Idealize.SL.Sem
open Cert.Kernel7Ideal.Body

/-- The reference runs, keeps its arguments, and declares no semaphore. -/
theorem frame_ref : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- THE RESULT IS EQUAL over the extended reals. -/
theorem algebraic : Cert.algebraic_Kernel7Ideal_Reference7Ideal (hKernel7Ideal := Cert.Kernel7Ideal.Gen.facts) (hReference7Ideal := Cert.Reference7Ideal.Gen.facts) := by
  intro m ρ m' ρ' _ hagree
  refine ⟨fun c => R m c, ?_, ?_⟩
  · exact (θ_run _ _ _).mono (fun _ h c => ⟨(h c).1.trans (arrO m c), (h c).2⟩)
      (Cert.Kernel7Ideal.Value.run_blocks (F := Ideal) m ρ)
  · refine (θ_run _ _ _).mono (fun _ h c => ⟨(h c).1.trans ?_, (h c).2⟩) (Cert.Reference7Ideal.Value.run (F := Ideal) m' ρ')
    unfold Cert.Reference7Ideal.Value.res_main_v24
    rw [(hagree c).1, (hagree c).2.1, (hagree c).2.2]
    rfl

end Cert.Res7

end
-- ==== Proof.Res8.lean ====
module

public import proofs.«01_k».proof.Defs
public import proofs.«01_k».proof.Proof.Dense
public import proofs.«01_k».proof.Proof.Gen.Kernel8Ideal.Value
public import proofs.«01_k».proof.Proof.Gen.Reference8Ideal.Run
public import Idealize.ShloMosaic.Lib.Pipeline.ValueKit

/-! The attention over the memory: scores, their softmax, and the weighted sum of the values. -/

@[expose] public section

noncomputable section

namespace Cert.Dense

open Idealize.ShloMosaic

/-- The largest of a row of scores, and the row's softmax. -/
def mxr (s : Fin 256 → EReal) : EReal := Finset.univ.fold max (Ideal.ofBits FTy.f32 0xFF800000#32) s
def smx (s : Fin 256 → EReal) (j : Fin 256) : EReal := Ideal.div (Ideal.exp (s j - mxr s)) (∑ x, Ideal.exp (s x - mxr s))

/-- The scores of one query against the keys. -/
def scr (q : Fin 512 → EReal) (k : Fin 256 → Fin 512 → EReal) (j : Fin 256) : EReal := (∑ d, q d * k j d) * Ideal.ofBits FTy.f32 0x3D3504F3#32

/-- One element of the attention's result: one query, one head, one column of the values. -/
def att (q : Fin 512 → EReal) (k : Fin 256 → Fin 512 → EReal) (v : Fin 256 → EReal) : EReal := ∑ j, smx (scr q k) j * v j

end Cert.Dense

namespace Cert.Reference8Ideal.Body

open Cert.Reference8Ideal Cert.Reference8Ideal.Gen Idealize.ShloMosaic Idealize.ShloMosaic.TcCoe Idealize.SL Cert.Dense

variable (x : FVec Ideal S16384x2048 .bf16) (kk vv : FVec Ideal S2x256x4x512 .f32) (s : FVec Ideal S2x4x8192x256 .f32)

/-- The scores. -/
def sc : FVec Ideal S2x4x8192x256 .f32 := mulf (Host.dotGeneral dot_S2x8192x4x512_S2x256x4x512_S2x4x8192x256_3_3_1_1_02_02 none (shapeCast S2x8192x4x512 (extf .f32 x bitsLt_bf16_f32) shapeCasts_S16384x2048_S2x8192x4x512) kk) (broadcastInDim S2x4x8192x256 ![] bcast_S_S2x4x8192x256 (constant S_ .f32 0x3D3504F3#32))

theorem sc_at (b : Fin 2) (h : Fin 4) (r : Fin 8192) (j : Fin 256) :
    sc x kk (ix4 b h r j) = scr (fun d => x (ix2 ⟨b.val * 8192 + r.val, by omega⟩ ⟨h.val * 512 + d.val, by omega⟩)) (fun j d => kk (ix4 b j h d)) j := by
  pointwise [sc]
  rfl

/-- The largest score of each row. -/
def red : FVec Ideal S2x4x8192 .f32 := Host.reduce FloatOps.maximumf s (constant S_ .f32 0xFF800000#32) reducesTo_S2x4x8192x256_S2x4x8192_d3 h_S_

theorem reduces_rows : S2x4x8192x256.Reduces [3] S2x4x8192 := by decide

theorem red_at (b : Fin 2) (h : Fin 4) (r : Fin 8192) : red s (ix3 b h r) = mxr fun j => s (ix4 b h r j) := by
  refine (Host.reduce_eq_fold_single (α := Ideal .f32) FloatOps.maximumf s _ reducesTo_S2x4x8192x256_S2x4x8192_d3 reduces_rows h_S_ _).trans ?_
  refine congrArg (fun f : Fin 256 → EReal => Finset.univ.fold max (Ideal.ofBits FTy.f32 0xFF800000#32) f) (funext fun k => congrArg s ?_)
  funext a
  apply Fin.ext
  match a with
  | ⟨0, _⟩ => rfl
  | ⟨1, _⟩ => rfl
  | ⟨2, _⟩ => rfl
  | ⟨3, _⟩ => rfl

/-- The exponentials of the scores less a row's largest. -/
def ex (u : FVec Ideal S2x4x8192 .f32) : FVec Ideal S2x4x8192x256 .f32 := Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) u))))

theorem ex_at (u : FVec Ideal S2x4x8192 .f32) (b : Fin 2) (h : Fin 4) (r : Fin 8192) (j : Fin 256) :
    ex s u (ix4 b h r j) = Ideal.exp (s (ix4 b h r j) - max (Ideal.ofBits FTy.f32 0xFF800000#32) (u (ix3 b h r))) := by
  pointwise [ex]

theorem max_mxr (f : Fin 256 → EReal) : max (Ideal.ofBits FTy.f32 0xFF800000#32) (mxr f) = mxr f :=
  max_eq_right ((Finset.le_fold_max _).2 (Or.inl le_rfl))

/-- The softmax of the exponentials. -/
def pr (e : FVec Ideal S2x4x8192x256 .f32) : FVec Ideal S2x4x8192x256 .f32 := Host.divf e (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd e (constant S_ .f32 0x00000000#32) reducesTo_S2x4x8192x256_S2x4x8192_d3 h_S_)))

theorem pr_at (e : FVec Ideal S2x4x8192x256 .f32) (b : Fin 2) (h : Fin 4) (r : Fin 8192) (j : Fin 256) :
    pr e (ix4 b h r j) = Ideal.div (e (ix4 b h r j)) (∑ x, e (ix4 b h r x)) := by
  pointwise [pr]

theorem soft_at (b : Fin 2) (h : Fin 4) (r : Fin 8192) (j : Fin 256) : pr (ex s (red s)) (ix4 b h r j) = smx (fun j => s (ix4 b h r j)) j := by
  have e : ∀ j, ex s (red s) (ix4 b h r j) = Ideal.exp (s (ix4 b h r j) - mxr fun j => s (ix4 b h r j)) := fun j => by
    rw [ex_at, red_at, max_mxr]
  refine (pr_at _ b h r j).trans ?_
  exact congrArg₂ Ideal.div (e j) (Finset.sum_congr rfl fun x _ => e x)

/-- The weighted sums of the values, rows and heads put back in their places. -/
def out (p : FVec Ideal S2x4x8192x256 .f32) : FVec Ideal S16384x2048 .bf16 := truncf .bf16 (shapeCast S16384x2048 (transpose S2x8192x4x512 [0, 3, 1, 2] (Host.dotGeneral dot_S2x256x4x512_S2x4x8192x256_S2x4x512x8192_1_3_3_2_02_01 none vv p) transposes_S2x4x512x8192_S2x8192x4x512_0_3_1_2) shapeCasts_S2x8192x4x512_S16384x2048) bitsLt_bf16_f32

theorem out_at (p : FVec Ideal S2x4x8192x256 .f32) (r : Fin 16384) (j : Fin 2048) :
    out vv p (ix2 r j) = ∑ x, vv (ix4 ⟨r.val / 8192, by omega⟩ x ⟨j.val / 512, by omega⟩ ⟨j.val % 512, by omega⟩) * p (ix4 ⟨r.val / 8192, by omega⟩ ⟨j.val / 512, by omega⟩ ⟨r.val % 8192, by omega⟩ x) := by
  pointwise [out]

/-- One element of the reference's result. -/
theorem res_at (r : Fin 16384) (j : Fin 2048) :
    out vv (pr (ex (sc x kk) (red (sc x kk)))) (ix2 r j)
      = att (fun d => x (ix2 r ⟨j.val / 512 * 512 + d.val, by omega⟩)) (fun x d => kk (ix4 ⟨r.val / 8192, by omega⟩ x ⟨j.val / 512, by omega⟩ d))
          (fun x => vv (ix4 ⟨r.val / 8192, by omega⟩ x ⟨j.val / 512, by omega⟩ ⟨j.val % 512, by omega⟩)) := by
  refine (out_at vv _ r j).trans (Finset.sum_congr rfl fun k _ => ?_)
  refine (mul_comm (G := EReal) _ _).trans (congrArg₂ (fun a b : EReal => a * b) ?_ rfl)
  refine (soft_at _ _ _ _ k).trans (congrArg (fun f => smx f k) (funext fun l => (sc_at x kk _ _ _ l).trans ?_))
  refine congrArg (fun f => scr f _ l) (funext fun d => congrArg x (ix2_eq ?_ rfl))
  show r.val / 8192 * 8192 + r.val % 8192 = r.val
  omega

end Cert.Reference8Ideal.Body

namespace Cert.Kernel8Ideal.Body

open Cert.Kernel8Ideal Cert.Kernel8Ideal.Gen Idealize.ShloMosaic Idealize.ShloMosaic.TcCoe Idealize.SL Cert.Dense
open Cert.Reference8Ideal.Body (sc red ex pr out res_at)

theorem pay1_at (x : Vec Ideal S512x512 .bf16) (k v : Vec Ideal S1x256x512 .f32) (i q : Fin 512) :
    (k0_pay1 (F := Ideal) x k v) (ix2 i q) = att (fun d => x (ix2 i d)) (fun j d => k (ix3 0 j d)) (fun j => v (ix3 0 j q)) := by
  pointwise [k0_pay1]
  rfl

theorem pay2_at (x : Vec Ideal S512x512 .bf16) (k v : Vec Ideal S1x256x512 .f32) (i q : Fin 512) :
    (k0_pay2 (F := Ideal) x k v) (ix2 i q) = att (fun d => x (ix2 i d)) (fun j d => k (ix3 0 j d)) (fun j => v (ix3 0 j q)) := by
  pointwise [k0_pay2]
  rfl

theorem pay4_at (x : Vec Ideal S512x512 .bf16) (k v : Vec Ideal S1x256x512 .f32) (i q : Fin 512) :
    (k0_pay4 (F := Ideal) (k0_pay3 (F := Ideal) x k) v) (ix2 i q) = att (fun d => x (ix2 i d)) (fun j d => k (ix3 0 j d)) (fun j => v (ix3 0 j q)) := by
  pointwise [k0_pay4, k0_pay3]
  rfl

theorem pay5_at (x : Vec Ideal S512x512 .bf16) (k v : Vec Ideal S1x256x512 .f32) (i q : Fin 512) :
    (k0_pay5 (F := Ideal) x k v) (ix2 i q) = att (fun d => x (ix2 i d)) (fun j d => k (ix3 0 j d)) (fun j => v (ix3 0 j q)) := by
  pointwise [k0_pay5]
  rfl

/-- One element of a block's result, of the whole block's operands. -/
def blkAtt (X : Vec Ideal S512x2048 .bf16) (K W : Vec Ideal S1x256x2048 .f32) (i : Fin 512) (q : Fin 2048) : EReal :=
  att (fun d => X (ix2 i ⟨q.val / 512 * 512 + d.val, by omega⟩)) (fun j d => K (ix3 0 j ⟨q.val / 512 * 512 + d.val, by omega⟩)) (fun j => W (ix3 0 j q))

/-- A stored head of the block holds what the whole block holds there. -/
theorem tile_at (X : Vec Ideal S512x2048 .bf16) (K W : Vec Ideal S1x256x2048 .f32) (P : FVec Ideal S512x512 .bf16) (o : ℕ) (ho : o % 512 = 0)
    (inb : ∀ a, (![0, o] : Fin 2 → ℕ) a + S512x512.size a ≤ S512x2048.size a)
    (inb' : ∀ a, (![0, 0, o] : Fin 3 → ℕ) a + S1x256x512.size a ≤ S1x256x2048.size a)
    (hP : ∀ i j : Fin 512, P (ix2 i j) = att (fun d => View.ld X (Rect.unit (s := S512x2048) ![0, o] S512x512.size inb) (ix2 i d))
      (fun l d => View.ld K (Rect.unit (s := S1x256x2048) ![0, 0, o] S1x256x512.size inb') (ix3 0 l d))
      (fun l => View.ld W (Rect.unit (s := S1x256x2048) ![0, 0, o] S1x256x512.size inb') (ix3 0 l j)))
    (i : Fin 512) (q : Fin 2048) :
    View.TileAt (S := S512x2048) (e := .bf16) (Val := Elt Ideal) (ix2 i q) ![0, o] S512x512.size P (blkAtt X K W i q) := by
  intro x hx
  have h0 : i.val = 0 + (x 0).val := hx 0
  have h1 : q.val = o + (x 1).val := hx 1
  have h2 : (x 1).val < 512 := (x 1).isLt
  have ho' : q.val / 512 * 512 = o := by omega
  refine (congrArg P (eta2 (n1 := 512) (n2 := 512) x)).trans ((hP (x 0) (x 1)).trans ?_)
  have e1 : (fun d => View.ld X (Rect.unit (s := S512x2048) ![0, o] S512x512.size inb) (ix2 (x 0) d)) = fun d : Fin 512 => X (ix2 i ⟨q.val / 512 * 512 + d.val, by omega⟩) :=
    funext fun d => View.ld_unit_apply_of X _ _ _ _ (ix2 i ⟨q.val / 512 * 512 + d.val, by omega⟩) fun a => by
      match a with
      | ⟨0, _⟩ => exact h0
      | ⟨1, _⟩ => exact congrArg (· + d.val) ho'
  have e2 : (fun (l : Fin 256) d => View.ld K (Rect.unit (s := S1x256x2048) ![0, 0, o] S1x256x512.size inb') (ix3 0 l d)) = fun l (d : Fin 512) => K (ix3 0 l ⟨q.val / 512 * 512 + d.val, by omega⟩) :=
    funext fun l => funext fun d => View.ld_unit_apply_of K _ _ _ _ (ix3 0 l ⟨q.val / 512 * 512 + d.val, by omega⟩) fun a => by
      match a with
      | ⟨0, _⟩ => rfl
      | ⟨1, _⟩ => show l.val = 0 + l.val; omega
      | ⟨2, _⟩ => exact congrArg (· + d.val) ho'
  have e3 : (fun (l : Fin 256) => View.ld W (Rect.unit (s := S1x256x2048) ![0, 0, o] S1x256x512.size inb') (ix3 0 l (x 1))) = fun l => W (ix3 0 l q) :=
    funext fun l => View.ld_unit_apply_of W _ _ _ _ (ix3 0 l q) fun a => by
      match a with
      | ⟨0, _⟩ => rfl
      | ⟨1, _⟩ => show l.val = 0 + l.val; omega
      | ⟨2, _⟩ => exact h1
  unfold blkAtt
  exact congr (congr (congrArg att e1) e2) e3

/-- One element of a step's output block, of its operands' blocks. -/
theorem out_of (X : Vec Ideal S512x2048 .bf16) (K W : Vec Ideal S1x256x2048 .f32) (i : Fin 512) (q : Fin 2048) :
    out0_3 (F := Ideal) X K W (ix2 i q) = blkAtt X K W i q := by
  frame_out
  refine View.canon_eq_of_allAt _ _ _ (View.cover_of_tiled_head _ _ _ rfl _) ?_
  refine View.allAt_cons_unit _ _ _ _ _ (tile_at X K W _ 1536 (by decide) inb_S512x2048_S512x512_0_1536 inb_S1x256x2048_S1x256x512_0_0_1536 (fun i j => pay1_at _ _ _ i j) i q) ?_
  refine View.allAt_cons_unit _ _ _ _ _ (tile_at X K W _ 1024 (by decide) inb_S512x2048_S512x512_0_1024 inb_S1x256x2048_S1x256x512_0_0_1024 (fun i j => pay5_at _ _ _ i j) i q) ?_
  refine View.allAt_cons_unit _ _ _ _ _ (tile_at X K W _ 512 (by decide) inb_S512x2048_S512x512_0_512 inb_S1x256x2048_S1x256x512_0_0_512 (fun i j => pay4_at _ _ _ i j) i q) ?_
  exact View.allAt_cons_unit _ _ _ _ _ (tile_at X K W _ 0 (by decide) inb_S512x2048_S512x512_0_0 inb_S1x256x2048_S1x256x512_0_0_0 (fun i j => pay2_at _ _ _ i j) i q) (View.allAt_nil _ _)

variable (m : (ℓ : Loc nD τ sig) → Buf (Elt Ideal) ℓ) (c : Dev nD)

/-- The arguments. -/
abbrev rx : FVec Ideal S16384x2048 .bf16 := m ((c : Thread nD τ).loc main_arg0)
abbrev rk : FVec Ideal S2x256x4x512 .f32 := m ((c : Thread nD τ).loc main_arg1)
abbrev rv : FVec Ideal S2x256x4x512 .f32 := m ((c : Thread nD τ).loc main_arg2)
/-- The reference's result, of this memory's arguments. -/
abbrev R : FVec Ideal S16384x2048 .bf16 := out (rv m c) (pr (ex (sc (rx m c) (rk m c)) (red (sc (rx m c) (rk m c)))))

/-- Which block each window takes at step `t`. -/
theorem idx : ∀ t : Fin cfg0.N, (win0_0.index t 0 = t.val ∧ win0_0.index t 1 = 0) ∧ (win0_1.index t 0 = t.val / 16 ∧ win0_1.index t 1 = 0 ∧ win0_1.index t 2 = 0) ∧ (win0_2.index t 0 = t.val / 16 ∧ win0_2.index t 1 = 0 ∧ win0_2.index t 2 = 0) ∧ (win0_3.index t 0 = t.val ∧ win0_3.index t 1 = 0) :=
  (by decide +kernel : ∀ t : Fin grid0.N, (win0_0.index t 0 = t.val ∧ win0_0.index t 1 = 0) ∧ (win0_1.index t 0 = t.val / 16 ∧ win0_1.index t 1 = 0 ∧ win0_1.index t 2 = 0) ∧ (win0_2.index t 0 = t.val / 16 ∧ win0_2.index t 1 = 0 ∧ win0_2.index t 2 = 0) ∧ (win0_3.index t 0 = t.val ∧ win0_3.index t 1 = 0))

theorem lt32 (t : Fin cfg0.N) : t.val < 32 := lt_of_lt_of_eq t.isLt (show cfg0.N = 32 from N_0)

/-- The array row of row `i` of step `t`. -/
def row (t : Fin cfg0.N) (i : Fin 512) : Fin 16384 := ⟨512 * t.val + i.val, by have := lt32 t; omega⟩

theorem V_k (b : Fin 2) (j : Fin 256) (q : Fin 2048) : (V m c main_v0 : FVec Ideal S2x256x2048 .f32) (ix3 b j q) = rk m c (ix4 b j ⟨q.val / 512, by omega⟩ ⟨q.val % 512, by omega⟩) := by
  entry_read
  pointwise []

theorem V_v (b : Fin 2) (j : Fin 256) (q : Fin 2048) : (V m c main_v1 : FVec Ideal S2x256x2048 .f32) (ix3 b j q) = rv m c (ix4 b j ⟨q.val / 512, by omega⟩ ⟨q.val % 512, by omega⟩) := by
  entry_read
  pointwise []

abbrev bX (t : Fin cfg0.N) : FVec Ideal S512x2048 .bf16 := iblk m c 0 t

theorem bX_at (t : Fin cfg0.N) (i : Fin 512) (k : Fin 2048) : bX m c t (ix2 i k) = rx m c (ix2 (row t i) k) := by
  unfold bX iblk
  rw [View.read_apply]
  refine Eq.trans ?_ (congrFun (V_main_arg0 m c) (ix2 (row t i) k))
  show V m c main_arg0 _ = V m c main_arg0 _
  congr 1
  funext a
  apply Fin.ext
  have hi := (idx t).1
  match a with
  | ⟨0, _⟩ => show win0_0.index t 0 * 512 + 1 * i.val = 512 * t.val + i.val; rw [hi.1]; omega
  | ⟨1, _⟩ => show win0_0.index t 1 * 2048 + 1 * k.val = k.val; rw [hi.2]; omega

abbrev bK (t : Fin cfg0.N) : FVec Ideal S1x256x2048 .f32 := iblk m c 1 t

theorem bK_at (t : Fin cfg0.N) (j : Fin 256) (q : Fin 2048) :
    bK m c t (ix3 0 j q) = rk m c (ix4 ⟨t.val / 16, by have := lt32 t; omega⟩ j ⟨q.val / 512, by omega⟩ ⟨q.val % 512, by omega⟩) := by
  unfold bK iblk
  rw [View.read_apply]
  refine Eq.trans ?_ (V_k m c ⟨t.val / 16, by have := lt32 t; omega⟩ j q)
  show V m c main_v0 _ = V m c main_v0 _
  congr 1
  funext a
  apply Fin.ext
  have hi := (idx t).2.1
  match a with
  | ⟨0, _⟩ => show win0_1.index t 0 * 1 + 1 * 0 = t.val / 16; rw [hi.1]; omega
  | ⟨1, _⟩ => show win0_1.index t 1 * 256 + 1 * j.val = j.val; rw [hi.2.1]; omega
  | ⟨2, _⟩ => show win0_1.index t 2 * 2048 + 1 * q.val = q.val; rw [hi.2.2]; omega

abbrev bV (t : Fin cfg0.N) : FVec Ideal S1x256x2048 .f32 := iblk m c 2 t

theorem bV_at (t : Fin cfg0.N) (j : Fin 256) (q : Fin 2048) :
    bV m c t (ix3 0 j q) = rv m c (ix4 ⟨t.val / 16, by have := lt32 t; omega⟩ j ⟨q.val / 512, by omega⟩ ⟨q.val % 512, by omega⟩) := by
  unfold bV iblk
  rw [View.read_apply]
  refine Eq.trans ?_ (V_v m c ⟨t.val / 16, by have := lt32 t; omega⟩ j q)
  show V m c main_v1 _ = V m c main_v1 _
  congr 1
  funext a
  apply Fin.ext
  have hi := (idx t).2.2.1
  match a with
  | ⟨0, _⟩ => show win0_2.index t 0 * 1 + 1 * 0 = t.val / 16; rw [hi.1]; omega
  | ⟨1, _⟩ => show win0_2.index t 1 * 256 + 1 * j.val = j.val; rw [hi.2.1]; omega
  | ⟨2, _⟩ => show win0_2.index t 2 * 2048 + 1 * q.val = q.val; rw [hi.2.2]; omega

/-- One element of a step's output block. -/
theorem out_blk (t : Fin cfg0.N) (i : Fin 512) (q : Fin 2048) : out0_3 (F := Ideal) (iblk m c 0 t) (iblk m c 1 t) (iblk m c 2 t) (ix2 i q) = R m c (ix2 (row t i) q) := by
  have hb : (row t i).val / 8192 = t.val / 16 := by show (512 * t.val + i.val) / 8192 = t.val / 16; omega
  have ix4_eq : ∀ {b b' : Fin 2} {j : Fin 256} {h h' : Fin 4} {d d' : Fin 512}, b.val = b'.val → h.val = h'.val → d.val = d'.val →
      (ix4 b j h d : S2x256x4x512.Idx) = ix4 b' j h' d' := fun h1 h2 h3 => by rw [Fin.ext h1, Fin.ext h2, Fin.ext h3]
  refine (out_of _ _ _ i q).trans (Eq.trans ?_ (res_at (rx m c) (rk m c) (rv m c) (row t i) q).symm)
  refine congr (congr (congrArg att (funext fun d => bX_at m c t i _)) (funext fun j => funext fun d => (bK_at m c t j _).trans (congrArg (rk m c) (ix4_eq hb.symm ?_ ?_))))
    (funext fun j => (bV_at m c t j q).trans (congrArg (rv m c) (ix4_eq hb.symm rfl rfl)))
  · show (q.val / 512 * 512 + d.val) / 512 = q.val / 512
    omega
  · show (q.val / 512 * 512 + d.val) % 512 = d.val
    omega

/-- THE RESULT'S ARRAY. -/
theorem arrO : (dats m 0 c).arrAt 3 cfg0.N = R m c := by
  refine (dats m 0 c).arrAt_eq_of_covers 3 _ (by decide +kernel) fun t hf y => ?_
  show (dats m 0 c).after 3 t y = _
  rw [after0_3]
  refine (congrArg (out0_3 (F := Ideal) (iblk m c 0 t) (iblk m c 1 t) (iblk m c 2 t)) (eta2 (n1 := 512) (n2 := 2048) y)).trans
    ((out_blk m c t (y 0) (y 1)).trans (congrArg _ ?_))
  have hi := (idx t).2.2.2
  funext a
  apply Fin.ext
  match a with
  | ⟨0, _⟩ => show 512 * t.val + (y 0).val = win0_3.index t 0 * 512 + 1 * (y 0).val; rw [hi.1]; omega
  | ⟨1, _⟩ => show (y 1).val = win0_3.index t 1 * 2048 + 1 * (y 1).val; rw [hi.2]; omega

end Cert.Kernel8Ideal.Body

namespace Cert.Res8

open Idealize.ShloMosaic Idealize.ShloMosaic.TcCoe Idealize.SL Idealize.SL.Sem
open Cert.Kernel8Ideal.Body

/-- The reference runs, keeps its arguments, and declares no semaphore. -/
theorem frame_ref : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- THE RESULT IS EQUAL over the extended reals. -/
theorem algebraic : Cert.algebraic_Kernel8Ideal_Reference8Ideal (hKernel8Ideal := Cert.Kernel8Ideal.Gen.facts) (hReference8Ideal := Cert.Reference8Ideal.Gen.facts) := by
  intro m ρ m' ρ' _ hagree
  refine ⟨fun c => R m c, ?_, ?_⟩
  · exact (θ_run _ _ _).mono (fun _ h c => ⟨(h c).1.trans (arrO m c), (h c).2⟩)
      (Cert.Kernel8Ideal.Value.run_blocks (F := Ideal) m ρ)
  · refine (θ_run _ _ _).mono (fun _ h c => ⟨(h c).1.trans ?_, (h c).2⟩) (Cert.Reference8Ideal.Value.run (F := Ideal) m' ρ')
    rw [(hagree c).1, (hagree c).2.1, (hagree c).2.2]
    rfl

end Cert.Res8

end
-- ==== Proof.Res9.lean ====
module

public import proofs.«01_k».proof.Defs
public import proofs.«01_k».proof.Proof.Dense
public import proofs.«01_k».proof.Proof.Gen.Kernel9Ideal.Value
public import proofs.«01_k».proof.Proof.Gen.Reference9Ideal.Run
public import Idealize.ShloMosaic.Lib.Pipeline.ValueKit

/-! The normed rows' product with the queries' weights. -/

@[expose] public section

noncomputable section

namespace Cert.Reference9Ideal.Body

open Cert.Reference9Ideal Cert.Reference9Ideal.Gen Idealize.ShloMosaic Idealize.ShloMosaic.TcCoe Idealize.SL Cert.Dense

variable (y : FVec Ideal S16384x2048 .f32) (g : FVec Ideal S2048 .f32) (w : FVec Ideal S2048x2048 .f32)

/-- The norm of rows. -/
def hn : FVec Ideal S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

theorem hn_at (r : Fin 16384) (q : Fin 2048) : hn y g (ix2 r q) = nrm (fun q => y (ix2 r q)) (fun q => g (ix1 q)) q := by
  pointwise [hn]
  rfl

/-- The product with the weights, rounded. -/
def prod : FVec Ideal S16384x2048 .f32 := Host.dotGeneral dot_S16384x2048_S2048x2048_S16384x2048_1_0_0_1_n_n none y w
def out (p : FVec Ideal S16384x2048 .f32) : FVec Ideal S16384x2048 .bf16 := truncf .bf16 p bitsLt_bf16_f32

theorem prod_at (r : Fin 16384) (q : Fin 2048) : prod y w (ix2 r q) = ∑ k : Fin 2048, y (ix2 r k) * w (ix2 k q) := by
  pointwise [prod]

theorem out_at (p : FVec Ideal S16384x2048 .f32) (r : Fin 16384) (q : Fin 2048) : out p (ix2 r q) = p (ix2 r q) := rfl

end Cert.Reference9Ideal.Body

namespace Cert.Kernel9Ideal.Body

open Cert.Kernel9Ideal Cert.Kernel9Ideal.Gen Idealize.ShloMosaic Idealize.ShloMosaic.TcCoe Idealize.SL Cert.Dense
open Cert.Reference9Ideal.Body (hn prod out hn_at prod_at out_at)

theorem pay1_at (x : Vec Ideal S1024x2048 .f32) (g : Vec Ideal S1x2048 .f32) (i : Fin 1024) (q : Fin 2048) :
    k0_pay1 x g (ix2 i q) = nrm (fun q => x (ix2 i q)) (fun q => g (ix2 0 q)) q := by
  pointwise [k0_pay1]
  rfl

theorem pay2_at (h : Vec Ideal S1024x2048 .bf16) (w : Vec Ideal S2048x1024 .bf16) (i q : Fin 1024) :
    k0_pay2 (F := Ideal) h w (ix2 i q) = ∑ k : Fin 2048, h (ix2 i k) * w (ix2 k q) := by
  pointwise [k0_pay2]

variable (m : (ℓ : Loc nD τ sig) → Buf (Elt Ideal) ℓ) (c : Dev nD)

/-- The arguments. -/
abbrev rx : FVec Ideal S16384x2048 .f32 := m ((c : Thread nD τ).loc main_arg0)
abbrev rg : FVec Ideal S2048 .f32 := m ((c : Thread nD τ).loc main_arg1)
abbrev rw' : FVec Ideal S2048x2048 .f32 := m ((c : Thread nD τ).loc main_arg2)

/-- Which block each window takes at step `t`. -/
theorem idx : ∀ t : Fin cfg0.N, (win0_0.index t 0 = t.val / 2 ∧ win0_0.index t 1 = 0) ∧ (win0_1.index t 0 = 0 ∧ win0_1.index t 1 = 0) ∧ (win0_2.index t 0 = 0 ∧ win0_2.index t 1 = t.val % 2) ∧ (win0_3.index t 0 = t.val / 2 ∧ win0_3.index t 1 = t.val % 2) :=
  (by decide +kernel : ∀ t : Fin grid0.N, (win0_0.index t 0 = t.val / 2 ∧ win0_0.index t 1 = 0) ∧ (win0_1.index t 0 = 0 ∧ win0_1.index t 1 = 0) ∧ (win0_2.index t 0 = 0 ∧ win0_2.index t 1 = t.val % 2) ∧ (win0_3.index t 0 = t.val / 2 ∧ win0_3.index t 1 = t.val % 2))

/-- The array row of row `i`, and the array column of column `q`, of step `t`. -/
def row (t : Fin cfg0.N) (i : Fin 1024) : Fin 16384 :=
  ⟨1024 * (t.val / 2) + i.val, by have := lt_of_lt_of_eq t.isLt (show cfg0.N = 32 from N_0); omega⟩
def col (t : Fin cfg0.N) (q : Fin 1024) : Fin 2048 := ⟨1024 * (t.val % 2) + q.val, by omega⟩

theorem V_g (q : Fin 2048) : (V m c main_v0 : FVec Ideal S1x2048 .f32) (ix2 0 q) = rg m c (ix1 q) := by
  entry_read
  exact cast_row _ _ q
theorem V_w (k : Fin 2048) (q : Fin 2048) : (V m c main_v1 : FVec Ideal S2048x2048 .bf16) (ix2 k q) = rw' m c (ix2 k q) := by
  entry_read
  rfl

abbrev bX (t : Fin cfg0.N) : FVec Ideal S1024x2048 .f32 := iblk m c 0 t

theorem bX_at (t : Fin cfg0.N) (i : Fin 1024) (k : Fin 2048) : bX m c t (ix2 i k) = rx m c (ix2 (row t i) k) := by
  unfold bX iblk
  rw [View.read_apply]
  refine Eq.trans ?_ (congrFun (V_main_arg0 m c) (ix2 (row t i) k))
  show V m c main_arg0 _ = V m c main_arg0 _
  congr 1
  funext a
  apply Fin.ext
  have hi := (idx t).1
  match a with
  | ⟨0, _⟩ => show win0_0.index t 0 * 1024 + 1 * i.val = 1024 * (t.val / 2) + i.val; rw [hi.1]; omega
  | ⟨1, _⟩ => show win0_0.index t 1 * 2048 + 1 * k.val = k.val; rw [hi.2]; omega

abbrev bG (t : Fin cfg0.N) : FVec Ideal S1x2048 .f32 := iblk m c 1 t

theorem bG_at (t : Fin cfg0.N) (k : Fin 2048) : bG m c t (ix2 0 k) = rg m c (ix1 k) := by
  unfold bG iblk
  rw [View.read_apply]
  refine Eq.trans ?_ (V_g m c k)
  show V m c main_v0 _ = V m c main_v0 _
  congr 1
  funext a
  apply Fin.ext
  have hi := (idx t).2.1
  match a with
  | ⟨0, _⟩ => show win0_1.index t 0 * 1 + 1 * 0 = 0; rw [hi.1]
  | ⟨1, _⟩ => show win0_1.index t 1 * 2048 + 1 * k.val = k.val; rw [hi.2]; omega

abbrev bW (t : Fin cfg0.N) : FVec Ideal S2048x1024 .bf16 := iblk m c 2 t

theorem bW_at (t : Fin cfg0.N) (i : Fin 2048) (k : Fin 1024) : bW m c t (ix2 i k) = rw' m c (ix2 i (col t k)) := by
  unfold bW iblk
  rw [View.read_apply]
  refine Eq.trans ?_ (V_w m c i (col t k))
  show V m c main_v1 _ = V m c main_v1 _
  congr 1
  funext a
  apply Fin.ext
  have hi := (idx t).2.2.1
  match a with
  | ⟨0, _⟩ => show win0_2.index t 0 * 2048 + 1 * i.val = i.val; rw [hi.1]; omega
  | ⟨1, _⟩ => show win0_2.index t 1 * 1024 + 1 * k.val = 1024 * (t.val % 2) + k.val; rw [hi.2]; omega

/-- The reference's stages, of this memory's arguments. -/
abbrev H (r : Fin 16384) (k : Fin 2048) : EReal := hn (rx m c) (rg m c) (ix2 r k)
theorem H_at (r : Fin 16384) (k : Fin 2048) : H m c r k = nrm (fun q => rx m c (ix2 r q)) (fun q => rg m c (ix1 q)) k := hn_at _ _ r k
abbrev R : FVec Ideal S16384x2048 .bf16 := out (prod (hn (rx m c) (rg m c)) (rw' m c))

/-! The steps' stored values. -/

theorem hnA (t : Fin cfg0.N) (h0 : t.val % 2 = 0) : (outsAt0 m c t.val t.isLt).2 = k0_pay1 (F := Ideal) (bX m c t) (bG m c t) := by
  rw [outsAt0_A m c t h0]
  dsimp only
  frame_out

theorem hnB (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl

/-- The normed rows' block, at every step. -/
theorem hn_inv : ∀ (n : ℕ) (h : n < cfg0.N) (i : Fin 1024) (k : Fin 2048),
    (outsAt0 m c n h).2 (ix2 i k) = H m c (row ⟨n, h⟩ i) k := by
  intro n
  induction n with
  | zero =>
    intro h i k
    refine (congrFun (hnA m c ⟨0, h⟩ (Nat.zero_mod 2)) (ix2 i k)).trans ((pay1_at _ _ i k).trans (Eq.trans ?_ (H_at m c (row ⟨0, h⟩ i) k).symm))
    exact congrArg₂ (nrm · · k) (funext fun q => bX_at m c _ i q) (funext fun q => bG_at m c _ q)
  | succ n ih =>
    intro h i k
    by_cases h0 : (n + 1) % 2 = 0
    · refine (congrFun (hnA m c ⟨n + 1, h⟩ h0) (ix2 i k)).trans ((pay1_at _ _ i k).trans (Eq.trans ?_ (H_at m c (row ⟨n + 1, h⟩ i) k).symm))
      exact congrArg₂ (nrm · · k) (funext fun q => bX_at m c _ i q) (funext fun q => bG_at m c _ q)
    · refine (congrFun (hnB m c ⟨n + 1, h⟩ h0) (ix2 i k)).trans ((ih _ i k).trans ?_)
      refine congrArg (fun r => H m c r k) (Fin.ext ?_)
      show 1024 * (n / 2) + i.val = 1024 * ((n + 1) / 2) + i.val
      omega

theorem outA (t : Fin cfg0.N) (h0 : t.val % 2 = 0) : (outsAt0 m c t.val t.isLt).1 = k0_pay2 (F := Ideal) (k0_pay1 (F := Ideal) (bX m c t) (bG m c t)) (bW m c t) := by
  rw [outsAt0_A m c t h0]
  dsimp only
  frame_out

theorem outB (t : Fin cfg0.N) (h0 : ¬t.val % 2 = 0) :
    (outsAt0 m c t.val t.isLt).1 = k0_pay2 (F := Ideal) (outsAt0 m c (t.val - 1) (Nat.lt_of_le_of_lt (Nat.sub_le _ _) t.isLt)).2 (bW m c t) := by
  rw [outsAt0_B m c t h0]
  dsimp only
  frame_out
  exact congrArg (fun h => k0_pay2 (F := Ideal) h (bW m c t)) ((Memref.isWhole_whole _).read_unread _)

theorem out_eq (t : Fin cfg0.N) : (outsAt0 m c t.val t.isLt).1 = k0_pay2 (F := Ideal) (outsAt0 m c t.val t.isLt).2 (bW m c t) := by
  by_cases h0 : t.val % 2 = 0
  · rw [outA m c t h0, hnA m c t h0]
  · rw [outB m c t h0, hnB m c t h0]

/-- One element of a step's output block. -/
theorem out_blk (t : Fin cfg0.N) (i q : Fin 1024) : (outsAt0 m c t.val t.isLt).1 (ix2 i q) = R m c (ix2 (row t i) (col t q)) := by
  refine (congrFun (out_eq m c t) (ix2 i q)).trans ((pay2_at _ _ i q).trans (Eq.trans ?_ (out_at _ (row t i) (col t q)).symm))
  refine Eq.trans ?_ (prod_at _ _ (row t i) (col t q)).symm
  exact Finset.sum_congr rfl fun k _ => congrArg₂ (· * ·) (hn_inv m c t.val t.isLt i k) (bW_at m c t k q)

/-- THE RESULT'S ARRAY. -/
theorem arrO : (dats m 0 c).arrAt 3 cfg0.N = R m c := by
  refine (dats m 0 c).arrAt_eq_of_covers 3 _ (by decide +kernel) fun t hf y => ?_
  show (dats m 0 c).after 3 t y = _
  rw [after0_3]
  refine (congrArg (outsAt0 m c t.val t.isLt).1 (eta2 (n1 := 1024) (n2 := 1024) y)).trans
    ((out_blk m c t (y 0) (y 1)).trans (congrArg _ ?_))
  have hi := (idx t).2.2.2
  funext a
  apply Fin.ext
  match a with
  | ⟨0, _⟩ => show 1024 * (t.val / 2) + (y 0).val = win0_3.index t 0 * 1024 + 1 * (y 0).val; rw [hi.1]; omega
  | ⟨1, _⟩ => show 1024 * (t.val % 2) + (y 1).val = win0_3.index t 1 * 1024 + 1 * (y 1).val; rw [hi.2]; omega

end Cert.Kernel9Ideal.Body

namespace Cert.Res9

open Idealize.ShloMosaic Idealize.ShloMosaic.TcCoe Idealize.SL Idealize.SL.Sem
open Cert.Kernel9Ideal.Body

/-- The reference runs, keeps its arguments, and declares no semaphore. -/
theorem frame_ref : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- THE RESULT IS EQUAL over the extended reals. -/
theorem algebraic : Cert.algebraic_Kernel9Ideal_Reference9Ideal (hKernel9Ideal := Cert.Kernel9Ideal.Gen.facts) (hReference9Ideal := Cert.Reference9Ideal.Gen.facts) := by
  intro m ρ m' ρ' _ hagree
  refine ⟨fun c => R m c, ?_, ?_⟩
  · exact (θ_run _ _ _).mono (fun _ h c => ⟨(h c).1.trans (arrO m c), (h c).2⟩)
      (Cert.Kernel9Ideal.Value.run_blocks (F := Ideal) m ρ)
  · refine (θ_run _ _ _).mono (fun _ h c => ⟨(h c).1.trans ?_, (h c).2⟩) (Cert.Reference9Ideal.Value.run (F := Ideal) m' ρ')
    rw [(hagree c).1, (hagree c).2.1, (hagree c).2.2]
    rfl

end Cert.Res9

end
-- ==== Proof.Res10Pay.lean ====
module

public import proofs.«01_k».proof.Proof.Dense
public import proofs.«01_k».proof.Proof.ConvIVal
public import Idealize.ShloMosaic.Lib.Pipeline.ValueKit
public import Idealize.ShloMosaic.Lib.KernelVsHost

/-! What one step of the prompt's input projection stores, entry by entry. -/

@[expose] public section

noncomputable section

namespace Cert.Kernel10Ideal.Body

open Cert.Kernel10Ideal Cert.Kernel10Ideal.Gen Idealize.ShloMosaic Idealize.ShloMosaic.TcCoe Idealize.SL Cert.Dense
open Idealize.ShloMosaic.VecWindow

/-- `x · logistic x`. -/
def sw (x : EReal) : EReal := x * sg x

theorem pay1_at (x : Vec Ideal S1024x2048 .f32) (g : Vec Ideal S1x2048 .f32) (i : Fin 1024) (q : Fin 2048) :
    k0_pay1 x g (ix2 i q) = nrm (fun q => x (ix2 i q)) (fun q => g (ix2 0 q)) q := by
  pointwise [k0_pay1]
  rfl

theorem pay4_at (h : Vec Ideal S1024x2048 .bf16) (w : Vec Ideal S1x2048x1024 .bf16) (i : Fin 1024) (q : Fin 1024) :
    k0_pay4 h w (ix2 i q) = ∑ k : Fin 2048, h (ix2 i k) * w (ix3 0 k q) := by
  pointwise [k0_pay4]

theorem pay13_at (h : Vec Ideal S1024x2048 .bf16) (w : Vec Ideal S1x2048x256 .bf16) (i : Fin 1024) (q : Fin 256) :
    k0_pay13 h w (ix2 i q) = ∑ k : Fin 2048, h (ix2 i k) * w (ix3 0 k q) := by
  pointwise [k0_pay13]

theorem pay28_at (x : FVec Ideal S1024x256 .f32) (i : Fin 1024) (q : Fin 256) : k0_pay28 x (ix2 i q) = sw (x (ix2 i q)) := by
  pointwise [k0_pay28]
  rw [zero_sub]
  rfl

theorem pay12_at (y : S1x8x1024.Idx) : (k0_pay12 : FVec Ideal S1x8x1024 .f32) y = 0 := by
  refine (show k0_pay12 y = Ideal.ofBits .f32 0x00000000#32 from rfl).trans ?_
  pointwise []

theorem pay19_at (x : FVec Ideal S1024x256 .f32) (i : Fin 8) (q : Fin 256) : k0_pay19 x (ix3 0 i q) = x (ix2 ⟨1016 + i.val, by omega⟩ q) := by
  have e : k0_pay19 x (ix3 0 i q) = k0_pay18 x (ix2 i q) := by
    refine shapeCast_apply (k0_pay18 x) _ _ (ix2 i q) ?_
    rw [Shape.rowMajor_val_three, Shape.rowMajor_val_two]
    show i.val * 256 + q.val = (0 * 8 + i.val) * 256 + q.val
    omega
  refine e.trans (congrArg x (funext fun a => Fin.ext ?_))
  match a with
  | ⟨0, _⟩ => rfl
  | ⟨1, _⟩ => show 0 + q.val = q.val; omega

/-- The rows kept put above the block's. -/
def ext (x : FVec Ideal S1024x256 .f32) (T : Vec Ideal S1x8x256 .f32) : FVec Ideal S1032x256 .f32 :=
  concatenate S1032x256 0 [⟨S8x256, shapeCast S8x256 T shapeCasts_S1x8x256_S8x256⟩, ⟨S1024x256, x⟩] concatenates_S8x256_S1024x256_S1032x256_d0

set_option maxRecDepth 65536 in
theorem ext_lo (x : FVec Ideal S1024x256 .f32) (T : Vec Ideal S1x8x256 .f32) (n : Fin 8) (q : Fin 256) :
    ext x T (ix2 ⟨n.val, by omega⟩ q) = T (ix3 0 n q) := by
  refine (concatenate_apply_piece (t := S1032x256) 0 [⟨S8x256, shapeCast S8x256 T shapeCasts_S1x8x256_S8x256⟩, ⟨S1024x256, x⟩] concatenates_S8x256_S1024x256_S1032x256_d0 (ix2 ⟨n.val, by omega⟩ q) 0 (by decide : 0 < 2) S8x256 _ rfl rfl 0 rfl (ix2 n q)
    (fun b hb => by match b with | ⟨0, _⟩ => exact absurd rfl hb | ⟨1, _⟩ => rfl) (Nat.zero_add _)).trans ?_
  refine shapeCast_apply T _ _ (ix3 0 n q) ?_
  rw [Shape.rowMajor_val_three, Shape.rowMajor_val_two]
  show (0 * 8 + n.val) * 256 + q.val = n.val * 256 + q.val
  omega

set_option maxRecDepth 65536 in
theorem ext_hi (x : FVec Ideal S1024x256 .f32) (T : Vec Ideal S1x8x256 .f32) (n : Fin 1024) (q : Fin 256) :
    ext x T (ix2 ⟨8 + n.val, by omega⟩ q) = x (ix2 n q) :=
  concatenate_apply_piece (t := S1032x256) 0 [⟨S8x256, shapeCast S8x256 T shapeCasts_S1x8x256_S8x256⟩, ⟨S1024x256, x⟩] concatenates_S8x256_S1024x256_S1032x256_d0 (ix2 ⟨8 + n.val, by omega⟩ q) 1 (by decide : 1 < 2) S1024x256 x rfl rfl 8 rfl (ix2 n q)
    (fun b hb => by match b with | ⟨0, _⟩ => exact absurd rfl hb | ⟨1, _⟩ => rfl) rfl

/-- A table rolled down by one row. -/
def roll (x : FVec Ideal S1032x256 .f32) : FVec Ideal S1032x256 .f32 := dynamicRotate 0 1#32 none x rotates_S1032x256_d0

theorem roll_at (x : FVec Ideal S1032x256 .f32) (n : ℕ) (h : n + 1 < 1032) (q : Fin 256) : roll x (ix2 ⟨n + 1, h⟩ q) = x (ix2 ⟨n, by omega⟩ q) := by
  refine dynamicRotate_apply _ _ _ _ _ _ fun b => ?_
  match b with
  | ⟨0, _⟩ => show n = (n + 1 + 1032 - 1 % 1032) % 1032; omega
  | ⟨1, _⟩ => rfl

/-- A row of taps times a table. -/
def tap (w : Vec Ideal S1x256 .f32) (e : FVec Ideal S1032x256 .f32) : FVec Ideal S1032x256 .f32 := mulf (broadcastTo S1032x256 w broadcasts_S1x256_S1032x256) e

theorem tap_at (w : Vec Ideal S1x256 .f32) (e : FVec Ideal S1032x256 .f32) (n : Fin 1032) (q : Fin 256) : tap w e (ix2 n q) = e (ix2 n q) * w (ix2 0 q) := by
  refine Eq.trans ?_ (mul_comm _ _)
  pointwise [tap]

/-- The taps added up, before the bias. -/
def sums (e : FVec Ideal S1032x256 .f32) (w0 w1 w2 w3 : Vec Ideal S1x256 .f32) : FVec Ideal S1032x256 .f32 :=
  addf (roll (addf (roll (addf (roll (tap w0 e)) (tap w1 e))) (tap w2 e))) (tap w3 e)

theorem sums_at (e : FVec Ideal S1032x256 .f32) (w0 w1 w2 w3 : Vec Ideal S1x256 .f32) (n : ℕ) (h : n + 3 < 1032) (q : Fin 256) :
    sums e w0 w1 w2 w3 (ix2 ⟨n + 3, h⟩ q)
      = e (ix2 ⟨n, by omega⟩ q) * w0 (ix2 0 q) + e (ix2 ⟨n + 1, by omega⟩ q) * w1 (ix2 0 q) + e (ix2 ⟨n + 2, by omega⟩ q) * w2 (ix2 0 q) + e (ix2 ⟨n + 3, h⟩ q) * w3 (ix2 0 q) := by
  show roll (addf (roll (addf (roll (tap w0 e)) (tap w1 e))) (tap w2 e)) (ix2 ⟨n + 2 + 1, h⟩ q) + tap w3 e (ix2 ⟨n + 3, h⟩ q) = _
  rw [roll_at, tap_at]
  show roll (addf (roll (tap w0 e)) (tap w1 e)) (ix2 ⟨n + 1 + 1, _⟩ q) + tap w2 e (ix2 ⟨n + 2, _⟩ q) + _ = _
  rw [roll_at, tap_at]
  show roll (tap w0 e) (ix2 ⟨n + 1, _⟩ q) + tap w1 e (ix2 ⟨n + 1, _⟩ q) + _ + _ = _
  rw [roll_at, tap_at, tap_at]

/-- The bias added to the rows below the eight kept, through the activation. -/
def fin (s : FVec Ideal S1032x256 .f32) (b : Vec Ideal S1x256 .f32) : FVec Ideal S1024x256 .f32 :=
  k0_pay28 (addf (extractStridedSlice S1024x256 ![8, 0] s slices_S1032x256_o8_0_S1024x256) (broadcastTo S1024x256 (shapeCast S1x256 b shapeCasts_S1x256_S1x256) broadcasts_S1x256_S1024x256))

theorem fin_at (s : FVec Ideal S1032x256 .f32) (b : Vec Ideal S1x256 .f32) (i : Fin 1024) (q : Fin 256) :
    fin s b (ix2 i q) = sw (s (ix2 ⟨i.val + 5 + 3, by omega⟩ q) + b (ix2 0 q)) := by
  refine (pay28_at _ i q).trans (congrArg sw ?_)
  refine congrArg₂ (· + ·) (congrArg s (funext fun a => Fin.ext ?_)) ?_
  · match a with
    | ⟨0, _⟩ => show 8 + i.val = i.val + 5 + 3; omega
    | ⟨1, _⟩ => show 0 + q.val = q.val; omega
  · pointwise []

theorem pay22_at (x : FVec Ideal S1024x256 .f32) (T : Vec Ideal S1x8x256 .f32) (w0 w1 w2 w3 b : Vec Ideal S1x256 .f32) (i : Fin 1024) (q : Fin 256) :
    k0_pay22 x T w0 w1 w2 w3 b (ix2 i q)
      = sw (ext x T (ix2 ⟨i.val + 5, by omega⟩ q) * w0 (ix2 0 q) + ext x T (ix2 ⟨i.val + 6, by omega⟩ q) * w1 (ix2 0 q) + ext x T (ix2 ⟨i.val + 7, by omega⟩ q) * w2 (ix2 0 q) + ext x T (ix2 ⟨i.val + 8, by omega⟩ q) * w3 (ix2 0 q) + b (ix2 0 q)) := by
  refine (show k0_pay22 x T w0 w1 w2 w3 b (ix2 i q) = fin (sums (ext x T) w0 w1 w2 w3) b (ix2 i q) from rfl).trans ((fin_at _ b i q).trans ?_)
  rw [sums_at]

/-! A block's quarters of columns. -/

/-- A column of a quarter. -/
theorem put5_at (x : Vec Ideal S1024x1024 .f32) (p0 p1 p2 p3 : FVec Ideal S1024x256 .f32) (i : Fin 1024) (q : Fin 1024) (v : EReal)
    (h0 : ∀ j : Fin 256, q.val = 0 + j.val → p0 (ix2 i j) = v) (h1 : ∀ j : Fin 256, q.val = 256 + j.val → p1 (ix2 i j) = v)
    (h2 : ∀ j : Fin 256, q.val = 512 + j.val → p2 (ix2 i j) = v) (h3 : ∀ j : Fin 256, q.val = 768 + j.val → p3 (ix2 i j) = v) :
    put5 x p0 p1 p2 p3 (ix2 i q) = v := by
  have hit : ∀ (o : ℕ) (z : Vec Ideal S1024x1024 .f32) (p : FVec Ideal S1024x256 .f32), (∀ j : Fin 256, q.val = o + j.val → p (ix2 i j) = v) →
      o ≤ q.val → q.val < o + 256 → put z ![0, o] S1024x256.size p (ix2 i q) = v := by
    intro o z p hp ha hb
    refine (put_apply z ![0, o] S1024x256.size p (ix2 i q) (ix2 (n0 := 1024) (n1 := 256) i ⟨q.val - o, by omega⟩) fun a => ?_).trans (hp ⟨q.val - o, by omega⟩ (by show q.val = o + (q.val - o); omega))
    match a with
    | ⟨0, _⟩ => show i.val = 0 + i.val; omega
    | ⟨1, _⟩ => show q.val = o + (q.val - o); omega
  have skip : ∀ (o : ℕ) (z : Vec Ideal S1024x1024 .f32) (p : FVec Ideal S1024x256 .f32), q.val < o →
      put z ![0, o] S1024x256.size p (ix2 i q) = z (ix2 i q) := by
    intro o z p ha
    exact put_skip z _ _ p (ix2 i q) 1 (.inl ha)
  unfold put5
  by_cases c3 : 768 ≤ q.val
  · exact hit _ _ _ h3 c3 (by omega)
  rw [skip 768 _ _ (by omega)]
  by_cases c2 : 512 ≤ q.val
  · exact hit _ _ _ h2 c2 (by omega)
  rw [skip 512 _ _ (by omega)]
  by_cases c1 : 256 ≤ q.val
  · exact hit _ _ _ h1 c1 (by omega)
  rw [skip 256 _ _ (by omega)]
  exact hit _ _ _ h0 (by omega) (by omega)

theorem put6_at (x : Vec Ideal S1x8x1024 .f32) (p0 p1 p2 p3 : FVec Ideal S1x8x256 .f32) (i : Fin 8) (q : Fin 1024) (v : EReal)
    (h0 : ∀ j : Fin 256, q.val = 0 + j.val → p0 (ix3 0 i j) = v) (h1 : ∀ j : Fin 256, q.val = 256 + j.val → p1 (ix3 0 i j) = v)
    (h2 : ∀ j : Fin 256, q.val = 512 + j.val → p2 (ix3 0 i j) = v) (h3 : ∀ j : Fin 256, q.val = 768 + j.val → p3 (ix3 0 i j) = v) :
    put6 x p0 p1 p2 p3 (ix3 0 i q) = v := by
  have hit : ∀ (o : ℕ) (z : Vec Ideal S1x8x1024 .f32) (p : FVec Ideal S1x8x256 .f32), (∀ j : Fin 256, q.val = o + j.val → p (ix3 0 i j) = v) →
      o ≤ q.val → q.val < o + 256 → put z ![0, 0, o] S1x8x256.size p (ix3 0 i q) = v := by
    intro o z p hp ha hb
    refine (put_apply z ![0, 0, o] S1x8x256.size p (ix3 0 i q) (ix3 (n0 := 1) (n1 := 8) (n2 := 256) 0 i ⟨q.val - o, by omega⟩) fun a => ?_).trans (hp ⟨q.val - o, by omega⟩ (by show q.val = o + (q.val - o); omega))
    match a with
    | ⟨0, _⟩ => rfl
    | ⟨1, _⟩ => show i.val = 0 + i.val; omega
    | ⟨2, _⟩ => show q.val = o + (q.val - o); omega
  have skip : ∀ (o : ℕ) (z : Vec Ideal S1x8x1024 .f32) (p : FVec Ideal S1x8x256 .f32), q.val < o →
      put z ![0, 0, o] S1x8x256.size p (ix3 0 i q) = z (ix3 0 i q) := by
    intro o z p ha
    exact put_skip z _ _ p (ix3 0 i q) 2 (.inl ha)
  unfold put6
  by_cases c3 : 768 ≤ q.val
  · exact hit _ _ _ h3 c3 (by omega)
  rw [skip 768 _ _ (by omega)]
  by_cases c2 : 512 ≤ q.val
  · exact hit _ _ _ h2 c2 (by omega)
  rw [skip 512 _ _ (by omega)]
  by_cases c1 : 256 ≤ q.val
  · exact hit _ _ _ h1 c1 (by omega)
  rw [skip 256 _ _ (by omega)]
  exact hit _ _ _ h0 (by omega) (by omega)

/-- The product's entry. -/
def pr (hn : Vec Ideal S1024x2048 .bf16) (w : Vec Ideal S1x2048x1024 .bf16) (i : Fin 1024) (q : Fin 1024) : EReal := ∑ k : Fin 2048, hn (ix2 i k) * w (ix3 0 k q)

theorem acc_at (hn : Vec Ideal S1024x2048 .bf16) (w : Vec Ideal S1x2048x1024 .bf16) (o : ℕ) (h : o + 256 ≤ 1024) (i : Fin 1024) (j : Fin 256) (q : Fin 1024) (hq : q.val = o + j.val) :
    acc hn w o h (ix2 i j) = pr hn w i q := by
  refine (pay13_at _ _ i j).trans (Finset.sum_congr rfl fun k _ => congrArg (hn (ix2 i k) * ·) (congrArg w (funext fun a => Fin.ext ?_)))
  match a with
  | ⟨0, _⟩ => rfl
  | ⟨1, _⟩ => show 0 + 1 * k.val = k.val; omega
  | ⟨2, _⟩ => show o + 1 * j.val = q.val; omega

theorem siluO_at (hn : Vec Ideal S1024x2048 .bf16) (w : Vec Ideal S1x2048x1024 .bf16) (i q : Fin 1024) : siluO hn w (ix2 i q) = sw (pr hn w i q) :=
  put5_at _ _ _ _ _ i q _ (fun j h => (pay28_at _ i j).trans (congrArg sw (acc_at hn w 0 _ i j q h))) (fun j h => (pay28_at _ i j).trans (congrArg sw (acc_at hn w 256 _ i j q h)))
    (fun j h => (pay28_at _ i j).trans (congrArg sw (acc_at hn w 512 _ i j q h))) (fun j h => (pay28_at _ i j).trans (congrArg sw (acc_at hn w 768 _ i j q h)))

theorem tailV_at (hn : Vec Ideal S1024x2048 .bf16) (w : Vec Ideal S1x2048x1024 .bf16) (i : Fin 8) (q : Fin 1024) :
    tailV hn w (ix3 0 i q) = pr hn w ⟨1016 + i.val, by omega⟩ q :=
  put6_at _ _ _ _ _ i q _ (fun j h => (pay19_at _ i j).trans (acc_at hn w 0 _ _ j q h)) (fun j h => (pay19_at _ i j).trans (acc_at hn w 256 _ _ j q h))
    (fun j h => (pay19_at _ i j).trans (acc_at hn w 512 _ _ j q h)) (fun j h => (pay19_at _ i j).trans (acc_at hn w 768 _ _ j q h))

/-- Row `n` of the rows kept above the block's rows. -/
def eRow (hn : Vec Ideal S1024x2048 .bf16) (w : Vec Ideal S1x2048x1024 .bf16) (T : Vec Ideal S1x8x1024 .f32) (n : ℕ) (q : Fin 1024) : EReal :=
  if h : n < 8 then T (ix3 0 ⟨n, h⟩ q) else if h' : n < 1032 then pr hn w ⟨n - 8, by omega⟩ q else 0

theorem ext_at (hn : Vec Ideal S1024x2048 .bf16) (w : Vec Ideal S1x2048x1024 .bf16) (T : Vec Ideal S1x8x1024 .f32) (o : ℕ) (h : o + 256 ≤ 1024) (n : ℕ) (hn' : n < 1032) (j : Fin 256) (q : Fin 1024) (hq : q.val = o + j.val) :
    ext (acc hn w o h) (window T ![0, 0, o] S1x8x256.size (int o h)) (ix2 ⟨n, hn'⟩ j) = eRow hn w T n q := by
  unfold eRow
  by_cases c : n < 8
  · rw [dif_pos c]
    refine (ext_lo _ _ ⟨n, c⟩ j).trans (congrArg T (funext fun a => Fin.ext ?_))
    match a with
    | ⟨0, _⟩ => rfl
    | ⟨1, _⟩ => show 0 + 1 * n = n; omega
    | ⟨2, _⟩ => show o + 1 * j.val = q.val; omega
  · rw [dif_neg c, dif_pos hn']
    have e : (⟨n, hn'⟩ : Fin 1032) = ⟨8 + (⟨n - 8, by omega⟩ : Fin 1024).val, by show 8 + (n - 8) < 1032; omega⟩ := Fin.ext (by show n = 8 + (n - 8); omega)
    rw [e]
    exact (ext_hi _ _ ⟨n - 8, by omega⟩ j).trans (acc_at hn w o h _ j q hq)

theorem convP_at (hn : Vec Ideal S1024x2048 .bf16) (w : Vec Ideal S1x2048x1024 .bf16) (cw : Vec Ideal S4x1024 .f32) (cb : Vec Ideal S1x1024 .f32) (T : Vec Ideal S1x8x1024 .f32)
    (o : ℕ) (h : o + 256 ≤ 1024) (i : Fin 1024) (j : Fin 256) (q : Fin 1024) (hq : q.val = o + j.val) :
    convP hn w cw cb T o h (ix2 i j) = sw (eRow hn w T (i.val + 5) q * cw (ix2 0 q) + eRow hn w T (i.val + 6) q * cw (ix2 1 q) + eRow hn w T (i.val + 7) q * cw (ix2 2 q) + eRow hn w T (i.val + 8) q * cw (ix2 3 q) + cb (ix2 0 q)) := by
  have hc : ∀ (r : Fin 4) (hr : r.val + 1 ≤ 4), window cw ![r.val, o] S1x256.size (inc r.val o hr h) (ix2 0 j) = cw (ix2 r q) := by
    intro r hr
    refine congrArg cw (funext fun a => Fin.ext ?_)
    match a with
    | ⟨0, _⟩ => rfl
    | ⟨1, _⟩ => show o + 1 * j.val = q.val; omega
  have hb : window cb ![0, o] S1x256.size (inb1 o h) (ix2 0 j) = cb (ix2 0 q) := by
    refine congrArg cb (funext fun a => Fin.ext ?_)
    match a with
    | ⟨0, _⟩ => rfl
    | ⟨1, _⟩ => show o + 1 * j.val = q.val; omega
  refine (pay22_at _ _ _ _ _ _ _ i j).trans (congrArg sw ?_)
  exact congrArg₂ (· + ·) (congrArg₂ (· + ·) (congrArg₂ (· + ·) (congrArg₂ (· + ·)
    (congrArg₂ (· * ·) (ext_at hn w T o h _ _ j q hq) (hc 0 (by decide))) (congrArg₂ (· * ·) (ext_at hn w T o h _ _ j q hq) (hc 1 (by decide))))
    (congrArg₂ (· * ·) (ext_at hn w T o h _ _ j q hq) (hc 2 (by decide)))) (congrArg₂ (· * ·) (ext_at hn w T o h _ _ j q hq) (hc 3 (by decide)))) hb

theorem convO_at (hn : Vec Ideal S1024x2048 .bf16) (w : Vec Ideal S1x2048x1024 .bf16) (cw : Vec Ideal S4x1024 .f32) (cb : Vec Ideal S1x1024 .f32) (T : Vec Ideal S1x8x1024 .f32) (i q : Fin 1024) :
    convO hn w cw cb T (ix2 i q) = sw (eRow hn w T (i.val + 5) q * cw (ix2 0 q) + eRow hn w T (i.val + 6) q * cw (ix2 1 q) + eRow hn w T (i.val + 7) q * cw (ix2 2 q) + eRow hn w T (i.val + 8) q * cw (ix2 3 q) + cb (ix2 0 q)) :=
  put5_at _ _ _ _ _ i q _ (fun j => convP_at hn w cw cb T 0 _ i j q) (fun j => convP_at hn w cw cb T 256 _ i j q) (fun j => convP_at hn w cw cb T 512 _ i j q) (fun j => convP_at hn w cw cb T 768 _ i j q)

end Cert.Kernel10Ideal.Body

end
-- ==== Proof.Res10Ref.lean ====
module

public import proofs.«01_k».proof.Defs
public import proofs.«01_k».proof.Proof.Dense
public import proofs.«01_k».proof.Proof.Gen.Reference10Ideal.Run
public import Idealize.ShloMosaic.Lib.Pipeline.ValueKit

/-! The reference of the prompt's input projection: the normed rows' product with the second layer's weights, silu of the two ranges of gates, and the convolved range. -/

@[expose] public section

noncomputable section

namespace Cert.Reference10Ideal.Body

open Cert.Reference10Ideal Cert.Reference10Ideal.Gen Idealize.ShloMosaic Idealize.ShloMosaic.TcCoe Idealize.SL Cert.Dense

section
variable (xa : FVec Ideal S16384x4096 .f32) (xb xc : FVec Ideal S16384x2048 .f32) (xd : FVec Ideal S16384x4096 .f32) (xe : FVec Ideal S16384x6144 .f32)

/-- The five column ranges put together, read range by range. -/
def cat : FVec Ideal S16384x18432 .f32 :=
  concatenate S16384x18432 1 [⟨S16384x4096, xa⟩, ⟨S16384x2048, xb⟩, ⟨S16384x2048, xc⟩, ⟨S16384x4096, xd⟩, ⟨S16384x6144, xe⟩] concatenates_S16384x4096_S16384x2048_S16384x2048_S16384x4096_S16384x6144_S16384x18432_d1

set_option maxRecDepth 65536 in
theorem cat_at0 (r : Fin 16384) (q : Fin 4096) : cat xa xb xc xd xe (ix2 r ⟨0 + q.val, by omega⟩) = xa (ix2 r q) :=
  concatenate_apply_piece (t := S16384x18432) 1 [⟨S16384x4096, xa⟩, ⟨S16384x2048, xb⟩, ⟨S16384x2048, xc⟩, ⟨S16384x4096, xd⟩, ⟨S16384x6144, xe⟩] concatenates_S16384x4096_S16384x2048_S16384x2048_S16384x4096_S16384x6144_S16384x18432_d1 _ 0 (by decide : 0 < 5) S16384x4096 xa rfl rfl 0 rfl (ix2 r q)
    (fun b hb => by match b with | ⟨0, _⟩ => rfl | ⟨1, _⟩ => exact absurd rfl hb) rfl

set_option maxRecDepth 65536 in
theorem cat_at1 (r : Fin 16384) (q : Fin 2048) : cat xa xb xc xd xe (ix2 r ⟨4096 + q.val, by omega⟩) = xb (ix2 r q) :=
  concatenate_apply_piece (t := S16384x18432) 1 [⟨S16384x4096, xa⟩, ⟨S16384x2048, xb⟩, ⟨S16384x2048, xc⟩, ⟨S16384x4096, xd⟩, ⟨S16384x6144, xe⟩] concatenates_S16384x4096_S16384x2048_S16384x2048_S16384x4096_S16384x6144_S16384x18432_d1 _ 1 (by decide : 1 < 5) S16384x2048 xb rfl rfl 4096 rfl (ix2 r q)
    (fun b hb => by match b with | ⟨0, _⟩ => rfl | ⟨1, _⟩ => exact absurd rfl hb) rfl

set_option maxRecDepth 65536 in
theorem cat_at2 (r : Fin 16384) (q : Fin 2048) : cat xa xb xc xd xe (ix2 r ⟨6144 + q.val, by omega⟩) = xc (ix2 r q) :=
  concatenate_apply_piece (t := S16384x18432) 1 [⟨S16384x4096, xa⟩, ⟨S16384x2048, xb⟩, ⟨S16384x2048, xc⟩, ⟨S16384x4096, xd⟩, ⟨S16384x6144, xe⟩] concatenates_S16384x4096_S16384x2048_S16384x2048_S16384x4096_S16384x6144_S16384x18432_d1 _ 2 (by decide : 2 < 5) S16384x2048 xc rfl rfl 6144 rfl (ix2 r q)
    (fun b hb => by match b with | ⟨0, _⟩ => rfl | ⟨1, _⟩ => exact absurd rfl hb) rfl

set_option maxRecDepth 65536 in
theorem cat_at3 (r : Fin 16384) (q : Fin 4096) : cat xa xb xc xd xe (ix2 r ⟨8192 + q.val, by omega⟩) = xd (ix2 r q) :=
  concatenate_apply_piece (t := S16384x18432) 1 [⟨S16384x4096, xa⟩, ⟨S16384x2048, xb⟩, ⟨S16384x2048, xc⟩, ⟨S16384x4096, xd⟩, ⟨S16384x6144, xe⟩] concatenates_S16384x4096_S16384x2048_S16384x2048_S16384x4096_S16384x6144_S16384x18432_d1 _ 3 (by decide : 3 < 5) S16384x4096 xd rfl rfl 8192 rfl (ix2 r q)
    (fun b hb => by match b with | ⟨0, _⟩ => rfl | ⟨1, _⟩ => exact absurd rfl hb) rfl

set_option maxRecDepth 65536 in
theorem cat_at4 (r : Fin 16384) (q : Fin 6144) : cat xa xb xc xd xe (ix2 r ⟨12288 + q.val, by omega⟩) = xe (ix2 r q) :=
  concatenate_apply_piece (t := S16384x18432) 1 [⟨S16384x4096, xa⟩, ⟨S16384x2048, xb⟩, ⟨S16384x2048, xc⟩, ⟨S16384x4096, xd⟩, ⟨S16384x6144, xe⟩] concatenates_S16384x4096_S16384x2048_S16384x2048_S16384x4096_S16384x6144_S16384x18432_d1 _ 4 (by decide : 4 < 5) S16384x6144 xe rfl rfl 12288 rfl (ix2 r q)
    (fun b hb => by match b with | ⟨0, _⟩ => rfl | ⟨1, _⟩ => exact absurd rfl hb) rfl

end

variable (y : FVec Ideal S16384x2048 .f32) (g : FVec Ideal S2048 .f32) (w : FVec Ideal S2x2048x24640 .f32)

/-- The norm of rows. -/
def hn : FVec Ideal S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

theorem hn_at (r : Fin 16384) (q : Fin 2048) : hn y g (ix2 r q) = nrm (fun q => y (ix2 r q)) (fun q => g (ix1 q)) q := by
  pointwise [hn]
  rfl

/-- The product with the second layer's weights. -/
def prod : FVec Ideal S16384x18432 .f32 := Host.dotGeneral dot_S16384x2048_S2048x18432_S16384x18432_1_0_0_1_n_n none y (extractStridedSlice S2048x18432 ![0, 0] (shapeCast S2048x24640 (extractStridedSlice S1x2048x24640 ![1, 0, 0] w slices_S2x2048x24640_S1x2048x24640_1_0_0) shapeCasts_S1x2048x24640_S2048x24640) slices_S2048x24640_S2048x18432_0_0)

theorem prod_at (r : Fin 16384) (q : Fin 18432) : prod y w (ix2 r q) = ∑ k : Fin 2048, y (ix2 r k) * w (ix3 1 k ⟨q.val, by omega⟩) := by
  pointwise [prod]

/-- `x · logistic x` of a range of columns. -/
def act2048 (x : FVec Ideal S16384x2048 .f32) : FVec Ideal S16384x2048 .f32 :=
  mulf x (Host.divf (broadcastInDim S16384x2048 ![] bcast_S_S16384x2048 (constant S_ .f32 0x3F800000#32)) (addf (broadcastInDim S16384x2048 ![] bcast_S_S16384x2048 (constant S_ .f32 0x3F800000#32)) (Host.exp (Host.negf x))))
def act4096 (x : FVec Ideal S16384x4096 .f32) : FVec Ideal S16384x4096 .f32 :=
  mulf x (Host.divf (broadcastInDim S16384x4096 ![] bcast_S_S16384x4096 (constant S_ .f32 0x3F800000#32)) (addf (broadcastInDim S16384x4096 ![] bcast_S_S16384x4096 (constant S_ .f32 0x3F800000#32)) (Host.exp (Host.negf x))))

theorem act2048_at (x : FVec Ideal S16384x2048 .f32) (r : Fin 16384) (q : Fin 2048) : act2048 x (ix2 r q) = x (ix2 r q) * sg (x (ix2 r q)) := by
  pointwise [act2048]
  rfl
theorem act4096_at (x : FVec Ideal S16384x4096 .f32) (r : Fin 16384) (q : Fin 4096) : act4096 x (ix2 r q) = x (ix2 r q) * sg (x (ix2 r q)) := by
  pointwise [act4096]
  rfl

/-- The convolution's input with three rows of zeros above each sequence. -/
def pad (p : FVec Ideal S16384x18432 .f32) : FVec Ideal S2x8195x6144 .f32 :=
  concatenate S2x8195x6144 1 [⟨S2x3x6144, (broadcastInDim S2x3x6144 ![] bcast_S_S2x3x6144 (constant S_ .f32 0x00000000#32))⟩, ⟨S2x8192x6144, (shapeCast _ (extractStridedSlice S16384x6144 ![0, 12288] p slices_S16384x18432_S16384x6144_0_12288) shapeCasts_S16384x6144_S2x8192x6144)⟩] concatenates_S2x3x6144_S2x8192x6144_S2x8195x6144_d1

/-- A value of row `r`'s column `q`, `d` rows above: zero where the sequence starts below. -/
def up (p : FVec Ideal S16384x18432 .f32) (d : ℕ) (r : Fin 16384) (q : Fin 6144) : EReal :=
  if d ≤ r.val % 8192 then p (ix2 ⟨r.val - d, by omega⟩ ⟨12288 + q.val, by omega⟩) else 0

set_option maxRecDepth 65536 in
theorem pad_lo (p : FVec Ideal S16384x18432 .f32) (b : Fin 2) (n : Fin 8195) (q : Fin 6144) (h : n.val < 3) : pad p (ix3 b n q) = 0 := by
  refine (concatenate_apply_piece (t := S2x8195x6144) 1 [⟨S2x3x6144, (broadcastInDim S2x3x6144 ![] bcast_S_S2x3x6144 (constant S_ .f32 0x00000000#32))⟩, ⟨S2x8192x6144, (shapeCast _ (extractStridedSlice S16384x6144 ![0, 12288] p slices_S16384x18432_S16384x6144_0_12288) shapeCasts_S16384x6144_S2x8192x6144)⟩] concatenates_S2x3x6144_S2x8192x6144_S2x8195x6144_d1 (ix3 b n q) 0 (by decide : 0 < 2) S2x3x6144 _ rfl rfl 0 rfl (ix3 b ⟨n.val, h⟩ q)
    (fun b hb => by match b with | ⟨0, _⟩ => rfl | ⟨1, _⟩ => exact absurd rfl hb | ⟨2, _⟩ => rfl) (Nat.zero_add _)).trans ?_
  pointwise []

set_option maxRecDepth 65536 in
theorem pad_hi (p : FVec Ideal S16384x18432 .f32) (b : Fin 2) (n : Fin 8192) (q : Fin 6144) :
    pad p (ix3 b ⟨3 + n.val, by omega⟩ q) = p (ix2 ⟨8192 * b.val + n.val, by omega⟩ ⟨12288 + q.val, by omega⟩) := by
  refine (concatenate_apply_piece (t := S2x8195x6144) 1 [⟨S2x3x6144, (broadcastInDim S2x3x6144 ![] bcast_S_S2x3x6144 (constant S_ .f32 0x00000000#32))⟩, ⟨S2x8192x6144, (shapeCast _ (extractStridedSlice S16384x6144 ![0, 12288] p slices_S16384x18432_S16384x6144_0_12288) shapeCasts_S16384x6144_S2x8192x6144)⟩] concatenates_S2x3x6144_S2x8192x6144_S2x8195x6144_d1 (ix3 b ⟨3 + n.val, by omega⟩ q) 1 (by decide : 1 < 2) S2x8192x6144 _ rfl rfl 3 rfl (ix3 b n q)
    (fun b hb => by match b with | ⟨0, _⟩ => rfl | ⟨1, _⟩ => exact absurd rfl hb | ⟨2, _⟩ => rfl) rfl).trans ?_
  refine (shapeCast_apply _ _ _ (ix2 ⟨8192 * b.val + n.val, by omega⟩ q) ?_).trans ?_
  · rw [Shape.rowMajor_val_three, Shape.rowMajor_val_two]
    show (8192 * b.val + n.val) * 6144 + q.val = (b.val * 8192 + n.val) * 6144 + q.val
    rw [Nat.mul_comm 8192]
  · pointwise []

/-- The padded table `t` rows on holds what is `3 - t` rows above. -/
theorem pad_up (p : FVec Ideal S16384x18432 .f32) (t : ℕ) (ht : t ≤ 3) (r : Fin 16384) (q : Fin 6144) (h : r.val % 8192 + t < 8195) :
    pad p (ix3 ⟨r.val / 8192, by omega⟩ ⟨r.val % 8192 + t, h⟩ q) = up p (3 - t) r q := by
  unfold up
  by_cases hd : 3 - t ≤ r.val % 8192
  · rw [if_pos hd]
    have e : (⟨r.val % 8192 + t, h⟩ : Fin 8195) = ⟨3 + (⟨r.val % 8192 + t - 3, by omega⟩ : Fin 8192).val, by show 3 + (r.val % 8192 + t - 3) < 8195; omega⟩ :=
      Fin.ext (by show r.val % 8192 + t = 3 + (r.val % 8192 + t - 3); omega)
    rw [e]
    refine (pad_hi p _ _ q).trans (congrArg p (ix2_eq ?_ rfl))
    show 8192 * (r.val / 8192) + (r.val % 8192 + t - 3) = r.val - (3 - t)
    omega
  · rw [if_neg hd]
    exact pad_lo p _ _ q (by show r.val % 8192 + t < 3; omega)

variable (cw : FVec Ideal S4x6144 .f32) (cb : FVec Ideal S6144 .f32)

/-- The four taps of a padded table, and the bias. -/
def taps (x : FVec Ideal S2x8195x6144 .f32) : FVec Ideal S2x8192x6144 .f32 :=
  addf (addf (addf (addf (addf (broadcastInDim S2x8192x6144 ![] bcast_S_S2x8192x6144 (constant S_ .f32 0x00000000#32)) (mulf (extractStridedSlice S2x8192x6144 ![0, 0, 0] x slices_S2x8195x6144_S2x8192x6144_0_0_0) (broadcastInDim S2x8192x6144 ![0, 1, 2] bcast_S1x1x6144_S2x8192x6144_0_1_2 (broadcastInDim S1x1x6144 ![2] bcast_S6144_S1x1x6144_2 (shapeCast _ (extractStridedSlice S1x6144 ![0, 0] cw slices_S4x6144_S1x6144_0_0) shapeCasts_S1x6144_S6144))))) (mulf (extractStridedSlice S2x8192x6144 ![0, 1, 0] x slices_S2x8195x6144_S2x8192x6144_0_1_0) (broadcastInDim S2x8192x6144 ![0, 1, 2] bcast_S1x1x6144_S2x8192x6144_0_1_2 (broadcastInDim S1x1x6144 ![2] bcast_S6144_S1x1x6144_2 (shapeCast _ (extractStridedSlice S1x6144 ![1, 0] cw slices_S4x6144_S1x6144_1_0) shapeCasts_S1x6144_S6144))))) (mulf (extractStridedSlice S2x8192x6144 ![0, 2, 0] x slices_S2x8195x6144_S2x8192x6144_0_2_0) (broadcastInDim S2x8192x6144 ![0, 1, 2] bcast_S1x1x6144_S2x8192x6144_0_1_2 (broadcastInDim S1x1x6144 ![2] bcast_S6144_S1x1x6144_2 (shapeCast _ (extractStridedSlice S1x6144 ![2, 0] cw slices_S4x6144_S1x6144_2_0) shapeCasts_S1x6144_S6144))))) (mulf (extractStridedSlice S2x8192x6144 ![0, 3, 0] x slices_S2x8195x6144_S2x8192x6144_0_3_0) (broadcastInDim S2x8192x6144 ![0, 1, 2] bcast_S1x1x6144_S2x8192x6144_0_1_2 (broadcastInDim S1x1x6144 ![2] bcast_S6144_S1x1x6144_2 (shapeCast _ (extractStridedSlice S1x6144 ![3, 0] cw slices_S4x6144_S1x6144_3_0) shapeCasts_S1x6144_S6144))))) (broadcastInDim S2x8192x6144 ![0, 1, 2] bcast_S1x1x6144_S2x8192x6144_0_1_2 (broadcastInDim S1x1x6144 ![2] bcast_S6144_S1x1x6144_2 cb))

/-- The taps' sum at row `r`, column `q`. -/
def tsum (p : FVec Ideal S16384x18432 .f32) (r : Fin 16384) (q : Fin 6144) : EReal :=
  up p 3 r q * cw (ix2 0 q) + up p 2 r q * cw (ix2 1 q) + up p 1 r q * cw (ix2 2 q) + up p 0 r q * cw (ix2 3 q) + cb (ix1 q)

theorem tap_row (a : Fin 4) (off : Fin 2 → ℕ) (ho : off = ![a.val, 0]) (h1 : S4x6144.Slices off S1x6144) (x : FVec Ideal S4x6144 .f32) (q : Fin 6144) :
    shapeCast S6144 (extractStridedSlice S1x6144 off x h1) shapeCasts_S1x6144_S6144 (ix1 q) = x (ix2 a q) := by
  subst ho
  refine (shapeCast_apply _ _ _ (ix2 0 q) ?_).trans ?_
  · rw [Shape.rowMajor_val_one, Shape.rowMajor_val_two]
    show 0 * 6144 + q.val = q.val
    omega
  · pointwise []

/-- The convolution with its activation, its rows in one table. -/
def conv (x : FVec Ideal S2x8192x6144 .f32) : FVec Ideal S16384x6144 .f32 :=
  shapeCast S16384x6144 (mulf x (Host.divf (broadcastInDim S2x8192x6144 ![] bcast_S_S2x8192x6144 (constant S_ .f32 0x3F800000#32)) (addf (broadcastInDim S2x8192x6144 ![] bcast_S_S2x8192x6144 (constant S_ .f32 0x3F800000#32)) (Host.exp (Host.negf x))))) shapeCasts_S2x8192x6144_S16384x6144

theorem conv_at (x : FVec Ideal S2x8192x6144 .f32) (r : Fin 16384) (q : Fin 6144) :
    conv x (ix2 r q) = x (ix3 ⟨r.val / 8192, by omega⟩ ⟨r.val % 8192, by omega⟩ q) * sg (x (ix3 ⟨r.val / 8192, by omega⟩ ⟨r.val % 8192, by omega⟩ q)) := by
  refine (shapeCast_apply _ _ _ (ix3 ⟨r.val / 8192, by omega⟩ ⟨r.val % 8192, by omega⟩ q) ?_).trans ?_
  · rw [Shape.rowMajor_val_three, Shape.rowMajor_val_two]
    show (r.val / 8192 * 8192 + r.val % 8192) * 6144 + q.val = r.val * 6144 + q.val
    omega
  · pointwise []
    rfl

theorem taps_at (p : FVec Ideal S16384x18432 .f32) (r : Fin 16384) (q : Fin 6144) :
    taps cw cb (pad p) (ix3 ⟨r.val / 8192, by omega⟩ ⟨r.val % 8192, by omega⟩ q) = tsum cw cb p r q := by
  have e : ∀ (t : ℕ) (ht : t ≤ 3) (h : S2x8195x6144.Slices ![0, t, 0] S2x8192x6144),
      extractStridedSlice S2x8192x6144 ![0, t, 0] (pad p) h (ix3 ⟨r.val / 8192, by omega⟩ ⟨r.val % 8192, by omega⟩ q) = up p (3 - t) r q := by
    intro t ht h
    refine Eq.trans ?_ (pad_up p t ht r q (by omega))
    refine congrArg (pad p) (funext fun a => Fin.ext ?_)
    match a with
    | ⟨0, _⟩ => show 0 + r.val / 8192 = r.val / 8192; omega
    | ⟨1, _⟩ => show t + r.val % 8192 = r.val % 8192 + t; omega
    | ⟨2, _⟩ => show 0 + q.val = q.val; omega
  have w : ∀ (x : FVec Ideal S6144 .f32), broadcastInDim S2x8192x6144 ![0, 1, 2] bcast_S1x1x6144_S2x8192x6144_0_1_2 (broadcastInDim S1x1x6144 ![2] bcast_S6144_S1x1x6144_2 x) (ix3 ⟨r.val / 8192, by omega⟩ ⟨r.val % 8192, by omega⟩ q) = x (ix1 q) := by
    intro x
    pointwise []
  unfold taps tsum
  show (((Ideal.ofBits .f32 0x00000000#32 + _ * _) + _ * _) + _ * _ + _ * _) + _ = _
  rw [e 0 (by omega), e 1 (by omega), e 2 (by omega), e 3 (by omega), w, w, w, w, w, tap_row 0 ![0, 0] rfl, tap_row 1 ![1, 0] rfl, tap_row 2 ![2, 0] rfl, tap_row 3 ![3, 0] rfl]
  rw [show Ideal.ofBits .f32 0x00000000#32 = (0 : EReal) from by pointwise [], zero_add]

/-- The product's columns, with silu applied to the two ranges of gates, the last range convolved. -/
def out (p : FVec Ideal S16384x18432 .f32) : FVec Ideal S16384x18432 .f32 :=
  cat (extractStridedSlice S16384x4096 ![0, 0] p slices_S16384x18432_S16384x4096_0_0)
    (act2048 (extractStridedSlice S16384x2048 ![0, 4096] p slices_S16384x18432_S16384x2048_0_4096))
    (extractStridedSlice S16384x2048 ![0, 6144] p slices_S16384x18432_S16384x2048_0_6144)
    (act4096 (extractStridedSlice S16384x4096 ![0, 8192] p slices_S16384x18432_S16384x4096_0_8192))
    (conv (taps cw cb (pad p)))

/-- The last eight rows of every 1024 rows of the convolution's input. -/
def tails (p : FVec Ideal S16384x18432 .f32) : FVec Ideal S16x8x6144 .f32 :=
  extractStridedSlice S16x8x6144 ![0, 1016, 0] (shapeCast S16x1024x6144 (extractStridedSlice S16384x6144 ![0, 12288] p slices_S16384x18432_S16384x6144_0_12288) shapeCasts_S16384x6144_S16x1024x6144) slices_S16x1024x6144_S16x8x6144_0_1016_0

theorem tails_at (p : FVec Ideal S16384x18432 .f32) (b : Fin 16) (i : Fin 8) (q : Fin 6144) :
    tails p (ix3 b i q) = p (ix2 ⟨1024 * b.val + (1016 + i.val), by omega⟩ ⟨12288 + q.val, by omega⟩) := by
  have e : tails p (ix3 b i q) = shapeCast S16x1024x6144 (extractStridedSlice S16384x6144 ![0, 12288] p slices_S16384x18432_S16384x6144_0_12288) shapeCasts_S16384x6144_S16x1024x6144 (ix3 b ⟨1016 + i.val, by omega⟩ q) := by
    refine congrArg (shapeCast S16x1024x6144 (extractStridedSlice S16384x6144 ![0, 12288] p slices_S16384x18432_S16384x6144_0_12288) shapeCasts_S16384x6144_S16x1024x6144) (funext fun a => Fin.ext ?_)
    match a with
    | ⟨0, _⟩ => show 0 + b.val = b.val; omega
    | ⟨1, _⟩ => rfl
    | ⟨2, _⟩ => show 0 + q.val = q.val; omega
  refine e.trans ((shapeCast_apply _ _ _ (ix2 ⟨1024 * b.val + (1016 + i.val), by omega⟩ q) ?_).trans ?_)
  · rw [Shape.rowMajor_val_three, Shape.rowMajor_val_two]
    show (1024 * b.val + (1016 + i.val)) * 6144 + q.val = (b.val * 1024 + (1016 + i.val)) * 6144 + q.val
    rw [Nat.mul_comm 1024]
  · pointwise []

/-- A column from which silu is taken. -/
def gate (n : ℕ) : Prop := (4096 ≤ n ∧ n < 6144) ∨ (8192 ≤ n ∧ n < 12288)

theorem out_conv (p : FVec Ideal S16384x18432 .f32) (r : Fin 16384) (q : Fin 6144) :
    out cw cb p (ix2 r ⟨12288 + q.val, by omega⟩) = tsum cw cb p r q * sg (tsum cw cb p r q) := by
  refine (cat_at4 _ _ _ _ _ r q).trans ((conv_at _ r q).trans ?_)
  rw [taps_at]

theorem out_plain (p : FVec Ideal S16384x18432 .f32) (r : Fin 16384) (q : Fin 18432) (h : ¬gate q.val) (hx : q.val < 12288) : out cw cb p (ix2 r q) = p (ix2 r q) := by
  unfold gate at h
  unfold out
  by_cases h1 : q.val < 4096
  · have e : q = ⟨0 + (⟨q.val, h1⟩ : Fin 4096).val, by show 0 + q.val < 18432; omega⟩ := Fin.ext (by show q.val = 0 + q.val; omega)
    rw [e]
    refine (cat_at0 _ _ _ _ _ r _).trans ?_
    pointwise []
  · by_cases h2 : q.val < 8192
    · have e : q = ⟨6144 + (⟨q.val - 6144, by omega⟩ : Fin 2048).val, by show 6144 + (q.val - 6144) < 18432; omega⟩ := Fin.ext (by show q.val = 6144 + (q.val - 6144); omega)
      rw [e]
      refine (cat_at2 _ _ _ _ _ r _).trans ?_
      pointwise []
    · omega

theorem out_gate (p : FVec Ideal S16384x18432 .f32) (r : Fin 16384) (q : Fin 18432) (h : gate q.val) : out cw cb p (ix2 r q) = p (ix2 r q) * sg (p (ix2 r q)) := by
  unfold gate at h
  unfold out
  by_cases h2 : q.val < 6144
  · have e : q = ⟨4096 + (⟨q.val - 4096, by omega⟩ : Fin 2048).val, by show 4096 + (q.val - 4096) < 18432; omega⟩ := Fin.ext (by show q.val = 4096 + (q.val - 4096); omega)
    rw [e]
    refine (cat_at1 _ _ _ _ _ r _).trans ((act2048_at _ r _).trans ?_)
    refine congrArg (fun z : EReal => z * sg z) ?_
    pointwise []
  · have e : q = ⟨8192 + (⟨q.val - 8192, by omega⟩ : Fin 4096).val, by show 8192 + (q.val - 8192) < 18432; omega⟩ := Fin.ext (by show q.val = 8192 + (q.val - 8192); omega)
    rw [e]
    refine (cat_at3 _ _ _ _ _ r _).trans ((act4096_at _ r _).trans ?_)
    refine congrArg (fun z : EReal => z * sg z) ?_
    pointwise []

end Cert.Reference10Ideal.Body

end
-- ==== Proof.ConvIValue.lean ====
module

public import proofs.«01_k».proof.Proof.ConvIFrame
public import Idealize.ShloMosaic.Lib.Pipeline.Value

/-! The arrays that a run leaves, named; the arguments are unchanged. -/

@[expose] public section

noncomputable section

namespace Cert.Kernel10Ideal.Value

open Cert.Kernel10Ideal Cert.Kernel10Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_1) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.Kernel10Ideal.Value

end
-- ==== Proof.Res10.lean ====
module

public import proofs.«01_k».proof.Defs
public import proofs.«01_k».proof.Proof.Res10Pay
public import proofs.«01_k».proof.Proof.Res10Ref
public import proofs.«01_k».proof.Proof.ConvIValue

/-! The prompt's input projection: the arrays the run leaves are the reference's. -/

@[expose] public section

noncomputable section

namespace Cert.Kernel10Ideal.Body

open Cert.Kernel10Ideal Cert.Kernel10Ideal.Gen Idealize.ShloMosaic Idealize.ShloMosaic.TcCoe Idealize.SL Cert.Dense
open Cert.Reference10Ideal.Body (hn prod out tails hn_at prod_at tails_at out_plain out_gate out_conv gate up tsum)

variable (m : (ℓ : Loc nD τ sig) → Buf (Elt Ideal) ℓ) (c : Dev nD)

/-- The arguments. -/
abbrev rx : FVec Ideal S16384x2048 .f32 := m ((c : Thread nD τ).loc main_arg0)
abbrev rg : FVec Ideal S2048 .f32 := m ((c : Thread nD τ).loc main_arg1)
abbrev rw' : FVec Ideal S2x2048x24640 .f32 := m ((c : Thread nD τ).loc main_arg2)
abbrev rcw : FVec Ideal S4x6144 .f32 := m ((c : Thread nD τ).loc main_arg3)
abbrev rcb : FVec Ideal S6144 .f32 := m ((c : Thread nD τ).loc main_arg4)

/-- Which block each window takes at step `t`. -/
theorem idx : ∀ t : Fin cfg0.N, (win0_0.index t 0 = t.val / 18 ∧ win0_0.index t 1 = 0) ∧ (win0_1.index t 0 = 0 ∧ win0_1.index t 1 = 0)
    ∧ (win0_2.index t 0 = 1 ∧ win0_2.index t 1 = 0 ∧ win0_2.index t 2 = t.val % 18) ∧ (win0_3.index t 0 = 0 ∧ win0_3.index t 1 = t.val % 18 - 12)
    ∧ (win0_4.index t 0 = 0 ∧ win0_4.index t 1 = t.val % 18 - 12) ∧ (win0_5.index t 0 = t.val / 18 ∧ win0_5.index t 1 = t.val % 18)
    ∧ (win0_6.index t 0 = t.val / 18 ∧ win0_6.index t 1 = 0 ∧ win0_6.index t 2 = t.val % 18 - 12) :=
  (by decide +kernel : ∀ t : Fin grid0.N, (win0_0.index t 0 = t.val / 18 ∧ win0_0.index t 1 = 0) ∧ (win0_1.index t 0 = 0 ∧ win0_1.index t 1 = 0)
    ∧ (win0_2.index t 0 = 1 ∧ win0_2.index t 1 = 0 ∧ win0_2.index t 2 = t.val % 18) ∧ (win0_3.index t 0 = 0 ∧ win0_3.index t 1 = t.val % 18 - 12)
    ∧ (win0_4.index t 0 = 0 ∧ win0_4.index t 1 = t.val % 18 - 12) ∧ (win0_5.index t 0 = t.val / 18 ∧ win0_5.index t 1 = t.val % 18)
    ∧ (win0_6.index t 0 = t.val / 18 ∧ win0_6.index t 1 = 0 ∧ win0_6.index t 2 = t.val % 18 - 12))

/-- The tails are written back only by the convolution's steps. -/
theorem flush6 : ∀ t : Fin cfg0.N, (cfg0.win 6).flush t = true → 12 ≤ t.val % 18 :=
  (by decide +kernel : ∀ t : Fin grid0.N, (cfg0.win 6).flush t = true → 12 ≤ t.val % 18)

theorem lt288 (t : Fin cfg0.N) : t.val < 288 := lt_of_lt_of_eq t.isLt (show cfg0.N = 288 from N_0)

/-- The array row of row `i`, and the array column of column `q`, of step `t`. -/
def row (t : Fin cfg0.N) (i : Fin 1024) : Fin 16384 := ⟨1024 * (t.val / 18) + i.val, by have := lt288 t; omega⟩
def col (t : Fin cfg0.N) (q : Fin 1024) : Fin 18432 := ⟨1024 * (t.val % 18) + q.val, by omega⟩
/-- The column among the convolution's. -/
def cc (t : Fin cfg0.N) (q : Fin 1024) : Fin 6144 := ⟨1024 * (t.val % 18 - 12) + q.val, by omega⟩

theorem V_g (q : Fin 2048) : (V m c main_v0 : FVec Ideal S1x2048 .f32) (ix2 0 q) = rg m c (ix1 q) := by
  entry_read
  exact cast_row _ _ q
theorem V_w (a : Fin 2) (k : Fin 2048) (q : Fin 24640) : (V m c main_v1 : FVec Ideal S2x2048x24640 .bf16) (ix3 a k q) = rw' m c (ix3 a k q) := by
  entry_read
  rfl
/-- A row of one axis read as a row of two. -/
theorem cast_bias (x : FVec Ideal S6144 .f32) (h : S6144.ShapeCasts S1x6144) (q : Fin 6144) : shapeCast S1x6144 x h (ix2 0 q) = x (ix1 q) := by
  pointwise

theorem V_cb (q : Fin 6144) : (V m c main_v2 : FVec Ideal S1x6144 .f32) (ix2 0 q) = rcb m c (ix1 q) := by
  entry_read
  exact cast_bias _ _ q

abbrev bX (t : Fin cfg0.N) : FVec Ideal S1024x2048 .f32 := iblk m c 0 t

theorem bX_at (t : Fin cfg0.N) (i : Fin 1024) (k : Fin 2048) : bX m c t (ix2 i k) = rx m c (ix2 (row t i) k) := by
  unfold bX iblk
  rw [View.read_apply]
  refine Eq.trans ?_ (congrFun (V_main_arg0 m c) (ix2 (row t i) k))
  show V m c main_arg0 _ = V m c main_arg0 _
  congr 1
  funext a
  apply Fin.ext
  have hi := (idx t).1
  match a with
  | ⟨0, _⟩ => show win0_0.index t 0 * 1024 + 1 * i.val = 1024 * (t.val / 18) + i.val; rw [hi.1]; omega
  | ⟨1, _⟩ => show win0_0.index t 1 * 2048 + 1 * k.val = k.val; rw [hi.2]; omega

abbrev bG (t : Fin cfg0.N) : FVec Ideal S1x2048 .f32 := iblk m c 1 t

theorem bG_at (t : Fin cfg0.N) (k : Fin 2048) : bG m c t (ix2 0 k) = rg m c (ix1 k) := by
  unfold bG iblk
  rw [View.read_apply]
  refine Eq.trans ?_ (V_g m c k)
  show V m c main_v0 _ = V m c main_v0 _
  congr 1
  funext a
  apply Fin.ext
  have hi := (idx t).2.1
  match a with
  | ⟨0, _⟩ => show win0_1.index t 0 * 1 + 1 * 0 = 0; rw [hi.1]
  | ⟨1, _⟩ => show win0_1.index t 1 * 2048 + 1 * k.val = k.val; rw [hi.2]; omega

abbrev bW (t : Fin cfg0.N) : FVec Ideal S1x2048x1024 .bf16 := X0_2 m c t

theorem bW_at (t : Fin cfg0.N) (k : Fin 2048) (q : Fin 1024) : bW m c t (ix3 0 k q) = rw' m c (ix3 1 k ⟨(col t q).val, by omega⟩) := by
  unfold bW X0_2 Pipeline.Window.fill
  refine (dif_pos (moved0_2 t _)).trans ?_
  unfold iblk
  rw [View.read_apply]
  refine Eq.trans ?_ (V_w m c 1 k ⟨(col t q).val, by omega⟩)
  show V m c main_v1 _ = V m c main_v1 _
  congr 1
  funext a
  apply Fin.ext
  have hi := (idx t).2.2.1
  match a with
  | ⟨0, _⟩ => show win0_2.index t 0 * 1 + 1 * 0 = 1; rw [hi.1]
  | ⟨1, _⟩ => show win0_2.index t 1 * 2048 + 1 * k.val = k.val; rw [hi.2.1]; omega
  | ⟨2, _⟩ => show win0_2.index t 2 * 1024 + 1 * q.val = 1024 * (t.val % 18) + q.val; rw [hi.2.2]; omega

abbrev bC (t : Fin cfg0.N) : FVec Ideal S4x1024 .f32 := iblk m c 3 t

theorem bC_at (t : Fin cfg0.N) (r : Fin 4) (q : Fin 1024) : bC m c t (ix2 r q) = rcw m c (ix2 r (cc t q)) := by
  unfold bC iblk
  rw [View.read_apply]
  refine Eq.trans ?_ (congrFun (V_main_arg3 m c) (ix2 r (cc t q)))
  show V m c main_arg3 _ = V m c main_arg3 _
  congr 1
  funext a
  apply Fin.ext
  have hi := (idx t).2.2.2.1
  match a with
  | ⟨0, _⟩ => show win0_3.index t 0 * 4 + 1 * r.val = r.val; rw [hi.1]; omega
  | ⟨1, _⟩ => show win0_3.index t 1 * 1024 + 1 * q.val = 1024 * (t.val % 18 - 12) + q.val; rw [hi.2]; omega

abbrev bB (t : Fin cfg0.N) : FVec Ideal S1x1024 .f32 := iblk m c 4 t

theorem bB_at (t : Fin cfg0.N) (q : Fin 1024) : bB m c t (ix2 0 q) = rcb m c (ix1 (cc t q)) := by
  unfold bB iblk
  rw [View.read_apply]
  refine Eq.trans ?_ (V_cb m c (cc t q))
  show V m c main_v2 _ = V m c main_v2 _
  congr 1
  funext a
  apply Fin.ext
  have hi := (idx t).2.2.2.2.1
  match a with
  | ⟨0, _⟩ => show win0_4.index t 0 * 1 + 1 * 0 = 0; rw [hi.1]
  | ⟨1, _⟩ => show win0_4.index t 1 * 1024 + 1 * q.val = 1024 * (t.val % 18 - 12) + q.val; rw [hi.2]; omega

/-- The reference's stages, of this memory's arguments. -/
abbrev P : FVec Ideal S16384x18432 .f32 := prod (hn (rx m c) (rg m c)) (rw' m c)
abbrev R : FVec Ideal S16384x18432 .f32 := out (rcw m c) (rcb m c) (P m c)

/-- The normed rows' block, at every step. -/
theorem hnAt_at (t : Fin cfg0.N) (i : Fin 1024) (k : Fin 2048) : hnAt m c t (ix2 i k) = hn (rx m c) (rg m c) (ix2 (row t i) k) := by
  refine (pay1_at (bX m c (base t)) (bG m c (base t)) i k).trans (Eq.trans ?_ (hn_at _ _ (row t i) k).symm)
  refine congrArg₂ (nrm · · k) (funext fun q => (bX_at m c _ i q).trans (congrArg (rx m c) (ix2_eq ?_ rfl))) (funext fun q => bG_at m c _ q)
  show 1024 * (18 * (t.val / 18) / 18) + i.val = 1024 * (t.val / 18) + i.val
  omega

/-- The sum over a row of a step's normed rows and its weights is the reference's product. -/
theorem pr_at (t : Fin cfg0.N) (i q : Fin 1024) : pr (hnAt m c t) (bW m c t) i q = P m c (ix2 (row t i) (col t q)) := by
  refine Eq.trans ?_ (prod_at _ _ (row t i) (col t q)).symm
  exact Finset.sum_congr rfl fun k _ => congrArg₂ (· * ·) (hnAt_at m c t i k) (bW_at m c t k q)

/-- The last eight rows of a step's product. -/
theorem tailAt_at (t : Fin cfg0.N) (i : Fin 8) (q : Fin 1024) : tailAt m c t (ix3 0 i q) = P m c (ix2 (row t ⟨1016 + i.val, by omega⟩) (col t q)) :=
  (tailV_at _ _ i q).trans (pr_at m c t _ q)

/-- The rows a convolution step sees: `d` rows above row `i` is the row of the sequence `d` above, and zero before the sequence starts. -/
theorem eRow_at (t : Fin cfg0.N) (h : 12 ≤ t.val % 18) (i q : Fin 1024) (d : ℕ) (hd : d ≤ 3) (n : ℕ) (hn' : n = i.val + 8 - d) :
    eRow (hnAt m c t) (bW m c t) (above m c t) n q = up (P m c) d (row t i) (cc t q) := by
  subst hn'
  have ht := lt288 t
  have hr : (row t i).val = 1024 * (t.val / 18) + i.val := rfl
  unfold eRow up
  by_cases c8 : i.val + 8 - d < 8
  · rw [dif_pos c8]
    by_cases c1 : t.val % 144 < 18
    · rw [above_first m c t c1, if_neg (by omega)]
      exact pay12_at _
    · rw [above_next m c t c1, if_pos (by omega)]
      refine (tailAt_at m c _ _ q).trans (congrArg (P m c) (ix2_eq ?_ ?_))
      · show 1024 * ((t.val - 18) / 18) + (1016 + (i.val + 8 - d)) = 1024 * (t.val / 18) + i.val - d
        omega
      · show 1024 * ((t.val - 18) % 18) + q.val = 12288 + (1024 * (t.val % 18 - 12) + q.val)
        omega
  · rw [dif_neg c8, dif_pos (by omega), if_pos (by omega)]
    refine (pr_at m c t _ q).trans (congrArg (P m c) (ix2_eq ?_ ?_))
    · show 1024 * (t.val / 18) + (i.val + 8 - d - 8) = 1024 * (t.val / 18) + i.val - d
      omega
    · show 1024 * (t.val % 18) + q.val = 12288 + (1024 * (t.val % 18 - 12) + q.val)
      omega

/-- One element of a step's output block. -/
theorem out_blk (t : Fin cfg0.N) (i q : Fin 1024) : outAt m c t (ix2 i q) = R m c (ix2 (row t i) (col t q)) := by
  have hq : (col t q).val = 1024 * (t.val % 18) + q.val := rfl
  by_cases h : 12 ≤ t.val % 18
  · rw [outAt_conv m c t h]
    have e : col t q = ⟨12288 + (cc t q).val, by omega⟩ := Fin.ext (by show 1024 * (t.val % 18) + q.val = 12288 + (1024 * (t.val % 18 - 12) + q.val); omega)
    rw [e]
    refine (convO_at _ _ _ _ _ i q).trans (Eq.trans ?_ (out_conv _ _ (P m c) (row t i) (cc t q)).symm)
    refine congrArg sw ?_
    exact congrArg₂ (· + ·) (congrArg₂ (· + ·) (congrArg₂ (· + ·) (congrArg₂ (· + ·)
      (congrArg₂ (· * ·) (eRow_at m c t h i q 3 (by omega) _ (by omega)) (bC_at m c t 0 q)) (congrArg₂ (· * ·) (eRow_at m c t h i q 2 (by omega) _ (by omega)) (bC_at m c t 1 q)))
      (congrArg₂ (· * ·) (eRow_at m c t h i q 1 (by omega) _ (by omega)) (bC_at m c t 2 q))) (congrArg₂ (· * ·) (eRow_at m c t h i q 0 (by omega) _ (by omega)) (bC_at m c t 3 q))) (bB_at m c t q)
  · by_cases h1 : t.val % 18 = 4 ∨ t.val % 18 = 5 ∨ t.val % 18 = 8 ∨ t.val % 18 = 9 ∨ t.val % 18 = 10 ∨ t.val % 18 = 11
    · have hg : gate (col t q).val := by unfold gate; omega
      rw [outAt_silu m c t h h1]
      refine (siluO_at _ _ i q).trans (Eq.trans ?_ (out_gate _ _ (P m c) (row t i) (col t q) hg).symm)
      exact congrArg sw (pr_at m c t i q)
    · have hg : ¬gate (col t q).val := by unfold gate; omega
      rw [outAt_plain m c t h h1]
      refine (pay4_at _ _ i q).trans (Eq.trans ?_ (out_plain _ _ (P m c) (row t i) (col t q) hg (by omega)).symm)
      exact pr_at m c t i q

/-- THE RESULT'S ARRAY. -/
theorem arrO : (dats m 0 c).arrAt 5 cfg0.N = R m c := by
  refine (dats m 0 c).arrAt_eq_of_covers 5 _ (by decide +kernel) fun t hf y => ?_
  show (dats m 0 c).after 5 t y = _
  rw [after0_5]
  refine (congrArg (outAt m c t) (eta2 (n1 := 1024) (n2 := 1024) y)).trans
    ((out_blk m c t (y 0) (y 1)).trans (congrArg _ ?_))
  have hi := (idx t).2.2.2.2.2.1
  funext a
  apply Fin.ext
  match a with
  | ⟨0, _⟩ => show 1024 * (t.val / 18) + (y 0).val = win0_5.index t 0 * 1024 + 1 * (y 0).val; rw [hi.1]; omega
  | ⟨1, _⟩ => show 1024 * (t.val % 18) + (y 1).val = win0_5.index t 1 * 1024 + 1 * (y 1).val; rw [hi.2]; omega

/-- THE TAILS' ARRAY. -/
theorem arrT : (dats m 0 c).arrAt 6 cfg0.N = tails (P m c) := by
  refine (dats m 0 c).arrAt_eq_of_covers 6 _ (by decide +kernel) fun t hf y => ?_
  show (dats m 0 c).after 6 t y = _
  rw [after0_6]
  have ht := lt288 t
  have h12 := flush6 t hf
  have hy0 : (y 0).val < 1 := (y 0).isLt
  have hy2 : (y 2).val < 1024 := (y 2).isLt
  have ey : y = (ix3 (n0 := 1) (n1 := 8) (n2 := 1024) 0 (y 1) (y 2)) := by
    funext a
    apply Fin.ext
    match a with
    | ⟨0, _⟩ => show (y 0).val = 0; omega
    | ⟨1, _⟩ => rfl
    | ⟨2, _⟩ => rfl
  refine (congrArg (tailAt m c t) ey).trans ((tailAt_at m c t (y 1) (y 2)).trans ?_)
  have e2 : tails (P m c) (ix3 ⟨t.val / 18, by omega⟩ (y 1) (cc t (y 2))) = P m c (ix2 (row t ⟨1016 + (y 1).val, by have : (y 1).val < 8 := (y 1).isLt; omega⟩) (col t (y 2))) := by
    refine (tails_at (P m c) ⟨t.val / 18, by omega⟩ (y 1) (cc t (y 2))).trans (congrArg (P m c) (ix2_eq rfl ?_))
    show 12288 + (1024 * (t.val % 18 - 12) + (y 2).val) = 1024 * (t.val % 18) + (y 2).val
    omega
  refine e2.symm.trans (congrArg (tails (P m c)) ?_)
  have hi := (idx t).2.2.2.2.2.2
  funext a
  apply Fin.ext
  match a with
  | ⟨0, _⟩ => show t.val / 18 = win0_6.index t 0 * 1 + 1 * (y 0).val; rw [hi.1]; omega
  | ⟨1, _⟩ => show (y 1).val = win0_6.index t 1 * 8 + 1 * (y 1).val; rw [hi.2.1]; omega
  | ⟨2, _⟩ => show 1024 * (t.val % 18 - 12) + (y 2).val = win0_6.index t 2 * 1024 + 1 * (y 2).val; rw [hi.2.2]; omega

end Cert.Kernel10Ideal.Body

namespace Cert.Res10

open Idealize.ShloMosaic Idealize.ShloMosaic.TcCoe Idealize.SL Idealize.SL.Sem
open Cert.Kernel10Ideal.Body
open Cert.Reference10Ideal.Body (tails)

/-- The reference runs, keeps its arguments, and declares no semaphore. -/
theorem frame_ref : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- THE RESULTS ARE EQUAL over the extended reals. -/
theorem algebraic : Cert.algebraic_Kernel10Ideal_Reference10Ideal (hKernel10Ideal := Cert.Kernel10Ideal.Gen.facts) (hReference10Ideal := Cert.Reference10Ideal.Gen.facts) := by
  intro m ρ m' ρ' _ hagree
  refine ⟨fun c => R m c, fun c => tails (P m c), ?_, ?_⟩
  · exact (θ_run _ _ _).mono (fun _ h c => ⟨(h c).1.trans (arrO m c), (h c).2.1.trans (arrT m c), (h c).2.2⟩)
      (Cert.Kernel10Ideal.Value.run_blocks (F := Ideal) m ρ)
  · refine (θ_run _ _ _).mono (fun _ h c => ⟨(h c).1.trans ?_, (h c).2.1.trans ?_, (h c).2.2⟩) (Cert.Reference10Ideal.Value.run (F := Ideal) m' ρ')
    · unfold Cert.Reference10Ideal.Value.res_main_v63
      rw [(hagree c).1, (hagree c).2.1, (hagree c).2.2.1, (hagree c).2.2.2.1, (hagree c).2.2.2.2]
      rfl
    · rw [(hagree c).1, (hagree c).2.1, (hagree c).2.2.1]
      rfl

end Cert.Res10

end
-- ==== Proof.Res11.lean ====
module

public import proofs.«01_k».proof.Defs
public import proofs.«01_k».proof.Proof.Dense
public import proofs.«01_k».proof.Proof.Gen.Kernel11Ideal.Value
public import proofs.«01_k».proof.Proof.Gen.Reference11Ideal.Run
public import Idealize.ShloMosaic.Lib.Pipeline.ValueKit

/-! The normed rows' product with the time steps' columns of the weights. -/

@[expose] public section

noncomputable section

namespace Cert.Reference11Ideal.Body

open Cert.Reference11Ideal Cert.Reference11Ideal.Gen Idealize.ShloMosaic Idealize.ShloMosaic.TcCoe Idealize.SL Cert.Dense

variable (y : FVec Ideal S16384x2048 .f32) (g : FVec Ideal S2048 .f32) (w : FVec Ideal S2048x24640 .f32)

/-- The norm of rows. -/
def hn : FVec Ideal S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (mulf y y) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

theorem hn_at (r : Fin 16384) (q : Fin 2048) : hn y g (ix2 r q) = nrm (fun q => y (ix2 r q)) (fun q => g (ix1 q)) q := by
  pointwise [hn]
  rfl

/-- The product with the time steps' columns. -/
def prod : FVec Ideal S16384x64 .f32 := Host.dotGeneral dot_S16384x2048_S2048x64_S16384x64_1_0_0_1_n_n none y (extractStridedSlice S2048x64 ![0, 18432] w slices_S2048x24640_S2048x64_0_18432)

theorem prod_at (r : Fin 16384) (q : Fin 64) : prod y w (ix2 r q) = ∑ k : Fin 2048, y (ix2 r k) * w (ix2 k ⟨18432 + q.val, by omega⟩) := by
  pointwise [prod]

end Cert.Reference11Ideal.Body

namespace Cert.Kernel11Ideal.Body

open Cert.Kernel11Ideal Cert.Kernel11Ideal.Gen Idealize.ShloMosaic Idealize.ShloMosaic.TcCoe Idealize.SL Cert.Dense
open Cert.Reference11Ideal.Body (hn prod hn_at prod_at)

theorem pay1_at (x : Vec Ideal S1024x2048 .f32) (g : Vec Ideal S1x2048 .f32) (i : Fin 1024) (q : Fin 2048) :
    k0_pay1 x g (ix2 i q) = nrm (fun q => x (ix2 i q)) (fun q => g (ix2 0 q)) q := by
  pointwise [k0_pay1]
  rfl

theorem pay2_at (h : Vec Ideal S1024x2048 .bf16) (w : Vec Ideal S2048x64 .bf16) (i : Fin 1024) (q : Fin 64) :
    k0_pay2 (F := Ideal) h w (ix2 i q) = ∑ k : Fin 2048, h (ix2 i k) * w (ix2 k q) := by
  pointwise [k0_pay2]

variable (m : (ℓ : Loc nD τ sig) → Buf (Elt Ideal) ℓ) (c : Dev nD)

/-- The arguments. -/
abbrev rx : FVec Ideal S16384x2048 .f32 := m ((c : Thread nD τ).loc main_arg0)
abbrev rg : FVec Ideal S2048 .f32 := m ((c : Thread nD τ).loc main_arg1)
abbrev rw' : FVec Ideal S2048x24640 .f32 := m ((c : Thread nD τ).loc main_arg2)

/-- Which block each window takes at step `t`. -/
theorem idx : ∀ t : Fin cfg0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0))

/-- The array row of row `i` of step `t`. -/
def row (t : Fin cfg0.N) (i : Fin 1024) : Fin 16384 :=
  ⟨1024 * t.val + i.val, by have := lt_of_lt_of_eq t.isLt (show cfg0.N = 16 from N_0); omega⟩

theorem V_g (q : Fin 2048) : (V m c main_v0 : FVec Ideal S1x2048 .f32) (ix2 0 q) = rg m c (ix1 q) := by
  entry_read
  exact cast_row _ _ q
theorem V_w (k : Fin 2048) (q : Fin 64) : (V m c main_v2 : FVec Ideal S2048x64 .bf16) (ix2 k q) = rw' m c (ix2 k ⟨18432 + q.val, by omega⟩) := by
  entry_read
  pointwise []

abbrev bX (t : Fin cfg0.N) : FVec Ideal S1024x2048 .f32 := iblk m c 0 t

theorem bX_at (t : Fin cfg0.N) (i : Fin 1024) (k : Fin 2048) : bX m c t (ix2 i k) = rx m c (ix2 (row t i) k) := by
  unfold bX iblk
  rw [View.read_apply]
  refine Eq.trans ?_ (congrFun (V_main_arg0 m c) (ix2 (row t i) k))
  show V m c main_arg0 _ = V m c main_arg0 _
  congr 1
  funext a
  apply Fin.ext
  have hi := (idx t).1
  match a with
  | ⟨0, _⟩ => show win0_0.index t 0 * 1024 + 1 * i.val = 1024 * t.val + i.val; rw [hi.1]; omega
  | ⟨1, _⟩ => show win0_0.index t 1 * 2048 + 1 * k.val = k.val; rw [hi.2]; omega

abbrev bG (t : Fin cfg0.N) : FVec Ideal S1x2048 .f32 := iblk m c 1 t

theorem bG_at (t : Fin cfg0.N) (k : Fin 2048) : bG m c t (ix2 0 k) = rg m c (ix1 k) := by
  unfold bG iblk
  rw [View.read_apply]
  refine Eq.trans ?_ (V_g m c k)
  show V m c main_v0 _ = V m c main_v0 _
  congr 1
  funext a
  apply Fin.ext
  have hi := (idx t).2.1
  match a with
  | ⟨0, _⟩ => show win0_1.index t 0 * 1 + 1 * 0 = 0; rw [hi.1]
  | ⟨1, _⟩ => show win0_1.index t 1 * 2048 + 1 * k.val = k.val; rw [hi.2]; omega

abbrev bW (t : Fin cfg0.N) : FVec Ideal S2048x64 .bf16 := iblk m c 2 t

theorem bW_at (t : Fin cfg0.N) (i : Fin 2048) (k : Fin 64) : bW m c t (ix2 i k) = rw' m c (ix2 i ⟨18432 + k.val, by omega⟩) := by
  unfold bW iblk
  rw [View.read_apply]
  refine Eq.trans ?_ (V_w m c i k)
  show V m c main_v2 _ = V m c main_v2 _
  congr 1
  funext a
  apply Fin.ext
  have hi := (idx t).2.2.1
  match a with
  | ⟨0, _⟩ => show win0_2.index t 0 * 2048 + 1 * i.val = i.val; rw [hi.1]; omega
  | ⟨1, _⟩ => show win0_2.index t 1 * 64 + 1 * k.val = k.val; rw [hi.2]; omega

/-- The reference's result, of this memory's arguments. -/
abbrev R : FVec Ideal S16384x64 .f32 := prod (hn (rx m c) (rg m c)) (rw' m c)

theorem out_eq (t : Fin cfg0.N) : outsAt0 m c t = k0_pay2 (F := Ideal) (k0_pay1 (F := Ideal) (bX m c t) (bG m c t)) (bW m c t) := by
  unfold outsAt0
  frame_out

/-- One element of a step's output block. -/
theorem out_blk (t : Fin cfg0.N) (i : Fin 1024) (q : Fin 64) : outsAt0 m c t (ix2 i q) = R m c (ix2 (row t i) q) := by
  refine (congrFun (out_eq m c t) (ix2 i q)).trans ((pay2_at _ _ i q).trans (Eq.trans ?_ (prod_at _ _ (row t i) q).symm))
  refine Finset.sum_congr rfl fun k _ => congrArg₂ (· * ·) ?_ (bW_at m c t k q)
  refine (pay1_at _ _ i k).trans (Eq.trans ?_ (hn_at _ _ (row t i) k).symm)
  exact congrArg₂ (nrm · · k) (funext fun q => bX_at m c _ i q) (funext fun q => bG_at m c _ q)

/-- THE RESULT'S ARRAY. -/
theorem arrO : (dats m 0 c).arrAt 3 cfg0.N = R m c := by
  refine (dats m 0 c).arrAt_eq_of_covers 3 _ (by decide +kernel) fun t hf y => ?_
  show (dats m 0 c).after 3 t y = _
  rw [after0_3]
  refine (congrArg (outsAt0 m c t) (eta2 (n1 := 1024) (n2 := 64) y)).trans
    ((out_blk m c t (y 0) (y 1)).trans (congrArg _ ?_))
  have hi := (idx t).2.2.2
  funext a
  apply Fin.ext
  match a with
  | ⟨0, _⟩ => show 1024 * t.val + (y 0).val = win0_3.index t 0 * 1024 + 1 * (y 0).val; rw [hi.1]; omega
  | ⟨1, _⟩ => show (y 1).val = win0_3.index t 1 * 64 + 1 * (y 1).val; rw [hi.2]; omega

end Cert.Kernel11Ideal.Body

namespace Cert.Res11

open Idealize.ShloMosaic Idealize.ShloMosaic.TcCoe Idealize.SL Idealize.SL.Sem
open Cert.Kernel11Ideal.Body

/-- The reference runs, keeps its arguments, and declares no semaphore. -/
theorem frame_ref : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- THE RESULT IS EQUAL over the extended reals. -/
theorem algebraic : Cert.algebraic_Kernel11Ideal_Reference11Ideal (hKernel11Ideal := Cert.Kernel11Ideal.Gen.facts) (hReference11Ideal := Cert.Reference11Ideal.Gen.facts) := by
  intro m ρ m' ρ' _ hagree
  refine ⟨fun c => R m c, ?_, ?_⟩
  · exact (θ_run _ _ _).mono (fun _ h c => ⟨(h c).1.trans (arrO m c), (h c).2⟩)
      (Cert.Kernel11Ideal.Value.run_blocks (F := Ideal) m ρ)
  · refine (θ_run _ _ _).mono (fun _ h c => ⟨(h c).1.trans ?_, (h c).2⟩) (Cert.Reference11Ideal.Value.run (F := Ideal) m' ρ')
    rw [(hagree c).1, (hagree c).2.1, (hagree c).2.2]
    rfl

end Cert.Res11

end
-- ==== Proof.Res12.lean ====
module

public import proofs.«01_k».proof.Defs
public import proofs.«01_k».proof.Proof.Dense
public import proofs.«01_k».proof.Proof.Gen.Kernel12Ideal.Value
public import proofs.«01_k».proof.Proof.Gen.Reference12Ideal.Run
public import Idealize.ShloMosaic.Lib.Pipeline.ValueKit

/-! The diagonal mixer's step: the powers and the input weights got from the step lengths. -/

@[expose] public section

noncomputable section

namespace Cert.Step

open Idealize.ShloMosaic

/-- The step's factor, real part, of one pole `(a, b)` with the log of its step length `d`. -/
def sAr (a b d : Ideal .f32) : Ideal .f32 := FloatOps.mulf (FloatOps.exp (FloatOps.mulf (FloatOps.exp d) a)) (FloatOps.cos (FloatOps.mulf (FloatOps.exp d) b))
/-- Its imaginary part. -/
def sAi (a b d : Ideal .f32) : Ideal .f32 := FloatOps.mulf (FloatOps.exp (FloatOps.mulf (FloatOps.exp d) a)) (FloatOps.sin (FloatOps.mulf (FloatOps.exp d) b))
/-- The factor less one. -/
def sNr (a b d : Ideal .f32) : Ideal .f32 := FloatOps.subf (sAr a b d) (Scalar.ofBits .f32 0x3F800000#32)
/-- The pole's square. -/
def sDen (a b : Ideal .f32) : Ideal .f32 := FloatOps.addf (FloatOps.mulf a a) (FloatOps.mulf b b)
/-- The weights' factor, real part: the factor less one, divided by the pole. -/
def sCr (a b d : Ideal .f32) : Ideal .f32 := FloatOps.divf (FloatOps.addf (FloatOps.mulf (sNr a b d) a) (FloatOps.mulf (sAi a b d) b)) (sDen a b)
/-- Its imaginary part. -/
def sCi (a b d : Ideal .f32) : Ideal .f32 := FloatOps.divf (FloatOps.subf (FloatOps.mulf (sAi a b d) a) (FloatOps.mulf (sNr a b d) b)) (sDen a b)
theorem eta3 {n0 n1 n2 : ℕ} (y : (⟨3, ![n0, n1, n2]⟩ : Shape).Idx) : y = ix3 (y 0) (y 1) (y 2) := by
  funext a
  match a with
  | ⟨0, _⟩ => rfl
  | ⟨1, _⟩ => rfl
  | ⟨2, _⟩ => rfl

/-- Two arrays are equal when they are at every index. -/
theorem ext2 {α : Type} {n0 n1 : ℕ} {f g : (⟨2, ![n0, n1]⟩ : Shape).Idx → α} (h : ∀ (i : Fin n0) (j : Fin n1), f (ix2 i j) = g (ix2 i j)) : f = g :=
  funext fun y => (congrArg f (Cert.Dense.eta2 y)).trans ((h (y 0) (y 1)).trans (congrArg g (Cert.Dense.eta2 y)).symm)

theorem ext3 {α : Type} {n0 n1 n2 : ℕ} {f g : (⟨3, ![n0, n1, n2]⟩ : Shape).Idx → α} (h : ∀ (i : Fin n0) (j : Fin n1) (k : Fin n2), f (ix3 i j k) = g (ix3 i j k)) : f = g :=
  funext fun y => (congrArg f (eta3 y)).trans ((h (y 0) (y 1) (y 2)).trans (congrArg g (eta3 y)).symm)

end Cert.Step

namespace Cert.Reference12Ideal.Body

open Cert.Reference12Ideal Cert.Reference12Ideal.Gen Idealize.ShloMosaic Idealize.ShloMosaic.TcCoe Idealize.SL Cert.Dense Cert.Step

variable (A B : FVec Ideal S128x64 .f32) (P Q : FVec Ideal S128x64x16 .f32) (D : FVec Ideal S128 .f32)

/-- The step lengths, one of each row. -/
def dtv : FVec Ideal S128x64 .f32 := broadcastInDim S128x64 ![0, 1] bcast_S128x1_S128x64_0_1 (broadcastInDim S128x1 ![0] bcast_S128_S128x1_0 (Host.exp D))

theorem dtv_at (i : Fin 128) (j : Fin 64) : dtv D (ix2 i j) = FloatOps.exp (D (ix1 i)) := by
  pointwise [dtv]

def l (X : FVec Ideal S128x64 .f32) : FVec Ideal S128x64 .f32 := mulf (dtv D) X
def ar : FVec Ideal S128x64 .f32 := mulf (Host.exp (l D A)) (Host.cos (l D B))
def ai : FVec Ideal S128x64 .f32 := mulf (Host.exp (l D A)) (Host.sin (l D B))

theorem l_at (X : FVec Ideal S128x64 .f32) (i : Fin 128) (j : Fin 64) : l D X (ix2 i j) = FloatOps.mulf (FloatOps.exp (D (ix1 i))) (X (ix2 i j)) :=
  congrArg (FloatOps.mulf · _) (dtv_at D i j)

theorem ar_at (i : Fin 128) (j : Fin 64) : ar A B D (ix2 i j) = sAr (A (ix2 i j)) (B (ix2 i j)) (D (ix1 i)) :=
  congrArg₂ (fun x y => FloatOps.mulf (FloatOps.exp x) (FloatOps.cos y)) (l_at D A i j) (l_at D B i j)

theorem ai_at (i : Fin 128) (j : Fin 64) : ai A B D (ix2 i j) = sAi (A (ix2 i j)) (B (ix2 i j)) (D (ix1 i)) :=
  congrArg₂ (fun x y => FloatOps.mulf (FloatOps.exp x) (FloatOps.sin y)) (l_at D A i j) (l_at D B i j)

def one : FVec Ideal S128x64 .f32 := broadcastInDim S128x64 ![] bcast_S_S128x64 (constant S_ .f32 0x3F800000#32)
def cr : FVec Ideal S128x64 .f32 := Host.divf (addf (mulf (subf (ar A B D) one) A) (mulf (ai A B D) B)) (addf (mulf A A) (mulf B B))
def ci : FVec Ideal S128x64 .f32 := Host.divf (subf (mulf (ai A B D) A) (mulf (subf (ar A B D) one) B)) (addf (mulf A A) (mulf B B))

theorem one_at (i : Fin 128) (j : Fin 64) : one (ix2 i j) = (Scalar.ofBits .f32 0x3F800000#32 : Ideal .f32) := by
  pointwise [one]

theorem cr_at (i : Fin 128) (j : Fin 64) : cr A B D (ix2 i j) = sCr (A (ix2 i j)) (B (ix2 i j)) (D (ix1 i)) := by
  show FloatOps.divf (FloatOps.addf (FloatOps.mulf (FloatOps.subf (ar A B D (ix2 i j)) (one (ix2 i j))) (A (ix2 i j))) (FloatOps.mulf (ai A B D (ix2 i j)) (B (ix2 i j)))) _ = _
  rw [ar_at, ai_at, one_at]
  rfl

theorem ci_at (i : Fin 128) (j : Fin 64) : ci A B D (ix2 i j) = sCi (A (ix2 i j)) (B (ix2 i j)) (D (ix1 i)) := by
  show FloatOps.divf (FloatOps.subf (FloatOps.mulf (ai A B D (ix2 i j)) (A (ix2 i j))) (FloatOps.mulf (FloatOps.subf (ar A B D (ix2 i j)) (one (ix2 i j))) (B (ix2 i j)))) _ = _
  rw [ar_at, ai_at, one_at]
  rfl

/-- One entry of each row, repeated for the sixteen channels. -/
def rep (X : FVec Ideal S128x64 .f32) : FVec Ideal S128x64x16 .f32 := broadcastInDim S128x64x16 ![0, 1, 2] bcast_S128x64x1_S128x64x16_0_1_2 (broadcastInDim S128x64x1 ![0, 1] bcast_S128x64_S128x64x1_0_1 X)
def br (X Y : FVec Ideal S128x64 .f32) : FVec Ideal S128x16x64 .f32 := transpose S128x16x64 [0, 2, 1] (subf (mulf (rep X) P) (mulf (rep Y) Q)) transposes_S128x64x16_S128x16x64_0_2_1
def bi (X Y : FVec Ideal S128x64 .f32) : FVec Ideal S128x16x64 .f32 := transpose S128x16x64 [0, 2, 1] (addf (mulf (rep X) Q) (mulf (rep Y) P)) transposes_S128x64x16_S128x16x64_0_2_1

theorem br_at (X Y : FVec Ideal S128x64 .f32) (i : Fin 128) (k : Fin 16) (j : Fin 64) : br P Q X Y (ix3 i k j) = FloatOps.subf (FloatOps.mulf (X (ix2 i j)) (P (ix3 i j k))) (FloatOps.mulf (Y (ix2 i j)) (Q (ix3 i j k))) := by
  pointwise [br, rep]

theorem bi_at (X Y : FVec Ideal S128x64 .f32) (i : Fin 128) (k : Fin 16) (j : Fin 64) : bi P Q X Y (ix3 i k j) = FloatOps.addf (FloatOps.mulf (X (ix2 i j)) (Q (ix3 i j k))) (FloatOps.mulf (Y (ix2 i j)) (P (ix3 i j k))) := by
  pointwise [bi, rep]

end Cert.Reference12Ideal.Body

namespace Cert.Kernel12Ideal.Body

open Cert.Kernel12Ideal Cert.Kernel12Ideal.Gen Idealize.ShloMosaic Idealize.ShloMosaic.TcCoe Idealize.SL Cert.Dense Cert.Step

variable (A B : FVec Ideal S128x64 .f32) (D : FVec Ideal S128x1 .f32) (P Q : FVec Ideal S128x16x64 .f32)

theorem pay5_at (i : Fin 128) (j : Fin 64) : k0_pay5 (F := Ideal) B D (ix2 i j) = FloatOps.mulf (FloatOps.exp (D (ix2 i 0))) (B (ix2 i j)) := by
  pointwise [k0_pay5, k0_pay3]

theorem pay7_at (i : Fin 128) (j : Fin 64) : k0_pay7 (F := Ideal) A B D (ix2 i j) = sAr (A (ix2 i j)) (B (ix2 i j)) (D (ix2 i 0)) :=
  congrArg₂ (fun x y => FloatOps.mulf (FloatOps.exp x) (FloatOps.cos y)) (pay5_at A D i j) (pay5_at B D i j)

theorem pay8_at (i : Fin 128) (j : Fin 64) : k0_pay8 (F := Ideal) A B D (ix2 i j) = sAi (A (ix2 i j)) (B (ix2 i j)) (D (ix2 i 0)) :=
  congrArg₂ (fun x y => FloatOps.mulf (FloatOps.exp x) (FloatOps.sin y)) (pay5_at A D i j) (pay5_at B D i j)

theorem pay11_at (i : Fin 128) (j : Fin 64) : k0_pay11 (F := Ideal) A B D (ix2 i j) = sCr (A (ix2 i j)) (B (ix2 i j)) (D (ix2 i 0)) :=
  congrArg₂ (fun x y => FloatOps.divf (FloatOps.addf (FloatOps.mulf (FloatOps.subf x (Scalar.ofBits .f32 0x3F800000#32)) (A (ix2 i j))) (FloatOps.mulf y (B (ix2 i j)))) (sDen (A (ix2 i j)) (B (ix2 i j))))
    (pay7_at A B D i j) (pay8_at A B D i j)

theorem pay12_at (i : Fin 128) (j : Fin 64) : k0_pay12 (F := Ideal) A B D (ix2 i j) = sCi (A (ix2 i j)) (B (ix2 i j)) (D (ix2 i 0)) :=
  congrArg₂ (fun x y => FloatOps.divf (FloatOps.subf (FloatOps.mulf y (A (ix2 i j))) (FloatOps.mulf (FloatOps.subf x (Scalar.ofBits .f32 0x3F800000#32)) (B (ix2 i j)))) (sDen (A (ix2 i j)) (B (ix2 i j))))
    (pay7_at A B D i j) (pay8_at A B D i j)

theorem pay1_at (U W : FVec Ideal S128x64 .f32) (i : Fin 128) (k : Fin 16) (j : Fin 64) : k0_pay1 (F := Ideal) U W (k0_pay13 P) (k0_pay14 Q) (ix3 i k j)
    = FloatOps.subf (FloatOps.mulf (U (ix2 i j)) (P (ix3 i k j))) (FloatOps.mulf (W (ix2 i j)) (Q (ix3 i k j))) := by
  pointwise [k0_pay1, k0_pay13, k0_pay14]

theorem pay2_at (U W : FVec Ideal S128x64 .f32) (i : Fin 128) (k : Fin 16) (j : Fin 64) : k0_pay2 (F := Ideal) U W (k0_pay13 P) (k0_pay14 Q) (ix3 i k j)
    = FloatOps.addf (FloatOps.mulf (U (ix2 i j)) (Q (ix3 i k j))) (FloatOps.mulf (W (ix2 i j)) (P (ix3 i k j))) := by
  pointwise [k0_pay2, k0_pay13, k0_pay14]

theorem o5 : out0_5 (F := Ideal) A B D P Q = k0_pay7 (F := Ideal) A B D := by
  unfold out0_5
  frame_out
theorem o6 : out0_6 (F := Ideal) A B D P Q = k0_pay8 (F := Ideal) A B D := by
  unfold out0_6
  frame_out
theorem o7 : out0_7 (F := Ideal) A B D P Q = k0_pay4 (F := Ideal) A D := by
  unfold out0_7
  frame_out
theorem o8 : out0_8 (F := Ideal) A B D P Q = k0_pay5 (F := Ideal) B D := by
  unfold out0_8
  frame_out
theorem o9 : out0_9 (F := Ideal) A B D P Q = k0_pay1 (F := Ideal) (k0_pay11 A B D) (k0_pay12 A B D) (k0_pay13 P) (k0_pay14 Q) := by
  unfold out0_9 k0_pay15 k0_pay16 k0_pay17 k0_pay18
  frame_out
theorem o10 : out0_10 (F := Ideal) A B D P Q = k0_pay2 (F := Ideal) (k0_pay11 A B D) (k0_pay12 A B D) (k0_pay13 P) (k0_pay14 Q) := by
  unfold out0_10 k0_pay15 k0_pay16 k0_pay17 k0_pay18
  frame_out

variable (m : (ℓ : Loc nD τ sig) → Buf (Elt Ideal) ℓ) (c : Dev nD)

theorem b0 (t : Fin cfg0.N) : (iblk m c 0 t : FVec Ideal S128x64 .f32) = m ((c : Thread nD τ).loc main_arg0) := by
  unfold iblk
  funext y
  rw [View.read_apply]
  refine Eq.trans ?_ (congrFun (V_main_arg0 m c) y)
  show V m c main_arg0 _ = V m c main_arg0 _
  congr 1
  funext a
  apply Fin.ext
  match a with | ⟨0, _⟩ => show 0 * 128 + 1 * (y 0).val = (y 0).val; omega | ⟨1, _⟩ => show 0 * 64 + 1 * (y 1).val = (y 1).val; omega

theorem b1 (t : Fin cfg0.N) : (iblk m c 1 t : FVec Ideal S128x64 .f32) = m ((c : Thread nD τ).loc main_arg1) := by
  unfold iblk
  funext y
  rw [View.read_apply]
  refine Eq.trans ?_ (congrFun (V_main_arg1 m c) y)
  show V m c main_arg1 _ = V m c main_arg1 _
  congr 1
  funext a
  apply Fin.ext
  match a with | ⟨0, _⟩ => show 0 * 128 + 1 * (y 0).val = (y 0).val; omega | ⟨1, _⟩ => show 0 * 64 + 1 * (y 1).val = (y 1).val; omega

theorem b2 (t : Fin cfg0.N) : (iblk m c 2 t : FVec Ideal S128x1 .f32) = V m c main_v2 := by
  unfold iblk
  funext y
  rw [View.read_apply]
  show V m c main_v2 _ = V m c main_v2 _
  congr 1
  funext a
  apply Fin.ext
  match a with | ⟨0, _⟩ => show 0 * 128 + 1 * (y 0).val = (y 0).val; omega | ⟨1, _⟩ => show 0 * 1 + 1 * (y 1).val = (y 1).val; omega

theorem b3 (t : Fin cfg0.N) : (iblk m c 3 t : FVec Ideal S128x16x64 .f32) = V m c main_v0 := by
  unfold iblk
  funext y
  rw [View.read_apply]
  show V m c main_v0 _ = V m c main_v0 _
  congr 1
  funext a
  apply Fin.ext
  match a with | ⟨0, _⟩ => show 0 * 128 + 1 * (y 0).val = (y 0).val; omega | ⟨1, _⟩ => show 0 * 16 + 1 * (y 1).val = (y 1).val; omega | ⟨2, _⟩ => show 0 * 64 + 1 * (y 2).val = (y 2).val; omega

theorem b4 (t : Fin cfg0.N) : (iblk m c 4 t : FVec Ideal S128x16x64 .f32) = V m c main_v1 := by
  unfold iblk
  funext y
  rw [View.read_apply]
  show V m c main_v1 _ = V m c main_v1 _
  congr 1
  funext a
  apply Fin.ext
  match a with | ⟨0, _⟩ => show 0 * 128 + 1 * (y 0).val = (y 0).val; omega | ⟨1, _⟩ => show 0 * 16 + 1 * (y 1).val = (y 1).val; omega | ⟨2, _⟩ => show 0 * 64 + 1 * (y 2).val = (y 2).val; omega

open Cert.Reference12Ideal.Body

abbrev mA : FVec Ideal S128x64 .f32 := m ((c : Thread nD τ).loc main_arg0)
abbrev mB : FVec Ideal S128x64 .f32 := m ((c : Thread nD τ).loc main_arg1)
abbrev mP : FVec Ideal S128x64x16 .f32 := m ((c : Thread nD τ).loc main_arg2)
abbrev mQ : FVec Ideal S128x64x16 .f32 := m ((c : Thread nD τ).loc main_arg3)
abbrev mD : FVec Ideal S128 .f32 := m ((c : Thread nD τ).loc main_arg4)
abbrev vD : FVec Ideal S128x1 .f32 := V m c main_v2
abbrev vP : FVec Ideal S128x16x64 .f32 := V m c main_v0
abbrev vQ : FVec Ideal S128x16x64 .f32 := V m c main_v1

theorem vD_at (i : Fin 128) : vD m c (ix2 i 0) = mD m c (ix1 i) := by
  unfold vD
  entry_read
  pointwise []

theorem vP_at (i : Fin 128) (k : Fin 16) (j : Fin 64) : vP m c (ix3 i k j) = mP m c (ix3 i j k) := by
  unfold vP
  entry_read
  pointwise []

theorem vQ_at (i : Fin 128) (k : Fin 16) (j : Fin 64) : vQ m c (ix3 i k j) = mQ m c (ix3 i j k) := by
  unfold vQ
  entry_read
  pointwise []

theorem e5 : k0_pay7 (F := Ideal) (mA m c) (mB m c) (vD m c) = ar (mA m c) (mB m c) (mD m c) := by
  refine ext2 (n0 := 128) (n1 := 64) fun i j => ?_
  rw [pay7_at, vD_at]
  exact (ar_at _ _ _ _ _).symm

theorem e6 : k0_pay8 (F := Ideal) (mA m c) (mB m c) (vD m c) = ai (mA m c) (mB m c) (mD m c) := by
  refine ext2 (n0 := 128) (n1 := 64) fun i j => ?_
  rw [pay8_at, vD_at]
  exact (ai_at _ _ _ _ _).symm

theorem e8 (X : FVec Ideal S128x64 .f32) : k0_pay5 (F := Ideal) X (vD m c) = l (mD m c) X := by
  refine ext2 (n0 := 128) (n1 := 64) fun i j => ?_
  rw [pay5_at, vD_at]
  exact (l_at _ _ _ _).symm

theorem e11 : k0_pay11 (F := Ideal) (mA m c) (mB m c) (vD m c) = cr (mA m c) (mB m c) (mD m c) := by
  refine ext2 (n0 := 128) (n1 := 64) fun i j => ?_
  rw [pay11_at, vD_at]
  exact (cr_at _ _ _ _ _).symm

theorem e12 : k0_pay12 (F := Ideal) (mA m c) (mB m c) (vD m c) = ci (mA m c) (mB m c) (mD m c) := by
  refine ext2 (n0 := 128) (n1 := 64) fun i j => ?_
  rw [pay12_at, vD_at]
  exact (ci_at _ _ _ _ _).symm

theorem e9 (X Y : FVec Ideal S128x64 .f32) : k0_pay1 (F := Ideal) X Y (k0_pay13 (vP m c)) (k0_pay14 (vQ m c)) = br (mP m c) (mQ m c) X Y := by
  refine ext3 (n0 := 128) (n1 := 16) (n2 := 64) fun i k j => ?_
  rw [pay1_at, vP_at, vQ_at]
  exact (br_at _ _ _ _ _ _ _).symm

theorem e10 (X Y : FVec Ideal S128x64 .f32) : k0_pay2 (F := Ideal) X Y (k0_pay13 (vP m c)) (k0_pay14 (vQ m c)) = bi (mP m c) (mQ m c) X Y := by
  refine ext3 (n0 := 128) (n1 := 16) (n2 := 64) fun i k j => ?_
  rw [pay2_at, vP_at, vQ_at]
  exact (bi_at _ _ _ _ _ _ _).symm

theorem arr5 : (dats m 0 c).arrAt 5 cfg0.N = (ar (mA m c) (mB m c) (mD m c) : FVec Ideal S128x64 .f32) := by
  refine (dats m 0 c).arrAt_eq_of_covers 5 _ (by decide +kernel) fun t hf y => ?_
  show (dats m 0 c).after 5 t y = _
  rw [after0_5, b0, b1, b2, b3, b4, o5]
  refine (congrFun (e5 m c) y).trans (congrArg _ ?_)
  funext a
  apply Fin.ext
  match a with | ⟨0, _⟩ => show (y 0).val = 0 * 128 + 1 * (y 0).val; omega | ⟨1, _⟩ => show (y 1).val = 0 * 64 + 1 * (y 1).val; omega

theorem arr6 : (dats m 0 c).arrAt 6 cfg0.N = (ai (mA m c) (mB m c) (mD m c) : FVec Ideal S128x64 .f32) := by
  refine (dats m 0 c).arrAt_eq_of_covers 6 _ (by decide +kernel) fun t hf y => ?_
  show (dats m 0 c).after 6 t y = _
  rw [after0_6, b0, b1, b2, b3, b4, o6]
  refine (congrFun (e6 m c) y).trans (congrArg _ ?_)
  funext a
  apply Fin.ext
  match a with | ⟨0, _⟩ => show (y 0).val = 0 * 128 + 1 * (y 0).val; omega | ⟨1, _⟩ => show (y 1).val = 0 * 64 + 1 * (y 1).val; omega

theorem arr7 : (dats m 0 c).arrAt 7 cfg0.N = (l (mD m c) (mA m c) : FVec Ideal S128x64 .f32) := by
  refine (dats m 0 c).arrAt_eq_of_covers 7 _ (by decide +kernel) fun t hf y => ?_
  show (dats m 0 c).after 7 t y = _
  rw [after0_7, b0, b1, b2, b3, b4, o7]
  refine (congrFun (e8 m c _) y).trans (congrArg _ ?_)
  funext a
  apply Fin.ext
  match a with | ⟨0, _⟩ => show (y 0).val = 0 * 128 + 1 * (y 0).val; omega | ⟨1, _⟩ => show (y 1).val = 0 * 64 + 1 * (y 1).val; omega

theorem arr8 : (dats m 0 c).arrAt 8 cfg0.N = (l (mD m c) (mB m c) : FVec Ideal S128x64 .f32) := by
  refine (dats m 0 c).arrAt_eq_of_covers 8 _ (by decide +kernel) fun t hf y => ?_
  show (dats m 0 c).after 8 t y = _
  rw [after0_8, b0, b1, b2, b3, b4, o8]
  refine (congrFun (e8 m c _) y).trans (congrArg _ ?_)
  funext a
  apply Fin.ext
  match a with | ⟨0, _⟩ => show (y 0).val = 0 * 128 + 1 * (y 0).val; omega | ⟨1, _⟩ => show (y 1).val = 0 * 64 + 1 * (y 1).val; omega

theorem arr9 : (dats m 0 c).arrAt 9 cfg0.N = (br (mP m c) (mQ m c) (cr (mA m c) (mB m c) (mD m c)) (ci (mA m c) (mB m c) (mD m c)) : FVec Ideal S128x16x64 .f32) := by
  refine (dats m 0 c).arrAt_eq_of_covers 9 _ (by decide +kernel) fun t hf y => ?_
  show (dats m 0 c).after 9 t y = _
  rw [after0_9, b0, b1, b2, b3, b4, o9]
  refine (congrFun ((congrArg₂ (k0_pay1 (F := Ideal) · · _ _) (e11 m c) (e12 m c)).trans (e9 m c _ _)) y).trans (congrArg _ ?_)
  funext a
  apply Fin.ext
  match a with | ⟨0, _⟩ => show (y 0).val = 0 * 128 + 1 * (y 0).val; omega | ⟨1, _⟩ => show (y 1).val = 0 * 16 + 1 * (y 1).val; omega | ⟨2, _⟩ => show (y 2).val = 0 * 64 + 1 * (y 2).val; omega

theorem arr10 : (dats m 0 c).arrAt 10 cfg0.N = (bi (mP m c) (mQ m c) (cr (mA m c) (mB m c) (mD m c)) (ci (mA m c) (mB m c) (mD m c)) : FVec Ideal S128x16x64 .f32) := by
  refine (dats m 0 c).arrAt_eq_of_covers 10 _ (by decide +kernel) fun t hf y => ?_
  show (dats m 0 c).after 10 t y = _
  rw [after0_10, b0, b1, b2, b3, b4, o10]
  refine (congrFun ((congrArg₂ (k0_pay2 (F := Ideal) · · _ _) (e11 m c) (e12 m c)).trans (e10 m c _ _)) y).trans (congrArg _ ?_)
  funext a
  apply Fin.ext
  match a with | ⟨0, _⟩ => show (y 0).val = 0 * 128 + 1 * (y 0).val; omega | ⟨1, _⟩ => show (y 1).val = 0 * 16 + 1 * (y 1).val; omega | ⟨2, _⟩ => show (y 2).val = 0 * 64 + 1 * (y 2).val; omega

end Cert.Kernel12Ideal.Body

namespace Cert.Res12

open Cert.Kernel12Ideal.Body Cert.Reference12Ideal.Body Idealize.ShloMosaic Idealize.ShloMosaic.TcCoe Idealize.SL

/-- The reference writes only its results. -/
theorem frame_ref : Cert.quiescent_Reference12Ideal (hReference12Ideal := Cert.Reference12Ideal.Gen.facts) := fun m ρ _ =>
  (θ_run Cert.Reference12Ideal.defs _ _).mono (fun r h => ⟨fun c => (h c).2.2.2.2.2.2, sem_eq_zero_of_no_sems (by decide) r.2⟩)
    (Cert.Reference12Ideal.Value.run (F := Ideal) m ρ)

/-- THE RESULTS ARE EQUAL over the extended reals. -/
theorem algebraic : Cert.algebraic_Kernel12Ideal_Reference12Ideal (hKernel12Ideal := Cert.Kernel12Ideal.Gen.facts) (hReference12Ideal := Cert.Reference12Ideal.Gen.facts) := by
  intro m ρ m' ρ' _ hagree
  refine ⟨fun c => ar (mA m c) (mB m c) (mD m c), fun c => ai (mA m c) (mB m c) (mD m c), fun c => l (mD m c) (mA m c), fun c => l (mD m c) (mB m c),
    fun c => br (mP m c) (mQ m c) (cr (mA m c) (mB m c) (mD m c)) (ci (mA m c) (mB m c) (mD m c)),
    fun c => bi (mP m c) (mQ m c) (cr (mA m c) (mB m c) (mD m c)) (ci (mA m c) (mB m c) (mD m c)), ?_, ?_⟩
  · exact (θ_run _ _ _).mono (fun _ h c => ⟨(h c).1.trans (arr5 m c), (h c).2.1.trans (arr6 m c), (h c).2.2.1.trans (arr7 m c), (h c).2.2.2.1.trans (arr8 m c),
      (h c).2.2.2.2.1.trans (arr9 m c), (h c).2.2.2.2.2.1.trans (arr10 m c), (h c).2.2.2.2.2.2⟩)
      (Cert.Kernel12Ideal.Value.run_blocks (F := Ideal) m ρ)
  · refine (θ_run _ _ _).mono (fun _ h c => ?_) (Cert.Reference12Ideal.Value.run (F := Ideal) m' ρ')
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · rw [(hagree c).1, (hagree c).2.1, (hagree c).2.2.2.2]; rfl
    · rw [(hagree c).1, (hagree c).2.1, (hagree c).2.2.2.2]; rfl
    · rw [(hagree c).1, (hagree c).2.2.2.2]; rfl
    · rw [(hagree c).2.1, (hagree c).2.2.2.2]; rfl
    · rw [(hagree c).1, (hagree c).2.1, (hagree c).2.2.1, (hagree c).2.2.2.1, (hagree c).2.2.2.2]; rfl
    · rw [(hagree c).1, (hagree c).2.1, (hagree c).2.2.1, (hagree c).2.2.2.1, (hagree c).2.2.2.2]; rfl

end Cert.Res12

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.ConvFrame
public import proofs.«01_k».proof.Proof.ConvIFrame
public import proofs.«01_k».proof.Proof.Retention
public import proofs.«01_k».proof.Proof.Res2
public import proofs.«01_k».proof.Proof.Res3
public import proofs.«01_k».proof.Proof.Res4
public import proofs.«01_k».proof.Proof.Res5
public import proofs.«01_k».proof.Proof.Res6
public import proofs.«01_k».proof.Proof.Res7
public import proofs.«01_k».proof.Proof.Res8
public import proofs.«01_k».proof.Proof.Res9
public import proofs.«01_k».proof.Proof.Res10
public import proofs.«01_k».proof.Proof.Res11
public import proofs.«01_k».proof.Proof.Res12

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  fun m ρ _ => Cert.Kernel.Gen.frame m ρ, fun m ρ _ => Cert.KernelIdeal.Gen.frame m ρ, Cert.Retention.frame_ref,
  fun m ρ _ => Cert.Kernel2.Gen.frame m ρ, fun m ρ _ => Cert.Kernel2Ideal.Gen.frame m ρ, Cert.Res2.frame_ref,
  fun m ρ _ => Cert.Kernel3.Gen.frame m ρ, fun m ρ _ => Cert.Kernel3Ideal.Gen.frame m ρ, Cert.Res3.frame_ref,
  fun m ρ _ => Cert.Kernel4.Gen.frame m ρ, fun m ρ _ => Cert.Kernel4Ideal.Gen.frame m ρ, Cert.Res4.frame_ref,
  fun m ρ _ => Cert.Kernel5.Gen.frame m ρ, fun m ρ _ => Cert.Kernel5Ideal.Gen.frame m ρ, Cert.Res5.frame_ref,
  fun m ρ _ => Cert.Kernel6.Gen.frame m ρ, fun m ρ _ => Cert.Kernel6Ideal.Gen.frame m ρ, Cert.Res6.frame_ref,
  fun m ρ _ => Cert.Kernel7.Gen.frame m ρ, fun m ρ _ => Cert.Kernel7Ideal.Gen.frame m ρ, Cert.Res7.frame_ref,
  fun m ρ _ => Cert.Kernel8.Gen.frame m ρ, fun m ρ _ => Cert.Kernel8Ideal.Gen.frame m ρ, Cert.Res8.frame_ref,
  fun m ρ _ => Cert.Kernel9.Gen.frame m ρ, fun m ρ _ => Cert.Kernel9Ideal.Gen.frame m ρ, Cert.Res9.frame_ref,
  fun m ρ _ => Cert.Kernel10.Gen.frame m ρ, fun m ρ _ => Cert.Kernel10Ideal.Gen.frame m ρ, Cert.Res10.frame_ref,
  fun m ρ _ => Cert.Kernel11.Gen.frame m ρ, fun m ρ _ => Cert.Kernel11Ideal.Gen.frame m ρ, Cert.Res11.frame_ref,
  fun m ρ _ => Cert.Kernel12.Gen.frame m ρ, fun m ρ _ => Cert.Kernel12Ideal.Gen.frame m ρ, Cert.Res12.frame_ref,
  trivial, Cert.Retention.algebraic,
  trivial, Cert.Res2.algebraic,
  trivial, Cert.Res3.algebraic,
  trivial, Cert.Res4.algebraic,
  trivial, Cert.Res5.algebraic,
  trivial, Cert.Res6.algebraic,
  trivial, Cert.Res7.algebraic,
  trivial, Cert.Res8.algebraic,
  trivial, Cert.Res9.algebraic,
  trivial, Cert.Res10.algebraic,
  trivial, Cert.Res11.algebraic,
  trivial, Cert.Res12.algebraic⟩

end Cert.Proof

end
